-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Kernel4Ideal_none (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Kernel5Ideal_none (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Kernel6Ideal_none (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_none [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_none m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_none [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_none m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_none [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_none m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "postscale" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v2)) (v2 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)) (v5 : (c : Dev Cert.Kernel3Ideal.nD) → Buf (Elt Ideal) ((c.tc : Thread Cert.Kernel3Ideal.nD Cert.Kernel3Ideal.τ).loc Cert.Kernel3Ideal.main_v5)) (v6 : (c : Dev Cert.Kernel3Ideal.nD) → Buf (Elt Ideal) ((c.tc : Thread Cert.Kernel3Ideal.nD Cert.Kernel3Ideal.τ).loc Cert.Kernel3Ideal.main_v6)) (v7 : (c : Dev Cert.Kernel3Ideal.nD) → Buf (Elt Ideal) ((c.tc : Thread Cert.Kernel3Ideal.nD Cert.Kernel3Ideal.τ).loc Cert.Kernel3Ideal.main_v7)) (v8 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_v5) = v5 c
          ∧ r.2.mem ((c.tc : Thread Cert.Kernel3Ideal.nD Cert.Kernel3Ideal.τ).loc Cert.Kernel3Ideal.main_v6) = v6 c
          ∧ r.2.mem ((c.tc : Thread Cert.Kernel3Ideal.nD Cert.Kernel3Ideal.τ).loc Cert.Kernel3Ideal.main_v7) = v7 c
          ∧ r.2.mem ((c.tc : Thread Cert.Kernel3Ideal.nD Cert.Kernel3Ideal.τ).loc Cert.Kernel3Ideal.main_v8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_v27) = v7 c
          ∧ r.2.mem ((c.tc : Thread Cert.Reference3Ideal.nD Cert.Reference3Ideal.τ).loc Cert.Reference3Ideal.main_v40) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_v38) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal) (hPre_finite4 := hPre_finite4)
    ∧ quiescent_Kernel4Ideal_pre_none (hKernel4Ideal := hKernel4Ideal)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal) (hPre_finite5 := hPre_finite5)
    ∧ quiescent_Kernel5Ideal_pre_none (hKernel5Ideal := hKernel5Ideal)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal) (hPre_finite6 := hPre_finite6)
    ∧ quiescent_Kernel6Ideal_pre_none (hKernel6Ideal := hKernel6Ideal)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal) (hPre_finite6 := hPre_finite6)
-- ==== Pre_finite.lean ====
abbrev S4096x8x96 : Shape := ⟨3, ![4096, 8, 96]⟩
abbrev S4096x8x64 : Shape := ⟨3, ![4096, 8, 64]⟩
abbrev S4096x8x320 : Shape := ⟨3, ![4096, 8, 320]⟩
abbrev S_ : Shape := ⟨0, ![]⟩

class Facts : Prop where
  concatenates_S4096x8x96_S4096x8x96_S4096x8x64_S4096x8x64_S4096x8x320_d2 : Shape.Concatenates [S4096x8x96, S4096x8x96, S4096x8x64, S4096x8x64] S4096x8x320 2
  bcast_S_S4096x8x320 : S_.BroadcastsInDim S4096x8x320 (![] : Fin 0 → Fin S4096x8x320.rank)

variable [Facts]

def fn {F : FTy → Type} [FloatOps F] (main_arg0 : FVec F S4096x8x96 .f32) (main_arg1 : FVec F S4096x8x96 .f32) (main_arg2 : FVec F S4096x8x64 .f32) (main_arg3 : FVec F S4096x8x64 .f32) : IVec S4096x8x320 1 :=
  let main_v0 : FVec F S4096x8x320 .f32 := concatenate S4096x8x320 2 [⟨S4096x8x96, main_arg0⟩, ⟨S4096x8x96, main_arg1⟩, ⟨S4096x8x64, main_arg2⟩, ⟨S4096x8x64, main_arg3⟩] concatenates_S4096x8x96_S4096x8x96_S4096x8x64_S4096x8x64_S4096x8x320_d2
  let main_v1 : FVec F S4096x8x320 .f32 := Host.absf main_v0
  let main_cst : FVec F S_ .f32 := constant S_ .f32 0x7F800000#32
  let main_v2 : FVec F S4096x8x320 .f32 := broadcastInDim S4096x8x320 ![] bcast_S_S4096x8x320 main_cst
  let main_v3 : IVec S4096x8x320 1 := cmpf .olt main_v1 main_v2
  main_v3
-- ==== Pre_finite4.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S4096x11264 : Shape := ⟨2, ![4096, 11264]⟩
abbrev S_ : Shape := ⟨0, ![]⟩

class Facts : Prop where
  bitsLt_bf16_f32 : FTy.bits .bf16 < FTy.bits .f32
  concatenates_S1024x4096_S1024x4096_S1024x4096_S1024x4096_S4096x4096_d0 : Shape.Concatenates [S1024x4096, S1024x4096, S1024x4096, S1024x4096] S4096x4096 0
  bcast_S1x1024_S4096x1024_0_1 : S1x1024.BroadcastsInDim S4096x1024 (![0, 1] : Fin 2 → Fin S4096x1024.rank)
  concatenates_S4096x4096_S4096x4096_S4096x1024_S4096x1024_S4096x1024_S4096x11264_d1 : Shape.Concatenates [S4096x4096, S4096x4096, S4096x1024, S4096x1024, S4096x1024] S4096x11264 1
  bcast_S_S4096x11264 : S_.BroadcastsInDim S4096x11264 (![] : Fin 0 → Fin S4096x11264.rank)

variable [Facts]

def fn {F : FTy → Type} [FloatOps F] (main_arg0 : FVec F S4096x4096 .bf16) (main_arg1 : FVec F S1024x4096 .bf16) (main_arg2 : FVec F S4096x1024 .f32) (main_arg3 : FVec F S4096x1024 .f32) (main_arg4 : FVec F S1x1024 .f32) : IVec S4096x11264 1 :=
  let main_v0 : FVec F S4096x4096 .f32 := (extf .f32 · bitsLt_bf16_f32) main_arg0
  let main_v1 : FVec F S1024x4096 .f32 := (extf .f32 · bitsLt_bf16_f32) main_arg1
  let main_v2 : FVec F S4096x4096 .f32 := concatenate S4096x4096 0 [⟨S1024x4096, main_v1⟩, ⟨S1024x4096, main_v1⟩, ⟨S1024x4096, main_v1⟩, ⟨S1024x4096, main_v1⟩] concatenates_S1024x4096_S1024x4096_S1024x4096_S1024x4096_S4096x4096_d0
  let main_v3 : FVec F S4096x1024 .f32 := broadcastInDim S4096x1024 ![0, 1] bcast_S1x1024_S4096x1024_0_1 main_arg4
  let main_v4 : FVec F S4096x11264 .f32 := concatenate S4096x11264 1 [⟨S4096x4096, main_v0⟩, ⟨S4096x4096, main_v2⟩, ⟨S4096x1024, main_arg2⟩, ⟨S4096x1024, main_arg3⟩, ⟨S4096x1024, main_v3⟩] concatenates_S4096x4096_S4096x4096_S4096x1024_S4096x1024_S4096x1024_S4096x11264_d1
  let main_v5 : FVec F S4096x11264 .f32 := Host.absf main_v4
  let main_cst : FVec F S_ .f32 := constant S_ .f32 0x7F800000#32
  let main_v6 : FVec F S4096x11264 .f32 := broadcastInDim S4096x11264 ![] bcast_S_S4096x11264 main_cst
  let main_v7 : IVec S4096x11264 1 := cmpf .olt main_v5 main_v6
  main_v7
-- ==== Pre_finite5.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S4096x8192 : Shape := ⟨2, ![4096, 8192]⟩
abbrev S_ : Shape := ⟨0, ![]⟩

class Facts : Prop where
  bitsLt_bf16_f32 : FTy.bits .bf16 < FTy.bits .f32
  concatenates_S1024x2560_S1024x2560_S1024x2560_S1024x2560_S4096x2560_d0 : Shape.Concatenates [S1024x2560, S1024x2560, S1024x2560, S1024x2560] S4096x2560 0
  bcast_S1x1024_S4096x1024_0_1 : S1x1024.BroadcastsInDim S4096x1024 (![0, 1] : Fin 2 → Fin S4096x1024.rank)
  concatenates_S4096x2560_S4096x2560_S4096x1024_S4096x1024_S4096x1024_S4096x8192_d1 : Shape.Concatenates [S4096x2560, S4096x2560, S4096x1024, S4096x1024, S4096x1024] S4096x8192 1
  bcast_S_S4096x8192 : S_.BroadcastsInDim S4096x8192 (![] : Fin 0 → Fin S4096x8192.rank)

variable [Facts]

def fn {F : FTy → Type} [FloatOps F] (main_arg0 : FVec F S4096x2560 .bf16) (main_arg1 : FVec F S1024x2560 .bf16) (main_arg2 : FVec F S4096x1024 .f32) (main_arg3 : FVec F S4096x1024 .f32) (main_arg4 : FVec F S1x1024 .f32) : IVec S4096x8192 1 :=
  let main_v0 : FVec F S4096x2560 .f32 := (extf .f32 · bitsLt_bf16_f32) main_arg0
  let main_v1 : FVec F S1024x2560 .f32 := (extf .f32 · bitsLt_bf16_f32) main_arg1
  let main_v2 : FVec F S4096x2560 .f32 := concatenate S4096x2560 0 [⟨S1024x2560, main_v1⟩, ⟨S1024x2560, main_v1⟩, ⟨S1024x2560, main_v1⟩, ⟨S1024x2560, main_v1⟩] concatenates_S1024x2560_S1024x2560_S1024x2560_S1024x2560_S4096x2560_d0
  let main_v3 : FVec F S4096x1024 .f32 := broadcastInDim S4096x1024 ![0, 1] bcast_S1x1024_S4096x1024_0_1 main_arg4
  let main_v4 : FVec F S4096x8192 .f32 := concatenate S4096x8192 1 [⟨S4096x2560, main_v0⟩, ⟨S4096x2560, main_v2⟩, ⟨S4096x1024, main_arg2⟩, ⟨S4096x1024, main_arg3⟩, ⟨S4096x1024, main_v3⟩] concatenates_S4096x2560_S4096x2560_S4096x1024_S4096x1024_S4096x1024_S4096x8192_d1
  let main_v5 : FVec F S4096x8192 .f32 := Host.absf main_v4
  let main_cst : FVec F S_ .f32 := constant S_ .f32 0x7F800000#32
  let main_v6 : FVec F S4096x8192 .f32 := broadcastInDim S4096x8192 ![] bcast_S_S4096x8192 main_cst
  let main_v7 : IVec S4096x8192 1 := cmpf .olt main_v5 main_v6
  main_v7
-- ==== Pre_finite6.lean ====
abbrev S4096x1024 : Shape := ⟨2, ![4096, 1024]⟩
abbrev S1024x1024 : Shape := ⟨2, ![1024, 1024]⟩
abbrev S1x1024 : Shape := ⟨2, ![1, 1024]⟩
abbrev S4096x5120 : Shape := ⟨2, ![4096, 5120]⟩
abbrev S_ : Shape := ⟨0, ![]⟩

class Facts : Prop where
  bitsLt_bf16_f32 : FTy.bits .bf16 < FTy.bits .f32
  concatenates_S1024x1024_S1024x1024_S1024x1024_S1024x1024_S4096x1024_d0 : Shape.Concatenates [S1024x1024, S1024x1024, S1024x1024, S1024x1024] S4096x1024 0
  bcast_S1x1024_S4096x1024_0_1 : S1x1024.BroadcastsInDim S4096x1024 (![0, 1] : Fin 2 → Fin S4096x1024.rank)
  concatenates_S4096x1024_S4096x1024_S4096x1024_S4096x1024_S4096x1024_S4096x5120_d1 : Shape.Concatenates [S4096x1024, S4096x1024, S4096x1024, S4096x1024, S4096x1024] S4096x5120 1
  bcast_S_S4096x5120 : S_.BroadcastsInDim S4096x5120 (![] : Fin 0 → Fin S4096x5120.rank)

variable [Facts]

def fn {F : FTy → Type} [FloatOps F] (main_arg0 : FVec F S4096x1024 .bf16) (main_arg1 : FVec F S1024x1024 .bf16) (main_arg2 : FVec F S4096x1024 .f32) (main_arg3 : FVec F S4096x1024 .f32) (main_arg4 : FVec F S1x1024 .f32) : IVec S4096x5120 1 :=
  let main_v0 : FVec F S4096x1024 .f32 := (extf .f32 · bitsLt_bf16_f32) main_arg0
  let main_v1 : FVec F S1024x1024 .f32 := (extf .f32 · bitsLt_bf16_f32) main_arg1
  let main_v2 : FVec F S4096x1024 .f32 := concatenate S4096x1024 0 [⟨S1024x1024, main_v1⟩, ⟨S1024x1024, main_v1⟩, ⟨S1024x1024, main_v1⟩, ⟨S1024x1024, main_v1⟩] concatenates_S1024x1024_S1024x1024_S1024x1024_S1024x1024_S4096x1024_d0
  let main_v3 : FVec F S4096x1024 .f32 := broadcastInDim S4096x1024 ![0, 1] bcast_S1x1024_S4096x1024_0_1 main_arg4
  let main_v4 : FVec F S4096x5120 .f32 := concatenate S4096x5120 1 [⟨S4096x1024, main_v0⟩, ⟨S4096x1024, main_v2⟩, ⟨S4096x1024, main_arg2⟩, ⟨S4096x1024, main_arg3⟩, ⟨S4096x1024, main_v3⟩] concatenates_S4096x1024_S4096x1024_S4096x1024_S4096x1024_S4096x1024_S4096x5120_d1
  let main_v5 : FVec F S4096x5120 .f32 := Host.absf main_v4
  let main_cst : FVec F S_ .f32 := constant S_ .f32 0x7F800000#32
  let main_v6 : FVec F S4096x5120 .f32 := broadcastInDim S4096x5120 ![] bcast_S_S4096x5120 main_cst
  let main_v7 : IVec S4096x5120 1 := cmpf .olt main_v5 main_v6
  main_v7
-- ==== Kernel.lean ====
abbrev S4096x8x96 : Shape := ⟨3, ![4096, 8, 96]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S4096x512 : Shape := ⟨2, ![4096, 512]⟩
abbrev S4096x1536 : Shape := ⟨2, ![4096, 1536]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x1 : Shape := ⟨3, ![4096, 8, 1]⟩
abbrev S1024x256 : Shape := ⟨2, ![1024, 256]⟩
abbrev S1024x128 : Shape := ⟨2, ![1024, 128]⟩
abbrev S4096x256 : Shape := ⟨2, ![4096, 256]⟩
abbrev S1024x1024 : Shape := ⟨2, ![1024, 1024]⟩
abbrev S512x512 : Shape := ⟨2, ![512, 512]⟩
abbrev S512x128 : Shape := ⟨2, ![512, 128]⟩
abbrev S512x256 : Shape := ⟨2, ![512, 256]⟩
abbrev S512x1024 : Shape := ⟨2, ![512, 1024]⟩

abbrev nBuf : Space → Nat
  | .hbm => 75
  | .vmem => 20
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .i32⟩
  | .hbm, ⟨5, _⟩ => ⟨S_, .f32⟩
  | .hbm, ⟨6, _⟩ => ⟨S4096x8x128, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S_, .i32⟩
  | .hbm, ⟨17, _⟩ => ⟨S_, .f32⟩
  | .hbm, ⟨18, _⟩ => ⟨S4096x8x128, .f32⟩
  | .hbm, ⟨19, _⟩ => ⟨S4096x1024, .f32⟩
  | .hbm, ⟨20, _⟩ => ⟨S4096x512, .f32⟩
  | .hbm, ⟨21, _⟩ => ⟨S4096x1536, .f32⟩
  | .hbm, ⟨22, _⟩ => ⟨S4096x1536, .bf16⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x1024, .f32⟩
  | .hbm, ⟨27, _⟩ => ⟨S4096, .i32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x64x4096, .f32⟩
  | .hbm, ⟨54, _⟩ => ⟨S4096x8x64, .f32⟩
  | .hbm, ⟨55, _⟩ => ⟨S8x4096, .f32⟩
  | .hbm, ⟨56, _⟩ => ⟨S8x4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S4096x8, .f32⟩
  | .hbm, ⟨63, _⟩ => ⟨S4096x8x64, .f32⟩
  | .hbm, ⟨64, _⟩ => ⟨S_, .f32⟩
  | .hbm, ⟨65, _⟩ => ⟨S4096x8, .f32⟩
  | .hbm, ⟨66, _⟩ => ⟨S4096x8x1, .f32⟩
  | .hbm, ⟨67, _⟩ => ⟨S4096x8x128, .f32⟩
  | .hbm, ⟨68, _⟩ => ⟨S4096x1024, .f32⟩
  | .hbm, ⟨69, _⟩ => ⟨S4096x8x1, .f32⟩
  | .hbm, ⟨70, _⟩ => ⟨S4096x8x128, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S4096x256, .f32⟩
  | .local _ .vmem, ⟨13, _⟩ => ⟨S4096x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v17 : BitVec 32 := Scalar.muli arg2 c1024_i32
  v17
def k0_off1 (i : grid0.Coords) : Fin 2 → Nat :=
  let arg2 : BitVec 32 := BitVec.ofNat 32 (i 2).val
  let c1024_i32 : BitVec 32 := 1024#32
  let v17 : BitVec 32 := Scalar.muli arg2 c1024_i32
  let v18 : BitVec 32 := v17
  let v19 : Index := Scalar.indexCast v18
  let c0 : Index := 0#32
  ![v19.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c1024_i32 : BitVec 32 := 1024#32
  let v17 : BitVec 32 := Scalar.muli arg2 c1024_i32
  v17
def k0_off2 (i : grid0.Coords) : Fin 2 → Nat :=
  let arg2 : BitVec 32 := BitVec.ofNat 32 (i 2).val
  let c1024_i32 : BitVec 32 := 1024#32
  let v17 : BitVec 32 := Scalar.muli arg2 c1024_i32
  let v18 : BitVec 32 := v17
  let v227 : Index := Scalar.indexCast v18
  let c0_124 : Index := 0#32
  ![v227.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c4_i32 : BitVec 32 := 4#32
  let v1 : BitVec 32 := Scalar.addi c4_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | "mask" => some ⊥
  | "postscale" => some (((3424635 / 33554432) * (Real.log 2)⁻¹ : ℝ) : EReal)
  | _ => none
-- ==== ReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩
abbrev S4096x512 : Shape := ⟨2, ![4096, 512]⟩

abbrev nBuf : Space → Nat
  | .hbm => 98
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x64x4096, .f32⟩
  | .hbm, ⟨60, _⟩ => ⟨S4096x8x64, .f32⟩
  | .hbm, ⟨61, _⟩ => ⟨S8x64x4096, .f32⟩
  | .hbm, ⟨62, _⟩ => ⟨S8x4096x4096, .f32⟩
  | .hbm, ⟨63, _⟩ => ⟨S8x64x4096, .f32⟩
  | .hbm, ⟨64, _⟩ => ⟨S4096x8x64, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x96, .f32⟩
  | .hbm, ⟨86, _⟩ => ⟨S4096x8x96, .f32⟩
  | .hbm, ⟨87, _⟩ => ⟨S8x4096x96, .f32⟩
  | .hbm, ⟨88, _⟩ => ⟨S4096x8x96, .f32⟩
  | .hbm, ⟨89, _⟩ => ⟨S_, .i32⟩
  | .hbm, ⟨90, _⟩ => ⟨S_, .f32⟩
  | .hbm, ⟨91, _⟩ => ⟨S4096x8x128, .f32⟩
  | .hbm, ⟨92, _⟩ => ⟨S4096x1024, .f32⟩
  | .hbm, ⟨93, _⟩ => ⟨S_, .i32⟩
  | .hbm, ⟨94, _⟩ => ⟨S_, .f32⟩
  | .hbm, ⟨95, _⟩ => ⟨S4096x8x128, .f32⟩
  | .hbm, ⟨96, _⟩ => ⟨S4096x1024, .f32⟩
  | .hbm, ⟨97, _⟩ => ⟨S4096x512, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_call3_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 9
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x1024, .bf16⟩
  | .hbm, ⟨8, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S4096x1024, .bf16⟩
  | .local _ .vmem, ⟨17, _⟩ => ⟨S4096x1024, .bf16⟩
  | .local _ .vmem, ⟨18, _⟩ => ⟨S4096x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4096x1024, .bf16⟩
  | .local _ .vmem, ⟨22, _⟩ => ⟨S4096x512, .bf16⟩
  | .local _ .vmem, ⟨23, _⟩ => ⟨S4096x512, .bf16⟩
  | .local _ .vmem, ⟨24, _⟩ => ⟨S1x1024x512, .bf16⟩
  | .local _ .vmem, ⟨25, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x1024, .f32⟩
  | .hbm, ⟨41, _⟩ => ⟨S1024x4096, .f32⟩
  | .hbm, ⟨42, _⟩ => ⟨S4096x1024, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S1024x4096, .f32⟩
  | .hbm, ⟨50, _⟩ => ⟨S4096x4096, .bf16⟩
  | .hbm, ⟨51, _⟩ => ⟨S4096x1024, .bf16⟩
  | .hbm, ⟨52, _⟩ => ⟨S1024x8x512, .f32⟩
  | .hbm, ⟨53, _⟩ => ⟨S8x1024x512, .f32⟩
  | .hbm, ⟨54, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel3.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S4096x384 : Shape := ⟨2, ![4096, 384]⟩
abbrev S384x1024 : Shape := ⟨2, ![384, 1024]⟩
abbrev S1024x1280 : Shape := ⟨2, ![1024, 1280]⟩
abbrev S1024x384 : Shape := ⟨2, ![1024, 384]⟩
abbrev S4096x1280 : Shape := ⟨2, ![4096, 1280]⟩

abbrev nBuf : Space → Nat
  | .hbm => 23
  | .vmem => 38
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S1024x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x384, .bf16⟩
  | .hbm, ⟨12, _⟩ => ⟨S384x1024, .bf16⟩
  | .hbm, ⟨13, _⟩ => ⟨S4096x1024, .bf16⟩
  | .hbm, ⟨14, _⟩ => ⟨S4096x2560, .f32⟩
  | .hbm, ⟨15, _⟩ => ⟨S4096x1024, .bf16⟩
  | .hbm, ⟨16, _⟩ => ⟨S4096x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S384x1024, .bf16⟩
  | .hbm, ⟨21, _⟩ => ⟨S4096x384, .f32⟩
  | .hbm, ⟨22, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .bf16⟩
  | .local _ .vmem, ⟨19, _⟩ => ⟨S4096x1024, .bf16⟩
  | .local _ .vmem, ⟨20, _⟩ => ⟨S4096x1024, .bf16⟩
  | .local _ .vmem, ⟨21, _⟩ => ⟨S1024x1024, .bf16⟩
  | .local _ .vmem, ⟨22, _⟩ => ⟨S4096x1024, .bf16⟩
  | .local _ .vmem, ⟨23, _⟩ => ⟨S4096x1024, .bf16⟩
  | .local _ .vmem, ⟨24, _⟩ => ⟨S1024x1024, .bf16⟩
  | .local _ .vmem, ⟨25, _⟩ => ⟨S4096x384, .bf16⟩
  | .local _ .vmem, ⟨26, _⟩ => ⟨S4096x1024, .bf16⟩
  | .local _ .vmem, ⟨27, _⟩ => ⟨S384x1024, .bf16⟩
  | .local _ .vmem, ⟨28, _⟩ => ⟨S1024x1024, .bf16⟩
  | .local _ .vmem, ⟨29, _⟩ => ⟨S1024x1024, .bf16⟩
  | .local _ .vmem, ⟨30, _⟩ => ⟨S384x1024, .bf16⟩
  | .local _ .vmem, ⟨31, _⟩ => ⟨S1024x384, .f32⟩
  | .local _ .vmem, ⟨32, _⟩ => ⟨S1024x384, .f32⟩
  | .local _ .vmem, ⟨33, _⟩ => ⟨S4096x1024, .bf16⟩
  | .local _ .vmem, ⟨34, _⟩ => ⟨S4096x1280, .bf16⟩
  | .local _ .vmem, ⟨35, _⟩ => ⟨S4096x1280, .bf16⟩
  | .local _ .vmem, ⟨36, _⟩ => ⟨S1024x1280, .bf16⟩
  | .local _ .vmem, ⟨37, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc5_stg0_0 : Ref sig .tc := ⟨.vmem, 22, rfl⟩
abbrev cc5_stg1_0 : Ref sig .tc := ⟨.vmem, 23, rfl⟩
abbrev cc5_stg2_0 : Ref sig .tc := ⟨.vmem, 24, rfl⟩
abbrev cc6_stg0_0 : Ref sig .tc := ⟨.vmem, 25, rfl⟩
abbrev cc6_stg1_0 : Ref sig .tc := ⟨.vmem, 26, rfl⟩
abbrev cc6_stg2_0 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg2_0 : Ref sig .tc := ⟨.vmem, 31, rfl⟩
abbrev cc7_stg2_1 : Ref sig .tc := ⟨.vmem, 32, rfl⟩
abbrev cc8_stg0_0 : Ref sig .tc := ⟨.vmem, 33, rfl⟩
abbrev cc8_stg1_0 : Ref sig .tc := ⟨.vmem, 34, rfl⟩
abbrev cc8_stg1_1 : Ref sig .tc := ⟨.vmem, 35, rfl⟩
abbrev cc8_stg2_0 : Ref sig .tc := ⟨.vmem, 36, rfl⟩
abbrev cc8_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc4_sem0_0 : DmaSem sig := 19
abbrev cc4_sem1_0 : DmaSem sig := 20
abbrev cc4_sem2_0 : DmaSem sig := 21
abbrev cc5_sem0_0 : DmaSem sig := 22
abbrev cc5_sem1_0 : DmaSem sig := 23
abbrev cc5_sem2_0 : DmaSem sig := 24
abbrev cc6_sem0_0 : DmaSem sig := 25
abbrev cc6_sem1_0 : DmaSem sig := 26
abbrev cc6_sem2_0 : DmaSem sig := 27
abbrev cc7_sem0_0 : DmaSem sig := 28
abbrev cc7_sem0_1 : DmaSem sig := 29
abbrev cc7_sem1_0 : DmaSem sig := 30
abbrev cc7_sem2_0 : DmaSem sig := 31
abbrev cc7_sem2_1 : DmaSem sig := 32
abbrev cc8_sem0_0 : DmaSem sig := 33
abbrev cc8_sem1_0 : DmaSem sig := 34
abbrev cc8_sem1_1 : DmaSem sig := 35
abbrev cc8_sem2_0 : DmaSem sig := 36
abbrev cc8_sem2_1 : DmaSem sig := 37

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![1, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S4096x384 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 1 → Memref sig .tc .vmem S384x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S384x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x384 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S4096x1280 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1280 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference3Ideal.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S4096x384 : Shape := ⟨2, ![4096, 384]⟩
abbrev S384x1024 : Shape := ⟨2, ![384, 1024]⟩
abbrev S_ : Shape := ⟨0, ![]⟩
abbrev S1024x384 : Shape := ⟨2, ![1024, 384]⟩
abbrev S2560x1024 : Shape := ⟨2, ![2560, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S1024x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x384, .bf16⟩
  | .hbm, ⟨12, _⟩ => ⟨S384x1024, .bf16⟩
  | .hbm, ⟨13, _⟩ => ⟨S4096x1024, .bf16⟩
  | .hbm, ⟨14, _⟩ => ⟨S4096x1024, .f32⟩
  | .hbm, ⟨15, _⟩ => ⟨S1024x2560, .f32⟩
  | .hbm, ⟨16, _⟩ => ⟨S4096x2560, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x384, .f32⟩
  | .hbm, ⟨26, _⟩ => ⟨S384x1024, .f32⟩
  | .hbm, ⟨27, _⟩ => ⟨S4096x1024, .f32⟩
  | .hbm, ⟨28, _⟩ => ⟨S4096x2560, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S1024x1024, .f32⟩
  | .hbm, ⟨33, _⟩ => ⟨S4096x1024, .f32⟩
  | .hbm, ⟨34, _⟩ => ⟨S_, .f32⟩
  | .hbm, ⟨35, _⟩ => ⟨S1024x1024, .f32⟩
  | .hbm, ⟨36, _⟩ => ⟨S4096x1024, .f32⟩
  | .hbm, ⟨37, _⟩ => ⟨S1024x1024, .f32⟩
  | .hbm, ⟨38, _⟩ => ⟨S1024x1024, .f32⟩
  | .hbm, ⟨39, _⟩ => ⟨S4096x1024, .f32⟩
  | .hbm, ⟨40, _⟩ => ⟨S1024x384, .f32⟩
  | .hbm, ⟨41, _⟩ => ⟨S384x1024, .f32⟩
  | .hbm, ⟨42, _⟩ => ⟨S4096x384, .f32⟩
  | .hbm, ⟨43, _⟩ => ⟨S4096x1024, .bf16⟩
  | .hbm, ⟨44, _⟩ => ⟨S4096x1024, .bf16⟩
  | .hbm, ⟨45, _⟩ => ⟨S1024x1024, .bf16⟩
  | .hbm, ⟨46, _⟩ => ⟨S1024x1024, .f32⟩
  | .hbm, ⟨47, _⟩ => ⟨S1024x1024, .f32⟩
  | .hbm, ⟨48, _⟩ => ⟨S4096x1024, .f32⟩
  | .hbm, ⟨49, _⟩ => ⟨S1024x1024, .bf16⟩
  | .hbm, ⟨50, _⟩ => ⟨S1024x1024, .bf16⟩
  | .hbm, ⟨51, _⟩ => ⟨S384x1024, .bf16⟩
  | .hbm, ⟨52, _⟩ => ⟨S2560x1024, .f32⟩
  | .hbm, ⟨53, _⟩ => ⟨S1024x2560, .f32⟩
  | .hbm, ⟨54, _⟩ => ⟨S4096x1024, .f32⟩
  | .hbm, ⟨55, _⟩ => ⟨S1024x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_25 : BitVec 32 := 0#32
  let v53 : BitVec 1 := Scalar.cmpi .ne v52 c0_i32_25
  v53

def k0_cond2 (i : grid0.Coords) : BitVec 1 :=
  let arg0 : BitVec 32 := BitVec.ofNat 32 (i 0).val
  let c0_i32_26 : BitVec 32 := 0#32
  let v54 : BitVec 1 := Scalar.cmpi .sgt arg0 c0_i32_26
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference4Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1024x4096, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel5.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_23 : BitVec 32 := 0#32
  let v51 : BitVec 1 := Scalar.cmpi .ne v50 c0_i32_23
  v51

def k0_cond2 (i : grid0.Coords) : BitVec 1 :=
  let arg0 : BitVec 32 := BitVec.ofNat 32 (i 0).val
  let c0_i32_24 : BitVec 32 := 0#32
  let v52 : BitVec 1 := Scalar.cmpi .sgt arg0 c0_i32_24
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference5Ideal.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1024x2560, .f32⟩
  | .hbm, ⟨45, _⟩ => ⟨S4096x2560, .f32⟩
  | .hbm, ⟨46, _⟩ => ⟨S4096x2560, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_25 : BitVec 32 := 0#32
  let v53 : BitVec 1 := Scalar.cmpi .ne v52 c0_i32_25
  v53

def k0_cond2 (i : grid0.Coords) : BitVec 1 :=
  let arg0 : BitVec 32 := BitVec.ofNat 32 (i 0).val
  let c0_i32_26 : BitVec 32 := 0#32
  let v54 : BitVec 1 := Scalar.cmpi .sgt arg0 c0_i32_26
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference6Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1024x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Proof.Attn.Real.lean ====
/- The mathematics of the gradients of causal softmax attention over the real numbers: the formulas both programs are
   read to, and what a sum over 4096 positions is in blocks of 1024. Nothing here speaks of a program. -/
module

public import Mathlib.Analysis.SpecialFunctions.Pow.Real
public import Mathlib.Data.EReal.Operations
public import Mathlib.Algebra.BigOperators.Fin
public import Mathlib.Algebra.BigOperators.Field
public import Mathlib.Tactic.FieldSimp

@[expose] public section

noncomputable section

namespace Attn

open Finset

/-- Queries and keys of eight heads of 96 numbers at 4096 positions, values and the values' cotangents of 64. -/
structure Data where
  q : Fin 4096 → Fin 8 → Fin 96 → ℝ
  k : Fin 4096 → Fin 8 → Fin 96 → ℝ
  v : Fin 4096 → Fin 8 → Fin 64 → ℝ
  g : Fin 4096 → Fin 8 → Fin 64 → ℝ

/-- The scale of the scores: the binary32 number nearest `96 ^ (-1/2)`. -/
def scale : ℝ := 3424635 / 33554432

namespace Data

variable (D : Data)

/-- The product of query `i` and key `j` of head `h`. -/
def score (h : Fin 8) (i j : Fin 4096) : ℝ := ∑ d, D.q i h d * D.k j h d

/-- The greatest scaled score query `i` sees. -/
def top (h : Fin 8) (i : Fin 4096) : ℝ :=
  (univ.filter (· ≤ i)).sup' ⟨i, by simp⟩ fun j => D.score h i j * scale

/-- The softmax's numerator. -/
def wt (h : Fin 8) (i j : Fin 4096) : ℝ := if j ≤ i then Real.exp (D.score h i j * scale - D.top h i) else 0

/-- The softmax's denominator. -/
def tot (h : Fin 8) (i : Fin 4096) : ℝ := ∑ j, D.wt h i j

/-- The attention's probability. -/
def prob (h : Fin 8) (i j : Fin 4096) : ℝ := D.wt h i j / D.tot h i

/-- The probability's cotangent. -/
def dprob (h : Fin 8) (i j : Fin 4096) : ℝ := ∑ d, D.g i h d * D.v j h d

/-- The attention's output. -/
def out (h : Fin 8) (i : Fin 4096) (d : Fin 64) : ℝ := ∑ j, D.prob h i j * D.v j h d

/-- The row's sum of the probabilities times their cotangents. -/
def dlt (h : Fin 8) (i : Fin 4096) : ℝ := ∑ d, D.g i h d * D.out h i d

/-- The cotangent of the scaled score. -/
def ds (h : Fin 8) (i j : Fin 4096) : ℝ := D.prob h i j * (D.dprob h i j - D.dlt h i)

/-- The gradient of the queries. -/
def gq (i : Fin 4096) (h : Fin 8) (d : Fin 96) : ℝ := ∑ j, D.ds h i j * scale * D.k j h d

/-- The gradient of the keys. -/
def gk (j : Fin 4096) (h : Fin 8) (d : Fin 96) : ℝ := ∑ i, D.ds h i j * scale * D.q i h d

/-- The gradient of the values. -/
def gv (j : Fin 4096) (h : Fin 8) (d : Fin 64) : ℝ := ∑ i, D.prob h i j * D.g i h d

theorem wt_nonneg (h : Fin 8) (i j : Fin 4096) : 0 ≤ D.wt h i j := by
  unfold wt; split
  · exact (Real.exp_pos _).le
  · exact le_rfl

theorem tot_pos (h : Fin 8) (i : Fin 4096) : 0 < D.tot h i := by
  refine Finset.sum_pos' (fun j _ => D.wt_nonneg h i j) ⟨i, mem_univ _, ?_⟩
  simp only [wt, le_refl, if_true]; exact Real.exp_pos _

theorem tot_ne (h : Fin 8) (i : Fin 4096) : D.tot h i ≠ 0 := (D.tot_pos h i).ne'

/-- A key after the query has no weight. -/
theorem wt_of_lt {h : Fin 8} {i j : Fin 4096} (hij : i < j) : D.wt h i j = 0 := if_neg (not_le.mpr hij)
theorem prob_of_lt {h : Fin 8} {i j : Fin 4096} (hij : i < j) : D.prob h i j = 0 := by
  rw [prob, D.wt_of_lt hij, zero_div]
theorem ds_of_lt {h : Fin 8} {i j : Fin 4096} (hij : i < j) : D.ds h i j = 0 := by
  rw [ds, D.prob_of_lt hij, zero_mul]

/-- The row sum by the keys instead of by the output's coordinates. -/
theorem dlt_eq (h : Fin 8) (i : Fin 4096) : D.dlt h i = ∑ j, D.prob h i j * D.dprob h i j := by
  simp only [dlt, out, dprob, mul_sum]
  rw [sum_comm]
  exact sum_congr rfl fun j _ => sum_congr rfl fun d _ => by ring

/-- The score's cotangent as the derivative of the quotient of numerator and denominator writes it. -/
theorem ds_eq (h : Fin 8) (i j : Fin 4096) :
    (D.dprob h i j / D.tot h i + -∑ l, D.dprob h i l * (1 / (D.tot h i * D.tot h i)) * D.wt h i l) * D.wt h i j
      = D.ds h i j := by
  have hl := D.tot_ne h i
  have e : ∑ l, D.dprob h i l * (1 / (D.tot h i * D.tot h i)) * D.wt h i l = D.dlt h i / D.tot h i := by
    rw [dlt_eq, sum_div]
    exact sum_congr rfl fun l _ => by unfold prob; field_simp
  rw [e, ds, prob]; field_simp; ring

/-- The probability from the logarithm of the denominator, in base two. -/
theorem prob_exp2 {h : Fin 8} {i j : Fin 4096} (hij : j ≤ i) (s : ℝ) (hs : s = D.score h i j * (scale / Real.log 2)) :
    (2 : ℝ) ^ (s - (D.top h i + Real.log (D.tot h i)) / Real.log 2) = D.prob h i j := by
  have h2 : Real.log 2 ≠ 0 := (Real.log_pos one_lt_two).ne'
  rw [Real.rpow_def_of_pos two_pos, prob, wt, if_pos hij]
  have : Real.log 2 * (s - (D.top h i + Real.log (D.tot h i)) / Real.log 2)
      = D.score h i j * scale - D.top h i - Real.log (D.tot h i) := by
    rw [hs]; field_simp; ring
  rw [this, Real.exp_sub, Real.exp_log (D.tot_pos h i)]

end Data

/-- The maximum, from minus infinity, of a row of real numbers of which those after position `i` are masked. -/
theorem fold_max_masked (f : Fin 4096 → ℝ) (i : Fin 4096) :
    (univ : Finset (Fin 4096)).fold max (⊥ : EReal) (fun j => if j ≤ i then ((f j : ℝ) : EReal) else ⊥)
      = (((univ.filter (· ≤ i)).sup' ⟨i, by simp⟩ f : ℝ) : EReal) := by
  apply le_antisymm
  · rw [Finset.fold_max_le]
    refine ⟨bot_le, fun j _ => ?_⟩
    split
    · rename_i hj
      exact EReal.coe_le_coe_iff.mpr (Finset.le_sup' f (by simpa using hj))
    · exact bot_le
  · obtain ⟨j, hj, e⟩ := Finset.exists_mem_eq_sup' (s := univ.filter (· ≤ i)) ⟨i, by simp⟩ f
    rw [e, Finset.le_fold_max]
    refine Or.inr ⟨j, mem_univ _, ?_⟩
    have : j ≤ i := by simpa using hj
    rw [if_pos this]

/-- A finite sum of real numbers, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position `r` of block `b`. -/
abbrev pos (b : Fin 4) (r : Fin 1024) : Fin 4096 := ⟨1024 * b.val + r.val, by omega⟩

/-- A sum over the positions, by blocks. -/
theorem sum_blocks {M : Type*} [AddCommMonoid M] (f : Fin 4096 → M) : ∑ i, f i = ∑ b : Fin 4, ∑ r : Fin 1024, f (pos b r) := by
  rw [← Finset.sum_product', ← Equiv.sum_comp (finProdFinEquiv (m := 4) (n := 1024))]
  refine Finset.sum_congr (by ext; simp) fun x _ => congrArg f (Fin.ext ?_)
  simp [finProdFinEquiv, pos]; omega

/-- Head `2 p + a` of pair `p`. -/
abbrev hd (p : Fin 4) (a : Fin 2) : Fin 8 := ⟨2 * p.val + a.val, by omega⟩

end Attn

end
-- ==== Proof.Attn.Words.lean ====
/- What the programs' literal words denote, and comparisons of index words. -/
module

public import proofs.«01_k».proof.Proof.Attn.Real
public import Idealize.ShloMosaic.Lib.Pointwise
public import Idealize.ShloMosaic.Lib.WordCmp

@[expose] public section

noncomputable section

namespace Attn

open Idealize.ShloMosaic

theorem ofBits_scale : Ideal.ofBits .f32 0x3DD105EC#32 = ((scale : ℝ) : EReal) := by
  unfold scale
  simp [Ideal.ofBits, Ideal.ieee, -EReal.coe_mul]; norm_num

theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

theorem ofBits_two : Ideal.ofBits .f32 0x40000000#32 = ((2 : ℝ) : EReal) := by
  simp [Ideal.ofBits, Ideal.ieee, -EReal.coe_mul]; norm_num

/-- The scalar choice on a decided condition. -/
theorem select_ofBool {α : Type} (p : Prop) [Decidable p] (x y : α) :
    Scalar.select (BitVec.ofBool (decide p)) x y = if p then x else y := by
  by_cases h : p <;> simp [h, Scalar.select]

/-- The choice by comparing two positions. -/
theorem select_le {α : Type} {a b : ℕ} (ha : a < 4096) (hb : b < 4096) (x y : α) :
    Scalar.select (IntOp.cmpi .sle (BitVec.ofNat 32 a) (BitVec.ofNat 32 b)) x y = if a ≤ b then x else y := by
  rw [WordCmp.cmpi_sle_ofNat (by omega) (by omega)]; exact select_ofBool _ _ _

theorem div_real (a : ℝ) {b : ℝ} (hb : b ≠ 0) : Ideal.div (a : EReal) (b : EReal) = ((a / b : ℝ) : EReal) := by
  rw [Ideal.div_coe hb, ← EReal.coe_mul, mul_one_div]

theorem log_real {a : ℝ} (ha : 0 < a) : Ideal.log (a : EReal) = ((Real.log a : ℝ) : EReal) := by
  rw [Ideal.log_coe, if_neg (not_le.mpr ha)]

theorem sum_real {ι : Type*} (s : Finset ι) (f : ι → ℝ) : ∑ i ∈ s, (f i : EReal) = ((∑ i ∈ s, f i : ℝ) : EReal) :=
  (coe_sum s f).symm

theorem sitofp_zero : FloatOps.sitofp (F := Ideal) .f32 0#32 = (0 : EReal) := by
  show (((0#32 : BitVec 32).toInt : ℝ) : EReal) = 0
  simp

end Attn
end
-- ==== Proof.Attn.Pay.lean ====
/- The body's vector expressions over vectors of real numbers: each is read, entry by entry, to a real formula. -/
module

public import proofs.«01_k».proof.Proof.Attn.Words
public import proofs.«01_k».proof.Proof.Gen.KernelIdeal.Frame

@[expose] public section

set_option maxRecDepth 16384

noncomputable section

namespace Attn

open Cert.KernelIdeal Cert.KernelIdeal.Gen Idealize.ShloMosaic Idealize.ShloMosaic.TcCoe Idealize.ShloMosaic.Tactic

/-- A matrix whose entries are the real numbers `f i j`. -/
abbrev IsR {n k : ℕ} (x : (⟨2, ![n, k]⟩ : Shape).Idx → EReal) (f : Fin n → Fin k → ℝ) : Prop :=
  ∀ i j, x (ix2 i j) = ((f i j : ℝ) : EReal)

/-- A mask that holds at the lanes below 64. -/
abbrev IsHalf {n : ℕ} (x : (⟨2, ![n, 128]⟩ : Shape).Idx → BitVec 1) : Prop :=
  ∀ i j, x (ix2 i j) = BitVec.ofBool (decide (j.val < 64))

/-- A column of real numbers repeated along the lanes. -/
abbrev IsC {n k : ℕ} (x : (⟨2, ![n, k]⟩ : Shape).Idx → EReal) (f : Fin n → ℝ) : Prop :=
  ∀ i j, x (ix2 i j) = ((f i : ℝ) : EReal)

/-- A mask that holds on and under a diagonal. -/
abbrev IsTri {n k : ℕ} (o : ℕ) (x : (⟨2, ![n, k]⟩ : Shape).Idx → BitVec 1) : Prop :=
  ∀ i j, x (ix2 i j) = BitVec.ofBool (decide (j.val ≤ o + i.val))

/-! ## The real formulas of one block -/

section Formulas

variable {n k : ℕ}

/-- The probabilities. -/
def pR (A : Fin n → Fin 128 → ℝ) (B : Fin k → Fin 128 → ℝ) (C : Fin n → ℝ) (r : Fin n) (s : Fin k) : ℝ :=
  (2 : ℝ) ^ (∑ l, A r l * B s l - C r)

/-- The probabilities under a diagonal. -/
def mR (o : ℕ) (A : Fin n → Fin 128 → ℝ) (B : Fin k → Fin 128 → ℝ) (C : Fin n → ℝ) (r : Fin n) (s : Fin k) : ℝ :=
  if s.val ≤ o + r.val then pR A B C r s else 0

/-- The half of the lanes a head of a pair holds. -/
def hR (a : ℕ) (z : Fin 128) (x : ℝ) : ℝ := if z.val / 64 = a then x else 0

/-- The probabilities' cotangents. -/
def dR (a : ℕ) (G : Fin n → Fin 128 → ℝ) (V : Fin k → Fin 128 → ℝ) (r : Fin n) (s : Fin k) : ℝ :=
  ∑ z, hR a z (G r z * V s z)

/-- The scores' cotangents. -/
def sR (P E : Fin n → Fin k → ℝ) (L : Fin n → ℝ) (r : Fin n) (s : Fin k) : ℝ := P r s * (E r s - L r) * Real.log 2

/-- The product with the transposed tile. -/
def tR (S : Fin n → Fin k → ℝ) (A : Fin n → Fin 128 → ℝ) (s : Fin k) (l : Fin 128) : ℝ := ∑ r, S r s * A r l

/-- The scaled product with the tile. -/
def uR (S : Fin n → Fin k → ℝ) (B : Fin k → Fin 128 → ℝ) (r : Fin n) (l : Fin 128) : ℝ :=
  (∑ s, S r s * B s l) * (scale * (Real.log 2)⁻¹)

/-- Two heads side by side. -/
def cR (X Y : Fin n → Fin 128 → ℝ) (r : Fin n) (l : Fin 256) : ℝ :=
  if h : l.val < 128 then X r ⟨l.val, h⟩ else Y r ⟨l.val - 128, by omega⟩

end Formulas

namespace Pay

theorem named_ln2 : Named.named (F := Ideal) (φ := .f32) κ "ln2" 0x3F317218#32 = ((Real.log 2 : ℝ) : EReal) :=
  IdealRules.named_const.ideal_named_scalar _ _ _ _ rfl

theorem named_post : Named.named (F := Ideal) (φ := .f32) κ "postscale" 0x3E16C740#32 = ((scale * (Real.log 2)⁻¹ : ℝ) : EReal) := by
  unfold scale
  exact IdealRules.named_const.ideal_named_scalar _ _ _ _ rfl

theorem named_mask : Named.named (F := Ideal) (φ := .f32) κ "mask" 0xF149F2CA#32 = (⊥ : EReal) :=
  IdealRules.named_const.ideal_named_scalar _ _ _ _ rfl

theorem sel_bool (p : Prop) [Decidable p] (x : ℝ) :
    Scalar.select (BitVec.ofBool (decide p)) (x : EReal) 0 = ((if p then x else 0 : ℝ) : EReal) := by
  rw [select_ofBool]; split <;> simp

theorem sel_not (p : Prop) [Decidable p] (x : ℝ) :
    Scalar.select (IntOp.xori (BitVec.ofBool (decide p)) 1#1) (x : EReal) 0 = ((if p then 0 else x : ℝ) : EReal) := by
  by_cases h : p <;> simp [h, Scalar.select, IntOp.xori]

theorem exp2_real (x : ℝ) : FloatOps.exp2 (F := Ideal) (φ := .f32) (x : EReal) = (((2 : ℝ) ^ x : ℝ) : EReal) := Ideal.exp2_coe _

theorem exp2_mask (p : Prop) [Decidable p] (x y : ℝ) :
    FloatOps.exp2 (F := Ideal) (φ := .f32) (Scalar.select (BitVec.ofBool (decide p)) (x : EReal) ⊥ - (y : EReal))
      = ((if p then (2 : ℝ) ^ (x - y) else 0 : ℝ) : EReal) := by
  rw [select_ofBool]
  by_cases h : p
  · rw [if_pos h, if_pos h, ← EReal.coe_sub]; exact exp2_real _
  · rw [if_neg h, if_neg h, EReal.bot_sub]; exact Ideal.exp2_bot.trans EReal.coe_zero.symm

theorem sel_lo (z : Fin 128) (x : ℝ) :
    Scalar.select (BitVec.ofBool (decide (z.val < 64))) (x : EReal) 0 = ((hR 0 z x : ℝ) : EReal) := by
  rw [sel_bool, hR]; congr 1; exact if_congr (by omega) rfl rfl

theorem sel_hi (z : Fin 128) (x : ℝ) :
    Scalar.select (IntOp.xori (BitVec.ofBool (decide (z.val < 64))) 1#1) (x : EReal) 0 = ((hR 1 z x : ℝ) : EReal) := by
  rw [sel_not, hR]
  by_cases h : z.val < 64
  · rw [if_pos h, if_neg (by omega)]
  · rw [if_neg h, if_pos (by omega)]

theorem p15 : IsHalf k0_pay15 := by
  intro i j
  pointwise [k0_pay15]
  exact WordCmp.cmpi_slt_ofNat (by omega) (by omega)

theorem p16 : IsHalf k0_pay16 := by
  intro i j
  pointwise [k0_pay16]
  exact WordCmp.cmpi_slt_ofNat (by omega) (by omega)

theorem p34 : IsHalf k0_pay34 := by
  intro i j
  pointwise [k0_pay34]
  exact WordCmp.cmpi_slt_ofNat (by omega) (by omega)

theorem p35 : IsHalf k0_pay35 := by
  intro i j
  pointwise [k0_pay35]
  exact WordCmp.cmpi_slt_ofNat (by omega) (by omega)

theorem p56 : IsHalf k0_pay56 := by
  intro i j
  pointwise [k0_pay56]
  exact WordCmp.cmpi_slt_ofNat (by omega) (by omega)

theorem p57 : IsHalf k0_pay57 := by
  intro i j
  pointwise [k0_pay57]
  exact WordCmp.cmpi_slt_ofNat (by omega) (by omega)

theorem p31 : IsTri 0 k0_pay31 := by
  intro i j
  pointwise [k0_pay31]
  rw [show IntOp.addi (0#32) (BitVec.ofNat 32 j.val) = BitVec.ofNat 32 j.val from BitVec.zero_add _,
    show IntOp.addi (0#32) (BitVec.ofNat 32 i.val) = BitVec.ofNat 32 i.val from BitVec.zero_add _]
  exact WordCmp.cmpi_sle_ofNat (by omega) (by omega)

theorem p53 : IsTri 512 k0_pay53 := by
  intro i j
  pointwise [k0_pay53]
  rw [show IntOp.addi (512#32) (BitVec.ofNat 32 i.val) = BitVec.ofNat 32 (512 + i.val) from (BitVec.ofNat_add 512 i.val).symm]
  exact WordCmp.cmpi_sle_ofNat (by omega) (by omega)

theorem p12 (a) : k0_pay12 (F := Ideal) a = a := by
  unfold k0_pay12
  exact shapeCast_self _ _

theorem p13 (a) : k0_pay13 (F := Ideal) a = a := by
  unfold k0_pay13
  exact shapeCast_self _ _

theorem p14 (a) : k0_pay14 (F := Ideal) a = a := by
  unfold k0_pay14
  exact shapeCast_self _ _

theorem p18 (a) : k0_pay18 (F := Ideal) a = a := by
  unfold k0_pay18
  exact shapeCast_self _ _

theorem p19 (a) : k0_pay19 (F := Ideal) a = a := by
  unfold k0_pay19
  exact shapeCast_self _ _

theorem p26 (a) : k0_pay26 (F := Ideal) a = a := by
  unfold k0_pay26
  exact shapeCast_self _ _

theorem p27 (a) : k0_pay27 (F := Ideal) a = a := by
  unfold k0_pay27
  exact shapeCast_self _ _

theorem p30 (a) : k0_pay30 (F := Ideal) a = a := by
  unfold k0_pay30
  exact shapeCast_self _ _

theorem p32 (a) : k0_pay32 (F := Ideal) a = a := by
  unfold k0_pay32
  exact shapeCast_self _ _

theorem p33 (a) : k0_pay33 (F := Ideal) a = a := by
  unfold k0_pay33
  exact shapeCast_self _ _

theorem p37 (a) : k0_pay37 (F := Ideal) a = a := by
  unfold k0_pay37
  exact shapeCast_self _ _

theorem p38 (a) : k0_pay38 (F := Ideal) a = a := by
  unfold k0_pay38
  exact shapeCast_self _ _

theorem p46 (a) : k0_pay46 (F := Ideal) a = a := by
  unfold k0_pay46
  exact shapeCast_self _ _

theorem p47 (a) : k0_pay47 (F := Ideal) a = a := by
  unfold k0_pay47
  exact shapeCast_self _ _

theorem p54 (a) : k0_pay54 (F := Ideal) a = a := by
  unfold k0_pay54
  exact shapeCast_self _ _

theorem p55 (a) : k0_pay55 (F := Ideal) a = a := by
  unfold k0_pay55
  exact shapeCast_self _ _

theorem p59 (a) : k0_pay59 (F := Ideal) a = a := by
  unfold k0_pay59
  exact shapeCast_self _ _

theorem p60 (a) : k0_pay60 (F := Ideal) a = a := by
  unfold k0_pay60
  exact shapeCast_self _ _

theorem p67 (a) : k0_pay67 (F := Ideal) a = a := by
  unfold k0_pay67
  exact shapeCast_self _ _

theorem p68 (a) : k0_pay68 (F := Ideal) a = a := by
  unfold k0_pay68
  exact shapeCast_self _ _

theorem p17 (a) : (k0_pay17 (F := Ideal) a : _ → EReal) = a := by
  unfold k0_pay17
  rw [p14]; rfl

theorem p36 (a) : (k0_pay36 (F := Ideal) a : _ → EReal) = a := by
  unfold k0_pay36
  rw [p33]; rfl

theorem p58 (a) : (k0_pay58 (F := Ideal) a : _ → EReal) = a := by
  unfold k0_pay58
  rw [p55]; rfl

section

variable {a b c d e f g x A B C D E G P X Y}

theorem p20 (ha : IsR a A) (hb : IsR b B) (hc : IsC c C) :
    IsR (k0_pay20 (F := Ideal) a b c) (pR A B C) := by
  intro r s
  pointwise [k0_pay20, k0_pay18, k0_pay19]
  simp only [ha _ _, hb _ _, hc _ _, dite_eq_ite, ite_self, ← EReal.coe_mul, sum_real, ← EReal.coe_add, ← EReal.coe_sub]
  exact exp2_real _

theorem p28 (ha : IsR a A) (hb : IsR b B) (hc : IsC c C) :
    IsR (k0_pay28 (F := Ideal) a b c) (pR A B C) := by
  intro r s
  pointwise [k0_pay28, k0_pay26, k0_pay27]
  simp only [ha _ _, hb _ _, hc _ _, dite_eq_ite, ite_self, ← EReal.coe_mul, sum_real, ← EReal.coe_add, ← EReal.coe_sub]
  exact exp2_real _

theorem p39 (ha : IsR a A) (hb : IsR b B) (hc : IsC c C) :
    IsR (k0_pay39 (F := Ideal) a b c) (mR 0 A B C) := by
  intro r s
  pointwise [k0_pay39, k0_pay37, k0_pay38]
  simp only [ha _ _, hb _ _, hc _ _, p31 _ _, named_mask, dite_eq_ite, ite_self, ← EReal.coe_mul, sum_real, ← EReal.coe_add, ← EReal.coe_sub]
  exact exp2_mask _ _ _

theorem p48 (hm : IsTri 0 d) (ha : IsR a A) (hb : IsR b B) (hc : IsC c C) :
    IsR (k0_pay48 (F := Ideal) d a b c) (mR 0 A B C) := by
  intro r s
  pointwise [k0_pay48, k0_pay46, k0_pay47]
  simp only [ha _ _, hb _ _, hc _ _, hm _ _, named_mask, dite_eq_ite, ite_self, ← EReal.coe_mul, sum_real, ← EReal.coe_add, ← EReal.coe_sub]
  exact exp2_mask _ _ _

theorem p61 (hm : IsTri 512 d) (ha : IsR a A) (hb : IsR b B) (hc : IsC c C) :
    IsR (k0_pay61 (F := Ideal) d a b c) (mR 512 A B C) := by
  intro r s
  pointwise [k0_pay61, k0_pay59, k0_pay60]
  simp only [ha _ _, hb _ _, hc _ _, hm _ _, named_mask, dite_eq_ite, ite_self, ← EReal.coe_mul, sum_real, ← EReal.coe_add, ← EReal.coe_sub]
  exact exp2_mask _ _ _

theorem p69 (hm : IsTri 512 d) (ha : IsR a A) (hb : IsR b B) (hc : IsC c C) :
    IsR (k0_pay69 (F := Ideal) d a b c) (mR 512 A B C) := by
  intro r s
  pointwise [k0_pay69, k0_pay67, k0_pay68]
  simp only [ha _ _, hb _ _, hc _ _, hm _ _, named_mask, dite_eq_ite, ite_self, ← EReal.coe_mul, sum_real, ← EReal.coe_add, ← EReal.coe_sub]
  exact exp2_mask _ _ _

theorem p21 (ha : IsR a A) (hg : IsR g G) (hp : IsR (k0_pay20 (F := Ideal) b c d) P) (he : IsC e E) :
    IsR (k0_pay21 (F := Ideal) a g b c d e) (sR P (dR 0 G A) E) := by
  intro r s
  pointwise [k0_pay21, k0_pay14, k0_pay13]
  simp only [ha _ _, hg _ _, hp _ _, he _ _, p15 _ _, sel_lo, named_ln2, dite_eq_ite, ite_self, ← EReal.coe_mul, sum_real, ← EReal.coe_add, ← EReal.coe_sub]
  rfl

theorem p62 (ha : IsR a A) (hg : IsR g G) (hp : IsR (k0_pay61 (F := Ideal) f b c d) P) (he : IsC e E) :
    IsR (k0_pay62 (F := Ideal) f a g b c d e) (sR P (dR 0 G A) E) := by
  intro r s
  pointwise [k0_pay62, k0_pay55, k0_pay54]
  simp only [ha _ _, hg _ _, hp _ _, he _ _, p56 _ _, sel_lo, named_ln2, dite_eq_ite, ite_self, ← EReal.coe_mul, sum_real, ← EReal.coe_add, ← EReal.coe_sub]
  rfl

theorem p29 (ha : IsR a A) (hg : IsR g G) (hm : IsHalf d) :
    IsR (k0_pay29 (F := Ideal) a g d) (dR 1 G A) := by
  intro r s
  pointwise [k0_pay29]
  simp only [ha _ _, hg _ _, hm _ _, sel_hi, dite_eq_ite, ite_self, ← EReal.coe_mul, sum_real, ← EReal.coe_add, ← EReal.coe_sub]
  rfl

theorem p70 (ha : IsR a A) (hg : IsR g G) (hm : IsHalf d) :
    IsR (k0_pay70 (F := Ideal) a g d) (dR 1 G A) := by
  intro r s
  pointwise [k0_pay70]
  simp only [ha _ _, hg _ _, hm _ _, sel_hi, dite_eq_ite, ite_self, ← EReal.coe_mul, sum_real, ← EReal.coe_add, ← EReal.coe_sub]
  rfl

theorem p40 (ha : IsR a A) (hg : IsR g G) :
    IsR (k0_pay40 (F := Ideal) a g) (dR 0 G A) := by
  intro r s
  pointwise [k0_pay40, k0_pay33, k0_pay32]
  simp only [ha _ _, hg _ _, p34 _ _, sel_lo, dite_eq_ite, ite_self, ← EReal.coe_mul, sum_real, ← EReal.coe_add, ← EReal.coe_sub]
  rfl

theorem p41 (ha : IsC a A) :
    IsC (k0_pay41 (F := Ideal) a) (A) := by
  intro r s
  pointwise [k0_pay41]
  simp only [ha _ _, dite_eq_ite, ite_self, ← EReal.coe_mul, sum_real, ← EReal.coe_add, ← EReal.coe_sub]
  done

theorem p71 (ha : IsC a A) :
    IsC (k0_pay71 (F := Ideal) a) (A) := by
  intro r s
  pointwise [k0_pay71]
  simp only [ha _ _, dite_eq_ite, ite_self, ← EReal.coe_mul, sum_real, ← EReal.coe_add, ← EReal.coe_sub]
  done

theorem p4 (hp : IsR a P) (he : IsR b E) (hc : IsC c C) :
    IsR (k0_pay4 (F := Ideal) a b c) (sR P E C) := by
  intro r s
  pointwise [k0_pay4]
  simp only [hp _ _, he _ _, hc _ _, named_ln2, dite_eq_ite, ite_self, ← EReal.coe_mul, sum_real, ← EReal.coe_add, ← EReal.coe_sub]
  rfl

theorem p8 (hp : IsR a P) (he : IsR b E) (hc : IsC c C) :
    IsR (k0_pay8 (F := Ideal) a b c) (sR P E C) := by
  intro r s
  pointwise [k0_pay8]
  simp only [hp _ _, he _ _, hc _ _, named_ln2, dite_eq_ite, ite_self, ← EReal.coe_mul, sum_real, ← EReal.coe_add, ← EReal.coe_sub]
  rfl

theorem p42 (hp : IsR a P) (he : IsR b E) (hc : IsC c C) :
    IsR (k0_pay42 (F := Ideal) a b c) (sR P E C) := by
  intro r s
  pointwise [k0_pay42]
  simp only [hp _ _, he _ _, hc _ _, named_ln2, dite_eq_ite, ite_self, ← EReal.coe_mul, sum_real, ← EReal.coe_add, ← EReal.coe_sub]
  rfl

theorem p49 (ha : IsR a A) (hg : IsR g G) (hm : IsHalf d) (hp : IsR b P) (he : IsC e E) :
    IsR (k0_pay49 (F := Ideal) a g d b (constantI _ 1 1#1) e) (sR P (dR 1 G A) E) := by
  intro r s
  pointwise [k0_pay49]
  simp only [ha _ _, hg _ _, hp _ _, he _ _, hm _ _, sel_hi, named_ln2, dite_eq_ite, ite_self, ← EReal.coe_mul, sum_real, ← EReal.coe_add, ← EReal.coe_sub]
  rfl

theorem p24 (hs : IsR a P) (hx : IsR g X) (hy : IsR d Y) :
    IsR (k0_pay24 (F := Ideal) g a d) (fun i j => Y i j + tR (P) X i j) := by
  intro r s
  pointwise [k0_pay24]
  simp only [hs _ _, hx _ _, hy _ _, dite_eq_ite, ite_self, ← EReal.coe_mul, sum_real, ← EReal.coe_add, ← EReal.coe_sub]
  rfl

theorem p65 (hs : IsR a P) (hx : IsR g X) (hy : IsR d Y) :
    IsR (k0_pay65 (F := Ideal) g a d) (fun i j => Y i j + tR (P) X i j) := by
  intro r s
  pointwise [k0_pay65]
  simp only [hs _ _, hx _ _, hy _ _, dite_eq_ite, ite_self, ← EReal.coe_mul, sum_real, ← EReal.coe_add, ← EReal.coe_sub]
  rfl

theorem p6 (hs : IsR (k0_pay4 (F := Ideal) a b c) P) (hx : IsR g X) (hy : IsR d Y) :
    IsR (k0_pay6 (F := Ideal) g a b c d) (fun i j => Y i j + tR (P) X i j) := by
  intro r s
  pointwise [k0_pay6]
  simp only [hs _ _, hx _ _, hy _ _, dite_eq_ite, ite_self, ← EReal.coe_mul, sum_real, ← EReal.coe_add, ← EReal.coe_sub]
  rfl

theorem p10 (hs : IsR (k0_pay8 (F := Ideal) a b c) P) (hx : IsR g X) (hy : IsR d Y) :
    IsR (k0_pay10 (F := Ideal) g a b c d) (fun i j => Y i j + tR (P) X i j) := by
  intro r s
  pointwise [k0_pay10]
  simp only [hs _ _, hx _ _, hy _ _, dite_eq_ite, ite_self, ← EReal.coe_mul, sum_real, ← EReal.coe_add, ← EReal.coe_sub]
  rfl

theorem p44 (hs : IsR (k0_pay42 (F := Ideal) a b c) P) (hx : IsR g X) (hy : IsR d Y) :
    IsR (k0_pay44 (F := Ideal) g a b c d) (fun i j => Y i j + tR (P) X i j) := by
  intro r s
  pointwise [k0_pay44]
  simp only [hs _ _, hx _ _, hy _ _, dite_eq_ite, ite_self, ← EReal.coe_mul, sum_real, ← EReal.coe_add, ← EReal.coe_sub]
  rfl

theorem p51 (hs : IsR (k0_pay49 (F := Ideal) a b c e f x) P) (hx : IsR g X) (hy : IsR d Y) :
    IsR (k0_pay51 (F := Ideal) a b c g e f x d) (fun i j => Y i j + tR (P) X i j) := by
  intro r s
  pointwise [k0_pay51]
  simp only [hs _ _, hx _ _, hy _ _, dite_eq_ite, ite_self, ← EReal.coe_mul, sum_real, ← EReal.coe_add, ← EReal.coe_sub]
  rfl

theorem p23  (hm : IsHalf c) (hs : IsR a P) (hx : IsR g X) (hy : IsR d Y) :
    IsR (k0_pay23 (F := Ideal) c g a (constant _ .f32 0x00000000#32) d) (fun i j => Y i j + hR 0 j (tR P X i j)) := by
  intro r s
  pointwise [k0_pay23]
  simp only [hm _ _, hs _ _, hx _ _, hy _ _, sel_lo, dite_eq_ite, ite_self, ← EReal.coe_mul, sum_real, ← EReal.coe_add, ← EReal.coe_sub]
  rfl

theorem p5  (hm : IsHalf c) (hs : IsR a P) (hx : IsR g X) (hy : IsR d Y) :
    IsR (k0_pay5 (F := Ideal) c g a d) (fun i j => Y i j + hR 1 j (tR P X i j)) := by
  intro r s
  pointwise [k0_pay5]
  simp only [hm _ _, hs _ _, hx _ _, hy _ _, sel_hi, dite_eq_ite, ite_self, ← EReal.coe_mul, sum_real, ← EReal.coe_add, ← EReal.coe_sub]
  rfl

theorem p9  (hm : IsHalf c) (hs : IsR a P) (hx : IsR g X) (hy : IsR d Y) :
    IsR (k0_pay9 (F := Ideal) c g a d) (fun i j => Y i j + hR 1 j (tR P X i j)) := by
  intro r s
  pointwise [k0_pay9]
  simp only [hm _ _, hs _ _, hx _ _, hy _ _, sel_hi, dite_eq_ite, ite_self, ← EReal.coe_mul, sum_real, ← EReal.coe_add, ← EReal.coe_sub]
  rfl

theorem p43  (hm : IsHalf c) (hs : IsR a P) (hx : IsR g X) (hy : IsR d Y) :
    IsR (k0_pay43 (F := Ideal) c g a d) (fun i j => Y i j + hR 0 j (tR P X i j)) := by
  intro r s
  pointwise [k0_pay43]
  simp only [hm _ _, hs _ _, hx _ _, hy _ _, sel_lo, dite_eq_ite, ite_self, ← EReal.coe_mul, sum_real, ← EReal.coe_add, ← EReal.coe_sub]
  rfl

theorem p50  (hm : IsHalf c) (hs : IsR a P) (hx : IsR g X) (hy : IsR d Y) :
    IsR (k0_pay50 (F := Ideal) c g a d) (fun i j => Y i j + hR 1 j (tR P X i j)) := by
  intro r s
  pointwise [k0_pay50]
  simp only [hm _ _, hs _ _, hx _ _, hy _ _, sel_hi, dite_eq_ite, ite_self, ← EReal.coe_mul, sum_real, ← EReal.coe_add, ← EReal.coe_sub]
  rfl

theorem p63 (hs : IsR (k0_pay61 (F := Ideal) a b c d) P) (hx : IsR g X) :
    IsR (k0_pay63 (F := Ideal) a g b c d) (tR P X) := by
  intro r s
  pointwise [k0_pay63, k0_pay58, k0_pay55]
  simp only [hs _ _, hx _ _, dite_eq_ite, ite_self, ← EReal.coe_mul, sum_real, ← EReal.coe_add, ← EReal.coe_sub]
  rfl

theorem p64 (hm : IsHalf c) (hx : IsR g X) (hy : IsR d Y) :
    IsR (k0_pay64 (F := Ideal) c g d) (fun i j => Y i j + hR 0 j (X i j)) := by
  intro r s
  pointwise [k0_pay64]
  simp only [hm _ _, hx _ _, hy _ _, sel_lo, dite_eq_ite, ite_self, ← EReal.coe_mul, sum_real, ← EReal.coe_add, ← EReal.coe_sub]
  done

theorem p25 (hx : IsR g X) (hs : IsR a P) :
    IsR (k0_pay25 (F := Ideal) g a) (uR P X) := by
  intro r s
  pointwise [k0_pay25]
  simp only [hx _ _, hs _ _, named_post, dite_eq_ite, ite_self, ← EReal.coe_mul, sum_real, ← EReal.coe_add, ← EReal.coe_sub]
  rfl

theorem p66 (hx : IsR g X) (hs : IsR a P) :
    IsR (k0_pay66 (F := Ideal) g a) (uR P X) := by
  intro r s
  pointwise [k0_pay66]
  simp only [hx _ _, hs _ _, named_post, dite_eq_ite, ite_self, ← EReal.coe_mul, sum_real, ← EReal.coe_add, ← EReal.coe_sub]
  rfl

theorem p45 (hx : IsR g X) (hs : IsR (k0_pay42 (F := Ideal) a b c) P) :
    IsR (k0_pay45 (F := Ideal) g a b c) (uR P X) := by
  intro r s
  pointwise [k0_pay45]
  simp only [hx _ _, hs _ _, named_post, dite_eq_ite, ite_self, ← EReal.coe_mul, sum_real, ← EReal.coe_add, ← EReal.coe_sub]
  rfl

theorem p52 (hx : IsR g X) (hy : IsR d Y) (hs : IsR (k0_pay49 (F := Ideal) a b c e f x) P) :
    IsR (k0_pay52 (F := Ideal) a b c d g e f x) (cR Y (uR P X)) := by
  intro r s
  pointwise [k0_pay52]
  simp only [hx _ _, hy _ _, hs _ _, named_post, dite_eq_ite, ite_self, ← EReal.coe_mul, sum_real, ← EReal.coe_add, ← EReal.coe_sub]
  unfold cR uR
  by_cases h : s.val < 128
  · rw [dif_pos h, dif_pos h]
  · rw [dif_neg h, dif_neg h]

theorem p7 (hx : IsR g X) (hy : IsR d Y) (hz : IsR e E) (hs : IsR (k0_pay4 (F := Ideal) a b c) P) :
    IsR (k0_pay7 (F := Ideal) e d g a b c) (fun i j => E i j + cR Y (uR P X) i j) := by
  intro r s
  pointwise [k0_pay7]
  simp only [hx _ _, hy _ _, hz _ _, hs _ _, named_post, dite_eq_ite, ite_self, ← EReal.coe_mul, sum_real, ← EReal.coe_add, ← EReal.coe_sub]
  unfold cR uR
  by_cases h : s.val < 128
  · rw [dif_pos h, dif_pos h, ← EReal.coe_add]
  · rw [dif_neg h, dif_neg h, ← EReal.coe_add]

theorem p11 (ht : IsR f G) (hx : IsR g X) (hy : IsR d Y) (hz : IsR e E) (hs : IsR (k0_pay8 (F := Ideal) a b c) P) :
    IsR (k0_pay11 (F := Ideal) f d g a b c e) (fun i j => E i j + if h : i.val < 512 then G ⟨i.val, h⟩ j else cR Y (uR P X) ⟨i.val - 512, by omega⟩ j) := by
  intro r s
  pointwise [k0_pay11]
  simp only [ht _ _, hx _ _, hy _ _, hz _ _, hs _ _, named_post, dite_eq_ite, ite_self, ← EReal.coe_mul, sum_real, ← EReal.coe_add, ← EReal.coe_sub]
  unfold cR uR
  by_cases h' : r.val < 512
  · rw [dif_pos h', dif_pos h', ← EReal.coe_add]
  rw [dif_neg h', dif_neg h']
  by_cases h : s.val < 128
  · rw [dif_pos h, dif_pos h, ← EReal.coe_add]
  · rw [dif_neg h, dif_neg h, ← EReal.coe_add]

end

end Pay

end Attn

end
-- ==== Proof.Attn.Step.lean ====
/- One grid point's arithmetic over blocks of real numbers: what a load of a part of a block holds, what a list of
   stores leaves, and the tiles of probabilities and of scores' cotangents the body forms. -/
module

public import proofs.«01_k».proof.Proof.Attn.Pay
public import Idealize.ShloMosaic.Lib.WritesUnit
public import Idealize.ShloMosaic.Lib.Pipeline.ValueKit.Tiles

@[expose] public section

set_option maxRecDepth 16384

noncomputable section

namespace Attn

open Cert.KernelIdeal Cert.KernelIdeal.Gen Idealize.ShloMosaic Idealize.ShloMosaic.TcCoe Idealize.ShloMosaic.Tactic

/-- Part of a matrix of real numbers, from row `o` and column `p` on. -/
def sb {N M n k : ℕ} (o p : ℕ) (X : Fin N → Fin M → ℝ) (i : Fin n) (j : Fin k) : ℝ :=
  if h : o + i.val < N ∧ p + j.val < M then X ⟨o + i.val, h.1⟩ ⟨p + j.val, h.2⟩ else 0

/-- Part of a column, from row `o` on. -/
def sc {N n : ℕ} (o : ℕ) (X : Fin N → ℝ) (i : Fin n) : ℝ := if h : o + i.val < N then X ⟨o + i.val, h⟩ else 0

/-- A matrix with a part replaced. -/
def ov {N M n k : ℕ} (o p : ℕ) (W : Fin n → Fin k → ℝ) (X : Fin N → Fin M → ℝ) (i : Fin N) (j : Fin M) : ℝ :=
  if h : (o ≤ i.val ∧ i.val < o + n) ∧ (p ≤ j.val ∧ j.val < p + k) then W ⟨i.val - o, by omega⟩ ⟨j.val - p, by omega⟩ else X i j

/-- Values that depend on the row and on the half of the 256 lanes only. -/
abbrev IsL (x : (⟨2, ![1024, 256]⟩ : Shape).Idx → EReal) (f : ℕ → Fin 1024 → ℝ) : Prop :=
  ∀ i j, x (ix2 i j) = ((f (j.val / 128) i : ℝ) : EReal)

namespace Step

theorem ldR {N M n k o p : ℕ} {x : (⟨2, ![N, M]⟩ : Shape).Idx → EReal} {X : Fin N → Fin M → ℝ} {off : Fin 2 → ℕ}
    {inb : ∀ a : Fin 2, off a + (![n, k] : Fin 2 → ℕ) a ≤ (![N, M] : Fin 2 → ℕ) a} (hx : IsR x X) (ho : off = ![o, p]) :
    IsR (n := n) (k := k) (View.ld (S := ⟨2, ![N, M]⟩) (Val := Elt Ideal) (e' := .f32) x (Rect.unit (s := ⟨2, ![N, M]⟩) off ![n, k] inb)) (sb o p X) := by
  subst ho
  intro i j
  have h0 : o + n ≤ N := inb 0
  have h1 : p + k ≤ M := inb 1
  refine (View.ld_unit_apply_of (S := ⟨2, ![N, M]⟩) (Val := Elt Ideal) (e := .f32) x _ _ inb (ix2 i j) (ix2 ⟨o + i.val, by omega⟩ ⟨p + j.val, by omega⟩) (by
    intro a; match a with | ⟨0, _⟩ => rfl | ⟨1, _⟩ => rfl)).trans ?_
  rw [sb, dif_pos ⟨by omega, by omega⟩]
  exact hx _ _

theorem ldC {n o p a : ℕ} {x : (⟨2, ![1024, 256]⟩ : Shape).Idx → EReal} {X : ℕ → Fin 1024 → ℝ}
    {inb : ∀ b : Fin 2, (![o, p] : Fin 2 → ℕ) b + (![n, 128] : Fin 2 → ℕ) b ≤ (![1024, 256] : Fin 2 → ℕ) b} (hx : IsL x X)
    (ha : p = 128 * a) :
    IsC (n := n) (k := 128) (View.ld (S := ⟨2, ![1024, 256]⟩) (Val := Elt Ideal) (e' := .f32) x (Rect.unit (s := ⟨2, ![1024, 256]⟩) ![o, p] ![n, 128] inb)) (sc o (X a)) := by
  intro i j
  have h0 : o + n ≤ 1024 := inb 0
  have h1 : p + 128 ≤ 256 := inb 1
  refine (View.ld_unit_apply_of (S := ⟨2, ![1024, 256]⟩) (Val := Elt Ideal) (e := .f32) x _ _ inb (ix2 i j) (ix2 ⟨o + i.val, by omega⟩ ⟨p + j.val, by omega⟩) (by
    intro a; match a with | ⟨0, _⟩ => rfl | ⟨1, _⟩ => rfl)).trans ?_
  rw [sc, dif_pos (by omega), hx]
  have : (p + j.val) / 128 = a := by omega
  show ((X ((p + j.val) / 128) _ : ℝ) : EReal) = _
  rw [this]

section Writes

variable {sig : RefSig} {κ : Kind} {sp : Space} {N M n k o p : ℕ} {v : View sig κ sp (⟨2, ![N, M]⟩ : Shape) .f32}
  {f : v.ty.Contents (Elt Ideal)} {L : List (View.Piece (Elt Ideal) (⟨2, ![N, M]⟩ : Shape) .f32)} {off : Fin 2 → ℕ}
  {inb : ∀ a : Fin 2, off a + (![n, k] : Fin 2 → ℕ) a ≤ (![N, M] : Fin 2 → ℕ) a}
  {w : (⟨2, ![n, k]⟩ : Shape).Idx → EReal} {W : Fin n → Fin k → ℝ} {X : Fin N → Fin M → ℝ}

theorem wr_at (ho : off = ![o, p]) (hw : IsR w W) (i : Fin N) (j : Fin M)
    (hL : ¬ ((o ≤ i.val ∧ i.val < o + n) ∧ (p ≤ j.val ∧ j.val < p + k)) →
      v.read (Elt Ideal) (v.writes (Elt Ideal) f L) (ix2 i j) = ((X i j : ℝ) : EReal)) :
    v.read (Elt Ideal) (v.writes (Elt Ideal) f (⟨Rect.unit (s := ⟨2, ![N, M]⟩) off ![n, k] inb, w⟩ :: L)) (ix2 i j)
      = ((ov o p W X i j : ℝ) : EReal) := by
  by_cases h : (o ≤ i.val ∧ i.val < o + n) ∧ (p ≤ j.val ∧ j.val < p + k)
  · rw [ov, dif_pos h, ← hw]
    exact View.read_writes_cons_unit_of_mem v f inb w L (ix2 i j) (ix2 ⟨i.val - o, by omega⟩ ⟨j.val - p, by omega⟩) ho
      (Fin.forall_fin_two.mpr ⟨by show i.val = o + (i.val - o); omega, by show j.val = p + (j.val - p); omega⟩)
  · rw [ov, dif_neg h, ← hL h]
    rcases not_and_or.mp h with h | h
    · exact View.read_writes_cons_unit_of_not_mem v f inb w L (ix2 i j) ho 0 (by
        show i.val < o ∨ o + n ≤ i.val; omega)
    · exact View.read_writes_cons_unit_of_not_mem v f inb w L (ix2 i j) ho 1 (by
        show j.val < p ∨ p + k ≤ j.val; omega)

/-- One store over contents that are known. -/
theorem wr (ho : off = ![o, p]) (hw : IsR w W) (hL : IsR (v.read (Elt Ideal) (v.writes (Elt Ideal) f L)) X) :
    IsR (v.read (Elt Ideal) (v.writes (Elt Ideal) f (⟨Rect.unit (s := ⟨2, ![N, M]⟩) off ![n, k] inb, w⟩ :: L))) (ov o p W X) :=
  fun i j => wr_at ho hw i j fun _ => hL i j

end Writes

section Whole

variable {sig : RefSig} {κ : Kind} {sp : Space} {N M : ℕ} {v : View sig κ sp (⟨2, ![N, M]⟩ : Shape) .f32}
  {f : v.ty.Contents (Elt Ideal)} {L : List (View.Piece (Elt Ideal) (⟨2, ![N, M]⟩ : Shape) .f32)} {off : Fin 2 → ℕ}
  {inb : ∀ a : Fin 2, off a + (![N, M] : Fin 2 → ℕ) a ≤ (![N, M] : Fin 2 → ℕ) a}
  {w : (⟨2, ![N, M]⟩ : Shape).Idx → EReal} {W : Fin N → Fin M → ℝ}

/-- A store of the whole array leaves what it stored. -/
theorem whole (ho : off = ![0, 0]) (hw : IsR w W) :
    IsR (v.read (Elt Ideal) (v.writes (Elt Ideal) f (⟨Rect.unit (s := ⟨2, ![N, M]⟩) off ![N, M] inb, w⟩ :: L))) W := fun i j =>
  (View.read_writes_cons_unit_of_mem v f inb w L (ix2 i j) (ix2 i j) ho
      (Fin.forall_fin_two.mpr ⟨(Nat.zero_add _).symm, (Nat.zero_add _).symm⟩)).trans (hw i j)

end Whole

section Two

variable {sig : RefSig} {κ : Kind} {sp : Space} {v : View sig κ sp (⟨2, ![1024, 256]⟩ : Shape) .f32}
  {f : v.ty.Contents (Elt Ideal)} {L : List (View.Piece (Elt Ideal) (⟨2, ![1024, 256]⟩ : Shape) .f32)}
  {inb0 : ∀ a : Fin 2, (![0, 0] : Fin 2 → ℕ) a + (![1024, 128] : Fin 2 → ℕ) a ≤ (![1024, 256] : Fin 2 → ℕ) a}
  {inb1 : ∀ a : Fin 2, (![0, 128] : Fin 2 → ℕ) a + (![1024, 128] : Fin 2 → ℕ) a ≤ (![1024, 256] : Fin 2 → ℕ) a}
  {w0 w1 : (⟨2, ![1024, 128]⟩ : Shape).Idx → EReal} {W0 W1 : Fin 1024 → Fin 128 → ℝ}

/-- Two stores of half the lanes each. -/
theorem two (h0 : IsR w0 W0) (h1 : IsR w1 W1) :
    IsR (v.read (Elt Ideal) (v.writes (Elt Ideal) f (⟨Rect.unit (s := ⟨2, ![1024, 256]⟩) ![0, 128] ![1024, 128] inb1, w1⟩ ::
      ⟨Rect.unit (s := ⟨2, ![1024, 256]⟩) ![0, 0] ![1024, 128] inb0, w0⟩ :: L))) (cR W0 W1) := by
  intro i j
  refine (wr_at (X := fun i j => if h : j.val < 128 then W0 i ⟨j.val, h⟩ else 0) rfl h1 i j fun hn => ?_).trans ?_
  · refine (View.read_writes_cons_unit_of_mem v f inb0 w0 L (ix2 i j) (ix2 i ⟨j.val, by omega⟩) rfl
      (Fin.forall_fin_two.mpr ⟨(Nat.zero_add _).symm, (Nat.zero_add _).symm⟩)).trans ((h0 _ _).trans ?_)
    have hj : j.val < 128 := by omega
    simp only [dif_pos hj]
  · congr 1
    unfold ov cR
    by_cases h : j.val < 128
    · rw [dif_neg (by omega), dif_pos h]; exact dif_pos h
    · rw [dif_pos (by omega), dif_neg h]; rfl

end Two

theorem zero1 : IsR (k0_pay1 (F := Ideal)) fun _ _ => 0 := by
  intro i j
  pointwise [k0_pay1]
  exact EReal.coe_zero.symm
theorem zero2 : IsR (k0_pay2 (F := Ideal)) fun _ _ => 0 := by
  intro i j
  pointwise [k0_pay2]
  exact EReal.coe_zero.symm
theorem zero3 : IsR (k0_pay3 (F := Ideal)) fun _ _ => 0 := by
  intro i j
  pointwise [k0_pay3]
  exact EReal.coe_zero.symm

theorem un17 {a A} (h : IsR a A) : IsR (k0_pay17 (F := Ideal) a) A := by rw [Pay.p17]; exact h
theorem un36 {a A} (h : IsR a A) : IsR (k0_pay36 (F := Ideal) a) A := by rw [Pay.p36]; exact h
theorem un58 {a A} (h : IsR a A) : IsR (k0_pay58 (F := Ideal) a) A := by rw [Pay.p58]; exact h

end Step

/-! ## The tiles of a block -/

section Tiles

variable (Q K : Fin 1024 → Fin 256 → ℝ) (V G : Fin 1024 → Fin 128 → ℝ) (Z E : ℕ → Fin 1024 → ℝ)

/-- All queries by all keys. -/
def Pf (a : ℕ) : Fin 1024 → Fin 1024 → ℝ := pR (sb 0 (128 * a) Q) (sb 0 (128 * a) K) (sc 0 (Z a))
def Sf (a : ℕ) : Fin 1024 → Fin 1024 → ℝ := sR (Pf Q K Z a) (dR a (sb 0 0 G) (sb 0 0 V)) (sc 0 (E a))

/-- The first half of the queries by the first half of the keys, under the diagonal. -/
def Pt (a : ℕ) : Fin 512 → Fin 512 → ℝ := mR 0 (sb 0 (128 * a) Q) (sb 0 (128 * a) K) (sc 0 (Z a))
def St (a : ℕ) : Fin 512 → Fin 512 → ℝ := sR (Pt Q K Z a) (dR a (sb 0 0 G) (sb 0 0 V)) (sc 0 (E a))

/-- The second half of the queries by all keys, under the diagonal. -/
def Pl (a : ℕ) : Fin 512 → Fin 1024 → ℝ := mR 512 (sb 512 (128 * a) Q) (sb 0 (128 * a) K) (sc 512 (Z a))
def Sl (a : ℕ) : Fin 512 → Fin 1024 → ℝ := sR (Pl Q K Z a) (dR a (sb 512 0 G) (sb 0 0 V)) (sc 512 (E a))

/-- The keys' and the values' gradients after a block of queries past the keys. -/
def dkF (X : Fin 1024 → Fin 256 → ℝ) : Fin 1024 → Fin 256 → ℝ :=
  cR (fun i j => sb 0 0 X i j + tR (Sf Q K V G Z E 0) (sb 0 0 Q) i j) (fun i j => sb 0 128 X i j + tR (Sf Q K V G Z E 1) (sb 0 128 Q) i j)
def dvF (X : Fin 1024 → Fin 128 → ℝ) : Fin 1024 → Fin 128 → ℝ := fun i j =>
  sb 0 0 X i j + hR 0 j (tR (Pf Q K Z 0) (sb 0 0 G) i j) + hR 1 j (tR (Pf Q K Z 1) (sb 0 0 G) i j)
def dqF (o : ℕ) (X : Fin 4096 → Fin 256 → ℝ) : Fin 4096 → Fin 256 → ℝ :=
  ov o 0 (fun (i : Fin 1024) (j : Fin 256) => sb o 0 X i j + cR (uR (Sf Q K V G Z E 0) (sb 0 0 K)) (uR (Sf Q K V G Z E 1) (sb 0 128 K)) i j) X

/-- The keys' and the values' gradients after the block of queries that holds the keys. -/
def dkT (X : Fin 1024 → Fin 256 → ℝ) : Fin 1024 → Fin 256 → ℝ :=
  ov 0 128 (fun (i : Fin 512) j => sb 0 128 X i j + tR (St Q K V G Z E 1) (sb 0 128 Q) i j)
    (ov 0 0 (fun (i : Fin 512) j => sb 0 0 X i j + tR (St Q K V G Z E 0) (sb 0 0 Q) i j) X)
def dkD (X : Fin 1024 → Fin 256 → ℝ) : Fin 1024 → Fin 256 → ℝ :=
  cR (fun i j => sb 0 0 (dkT Q K V G Z E X) i j + tR (Sl Q K V G Z E 0) (sb 512 0 Q) i j)
    (fun i j => sb 0 128 (dkT Q K V G Z E X) i j + tR (Sl Q K V G Z E 1) (sb 512 128 Q) i j)
def dv0 (X : Fin 1024 → Fin 128 → ℝ) : Fin 512 → Fin 128 → ℝ := fun i j => sb 0 0 X i j + hR 0 j (tR (Pt Q K Z 0) (sb 0 0 G) i j)
def dvT (X : Fin 1024 → Fin 128 → ℝ) : Fin 1024 → Fin 128 → ℝ :=
  ov 0 0 (fun i j => dv0 Q K G Z X i j + hR 1 j (tR (Pt Q K Z 1) (sb 0 0 G) i j)) (ov 0 0 (dv0 Q K G Z X) X)
def dvD (X : Fin 1024 → Fin 128 → ℝ) : Fin 1024 → Fin 128 → ℝ := fun i j =>
  sb 0 0 (dvT Q K G Z X) i j + hR 0 j (tR (Pl Q K Z 0) (sb 512 0 G) i j) + hR 1 j (tR (Pl Q K Z 1) (sb 512 0 G) i j)
def dqD (o : ℕ) (X : Fin 4096 → Fin 256 → ℝ) : Fin 4096 → Fin 256 → ℝ :=
  ov o 0 (fun (i : Fin 1024) (j : Fin 256) => sb o 0 X i j +
    if h : i.val < 512 then cR (uR (St Q K V G Z E 0) (sb 0 0 K)) (uR (St Q K V G Z E 1) (sb 0 128 K)) ⟨i.val, h⟩ j
    else cR (uR (Sl Q K V G Z E 0) (sb 0 0 K)) (uR (Sl Q K V G Z E 1) (sb 0 128 K)) ⟨i.val - 512, by omega⟩ j) X

end Tiles

/-- Six operand blocks of real numbers. -/
structure Blk (x0 x1 : FVec Ideal S1024x256 .bf16) (x2 : FVec Ideal S1024x128 .bf16) (x3 : FVec Ideal S1024x128 .f32)
    (x4 x5 : FVec Ideal S1024x256 .f32) (Q K : Fin 1024 → Fin 256 → ℝ) (V G : Fin 1024 → Fin 128 → ℝ)
    (Z E : ℕ → Fin 1024 → ℝ) : Prop where
  q : IsR x0 Q
  k : IsR x1 K
  v : IsR x2 V
  g : IsR x3 G
  z : IsL x4 Z
  e : IsL x5 E

namespace Blk

variable {x0 x1 x2 x3 x4 x5 Q K V G Z E} (H : Blk x0 x1 x2 x3 x4 x5 Q K V G Z E)
include H

theorem pf0 : IsR (k0_pay20 (F := Ideal) (View.ld (Val := Elt Ideal) (e' := .bf16) x0 (Rect.unit ![0, 0] ![1024, 128] inb_S1024x256_S1024x128_0_0)) (View.ld (Val := Elt Ideal) (e' := .bf16) x1 (Rect.unit ![0, 0] ![1024, 128] inb_S1024x256_S1024x128_0_0)) (View.ld (Val := Elt Ideal) (e' := .f32) x4 (Rect.unit ![0, 0] ![1024, 128] inb_S1024x256_S1024x128_0_0))) (Pf Q K Z 0) :=
  Pay.p20 (Step.ldR H.q rfl) (Step.ldR H.k rfl) (Step.ldC (a := 0) H.z rfl)

theorem sf0 : IsR (k0_pay21 (F := Ideal) (View.ld (Val := Elt Ideal) (e' := .bf16) x2 (Rect.unit ![0, 0] ![1024, 128] inb_S1024x128_S1024x128_0_0)) (View.ld (Val := Elt Ideal) (e' := .f32) x3 (Rect.unit ![0, 0] ![1024, 128] inb_S1024x128_S1024x128_0_0)) (View.ld (Val := Elt Ideal) (e' := .bf16) x0 (Rect.unit ![0, 0] ![1024, 128] inb_S1024x256_S1024x128_0_0)) (View.ld (Val := Elt Ideal) (e' := .bf16) x1 (Rect.unit ![0, 0] ![1024, 128] inb_S1024x256_S1024x128_0_0)) (View.ld (Val := Elt Ideal) (e' := .f32) x4 (Rect.unit ![0, 0] ![1024, 128] inb_S1024x256_S1024x128_0_0)) (View.ld (Val := Elt Ideal) (e' := .f32) x5 (Rect.unit ![0, 0] ![1024, 128] inb_S1024x256_S1024x128_0_0))) (Sf Q K V G Z E 0) :=
  Pay.p21 (Step.ldR H.v rfl) (Step.ldR H.g rfl) H.pf0 (Step.ldC (a := 0) H.e rfl)

theorem pf1 : IsR (k0_pay28 (F := Ideal) (View.ld (Val := Elt Ideal) (e' := .bf16) x0 (Rect.unit ![0, 128] ![1024, 128] inb_S1024x256_S1024x128_0_128)) (View.ld (Val := Elt Ideal) (e' := .bf16) x1 (Rect.unit ![0, 128] ![1024, 128] inb_S1024x256_S1024x128_0_128)) (View.ld (Val := Elt Ideal) (e' := .f32) x4 (Rect.unit ![0, 128] ![1024, 128] inb_S1024x256_S1024x128_0_128))) (Pf Q K Z 1) :=
  Pay.p28 (Step.ldR H.q rfl) (Step.ldR H.k rfl) (Step.ldC (a := 1) H.z rfl)

theorem sf1 : IsR (k0_pay4 (F := Ideal) (k0_pay28 (F := Ideal) (View.ld (Val := Elt Ideal) (e' := .bf16) x0 (Rect.unit ![0, 128] ![1024, 128] inb_S1024x256_S1024x128_0_128)) (View.ld (Val := Elt Ideal) (e' := .bf16) x1 (Rect.unit ![0, 128] ![1024, 128] inb_S1024x256_S1024x128_0_128)) (View.ld (Val := Elt Ideal) (e' := .f32) x4 (Rect.unit ![0, 128] ![1024, 128] inb_S1024x256_S1024x128_0_128))) (k0_pay29 (F := Ideal) (View.ld (Val := Elt Ideal) (e' := .bf16) x2 (Rect.unit ![0, 0] ![1024, 128] inb_S1024x128_S1024x128_0_0)) (View.ld (Val := Elt Ideal) (e' := .f32) x3 (Rect.unit ![0, 0] ![1024, 128] inb_S1024x128_S1024x128_0_0)) k0_pay15) (View.ld (Val := Elt Ideal) (e' := .f32) x5 (Rect.unit ![0, 128] ![1024, 128] inb_S1024x256_S1024x128_0_128))) (Sf Q K V G Z E 1) :=
  Pay.p4 H.pf1 (Pay.p29 (Step.ldR H.v rfl) (Step.ldR H.g rfl) Pay.p15) (Step.ldC (a := 1) H.e rfl)

theorem pt0 : IsR (k0_pay39 (F := Ideal) (View.ld (Val := Elt Ideal) (e' := .bf16) x0 (Rect.unit ![0, 0] ![512, 128] inb_S1024x256_S512x128_0_0)) (View.ld (Val := Elt Ideal) (e' := .bf16) x1 (Rect.unit ![0, 0] ![512, 128] inb_S1024x256_S512x128_0_0)) (View.ld (Val := Elt Ideal) (e' := .f32) x4 (Rect.unit ![0, 0] ![512, 128] inb_S1024x256_S512x128_0_0))) (Pt Q K Z 0) :=
  Pay.p39 (Step.ldR H.q rfl) (Step.ldR H.k rfl) (Step.ldC (a := 0) H.z rfl)

theorem st0 : IsR (k0_pay42 (F := Ideal) (k0_pay39 (F := Ideal) (View.ld (Val := Elt Ideal) (e' := .bf16) x0 (Rect.unit ![0, 0] ![512, 128] inb_S1024x256_S512x128_0_0)) (View.ld (Val := Elt Ideal) (e' := .bf16) x1 (Rect.unit ![0, 0] ![512, 128] inb_S1024x256_S512x128_0_0)) (View.ld (Val := Elt Ideal) (e' := .f32) x4 (Rect.unit ![0, 0] ![512, 128] inb_S1024x256_S512x128_0_0))) (k0_pay40 (View.ld (Val := Elt Ideal) (e' := .bf16) x2 (Rect.unit ![0, 0] ![512, 128] inb_S1024x128_S512x128_0_0)) (View.ld (Val := Elt Ideal) (e' := .f32) x3 (Rect.unit ![0, 0] ![512, 128] inb_S1024x128_S512x128_0_0))) (k0_pay41 (View.ld (Val := Elt Ideal) (e' := .f32) x5 (Rect.unit ![0, 0] ![512, 128] inb_S1024x256_S512x128_0_0)))) (St Q K V G Z E 0) :=
  Pay.p42 H.pt0 (Pay.p40 (Step.ldR H.v rfl) (Step.ldR H.g rfl)) (Pay.p41 (Step.ldC (a := 0) H.e rfl))

theorem pt1 : IsR (k0_pay48 (F := Ideal) k0_pay31 (View.ld (Val := Elt Ideal) (e' := .bf16) x0 (Rect.unit ![0, 128] ![512, 128] inb_S1024x256_S512x128_0_128)) (View.ld (Val := Elt Ideal) (e' := .bf16) x1 (Rect.unit ![0, 128] ![512, 128] inb_S1024x256_S512x128_0_128)) (View.ld (Val := Elt Ideal) (e' := .f32) x4 (Rect.unit ![0, 128] ![512, 128] inb_S1024x256_S512x128_0_128))) (Pt Q K Z 1) :=
  Pay.p48 Pay.p31 (Step.ldR H.q rfl) (Step.ldR H.k rfl) (Step.ldC (a := 1) H.z rfl)

theorem st1 : IsR (k0_pay49 (F := Ideal) (View.ld (Val := Elt Ideal) (e' := .bf16) x2 (Rect.unit ![0, 0] ![512, 128] inb_S1024x128_S512x128_0_0)) (View.ld (Val := Elt Ideal) (e' := .f32) x3 (Rect.unit ![0, 0] ![512, 128] inb_S1024x128_S512x128_0_0)) k0_pay34 (k0_pay48 (F := Ideal) k0_pay31 (View.ld (Val := Elt Ideal) (e' := .bf16) x0 (Rect.unit ![0, 128] ![512, 128] inb_S1024x256_S512x128_0_128)) (View.ld (Val := Elt Ideal) (e' := .bf16) x1 (Rect.unit ![0, 128] ![512, 128] inb_S1024x256_S512x128_0_128)) (View.ld (Val := Elt Ideal) (e' := .f32) x4 (Rect.unit ![0, 128] ![512, 128] inb_S1024x256_S512x128_0_128))) (constantI S512x128 1 1#1) (View.ld (Val := Elt Ideal) (e' := .f32) x5 (Rect.unit ![0, 128] ![512, 128] inb_S1024x256_S512x128_0_128))) (St Q K V G Z E 1) :=
  Pay.p49 (Step.ldR H.v rfl) (Step.ldR H.g rfl) Pay.p34 H.pt1 (Step.ldC (a := 1) H.e rfl)

theorem pl0 : IsR (k0_pay61 (F := Ideal) k0_pay53 (View.ld (Val := Elt Ideal) (e' := .bf16) x0 (Rect.unit ![512, 0] ![512, 128] inb_S1024x256_S512x128_512_0)) (View.ld (Val := Elt Ideal) (e' := .bf16) x1 (Rect.unit ![0, 0] ![1024, 128] inb_S1024x256_S1024x128_0_0)) (View.ld (Val := Elt Ideal) (e' := .f32) x4 (Rect.unit ![512, 0] ![512, 128] inb_S1024x256_S512x128_512_0))) (Pl Q K Z 0) :=
  Pay.p61 Pay.p53 (Step.ldR H.q rfl) (Step.ldR H.k rfl) (Step.ldC (a := 0) H.z rfl)

theorem sl0 : IsR (k0_pay62 (F := Ideal) k0_pay53 (View.ld (Val := Elt Ideal) (e' := .bf16) x2 (Rect.unit ![0, 0] ![1024, 128] inb_S1024x128_S1024x128_0_0)) (View.ld (Val := Elt Ideal) (e' := .f32) x3 (Rect.unit ![512, 0] ![512, 128] inb_S1024x128_S512x128_512_0)) (View.ld (Val := Elt Ideal) (e' := .bf16) x0 (Rect.unit ![512, 0] ![512, 128] inb_S1024x256_S512x128_512_0)) (View.ld (Val := Elt Ideal) (e' := .bf16) x1 (Rect.unit ![0, 0] ![1024, 128] inb_S1024x256_S1024x128_0_0)) (View.ld (Val := Elt Ideal) (e' := .f32) x4 (Rect.unit ![512, 0] ![512, 128] inb_S1024x256_S512x128_512_0)) (View.ld (Val := Elt Ideal) (e' := .f32) x5 (Rect.unit ![512, 0] ![512, 128] inb_S1024x256_S512x128_512_0))) (Sl Q K V G Z E 0) :=
  Pay.p62 (Step.ldR H.v rfl) (Step.ldR H.g rfl) H.pl0 (Step.ldC (a := 0) H.e rfl)

theorem pl1 : IsR (k0_pay69 (F := Ideal) k0_pay53 (View.ld (Val := Elt Ideal) (e' := .bf16) x0 (Rect.unit ![512, 128] ![512, 128] inb_S1024x256_S512x128_512_128)) (View.ld (Val := Elt Ideal) (e' := .bf16) x1 (Rect.unit ![0, 128] ![1024, 128] inb_S1024x256_S1024x128_0_128)) (View.ld (Val := Elt Ideal) (e' := .f32) x4 (Rect.unit ![512, 128] ![512, 128] inb_S1024x256_S512x128_512_128))) (Pl Q K Z 1) :=
  Pay.p69 Pay.p53 (Step.ldR H.q rfl) (Step.ldR H.k rfl) (Step.ldC (a := 1) H.z rfl)

theorem sl1 : IsR (k0_pay8 (F := Ideal) (k0_pay69 (F := Ideal) k0_pay53 (View.ld (Val := Elt Ideal) (e' := .bf16) x0 (Rect.unit ![512, 128] ![512, 128] inb_S1024x256_S512x128_512_128)) (View.ld (Val := Elt Ideal) (e' := .bf16) x1 (Rect.unit ![0, 128] ![1024, 128] inb_S1024x256_S1024x128_0_128)) (View.ld (Val := Elt Ideal) (e' := .f32) x4 (Rect.unit ![512, 128] ![512, 128] inb_S1024x256_S512x128_512_128))) (k0_pay70 (View.ld (Val := Elt Ideal) (e' := .bf16) x2 (Rect.unit ![0, 0] ![1024, 128] inb_S1024x128_S1024x128_0_0)) (View.ld (Val := Elt Ideal) (e' := .f32) x3 (Rect.unit ![512, 0] ![512, 128] inb_S1024x128_S512x128_512_0)) k0_pay56) (k0_pay71 (View.ld (Val := Elt Ideal) (e' := .f32) x5 (Rect.unit ![512, 128] ![512, 128] inb_S1024x256_S512x128_512_128)))) (Sl Q K V G Z E 1) :=
  Pay.p8 H.pl1 (Pay.p70 (Step.ldR H.v rfl) (Step.ldR H.g rfl) Pay.p56) (Pay.p71 (Step.ldC (a := 1) H.e rfl))

end Blk

end Attn

end
-- ==== Proof.Attn.Cases.lean ====
/- What each kind of grid point leaves in its outputs and scratch, over blocks of real numbers. -/
module

public import proofs.«01_k».proof.Proof.Attn.Step
public import Idealize.ShloMosaic.Lib.Pipeline.ReadBack

@[expose] public section

set_option maxRecDepth 16384
set_option maxHeartbeats 2000000

noncomputable section

namespace Attn

open Cert.KernelIdeal Cert.KernelIdeal.Gen Idealize.ShloMosaic Idealize.ShloMosaic.TcCoe Idealize.ShloMosaic.Tactic

namespace Step

theorem full {n k : ℕ} {x : (⟨2, ![n, k]⟩ : Shape).Idx → EReal} {X : Fin n → Fin k → ℝ} (h : IsR x (sb 0 0 X)) : IsR x X := by
  intro i j
  rw [h i j, sb, dif_pos ⟨by omega, by omega⟩]
  congr 1; congr 1 <;> exact Fin.ext (Nat.zero_add _)

theorem un22 {a b c P} (h : IsR (k0_pay20 (F := Ideal) a b c) P) : IsR (k0_pay22 (F := Ideal) a b c) P := by
  intro i j
  pointwise [k0_pay22]
  exact h i j

section Skip

variable {sig : RefSig} {κ : Kind} {sp : Space} {v : View sig κ sp (⟨2, ![1024, 256]⟩ : Shape) .f32}
  {f : v.ty.Contents (Elt Ideal)} {L : List (View.Piece (Elt Ideal) (⟨2, ![1024, 256]⟩ : Shape) .f32)} {n n' : ℕ}
  {inb : ∀ a : Fin 2, (![0, 0] : Fin 2 → ℕ) a + (![n', 128] : Fin 2 → ℕ) a ≤ (![1024, 256] : Fin 2 → ℕ) a}
  {inb' : ∀ a : Fin 2, (![0, 128] : Fin 2 → ℕ) a + (![n, 128] : Fin 2 → ℕ) a ≤ (![1024, 256] : Fin 2 → ℕ) a}
  {w : (⟨2, ![n', 128]⟩ : Shape).Idx → EReal} {F : Fin n → Fin 128 → ℝ}

/-- A store to the lower 128 lanes is not seen by a load of the upper ones. -/
theorem skip (h : IsR (n := n) (k := 128) (View.ld (S := ⟨2, ![1024, 256]⟩) (Val := Elt Ideal) (e' := .f32) (v.read (Elt Ideal) (v.writes (Elt Ideal) f L))
      (Rect.unit (s := ⟨2, ![1024, 256]⟩) ![0, 128] ![n, 128] inb')) F) :
    IsR (n := n) (k := 128) (View.ld (S := ⟨2, ![1024, 256]⟩) (Val := Elt Ideal) (e' := .f32)
      (v.read (Elt Ideal) (v.writes (Elt Ideal) f (⟨Rect.unit (s := ⟨2, ![1024, 256]⟩) ![0, 0] ![n', 128] inb, w⟩ :: L)))
      (Rect.unit (s := ⟨2, ![1024, 256]⟩) ![0, 128] ![n, 128] inb')) F := by
  intro i j
  have hn : 0 + n ≤ 1024 := inb' 0
  refine Eq.trans ?_ (h i j)
  have ha : ∀ a : Fin 2, ((ix2 (⟨0 + i.val, by omega⟩ : Fin 1024) (⟨128 + j.val, by omega⟩ : Fin 256)) a).val = (![0, 128] : Fin 2 → ℕ) a + (ix2 i j a).val := by
    intro a; match a with | ⟨0, _⟩ => rfl | ⟨1, _⟩ => rfl
  refine (View.ld_unit_apply_of (S := ⟨2, ![1024, 256]⟩) (Val := Elt Ideal) (e := .f32) _ _ _ inb' (ix2 i j) (ix2 ⟨0 + i.val, by omega⟩ ⟨128 + j.val, by omega⟩) ha).trans
    (Eq.trans ?_ (View.ld_unit_apply_of (S := ⟨2, ![1024, 256]⟩) (Val := Elt Ideal) (e := .f32) _ _ _ inb' (ix2 i j) (ix2 ⟨0 + i.val, by omega⟩ ⟨128 + j.val, by omega⟩) ha).symm)
  exact View.read_writes_cons_unit_of_not_mem v f inb w L _ rfl 1 (Or.inr (by show 0 + 128 ≤ 128 + j.val; omega))

end Skip

theorem rd0 {x : FVec Ideal S1024x256 .f32} {X : Fin 1024 → Fin 256 → ℝ} (h : IsR x X) :
    IsR (View.read (Elt Ideal) (View.whole cc0_scratch0) ((Memref.isWhole_whole cc0_scratch0).unread x)) X := by
  rw [read_unread_whole]
  exact h

theorem rd1 {x : FVec Ideal S1024x128 .f32} {X : Fin 1024 → Fin 128 → ℝ} (h : IsR x X) :
    IsR (View.read (Elt Ideal) (View.whole cc0_scratch1) ((Memref.isWhole_whole cc0_scratch1).unread x)) X := by
  rw [read_unread_whole]
  exact h

/-- The row offset of a point's queries, as the body computes it. -/
theorem rowOff (n : ℕ) (hn : n < 4) :
    (![BitVec.toNat (Scalar.indexCast (Scalar.muli (BitVec.ofNat 32 n) 1024#32)), 0] : Fin 2 → ℕ) = ![1024 * n, 0] := by
  interval_cases n <;> rfl

theorem coord2 : ∀ t : Fin cfg0.N, (grid0.coords t 2).val = t.val % 4 := by decide +kernel

end Step

variable (m : (ℓ : Loc nD τ sig) → Buf (Elt Ideal) ℓ) (c : Dev nD) (t : Fin cfg0.N)

/-- The six operand blocks of a grid point hold these real numbers. -/
abbrev AtPt (Q K : Fin 1024 → Fin 256 → ℝ) (V G : Fin 1024 → Fin 128 → ℝ) (Z E : ℕ → Fin 1024 → ℝ) : Prop :=
  Blk (iblk m c 0 t) (iblk m c 1 t) (iblk m c 2 t) (iblk m c 3 t) (iblk m c 4 t) (iblk m c 5 t) Q K V G Z E

variable {Q K : Fin 1024 → Fin 256 → ℝ} {V G : Fin 1024 → Fin 128 → ℝ} {Z E : ℕ → Fin 1024 → ℝ}

namespace Case

theorem D_dks (h0 : ¬t.val % 16 = 0) (h1 : t.val % 4 = 0) (h2 : ¬t.val / 4 % 4 + 1 ≤ t.val % 4) (h3 : ¬t.val / 4 % 4 = t.val % 4) (h4 : ¬t.val % 4 = 3) :
    IsR (outsAt0 m c t.val t.isLt).2.2.2.1 (fun _ _ => 0) := by
  rw [outsAt0_D m c t h0 h1 h2 h3 h4]
  dsimp only
  unfold sout0_D_0 kernelRun0_D
  dsimp only
  sl_unfold_words
  exact Step.whole rfl Step.zero2

theorem D_dvs (h0 : ¬t.val % 16 = 0) (h1 : t.val % 4 = 0) (h2 : ¬t.val / 4 % 4 + 1 ≤ t.val % 4) (h3 : ¬t.val / 4 % 4 = t.val % 4) (h4 : ¬t.val % 4 = 3) :
    IsR (outsAt0 m c t.val t.isLt).2.2.2.2 (fun _ _ => 0) := by
  rw [outsAt0_D m c t h0 h1 h2 h3 h4]
  dsimp only
  unfold sout0_D_1 kernelRun0_D
  dsimp only
  sl_unfold_words
  exact Step.whole rfl Step.zero3

theorem D_dq (h0 : ¬t.val % 16 = 0) (h1 : t.val % 4 = 0) (h2 : ¬t.val / 4 % 4 + 1 ≤ t.val % 4) (h3 : ¬t.val / 4 % 4 = t.val % 4) (h4 : ¬t.val % 4 = 3)
    {X : Fin 4096 → Fin 256 → ℝ} (hX : IsR (outsAt0 m c (t.val - 1) (Nat.lt_of_le_of_lt (Nat.sub_le _ _) t.isLt)).1 X) :
    IsR (outsAt0 m c t.val t.isLt).1 (X) := by
  rw [outsAt0_D m c t h0 h1 h2 h3 h4]
  dsimp only
  exact hX

theorem F_dks (h0 : ¬t.val % 16 = 0) (h1 : ¬t.val % 4 = 0) (h2 : ¬t.val / 4 % 4 + 1 ≤ t.val % 4) (h3 : ¬t.val / 4 % 4 = t.val % 4) (h4 : ¬t.val % 4 = 3)
    {X : Fin 1024 → Fin 256 → ℝ} (hX : IsR (outsAt0 m c (t.val - 1) (Nat.lt_of_le_of_lt (Nat.sub_le _ _) t.isLt)).2.2.2.1 X) :
    IsR (outsAt0 m c t.val t.isLt).2.2.2.1 (X) := by
  rw [outsAt0_F m c t h0 h1 h2 h3 h4]
  dsimp only
  exact hX

theorem F_dvs (h0 : ¬t.val % 16 = 0) (h1 : ¬t.val % 4 = 0) (h2 : ¬t.val / 4 % 4 + 1 ≤ t.val % 4) (h3 : ¬t.val / 4 % 4 = t.val % 4) (h4 : ¬t.val % 4 = 3)
    {X : Fin 1024 → Fin 128 → ℝ} (hX : IsR (outsAt0 m c (t.val - 1) (Nat.lt_of_le_of_lt (Nat.sub_le _ _) t.isLt)).2.2.2.2 X) :
    IsR (outsAt0 m c t.val t.isLt).2.2.2.2 (X) := by
  rw [outsAt0_F m c t h0 h1 h2 h3 h4]
  dsimp only
  exact hX

theorem F_dq (h0 : ¬t.val % 16 = 0) (h1 : ¬t.val % 4 = 0) (h2 : ¬t.val / 4 % 4 + 1 ≤ t.val % 4) (h3 : ¬t.val / 4 % 4 = t.val % 4) (h4 : ¬t.val % 4 = 3)
    {X : Fin 4096 → Fin 256 → ℝ} (hX : IsR (outsAt0 m c (t.val - 1) (Nat.lt_of_le_of_lt (Nat.sub_le _ _) t.isLt)).1 X) :
    IsR (outsAt0 m c t.val t.isLt).1 (X) := by
  rw [outsAt0_F m c t h0 h1 h2 h3 h4]
  dsimp only
  exact hX
end Case

end Attn

end
-- ==== Proof.Attn.Host.lean ====
/- The arrays the kernel's region is entered with, read to the formulas of Real.lean: the packed operands, and the
   saved values (the logarithm of the softmax's denominator and the row sums) the host lines compute. -/
module

public import proofs.«01_k».proof.Proof.Attn.Words
public import proofs.«01_k».proof.Proof.Gen.KernelIdeal.Frame

@[expose] public section

set_option maxRecDepth 16384

noncomputable section

namespace Attn

namespace Data

variable (D : Data)

/-- The queries' packed array: eight heads of 128 lanes, the scale and the base change multiplied in. -/
def ql (i : Fin 4096) (l : Fin 1024) : ℝ :=
  if hl : l.val % 128 < 96 then D.q i ⟨l.val / 128, by omega⟩ ⟨l.val % 128, hl⟩ * (scale / Real.log 2) else 0

/-- The keys' packed array. -/
def kl (i : Fin 4096) (l : Fin 1024) : ℝ :=
  if hl : l.val % 128 < 96 then D.k i ⟨l.val / 128, by omega⟩ ⟨l.val % 128, hl⟩ else 0

/-- The values' packed array: eight heads of 64 lanes. -/
def vl (i : Fin 4096) (l : Fin 512) : ℝ := D.v i ⟨l.val / 64, by omega⟩ ⟨l.val % 64, by omega⟩

/-- The packed array of the output's cotangents. -/
def gl (i : Fin 4096) (l : Fin 512) : ℝ := D.g i ⟨l.val / 64, by omega⟩ ⟨l.val % 64, by omega⟩

/-- The logarithm, in base two, of the softmax's denominator. -/
def lse (h : Fin 8) (i : Fin 4096) : ℝ := (D.top h i + Real.log (D.tot h i)) / Real.log 2

end Data

namespace Host

open Cert.KernelIdeal Cert.KernelIdeal.Gen Idealize.ShloMosaic Idealize.ShloMosaic.TcCoe Idealize.ShloMosaic.Tactic

abbrev A96 := (⟨S4096x8x96, .f32⟩ : BufTy).Contents (Elt Ideal)
abbrev A64 := (⟨S4096x8x64, .f32⟩ : BufTy).Contents (Elt Ideal)

/-! ## The lines as functions of the arguments and of one another -/

def packQ (x : A96) : FVec Ideal S4096x1024 .bf16 :=
  truncf .bf16 (mulf (shapeCast S4096x1024 (pad S4096x8x128 ![0, 0, 0] ![0, 0, 32] ![0, 0, 0] (x : FVec Ideal S4096x8x96 .f32)
      (sitofp .f32 (constantI S_ 32 0#32) : FVec Ideal S_ .f32) pads_S4096x8x96_S4096x8x128_000_000_0320 h_S_) shapeCasts_S4096x8x128_S4096x1024)
    (broadcastInDim S4096x1024 ![] bcast_S_S4096x1024
      (Host.divf (constant S_ .f32 0x3DD105EC#32) (Host.log (constant S_ .f32 0x40000000#32))))) bitsLt_bf16_f32

def packKV (x : A96) (y : A64) : FVec Ideal S4096x1536 .bf16 :=
  truncf .bf16 (concatenate S4096x1536 1
    [⟨S4096x1024, shapeCast S4096x1024 (pad S4096x8x128 ![0, 0, 0] ![0, 0, 32] ![0, 0, 0] (x : FVec Ideal S4096x8x96 .f32)
      (sitofp .f32 (constantI S_ 32 0#32) : FVec Ideal S_ .f32) pads_S4096x8x96_S4096x8x128_000_000_0320 h_S_) shapeCasts_S4096x8x128_S4096x1024⟩,
     ⟨S4096x512, shapeCast S4096x512 (y : FVec Ideal S4096x8x64 .f32) shapeCasts_S4096x8x64_S4096x512⟩]
    concatenates_S4096x1024_S4096x512_S4096x1536_d1) bitsLt_bf16_f32

def packG (y : A64) : FVec Ideal S4096x1024 .f32 :=
  concatenate S4096x1024 1
    [⟨S4096x512, broadcastInDim S4096x512 ![] bcast_S_S4096x512 (constant S_ .f32 0x00000000#32)⟩,
     ⟨S4096x512, shapeCast S4096x512 (y : FVec Ideal S4096x8x64 .f32) shapeCasts_S4096x8x64_S4096x512⟩]
    concatenates_S4096x512_S4096x512_S4096x1024_d1

def masked (x y : A96) : FVec Ideal S8x4096x4096 .f32 :=
  select (broadcastInDim S8x4096x4096 ![1, 2] bcast_S4096x4096_S8x4096x4096_1_2 (cmpi .sle
      (broadcastInDim S4096x4096 ![0, 1] bcast_S1x4096_S4096x4096_0_1
        (broadcastInDim S1x4096 ![1] bcast_S4096_S1x4096_1 (iotaInDim S4096 32 0)))
      (broadcastInDim S4096x4096 ![0, 1] bcast_S4096x1_S4096x4096_0_1
        (broadcastInDim S4096x1 ![0] bcast_S4096_S4096x1_0 (iotaInDim S4096 32 0)))))
    (mulf (Host.dotGeneral (φ₁ := .f32) (φ₂ := .f32) dot_S4096x8x96_S4096x8x96_S8x4096x4096_2_2_0_0_1_1 none (x : FVec Ideal S4096x8x96 .f32) (y : FVec Ideal S4096x8x96 .f32))
      (broadcastInDim S8x4096x4096 ![] bcast_S_S8x4096x4096 (constant S_ .f32 0x3DD105EC#32)))
    (broadcastInDim S8x4096x4096 ![] bcast_S_S8x4096x4096 (constant S_ .f32 0xFF800000#32))

def rowMax (s : FVec Ideal S8x4096x4096 .f32) : FVec Ideal S8x4096 .f32 :=
  Host.reduce FloatOps.maximumf s (constant S_ .f32 0xFF800000#32) reducesTo_S8x4096x4096_S8x4096_d2 h_S_

def rowExp (s : FVec Ideal S8x4096x4096 .f32) (r : FVec Ideal S8x4096 .f32) : FVec Ideal S8x4096x4096 .f32 :=
  Host.exp (subf s (broadcastInDim S8x4096x4096 ![0, 1, 2] bcast_S8x4096x1_S8x4096x4096_0_1_2
    (broadcastInDim S8x4096x1 ![0, 1] bcast_S8x4096_S8x4096x1_0_1 r)))

def rowSum (s : FVec Ideal S8x4096x4096 .f32) : FVec Ideal S8x4096 .f32 :=
  Host.reduceAdd s (constant S_ .f32 0x00000000#32) reducesTo_S8x4096x4096_S8x4096_d2 h_S_

def outArr (e : FVec Ideal S8x4096x4096 .f32) (l : FVec Ideal S8x4096 .f32) (x : A64) : FVec Ideal S4096x8x64 .f32 :=
  transpose S4096x8x64 [2, 0, 1] (Host.dotGeneral (φ₁ := .f32) (φ₂ := .f32) dot_S4096x8x64_S8x4096x4096_S8x64x4096_0_2_2_1_1_0 none
    (x : FVec Ideal S4096x8x64 .f32) (Host.divf e (broadcastInDim S8x4096x4096 ![0, 1, 2] bcast_S8x4096x1_S8x4096x4096_0_1_2
    (broadcastInDim S8x4096x1 ![0, 1] bcast_S8x4096_S8x4096x1_0_1 l)))) transposes_S8x64x4096_S4096x8x64_2_0_1

def lseArr (r l : FVec Ideal S8x4096 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1 (transpose S4096x8 [1, 0]
      (Host.divf (addf r (Host.log l)) (broadcastInDim S8x4096 ![] bcast_S_S8x4096 (Host.log (constant S_ .f32 0x40000000#32))))
      transposes_S8x4096_S4096x8_1_0))) shapeCasts_S4096x8x128_S4096x1024

def deltaArr (x : A64) (o : FVec Ideal S4096x8x64 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1
      (Host.reduceAdd (mulf (x : FVec Ideal S4096x8x64 .f32) o) (constant S_ .f32 0x00000000#32) reducesTo_S4096x8x64_S4096x8_d2 h_S_)))
    shapeCasts_S4096x8x128_S4096x1024

/-! ## What they hold where the arguments hold real numbers -/

/-- The four arrays hold the real numbers of `D`. -/
structure Holds (D : Data) (x0 x1 : A96) (x2 x3 : A64) : Prop where
  q : ∀ i h d, x0 (ix3 i h d) = ((D.q i h d : ℝ) : EReal)
  k : ∀ i h d, x1 (ix3 i h d) = ((D.k i h d : ℝ) : EReal)
  v : ∀ i h d, x2 (ix3 i h d) = ((D.v i h d : ℝ) : EReal)
  g : ∀ i h d, x3 (ix3 i h d) = ((D.g i h d : ℝ) : EReal)

theorem log_two_ne : Real.log 2 ≠ 0 := (Real.log_pos one_lt_two).ne'

theorem packQ_at {D : Data} {x : A96} (hx : ∀ i h d, x (ix3 i h d) = ((D.q i h d : ℝ) : EReal)) (i : Fin 4096) (l : Fin 1024) :
    packQ x (ix2 i l) = ((D.ql i l : ℝ) : EReal) := by
  pointwise [packQ]
  rw [ofBits_scale, ofBits_two, log_real two_pos, div_real _ log_two_ne]
  have h8 : l.val / 128 < 8 := by omega
  by_cases hl : l.val % 128 < 96
  · rw [dif_pos ⟨h8, hl⟩, hx, ← EReal.coe_mul, Data.ql, dif_pos hl]
  · rw [dif_neg fun h => hl h.2, sitofp_zero, zero_mul, Data.ql, dif_neg hl, EReal.coe_zero]

theorem packKV_k {D : Data} {x : A96} (y : A64) (hx : ∀ i h d, x (ix3 i h d) = ((D.k i h d : ℝ) : EReal)) (i : Fin 4096) (l : Fin 1024) :
    packKV x y (ix2 i ⟨l.val, by omega⟩) = ((D.kl i l : ℝ) : EReal) := by
  pointwise [packKV]
  have h8 : l.val / 128 < 8 := by omega
  by_cases hl : l.val % 128 < 96
  · rw [dif_pos ⟨h8, hl⟩, hx, Data.kl, dif_pos hl]
  · rw [dif_neg fun h => hl h.2, sitofp_zero, Data.kl, dif_neg hl, EReal.coe_zero]

theorem packKV_v {D : Data} (x : A96) {y : A64} (hy : ∀ i h d, y (ix3 i h d) = ((D.v i h d : ℝ) : EReal)) (i : Fin 4096) (l : Fin 512) :
    packKV x y (ix2 i ⟨1024 + l.val, by omega⟩) = ((D.vl i l : ℝ) : EReal) := by
  pointwise [packKV]
  exact hy _ _ _

theorem packG_at {D : Data} {y : A64} (hy : ∀ i h d, y (ix3 i h d) = ((D.g i h d : ℝ) : EReal)) (i : Fin 4096) (l : Fin 512) :
    packG y (ix2 i ⟨512 + l.val, by omega⟩) = ((D.gl i l : ℝ) : EReal) := by
  pointwise [packG]
  exact hy _ _ _

theorem masked_at {D : Data} {x y : A96} (hx : ∀ i h d, x (ix3 i h d) = ((D.q i h d : ℝ) : EReal))
    (hy : ∀ i h d, y (ix3 i h d) = ((D.k i h d : ℝ) : EReal)) (h : Fin 8) (i j : Fin 4096) :
    masked x y (ix3 h i j) = if j ≤ i then ((D.score h i j * scale : ℝ) : EReal) else ⊥ := by
  pointwise [masked]
  rw [select_le j.isLt i.isLt, ofBits_scale, ofBits_bot, EReal.coe_mul]
  simp only [hx, hy, Data.score, coe_sum, EReal.coe_mul]
  rfl

theorem rowMax_at (s : FVec Ideal S8x4096x4096 .f32) (h : Fin 8) (i : Fin 4096) :
    rowMax s (ix2 h i) = (Finset.univ : Finset (Fin 4096)).fold max (⊥ : EReal) (fun j => s (ix3 h i j)) := by
  pointwise [rowMax]
  rw [ofBits_bot]

theorem rowExp_at (s : FVec Ideal S8x4096x4096 .f32) (r : FVec Ideal S8x4096 .f32) (h : Fin 8) (i j : Fin 4096) :
    rowExp s r (ix3 h i j) = Ideal.exp (s (ix3 h i j) - r (ix2 h i)) := by
  pointwise [rowExp]

theorem rowSum_at (s : FVec Ideal S8x4096x4096 .f32) (h : Fin 8) (i : Fin 4096) :
    rowSum s (ix2 h i) = ∑ j : Fin 4096, s (ix3 h i j) := by
  pointwise [rowSum]

theorem outArr_at (e : FVec Ideal S8x4096x4096 .f32) (l : FVec Ideal S8x4096 .f32) (x : A64) (i : Fin 4096) (h : Fin 8) (d : Fin 64) :
    outArr e l x (ix3 i h d) = ∑ j : Fin 4096, x (ix3 j h d) * Ideal.div (e (ix3 h i j)) (l (ix2 h i)) := by
  pointwise [outArr]

theorem rowSum_real (s : FVec Ideal S8x4096x4096 .f32) (f : Fin 8 → Fin 4096 → Fin 4096 → ℝ)
    (hs : ∀ h i j, s (ix3 h i j) = ((f h i j : ℝ) : EReal)) (h : Fin 8) (i : Fin 4096) :
    rowSum s (ix2 h i) = ((∑ j, f h i j : ℝ) : EReal) := by
  rw [rowSum_at, Finset.sum_congr rfl fun j _ => hs h i j, sum_real]

theorem outArr_real {D : Data} {e : FVec Ideal S8x4096x4096 .f32} {l : FVec Ideal S8x4096 .f32} {x : A64}
    (he : ∀ h i j, e (ix3 h i j) = ((D.wt h i j : ℝ) : EReal)) (hl : ∀ h i, l (ix2 h i) = ((D.tot h i : ℝ) : EReal))
    (hx : ∀ i h d, x (ix3 i h d) = ((D.v i h d : ℝ) : EReal)) (i : Fin 4096) (h : Fin 8) (d : Fin 64) :
    outArr e l x (ix3 i h d) = ((D.out h i d : ℝ) : EReal) := by
  rw [outArr_at, Data.out, coe_sum]
  refine Finset.sum_congr rfl fun j _ => ?_
  rw [he, hl, hx, div_real _ (D.tot_ne h i), ← EReal.coe_mul, mul_comm]; rfl

theorem lseArr_at (r l : FVec Ideal S8x4096 .f32) (i : Fin 4096) (z : Fin 1024) :
    lseArr r l (ix2 i z) = Ideal.div (r (ix2 ⟨z.val / 128, by omega⟩ i) + Ideal.log (l (ix2 ⟨z.val / 128, by omega⟩ i)))
      ((Real.log 2 : ℝ) : EReal) := by
  pointwise [lseArr]
  rw [ofBits_two, log_real two_pos]

theorem deltaArr_at (x : A64) (o : FVec Ideal S4096x8x64 .f32) (i : Fin 4096) (z : Fin 1024) :
    deltaArr x o (ix2 i z) = ∑ d : Fin 64, x (ix3 i ⟨z.val / 128, by omega⟩ d) * o (ix3 i ⟨z.val / 128, by omega⟩ d) := by
  pointwise [deltaArr]

/-! ## The region's arrays -/

section

variable (m : (ℓ : Loc nD τ sig) → Buf (Elt Ideal) ℓ) (c : Dev nD)

theorem V7 : (V m c main_v7 : FVec Ideal S4096x1024 .bf16) = packQ (m (c.tc.loc main_arg0)) := by
  unfold V hostOps0 hostOps0_1 hostOps0_2 hostOps0_3 hostOps0_4 hostOps0_5 hostOps0_6
  simp only [List.flatten_cons, List.flatten_nil, List.cons_append, List.nil_append, List.append_nil]
  after_results <;> rfl

theorem V12 : (V m c main_v12 : FVec Ideal S4096x1536 .bf16) = packKV (m (c.tc.loc main_arg1)) (m (c.tc.loc main_arg2)) := by
  unfold V hostOps0 hostOps0_1 hostOps0_2 hostOps0_3 hostOps0_4 hostOps0_5 hostOps0_6
  simp only [List.flatten_cons, List.flatten_nil, List.cons_append, List.nil_append, List.append_nil]
  after_results <;> rfl

theorem V15 : (V m c main_v15 : FVec Ideal S4096x1024 .f32) = packG (m (c.tc.loc main_arg3)) := by
  unfold V hostOps0 hostOps0_1 hostOps0_2 hostOps0_3 hostOps0_4 hostOps0_5 hostOps0_6
  simp only [List.flatten_cons, List.flatten_nil, List.cons_append, List.nil_append, List.append_nil]
  after_results <;> rfl

theorem V25 : (V m c main_v25 : FVec Ideal S8x4096x4096 .f32) = masked (m (c.tc.loc main_arg0)) (m (c.tc.loc main_arg1)) := by
  unfold V hostOps0 hostOps0_1 hostOps0_2 hostOps0_3 hostOps0_4 hostOps0_5 hostOps0_6
  simp only [List.flatten_cons, List.flatten_nil, List.cons_append, List.nil_append, List.append_nil]
  after_results <;> rfl

theorem V26 : (V m c main_v26 : FVec Ideal S8x4096 .f32) = rowMax (V m c main_v25) := by
  unfold V hostOps0 hostOps0_1 hostOps0_2 hostOps0_3 hostOps0_4 hostOps0_5 hostOps0_6
  simp only [List.flatten_cons, List.flatten_nil, List.cons_append, List.nil_append, List.append_nil]
  after_results <;> rfl

theorem V30 : (V m c main_v30 : FVec Ideal S8x4096x4096 .f32) = rowExp (V m c main_v25) (V m c main_v26) := by
  unfold V hostOps0 hostOps0_1 hostOps0_2 hostOps0_3 hostOps0_4 hostOps0_5 hostOps0_6
  simp only [List.flatten_cons, List.flatten_nil, List.cons_append, List.nil_append, List.append_nil]
  after_results <;> rfl

theorem V31 : (V m c main_v31 : FVec Ideal S8x4096 .f32) = rowSum (V m c main_v30) := by
  unfold V hostOps0 hostOps0_1 hostOps0_2 hostOps0_3 hostOps0_4 hostOps0_5 hostOps0_6
  simp only [List.flatten_cons, List.flatten_nil, List.cons_append, List.nil_append, List.append_nil]
  after_results <;> rfl

theorem V36 : (V m c main_v36 : FVec Ideal S4096x8x64 .f32) = outArr (V m c main_v30) (V m c main_v31) (m (c.tc.loc main_arg2)) := by
  unfold V hostOps0 hostOps0_1 hostOps0_2 hostOps0_3 hostOps0_4 hostOps0_5 hostOps0_6
  simp only [List.flatten_cons, List.flatten_nil, List.cons_append, List.nil_append, List.append_nil]
  after_results <;> rfl

theorem V48 : (V m c main_v48 : FVec Ideal S4096x1024 .f32) = lseArr (V m c main_v26) (V m c main_v31) := by
  unfold V hostOps0 hostOps0_1 hostOps0_2 hostOps0_3 hostOps0_4 hostOps0_5 hostOps0_6
  simp only [List.flatten_cons, List.flatten_nil, List.cons_append, List.nil_append, List.append_nil]
  after_results <;> rfl

theorem V51 : (V m c main_v51 : FVec Ideal S4096x1024 .f32) = deltaArr (m (c.tc.loc main_arg3)) (V m c main_v36) := by
  unfold V hostOps0 hostOps0_1 hostOps0_2 hostOps0_3 hostOps0_4 hostOps0_5 hostOps0_6
  simp only [List.flatten_cons, List.flatten_nil, List.cons_append, List.nil_append, List.append_nil]
  after_results <;> rfl

end

variable {D : Data} {m : (ℓ : Loc nD τ sig) → Buf (Elt Ideal) ℓ} {c : Dev nD}
  (H : Holds D (m (c.tc.loc main_arg0)) (m (c.tc.loc main_arg1)) (m (c.tc.loc main_arg2)) (m (c.tc.loc main_arg3)))
include H

theorem at25 (h : Fin 8) (i j : Fin 4096) :
    (V m c main_v25 : FVec Ideal S8x4096x4096 .f32) (ix3 h i j) = if j ≤ i then ((D.score h i j * scale : ℝ) : EReal) else ⊥ := by
  rw [V25]; exact masked_at H.q H.k h i j

theorem at26 (h : Fin 8) (i : Fin 4096) : (V m c main_v26 : FVec Ideal S8x4096 .f32) (ix2 h i) = ((D.top h i : ℝ) : EReal) := by
  rw [V26]
  exact (rowMax_at _ h i).trans ((Finset.fold_congr fun j _ => at25 H h i j).trans
    (fold_max_masked (fun j => D.score h i j * scale) i))

theorem at30 (h : Fin 8) (i j : Fin 4096) :
    (V m c main_v30 : FVec Ideal S8x4096x4096 .f32) (ix3 h i j) = ((D.wt h i j : ℝ) : EReal) := by
  rw [V30, rowExp_at, at25 H, at26 H, Data.wt]
  split
  · rw [← EReal.coe_sub]; exact Ideal.exp_coe _
  · rw [EReal.bot_sub]; exact Ideal.exp_bot

theorem at31 (h : Fin 8) (i : Fin 4096) : (V m c main_v31 : FVec Ideal S8x4096 .f32) (ix2 h i) = ((D.tot h i : ℝ) : EReal) := by
  rw [V31]; exact rowSum_real _ _ (at30 H) h i

theorem at36 (i : Fin 4096) (h : Fin 8) (d : Fin 64) :
    (V m c main_v36 : FVec Ideal S4096x8x64 .f32) (ix3 i h d) = ((D.out h i d : ℝ) : EReal) := by
  rw [V36]; exact outArr_real (at30 H) (at31 H) H.v i h d

/-- The queries' array. -/
theorem at7 (i : Fin 4096) (l : Fin 1024) :
    (V m c main_v7 : FVec Ideal S4096x1024 .bf16) (ix2 i l) = ((D.ql i l : ℝ) : EReal) := by
  rw [V7]; exact packQ_at H.q i l

/-- The keys' lanes of the keys' and values' array. -/
theorem at12_k (i : Fin 4096) (l : Fin 1024) :
    (V m c main_v12 : FVec Ideal S4096x1536 .bf16) (ix2 i ⟨l.val, by omega⟩) = ((D.kl i l : ℝ) : EReal) := by
  rw [V12]; exact packKV_k _ H.k i l

/-- The values' lanes. -/
theorem at12_v (i : Fin 4096) (l : Fin 512) :
    (V m c main_v12 : FVec Ideal S4096x1536 .bf16) (ix2 i ⟨1024 + l.val, by omega⟩) = ((D.vl i l : ℝ) : EReal) := by
  rw [V12]; exact packKV_v _ H.v i l

/-- The cotangents' lanes. -/
theorem at15 (i : Fin 4096) (l : Fin 512) :
    (V m c main_v15 : FVec Ideal S4096x1024 .f32) (ix2 i ⟨512 + l.val, by omega⟩) = ((D.gl i l : ℝ) : EReal) := by
  rw [V15]; exact packG_at H.g i l

/-- The logarithms of the denominators, each on its head's 128 lanes. -/
theorem at48 (i : Fin 4096) (z : Fin 1024) :
    (V m c main_v48 : FVec Ideal S4096x1024 .f32) (ix2 i z) = ((D.lse ⟨z.val / 128, by omega⟩ i : ℝ) : EReal) := by
  rw [V48, lseArr_at, at26 H, at31 H, log_real (D.tot_pos _ _), ← EReal.coe_add, div_real _ log_two_ne]; rfl

/-- The row sums, each on its head's 128 lanes. -/
theorem at51 (i : Fin 4096) (z : Fin 1024) :
    (V m c main_v51 : FVec Ideal S4096x1024 .f32) (ix2 i z) = ((D.dlt ⟨z.val / 128, by omega⟩ i : ℝ) : EReal) := by
  rw [V51, deltaArr_at]
  simp only [at36 H, H.g, ← EReal.coe_mul, sum_real, Data.dlt]

end Host
end Attn
end
-- ==== Proof.Attn.Blocks.lean ====
/- The operand blocks of a grid point: which rows and lanes of the arrays each holds. Point `t` treats pair `t / 16` of
   heads, block `t / 4 % 4` of keys and block `t % 4` of queries. -/
module

public import proofs.«01_k».proof.Proof.Attn.Cases
public import proofs.«01_k».proof.Proof.Attn.Host

@[expose] public section

set_option maxRecDepth 16384
set_option maxHeartbeats 1000000

noncomputable section

namespace Attn

open Cert.KernelIdeal Cert.KernelIdeal.Gen Idealize.ShloMosaic Idealize.ShloMosaic.TcCoe Idealize.ShloMosaic.Tactic

namespace Data

variable (D : Data) (p b : Fin 4)

/-- The rows of block `b` and the lanes of pair `p`, of each packed array. -/
def bq (r : Fin 1024) (l : Fin 256) : ℝ := D.ql (pos b r) ⟨256 * p.val + l.val, by omega⟩
def bk (r : Fin 1024) (l : Fin 256) : ℝ := D.kl (pos b r) ⟨256 * p.val + l.val, by omega⟩
def bv (r : Fin 1024) (l : Fin 128) : ℝ := D.vl (pos b r) ⟨128 * p.val + l.val, by omega⟩
def bg (r : Fin 1024) (l : Fin 128) : ℝ := D.gl (pos b r) ⟨128 * p.val + l.val, by omega⟩
def bz (a : ℕ) (r : Fin 1024) : ℝ := if h : a < 2 then D.lse (hd p ⟨a, h⟩) (pos b r) else 0
def be (a : ℕ) (r : Fin 1024) : ℝ := if h : a < 2 then D.dlt (hd p ⟨a, h⟩) (pos b r) else 0

end Data

/-- A grid point's pair of heads, its block of keys and its block of queries. -/
abbrev pt (t : Fin cfg0.N) : Fin 4 := ⟨t.val / 16, by have := lt_of_lt_of_eq t.isLt N_0; omega⟩
abbrev ki (t : Fin cfg0.N) : Fin 4 := ⟨t.val / 4 % 4, by omega⟩
abbrev qi (t : Fin cfg0.N) : Fin 4 := ⟨t.val % 4, by omega⟩

section

theorem at0 : ∀ t : Fin cfg0.N, win0_0.index t (0 : Fin 2) = max (t.val % 4) (t.val / 4 % 4) ∧ win0_0.index t (1 : Fin 2) = t.val / 16 :=
  (by decide +kernel : ∀ t : Fin grid0.N, _)
theorem at1 : ∀ t : Fin cfg0.N, win0_1.index t (0 : Fin 2) = t.val / 4 % 4 ∧ win0_1.index t (1 : Fin 2) = t.val / 16 :=
  (by decide +kernel : ∀ t : Fin grid0.N, _)
theorem at2 : ∀ t : Fin cfg0.N, win0_2.index t (0 : Fin 2) = t.val / 4 % 4 ∧ win0_2.index t (1 : Fin 2) = 8 + t.val / 16 :=
  (by decide +kernel : ∀ t : Fin grid0.N, _)
theorem at3 : ∀ t : Fin cfg0.N, win0_3.index t (0 : Fin 2) = max (t.val % 4) (t.val / 4 % 4) ∧ win0_3.index t (1 : Fin 2) = 4 + t.val / 16 :=
  (by decide +kernel : ∀ t : Fin grid0.N, _)
theorem at4 : ∀ t : Fin cfg0.N, win0_4.index t (0 : Fin 2) = max (t.val % 4) (t.val / 4 % 4) ∧ win0_4.index t (1 : Fin 2) = t.val / 16 :=
  (by decide +kernel : ∀ t : Fin grid0.N, _)
theorem at5 : ∀ t : Fin cfg0.N, win0_5.index t (0 : Fin 2) = max (t.val % 4) (t.val / 4 % 4) ∧ win0_5.index t (1 : Fin 2) = t.val / 16 :=
  (by decide +kernel : ∀ t : Fin grid0.N, _)

end

section

variable {D : Data} {m : (ℓ : Loc nD τ sig) → Buf (Elt Ideal) ℓ} {c : Dev nD}
  (H : Host.Holds D (m (c.tc.loc main_arg0)) (m (c.tc.loc main_arg1)) (m (c.tc.loc main_arg2)) (m (c.tc.loc main_arg3)))
include H

/-- Where the block of queries is not before the block of keys, the operands are these two blocks'. -/
theorem atPt (t : Fin cfg0.N) (ht : t.val / 4 % 4 ≤ t.val % 4) :
    AtPt m c t (D.bq (pt t) (qi t)) (D.bk (pt t) (ki t)) (D.bv (pt t) (ki t)) (D.bg (pt t) (qi t)) (D.bz (pt t) (qi t)) (D.be (pt t) (qi t)) := by
  have hN : t.val < 64 := lt_of_lt_of_eq t.isLt N_0
  refine ⟨fun i j => ?_, fun i j => ?_, fun i j => ?_, fun i j => ?_, fun i j => ?_, fun i j => ?_⟩
  · obtain ⟨e0, e1⟩ := at0 t
    refine Eq.trans (congrArg (V m c main_v7 : FVec Ideal S4096x1024 .bf16) ?_) (Host.at7 H (pos (qi t) i) ⟨256 * (t.val / 16) + j.val, by omega⟩)
    funext a; apply Fin.ext
    match a with
    | ⟨0, _⟩ => show win0_0.index t (0 : Fin 2) * 1024 + 1 * i.val = 1024 * (t.val % 4) + i.val; omega
    | ⟨1, _⟩ => show win0_0.index t (1 : Fin 2) * 256 + 1 * j.val = 256 * (t.val / 16) + j.val; omega
  · obtain ⟨e0, e1⟩ := at1 t
    refine Eq.trans (congrArg (V m c main_v12 : FVec Ideal S4096x1536 .bf16) ?_) (Host.at12_k H (pos (ki t) i) ⟨256 * (t.val / 16) + j.val, by omega⟩)
    funext a; apply Fin.ext
    match a with
    | ⟨0, _⟩ => show win0_1.index t (0 : Fin 2) * 1024 + 1 * i.val = 1024 * (t.val / 4 % 4) + i.val; omega
    | ⟨1, _⟩ => show win0_1.index t (1 : Fin 2) * 256 + 1 * j.val = 256 * (t.val / 16) + j.val; omega
  · obtain ⟨e0, e1⟩ := at2 t
    refine Eq.trans (congrArg (V m c main_v12 : FVec Ideal S4096x1536 .bf16) ?_) (Host.at12_v H (pos (ki t) i) ⟨128 * (t.val / 16) + j.val, by omega⟩)
    funext a; apply Fin.ext
    match a with
    | ⟨0, _⟩ => show win0_2.index t (0 : Fin 2) * 1024 + 1 * i.val = 1024 * (t.val / 4 % 4) + i.val; omega
    | ⟨1, _⟩ => show win0_2.index t (1 : Fin 2) * 128 + 1 * j.val = 1024 + (128 * (t.val / 16) + j.val); omega
  · obtain ⟨e0, e1⟩ := at3 t
    refine Eq.trans (congrArg (V m c main_v15 : FVec Ideal S4096x1024 .f32) ?_) (Host.at15 H (pos (qi t) i) ⟨128 * (t.val / 16) + j.val, by omega⟩)
    funext a; apply Fin.ext
    match a with
    | ⟨0, _⟩ => show win0_3.index t (0 : Fin 2) * 1024 + 1 * i.val = 1024 * (t.val % 4) + i.val; omega
    | ⟨1, _⟩ => show win0_3.index t (1 : Fin 2) * 128 + 1 * j.val = 512 + (128 * (t.val / 16) + j.val); omega
  · obtain ⟨e0, e1⟩ := at4 t
    refine Eq.trans (congrArg (V m c main_v48 : FVec Ideal S4096x1024 .f32) ?_)
      ((Host.at48 H (pos (qi t) i) ⟨256 * (t.val / 16) + j.val, by omega⟩).trans ?_)
    · funext a; apply Fin.ext
      match a with
      | ⟨0, _⟩ => show win0_4.index t (0 : Fin 2) * 1024 + 1 * i.val = 1024 * (t.val % 4) + i.val; omega
      | ⟨1, _⟩ => show win0_4.index t (1 : Fin 2) * 256 + 1 * j.val = 256 * (t.val / 16) + j.val; omega
    · rw [Data.bz, dif_pos (by omega)]
      congr 2; apply Fin.ext
      show (256 * (t.val / 16) + j.val) / 128 = 2 * (t.val / 16) + j.val / 128
      omega
  · obtain ⟨e0, e1⟩ := at5 t
    refine Eq.trans (congrArg (V m c main_v51 : FVec Ideal S4096x1024 .f32) ?_)
      ((Host.at51 H (pos (qi t) i) ⟨256 * (t.val / 16) + j.val, by omega⟩).trans ?_)
    · funext a; apply Fin.ext
      match a with
      | ⟨0, _⟩ => show win0_5.index t (0 : Fin 2) * 1024 + 1 * i.val = 1024 * (t.val % 4) + i.val; omega
      | ⟨1, _⟩ => show win0_5.index t (1 : Fin 2) * 256 + 1 * j.val = 256 * (t.val / 16) + j.val; omega
    · rw [Data.be, dif_pos (by omega)]
      congr 2; apply Fin.ext
      show (256 * (t.val / 16) + j.val) / 128 = 2 * (t.val / 16) + j.val / 128
      omega

end

end Attn

end
-- ==== Proof.Attn.Tiles.lean ====
/- What the tiles of a pair of blocks are in the mathematics of `Attn.Data`, and so what one grid point adds to each gradient. -/
module

public import proofs.«01_k».proof.Proof.Attn.Blocks

@[expose] public section

noncomputable section

namespace Attn

open Finset

/-! ## Sums over lanes -/

theorem sum_lanes (f : Fin 96 → ℝ) : ∑ l : Fin 128, (if h : l.val < 96 then f ⟨l.val, h⟩ else 0) = ∑ d, f d := by
  rw [show (∑ l : Fin 128, (if h : l.val < 96 then f ⟨l.val, h⟩ else 0)) = ∑ l : Fin (96 + 32), (if h : l.val < 96 then f ⟨l.val, h⟩ else 0) from rfl,
    Fin.sum_univ_add]
  simp

theorem sum_half (a : Fin 2) (f : Fin 128 → ℝ) : ∑ z, hR a.val z (f z) = ∑ d : Fin 64, f ⟨64 * a.val + d.val, by omega⟩ := by
  rw [show (∑ z, hR a.val z (f z)) = ∑ z : Fin (64 + 64), hR a.val z (f z) from rfl, Fin.sum_univ_add]
  have h0 : ∀ d : Fin 64, (Fin.castAdd 64 d).val / 64 = 0 := fun d => by simp
  have h1 : ∀ d : Fin 64, (Fin.natAdd 64 d).val / 64 = 1 := fun d => by simp
  fin_cases a
  · simp only [hR, h0, h1]
    simp; exact sum_congr rfl fun d _ => congrArg f (Fin.ext (by simp))
  · simp only [hR, h0, h1]
    simp; exact sum_congr rfl fun d _ => congrArg f (Fin.ext (by simp [Nat.add_comm]))

theorem sum_two (f : Fin 1024 → ℝ) :
    ∑ r, f r = ∑ r : Fin 512, f ⟨r.val, by omega⟩ + ∑ r : Fin 512, f ⟨512 + r.val, by omega⟩ := by
  rw [show (∑ r, f r) = ∑ r : Fin (512 + 512), f r from rfl, Fin.sum_univ_add]
  rfl

theorem sb_eq {N M n k : ℕ} {o p : ℕ} (X : Fin N → Fin M → ℝ) (i : Fin n) (j : Fin k) (i' : Fin N) (j' : Fin M)
    (hi : i'.val = o + i.val) (hj : j'.val = p + j.val) : sb o p X i j = X i' j' := by
  rw [sb, dif_pos ⟨hi ▸ i'.isLt, hj ▸ j'.isLt⟩]
  congr 1 <;> exact Fin.ext (by simp [hi, hj])

theorem sc_eq {N n : ℕ} {o : ℕ} (X : Fin N → ℝ) (i : Fin n) (i' : Fin N) (hi : i'.val = o + i.val) : sc o X i = X i' := by
  rw [sc, dif_pos (hi ▸ i'.isLt)]
  exact congrArg X (Fin.ext hi.symm)

/-- Lane `l` of head `a` of a pair. -/
abbrev ln (a : Fin 2) (l : Fin 128) : Fin 256 := ⟨128 * a.val + l.val, by omega⟩

namespace Data

variable (D : Data) (p b k : Fin 4) (a : Fin 2)

theorem bq_lane (r : Fin 1024) (l : Fin 128) (l' : Fin 256) (hl : l'.val = 128 * a.val + l.val) :
    D.bq p b r l' = if h : l.val < 96 then D.q (pos b r) (hd p a) ⟨l.val, h⟩ * (scale / Real.log 2) else 0 := by
  have e : (256 * p.val + l'.val) % 128 = l.val := by omega
  have e' : (256 * p.val + l'.val) / 128 = 2 * p.val + a.val := by omega
  simp only [bq, ql, e, e']

theorem bk_lane (r : Fin 1024) (l : Fin 128) (l' : Fin 256) (hl : l'.val = 128 * a.val + l.val) :
    D.bk p b r l' = if h : l.val < 96 then D.k (pos b r) (hd p a) ⟨l.val, h⟩ else 0 := by
  have e : (256 * p.val + l'.val) % 128 = l.val := by omega
  have e' : (256 * p.val + l'.val) / 128 = 2 * p.val + a.val := by omega
  simp only [bk, kl, e, e']

theorem bv_lane (r : Fin 1024) (d : Fin 64) : D.bv p b r ⟨64 * a.val + d.val, by omega⟩ = D.v (pos b r) (hd p a) d := by
  have e : (128 * p.val + (64 * a.val + d.val)) % 64 = d.val := by omega
  have e' : (128 * p.val + (64 * a.val + d.val)) / 64 = 2 * p.val + a.val := by omega
  simp only [bv, vl, e, e']

theorem bg_lane (r : Fin 1024) (d : Fin 64) : D.bg p b r ⟨64 * a.val + d.val, by omega⟩ = D.g (pos b r) (hd p a) d := by
  have e : (128 * p.val + (64 * a.val + d.val)) % 64 = d.val := by omega
  have e' : (128 * p.val + (64 * a.val + d.val)) / 64 = 2 * p.val + a.val := by omega
  simp only [bg, gl, e, e']

section Tile

variable {n m o o' : ℕ} (r : Fin n) (s : Fin m) (r' s' : Fin 1024) (hr : r'.val = o + r.val) (hs : s'.val = o' + s.val)
include hr

theorem z_tile : sc o (D.bz p b a.val) r = D.lse (hd p a) (pos b r') := by
  rw [sc_eq _ r r' hr, bz, dif_pos a.isLt]

theorem e_tile : sc o (D.be p b a.val) r = D.dlt (hd p a) (pos b r') := by
  rw [sc_eq _ r r' hr, be, dif_pos a.isLt]

include hs

theorem score_tile : ∑ l : Fin 128, sb o (128 * a.val) (D.bq p b) r l * sb o' (128 * a.val) (D.bk p k) s l
    = D.score (hd p a) (pos b r') (pos k s') * (scale / Real.log 2) := by
  rw [score, sum_mul]
  refine Eq.trans (sum_congr rfl fun l _ => ?_)
    (sum_lanes fun d => D.q (pos b r') (hd p a) d * D.k (pos k s') (hd p a) d * (scale / Real.log 2))
  rw [sb_eq (D.bq p b) r l r' (ln a l) hr rfl, sb_eq (D.bk p k) s l s' (ln a l) hs rfl, D.bq_lane p b a r' l _ rfl, D.bk_lane p k a s' l _ rfl]
  split
  · ring
  · rw [zero_mul]

theorem p_tile (h : pos k s' ≤ pos b r') :
    pR (sb o (128 * a.val) (D.bq p b)) (sb o' (128 * a.val) (D.bk p k)) (sc o (D.bz p b a.val)) r s = D.prob (hd p a) (pos b r') (pos k s') := by
  rw [pR, D.z_tile p b a r r' hr, lse]
  exact D.prob_exp2 h _ (D.score_tile p b k a r s r' s' hr hs)

theorem d_tile : dR a.val (sb o 0 (D.bg p b)) (sb o' 0 (D.bv p k)) r s = D.dprob (hd p a) (pos b r') (pos k s') := by
  rw [dR, sum_half, dprob]
  refine sum_congr rfl fun d _ => ?_
  rw [sb_eq (D.bg p b) r _ r' ⟨64 * a.val + d.val, by omega⟩ hr (Nat.zero_add _).symm, sb_eq (D.bv p k) s _ s' ⟨64 * a.val + d.val, by omega⟩ hs (Nat.zero_add _).symm,
    bg_lane, bv_lane]

theorem s_tile {P : Fin n → Fin m → ℝ} (hP : P r s = D.prob (hd p a) (pos b r') (pos k s')) :
    sR P (dR a.val (sb o 0 (D.bg p b)) (sb o' 0 (D.bv p k))) (sc o (D.be p b a.val)) r s = D.ds (hd p a) (pos b r') (pos k s') * Real.log 2 := by
  rw [sR, hP, D.d_tile p b k a r s r' s' hr hs, D.e_tile p b a r r' hr, ds]

end Tile

/-! ## The tiles -/

theorem pf_eq (h : k < b) (r s : Fin 1024) : Pf (D.bq p b) (D.bk p k) (D.bz p b) a.val r s = D.prob (hd p a) (pos b r) (pos k s) :=
  D.p_tile p b k a r s r s (Nat.zero_add _).symm (Nat.zero_add _).symm (by
    have : k.val < b.val := h
    show 1024 * k.val + s.val ≤ 1024 * b.val + r.val; omega)

theorem pt_eq (r s : Fin 512) : Pt (D.bq p b) (D.bk p b) (D.bz p b) a.val r s
    = D.prob (hd p a) (pos b ⟨r.val, by omega⟩) (pos b ⟨s.val, by omega⟩) := by
  rw [Pt, mR]
  split
  · exact D.p_tile p b b a r s _ _ (Nat.zero_add _).symm (Nat.zero_add _).symm (by
      show 1024 * b.val + s.val ≤ 1024 * b.val + r.val; omega)
  · exact (D.prob_of_lt (by show 1024 * b.val + r.val < 1024 * b.val + s.val; omega)).symm

theorem pl_eq (r : Fin 512) (s : Fin 1024) : Pl (D.bq p b) (D.bk p b) (D.bz p b) a.val r s
    = D.prob (hd p a) (pos b ⟨512 + r.val, by omega⟩) (pos b s) := by
  rw [Pl, mR]
  split
  · exact D.p_tile p b b a r s _ _ rfl (Nat.zero_add _).symm (by
      show 1024 * b.val + s.val ≤ 1024 * b.val + (512 + r.val); omega)
  · exact (D.prob_of_lt (by show 1024 * b.val + (512 + r.val) < 1024 * b.val + s.val; omega)).symm

theorem sf_eq (h : k < b) (r s : Fin 1024) : Sf (D.bq p b) (D.bk p k) (D.bv p k) (D.bg p b) (D.bz p b) (D.be p b) a.val r s
    = D.ds (hd p a) (pos b r) (pos k s) * Real.log 2 :=
  D.s_tile p b k a r s r s (Nat.zero_add _).symm (Nat.zero_add _).symm (D.pf_eq p b k a h r s)

theorem st_eq (r s : Fin 512) : St (D.bq p b) (D.bk p b) (D.bv p b) (D.bg p b) (D.bz p b) (D.be p b) a.val r s
    = D.ds (hd p a) (pos b ⟨r.val, by omega⟩) (pos b ⟨s.val, by omega⟩) * Real.log 2 :=
  D.s_tile p b b a r s _ _ (Nat.zero_add _).symm (Nat.zero_add _).symm (D.pt_eq p b a r s)

theorem sl_eq (r : Fin 512) (s : Fin 1024) : Sl (D.bq p b) (D.bk p b) (D.bv p b) (D.bg p b) (D.bz p b) (D.be p b) a.val r s
    = D.ds (hd p a) (pos b ⟨512 + r.val, by omega⟩) (pos b s) * Real.log 2 :=
  D.s_tile p b b a r s _ _ rfl (Nat.zero_add _).symm (D.pl_eq p b a r s)

/-! ## What a pair of blocks contributes -/

/-- To the keys' gradient, of block `k` from block `b` of queries. -/
def cK (s : Fin 1024) (l : Fin 256) : ℝ := ∑ r, D.ds (hd p a) (pos b r) (pos k s) * Real.log 2 * D.bq p b r l

/-- To the values' gradient. -/
def cV (s : Fin 1024) (z : Fin 128) : ℝ := ∑ r, D.prob (hd p a) (pos b r) (pos k s) * D.bg p b r z

/-- To the queries' gradient. -/
def cQ (r : Fin 1024) (l : Fin 256) : ℝ :=
  (∑ s, D.ds (hd p a) (pos b r) (pos k s) * Real.log 2 * D.bk p k s l) * (scale * (Real.log 2)⁻¹)

theorem ds_above (h : b < k) (r s : Fin 1024) : D.ds (hd p a) (pos b r) (pos k s) = 0 :=
  D.ds_of_lt (by have : b.val < k.val := h; show 1024 * b.val + r.val < 1024 * k.val + s.val; omega)

theorem cK_above (h : b < k) (s l) : D.cK p b k a s l = 0 := sum_eq_zero fun r _ => by rw [D.ds_above p b k a h]; ring
theorem cQ_above (h : b < k) (r l) : D.cQ p b k a r l = 0 := by
  rw [cQ, sum_eq_zero fun s _ => by rw [D.ds_above p b k a h]; ring, zero_mul]
theorem cV_above (h : b < k) (s z) : D.cV p b k a s z = 0 := sum_eq_zero fun r _ => by
  rw [D.prob_of_lt (by have : b.val < k.val := h; show 1024 * b.val + r.val < 1024 * k.val + s.val; omega), zero_mul]

theorem kF (h : k < b) (s : Fin 1024) (l : Fin 128) :
    tR (Sf (D.bq p b) (D.bk p k) (D.bv p k) (D.bg p b) (D.bz p b) (D.be p b) a.val) (sb (n := 1024) 0 (128 * a.val) (D.bq p b)) s l
      = D.cK p b k a s (ln a l) :=
  sum_congr rfl fun r _ => by rw [D.sf_eq p b k a h, sb_eq (D.bq p b) r l r (ln a l) (Nat.zero_add _).symm rfl]

theorem kT (s : Fin 512) (l : Fin 128) :
    tR (St (D.bq p b) (D.bk p b) (D.bv p b) (D.bg p b) (D.bz p b) (D.be p b) a.val) (sb (n := 512) 0 (128 * a.val) (D.bq p b)) s l
      = ∑ r : Fin 512, D.ds (hd p a) (pos b ⟨r.val, by omega⟩) (pos b ⟨s.val, by omega⟩) * Real.log 2 * D.bq p b ⟨r.val, by omega⟩ (ln a l) :=
  sum_congr rfl fun r _ => by rw [D.st_eq p b a, sb_eq (D.bq p b) r l ⟨r.val, by omega⟩ (ln a l) (Nat.zero_add _).symm rfl]

theorem kL (s : Fin 1024) (l : Fin 128) :
    tR (Sl (D.bq p b) (D.bk p b) (D.bv p b) (D.bg p b) (D.bz p b) (D.be p b) a.val) (sb (n := 512) 512 (128 * a.val) (D.bq p b)) s l
      = ∑ r : Fin 512, D.ds (hd p a) (pos b ⟨512 + r.val, by omega⟩) (pos b s) * Real.log 2 * D.bq p b ⟨512 + r.val, by omega⟩ (ln a l) :=
  sum_congr rfl fun r _ => by rw [D.sl_eq p b a, sb_eq (D.bq p b) r l ⟨512 + r.val, by omega⟩ (ln a l) rfl rfl]

theorem kD (s : Fin 1024) (l : Fin 128) :
    (if h : s.val < 512 then tR (St (D.bq p b) (D.bk p b) (D.bv p b) (D.bg p b) (D.bz p b) (D.be p b) a.val) (sb (n := 512) 0 (128 * a.val) (D.bq p b)) ⟨s.val, h⟩ l else 0)
      + tR (Sl (D.bq p b) (D.bk p b) (D.bv p b) (D.bg p b) (D.bz p b) (D.be p b) a.val) (sb (n := 512) 512 (128 * a.val) (D.bq p b)) s l
      = D.cK p b b a s (ln a l) := by
  rw [cK, sum_two, D.kL p b a s l]
  congr 1
  split
  · rw [D.kT p b a]
  · exact (sum_eq_zero fun r _ => by
      rw [D.ds_of_lt (by show 1024 * b.val + r.val < 1024 * b.val + s.val; omega)]; ring).symm

theorem vF (h : k < b) (s : Fin 1024) (z : Fin 128) :
    tR (Pf (D.bq p b) (D.bk p k) (D.bz p b) a.val) (sb (n := 1024) 0 0 (D.bg p b)) s z = D.cV p b k a s z :=
  sum_congr rfl fun r _ => by rw [D.pf_eq p b k a h, sb_eq (D.bg p b) r z r z (Nat.zero_add _).symm (Nat.zero_add _).symm]

theorem vD (s : Fin 1024) (z : Fin 128) :
    (if h : s.val < 512 then tR (Pt (D.bq p b) (D.bk p b) (D.bz p b) a.val) (sb (n := 512) 0 0 (D.bg p b)) ⟨s.val, h⟩ z else 0)
      + tR (Pl (D.bq p b) (D.bk p b) (D.bz p b) a.val) (sb (n := 512) 512 0 (D.bg p b)) s z = D.cV p b b a s z := by
  rw [cV, sum_two]
  congr 1
  · split
    · exact sum_congr rfl fun r _ => by rw [D.pt_eq p b a, sb_eq (D.bg p b) r z ⟨r.val, by omega⟩ z (Nat.zero_add _).symm (Nat.zero_add _).symm]
    · exact (sum_eq_zero fun r _ => by
        rw [D.prob_of_lt (by show 1024 * b.val + r.val < 1024 * b.val + s.val; omega), zero_mul]).symm
  · exact sum_congr rfl fun r _ => by rw [D.pl_eq p b a, sb_eq (D.bg p b) r z ⟨512 + r.val, by omega⟩ z rfl (Nat.zero_add _).symm]

theorem qF (h : k < b) (r : Fin 1024) (l : Fin 128) :
    uR (Sf (D.bq p b) (D.bk p k) (D.bv p k) (D.bg p b) (D.bz p b) (D.be p b) a.val) (sb (n := 1024) 0 (128 * a.val) (D.bk p k)) r l
      = D.cQ p b k a r (ln a l) :=
  congrArg (· * (scale * (Real.log 2)⁻¹)) (sum_congr rfl fun s _ => by
    rw [D.sf_eq p b k a h, sb_eq (D.bk p k) s l s (ln a l) (Nat.zero_add _).symm rfl])

theorem qT (r : Fin 512) (l : Fin 128) :
    uR (St (D.bq p b) (D.bk p b) (D.bv p b) (D.bg p b) (D.bz p b) (D.be p b) a.val) (sb (n := 512) 0 (128 * a.val) (D.bk p b)) r l
      = D.cQ p b b a ⟨r.val, by omega⟩ (ln a l) := by
  rw [uR, cQ, sum_two]
  congr 1
  rw [sum_eq_zero (f := fun s : Fin 512 => D.ds (hd p a) (pos b ⟨r.val, _⟩) (pos b ⟨512 + s.val, _⟩) * Real.log 2 * _) fun s _ => by
    rw [D.ds_of_lt (by show 1024 * b.val + r.val < 1024 * b.val + (512 + s.val); omega)]; ring, add_zero]
  exact sum_congr rfl fun s _ => by rw [D.st_eq p b a, sb_eq (D.bk p b) s l ⟨s.val, by omega⟩ (ln a l) (Nat.zero_add _).symm rfl]

theorem qL (r : Fin 512) (l : Fin 128) :
    uR (Sl (D.bq p b) (D.bk p b) (D.bv p b) (D.bg p b) (D.bz p b) (D.be p b) a.val) (sb (n := 1024) 0 (128 * a.val) (D.bk p b)) r l
      = D.cQ p b b a ⟨512 + r.val, by omega⟩ (ln a l) :=
  congrArg (· * (scale * (Real.log 2)⁻¹)) (sum_congr rfl fun s _ => by
    rw [D.sl_eq p b a, sb_eq (D.bk p b) s l s (ln a l) (Nat.zero_add _).symm rfl])

/-! ## One grid point -/

/-- The head of a pair whose lanes these are. -/
abbrev lh (l : Fin 256) : Fin 2 := ⟨l.val / 128, by omega⟩
abbrev zh (z : Fin 128) : Fin 2 := ⟨z.val / 64, by omega⟩

theorem dkF_eq (h : k < b) (X : Fin 1024 → Fin 256 → ℝ) (s : Fin 1024) (l : Fin 256) :
    dkF (D.bq p b) (D.bk p k) (D.bv p k) (D.bg p b) (D.bz p b) (D.be p b) X s l = X s l + D.cK p b k (lh l) s l := by
  rw [dkF, cR]
  split
  · rename_i hl
    have e : lh l = 0 := Fin.ext (by show l.val / 128 = 0; omega)
    rw [e, sb_eq X s ⟨l.val, hl⟩ s l (Nat.zero_add _).symm (Nat.zero_add _).symm]
    refine congrArg (X s l + ·) ((D.kF p b k 0 h s ⟨l.val, hl⟩).trans (congrArg _ (Fin.ext ?_)))
    show 128 * 0 + l.val = l.val; omega
  · rename_i hl
    have e : lh l = 1 := Fin.ext (by show l.val / 128 = 1; omega)
    rw [e, sb_eq X s ⟨l.val - 128, by omega⟩ s l (Nat.zero_add _).symm (by show l.val = 128 + (l.val - 128); omega)]
    refine congrArg (X s l + ·) ((D.kF p b k 1 h s ⟨l.val - 128, by omega⟩).trans (congrArg _ (Fin.ext ?_)))
    show 128 * 1 + (l.val - 128) = l.val; omega

theorem dkT_eq (X : Fin 1024 → Fin 256 → ℝ) (s : Fin 1024) (l : Fin 128) (l' : Fin 256) (hl : l'.val = 128 * a.val + l.val) :
    dkT (D.bq p b) (D.bk p b) (D.bv p b) (D.bg p b) (D.bz p b) (D.be p b) X s l' = X s l'
      + if h : s.val < 512 then tR (St (D.bq p b) (D.bk p b) (D.bv p b) (D.bg p b) (D.bz p b) (D.be p b) a.val) (sb (n := 512) 0 (128 * a.val) (D.bq p b)) ⟨s.val, h⟩ l else 0 := by
  rw [dkT]
  by_cases hs : s.val < 512
  · rw [dif_pos hs]
    fin_cases a
    · have hl : l'.val = l.val := by simpa using hl
      rw [ov, dif_neg (by omega), ov, dif_pos (by omega)]
      rw [sb_eq X _ _ s l' (by show s.val = 0 + (s.val - 0); omega) (by show l'.val = 0 + (l'.val - 0); omega)]
      have e : (⟨l'.val - 0, by omega⟩ : Fin 128) = l := Fin.ext (by show l'.val - 0 = l.val; omega)
      rw [e]; rfl
    · have hl : l'.val = 128 + l.val := by simpa using hl
      rw [ov, dif_pos (by omega)]
      rw [sb_eq X _ _ s l' (by show s.val = 0 + (s.val - 0); omega) (by show l'.val = 128 + (l'.val - 128); omega)]
      have e : (⟨l'.val - 128, by omega⟩ : Fin 128) = l := Fin.ext (by show l'.val - 128 = l.val; omega)
      rw [e]; rfl
  · rw [dif_neg hs, ov, dif_neg (by omega), ov, dif_neg (by omega), add_zero]

theorem dkD_eq (X : Fin 1024 → Fin 256 → ℝ) (s : Fin 1024) (l : Fin 256) :
    dkD (D.bq p b) (D.bk p b) (D.bv p b) (D.bg p b) (D.bz p b) (D.be p b) X s l = X s l + D.cK p b b (lh l) s l := by
  rw [dkD, cR]
  split
  · rename_i hl
    have e : lh l = 0 := Fin.ext (by show l.val / 128 = 0; omega)
    rw [e, sb_eq _ s ⟨l.val, hl⟩ s l (Nat.zero_add _).symm (Nat.zero_add _).symm, D.dkT_eq p b 0 X s ⟨l.val, hl⟩ l (by show l.val = 128 * 0 + l.val; omega), add_assoc]
    refine congrArg (X s l + ·) ((D.kD p b 0 s ⟨l.val, hl⟩).trans (congrArg _ (Fin.ext ?_)))
    show 128 * 0 + l.val = l.val; omega
  · rename_i hl
    have e : lh l = 1 := Fin.ext (by show l.val / 128 = 1; omega)
    have hl' : l.val - 128 < 128 := by omega
    rw [e, sb_eq _ s ⟨l.val - 128, hl'⟩ s l (Nat.zero_add _).symm (by show l.val = 128 + (l.val - 128); omega),
      D.dkT_eq p b 1 X s ⟨l.val - 128, hl'⟩ l (by show l.val = 128 * 1 + (l.val - 128); omega), add_assoc]
    refine congrArg (X s l + ·) ((D.kD p b 1 s ⟨l.val - 128, hl'⟩).trans (congrArg _ (Fin.ext ?_)))
    show 128 * 1 + (l.val - 128) = l.val; omega

theorem hR_two (z : Fin 128) (f : Fin 2 → ℝ) (x : ℝ) : x + hR 0 z (f 0) + hR 1 z (f 1) = x + f (zh z) := by
  rcases (by omega : z.val / 64 = 0 ∨ z.val / 64 = 1) with h | h
  · have e : zh z = 0 := Fin.ext h
    rw [hR, hR, if_pos h, if_neg (by omega), add_zero, e]
  · have e : zh z = 1 := Fin.ext h
    rw [hR, hR, if_neg (by omega), if_pos h, add_zero, e]

theorem dvF_eq (h : k < b) (X : Fin 1024 → Fin 128 → ℝ) (s : Fin 1024) (z : Fin 128) :
    dvF (D.bq p b) (D.bk p k) (D.bg p b) (D.bz p b) X s z = X s z + D.cV p b k (zh z) s z := by
  rw [dvF, sb_eq X s z s z (Nat.zero_add _).symm (Nat.zero_add _).symm]
  refine Eq.trans ?_ (hR_two z (fun a => D.cV p b k a s z) (X s z))
  rw [← D.vF p b k 0 h s z, ← D.vF p b k 1 h s z]; rfl

theorem dvT_eq (X : Fin 1024 → Fin 128 → ℝ) (s : Fin 1024) (z : Fin 128) :
    dvT (D.bq p b) (D.bk p b) (D.bg p b) (D.bz p b) X s z = X s z
      + if h : s.val < 512 then hR 0 z (tR (Pt (D.bq p b) (D.bk p b) (D.bz p b) 0) (sb (n := 512) 0 0 (D.bg p b)) ⟨s.val, h⟩ z)
          + hR 1 z (tR (Pt (D.bq p b) (D.bk p b) (D.bz p b) 1) (sb (n := 512) 0 0 (D.bg p b)) ⟨s.val, h⟩ z) else 0 := by
  rw [dvT]
  by_cases hs : s.val < 512
  · rw [dif_pos hs, ov, dif_pos (by omega), dv0, sb_eq X _ _ s z (by show s.val = 0 + (s.val - 0); omega) (by show z.val = 0 + (z.val - 0); omega), ← add_assoc]
    rfl
  · rw [dif_neg hs, ov, dif_neg (by omega), ov, dif_neg (by omega), add_zero]

theorem dvD_eq (X : Fin 1024 → Fin 128 → ℝ) (s : Fin 1024) (z : Fin 128) :
    dvD (D.bq p b) (D.bk p b) (D.bg p b) (D.bz p b) X s z = X s z + D.cV p b b (zh z) s z := by
  rw [dvD, sb_eq _ s z s z (Nat.zero_add _).symm (Nat.zero_add _).symm, dvT_eq]
  refine Eq.trans ?_ (hR_two z (fun a => D.cV p b b a s z) (X s z))
  rw [← D.vD p b 0 s z, ← D.vD p b 1 s z]
  by_cases hs : s.val < 512
  · simp only [dif_pos hs, hR]
    split <;> split <;> first | omega | (simp only [Fin.val_zero, Fin.val_one]; ring)
  · simp only [dif_neg hs, hR]
    split <;> split <;> first | omega | (simp only [Fin.val_zero, Fin.val_one]; ring)

theorem dqF_eq (h : k < b) (X : Fin 4096 → Fin 256 → ℝ) (b' : Fin 4) (r : Fin 1024) (l : Fin 256) :
    dqF (D.bq p b) (D.bk p k) (D.bv p k) (D.bg p b) (D.bz p b) (D.be p b) (1024 * b.val) X (pos b' r) l
      = X (pos b' r) l + if b' = b then D.cQ p b k (lh l) r l else 0 := by
  rw [dqF, ov]
  by_cases hb : b' = b
  · subst hb
    rw [dif_pos ⟨⟨by show 1024 * b'.val ≤ 1024 * b'.val + r.val; omega, by show 1024 * b'.val + r.val < 1024 * b'.val + 1024; omega⟩, by omega, by omega⟩, if_pos rfl]
    have er : (⟨(pos b' r).val - 1024 * b'.val, by show 1024 * b'.val + r.val - 1024 * b'.val < 1024; omega⟩ : Fin 1024) = r :=
      Fin.ext (by show 1024 * b'.val + r.val - 1024 * b'.val = r.val; omega)
    have el : (⟨l.val - 0, by omega⟩ : Fin 256) = l := rfl
    rw [er, el, sb_eq X r l (pos b' r) l rfl (Nat.zero_add _).symm, cR]
    congr 1
    split
    · rename_i hl
      have e : lh l = 0 := Fin.ext (by show l.val / 128 = 0; omega)
      rw [e]
      refine (D.qF p b' k 0 h r ⟨l.val, hl⟩).trans (congrArg _ (Fin.ext ?_))
      show 128 * 0 + l.val = l.val; omega
    · rename_i hl
      have e : lh l = 1 := Fin.ext (by show l.val / 128 = 1; omega)
      rw [e]
      refine (D.qF p b' k 1 h r ⟨l.val - 128, by omega⟩).trans (congrArg _ (Fin.ext ?_))
      show 128 * 1 + (l.val - 128) = l.val; omega
  · have : b'.val ≠ b.val := fun e => hb (Fin.ext e)
    rw [dif_neg (by show ¬((1024 * b.val ≤ 1024 * b'.val + r.val ∧ 1024 * b'.val + r.val < 1024 * b.val + 1024) ∧ _); omega), if_neg hb, add_zero]

theorem dqD_eq (X : Fin 4096 → Fin 256 → ℝ) (b' : Fin 4) (r : Fin 1024) (l : Fin 256) :
    dqD (D.bq p b) (D.bk p b) (D.bv p b) (D.bg p b) (D.bz p b) (D.be p b) (1024 * b.val) X (pos b' r) l
      = X (pos b' r) l + if b' = b then D.cQ p b b (lh l) r l else 0 := by
  rw [dqD, ov]
  by_cases hb : b' = b
  · subst hb
    rw [dif_pos ⟨⟨by show 1024 * b'.val ≤ 1024 * b'.val + r.val; omega, by show 1024 * b'.val + r.val < 1024 * b'.val + 1024; omega⟩, by omega, by omega⟩, if_pos rfl]
    have er : (⟨(pos b' r).val - 1024 * b'.val, by show 1024 * b'.val + r.val - 1024 * b'.val < 1024; omega⟩ : Fin 1024) = r :=
      Fin.ext (by show 1024 * b'.val + r.val - 1024 * b'.val = r.val; omega)
    have el : (⟨l.val - 0, by omega⟩ : Fin 256) = l := rfl
    rw [er, el, sb_eq X r l (pos b' r) l rfl (Nat.zero_add _).symm]
    congr 1
    by_cases hr : r.val < 512
    · rw [dif_pos hr, cR]
      split
      · rename_i hl
        have e : lh l = 0 := Fin.ext (by show l.val / 128 = 0; omega)
        rw [e]
        refine (D.qT p b' 0 ⟨r.val, hr⟩ ⟨l.val, hl⟩).trans (congrArg _ (Fin.ext ?_))
        show 128 * 0 + l.val = l.val; omega
      · rename_i hl
        have e : lh l = 1 := Fin.ext (by show l.val / 128 = 1; omega)
        rw [e]
        refine (D.qT p b' 1 ⟨r.val, hr⟩ ⟨l.val - 128, by omega⟩).trans (congrArg _ (Fin.ext ?_))
        show 128 * 1 + (l.val - 128) = l.val; omega
    · have e2 : (⟨512 + (r.val - 512), by omega⟩ : Fin 1024) = r := Fin.ext (by show 512 + (r.val - 512) = r.val; omega)
      rw [dif_neg hr, cR]
      split
      · rename_i hl
        have e : lh l = 0 := Fin.ext (by show l.val / 128 = 0; omega)
        rw [e]
        refine (D.qL p b' 0 ⟨r.val - 512, by omega⟩ ⟨l.val, hl⟩).trans (congrArg₂ _ e2 (Fin.ext ?_))
        show 128 * 0 + l.val = l.val; omega
      · rename_i hl
        have e : lh l = 1 := Fin.ext (by show l.val / 128 = 1; omega)
        rw [e]
        refine (D.qL p b' 1 ⟨r.val - 512, by omega⟩ ⟨l.val - 128, by omega⟩).trans (congrArg₂ _ e2 (Fin.ext ?_))
        show 128 * 1 + (l.val - 128) = l.val; omega
  · have : b'.val ≠ b.val := fun e => hb (Fin.ext e)
    rw [dif_neg (by show ¬((1024 * b.val ≤ 1024 * b'.val + r.val ∧ 1024 * b'.val + r.val < 1024 * b.val + 1024) ∧ _); omega), if_neg hb, add_zero]

end Data

end Attn

end
-- ==== Proof.Attn.CaseA.lean ====
/- What the first point of all leaves in its outputs and scratch, over blocks of real numbers. -/
module

public import proofs.«01_k».proof.Proof.Attn.Cases

@[expose] public section

set_option maxRecDepth 16384
set_option maxHeartbeats 2000000

noncomputable section

namespace Attn

open Cert.KernelIdeal Cert.KernelIdeal.Gen Idealize.ShloMosaic Idealize.ShloMosaic.TcCoe Idealize.ShloMosaic.Tactic

variable (m : (ℓ : Loc nD τ sig) → Buf (Elt Ideal) ℓ) (c : Dev nD) (t : Fin cfg0.N)

variable {Q K : Fin 1024 → Fin 256 → ℝ} {V G : Fin 1024 → Fin 128 → ℝ} {Z E : ℕ → Fin 1024 → ℝ}

namespace Case
theorem A_dks (h0 : t.val % 16 = 0) (h1 : t.val % 4 = 0) (h2 : ¬t.val / 4 % 4 + 1 ≤ t.val % 4) (h3 : t.val / 4 % 4 = t.val % 4) (h4 : ¬t.val % 4 = 3) (H : AtPt m c t Q K V G Z E) :
    IsR (outsAt0 m c t.val t.isLt).2.2.2.1 (dkD Q K V G Z E (fun _ _ => 0)) := by
  rw [outsAt0_A m c t h0 h1 h2 h3 h4]
  dsimp only
  unfold sout0_A_0 kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact (Step.two (Pay.p65 H.sl0 (Step.ldR H.q rfl) (Step.ldR (Step.wr rfl (Pay.p51 H.st1 (Step.ldR H.q rfl) (Step.skip (Step.ldR (Step.whole rfl Step.zero2) rfl))) (Step.wr rfl (Pay.p44 H.st0 (Step.ldR H.q rfl) (Step.ldR (Step.whole rfl Step.zero2) rfl)) (Step.whole rfl Step.zero2))) rfl)) (Pay.p10 H.sl1 (Step.ldR H.q rfl) (Step.skip (Step.ldR (Step.wr rfl (Pay.p51 H.st1 (Step.ldR H.q rfl) (Step.skip (Step.ldR (Step.whole rfl Step.zero2) rfl))) (Step.wr rfl (Pay.p44 H.st0 (Step.ldR H.q rfl) (Step.ldR (Step.whole rfl Step.zero2) rfl)) (Step.whole rfl Step.zero2))) rfl))))

theorem A_dvs (h0 : t.val % 16 = 0) (h1 : t.val % 4 = 0) (h2 : ¬t.val / 4 % 4 + 1 ≤ t.val % 4) (h3 : t.val / 4 % 4 = t.val % 4) (h4 : ¬t.val % 4 = 3) (H : AtPt m c t Q K V G Z E) :
    IsR (outsAt0 m c t.val t.isLt).2.2.2.2 (dvD Q K G Z (fun _ _ => 0)) := by
  rw [outsAt0_A m c t h0 h1 h2 h3 h4]
  dsimp only
  unfold sout0_A_1 kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.whole rfl (Pay.p9 Pay.p57 H.pl1 (Step.un58 (Step.ldR H.g rfl)) (Pay.p64 Pay.p57 (Pay.p63 H.pl0 (Step.ldR H.g rfl)) (Step.ldR (Step.wr rfl (Pay.p50 Pay.p35 H.pt1 (Step.un36 (Step.ldR H.g rfl)) (Pay.p43 Pay.p35 H.pt0 (Step.un36 (Step.ldR H.g rfl)) (Step.ldR (Step.whole rfl Step.zero3) rfl))) (Step.wr rfl (Pay.p43 Pay.p35 H.pt0 (Step.un36 (Step.ldR H.g rfl)) (Step.ldR (Step.whole rfl Step.zero3) rfl)) (Step.whole rfl Step.zero3))) rfl)))

theorem A_dq (h0 : t.val % 16 = 0) (h1 : t.val % 4 = 0) (h2 : ¬t.val / 4 % 4 + 1 ≤ t.val % 4) (h3 : t.val / 4 % 4 = t.val % 4) (h4 : ¬t.val % 4 = 3) (H : AtPt m c t Q K V G Z E) :
    IsR (outsAt0 m c t.val t.isLt).1 (dqD Q K V G Z E (1024 * (grid0.coords t 2).val) (fun _ _ => 0)) := by
  rw [outsAt0_A m c t h0 h1 h2 h3 h4]
  dsimp only
  unfold out0_A_6 kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  have hc := Step.coord2 t
  have ho := Step.rowOff (grid0.coords t 2).val (by omega)
  exact Step.wr ho (Pay.p11 (Pay.p52 (Step.ldR H.k rfl) (Pay.p45 (Step.ldR H.k rfl) H.st0) H.st1) (Step.ldR H.k rfl) (Pay.p66 (Step.ldR H.k rfl) H.sl0) (Step.ldR (Step.whole rfl Step.zero1) ho) H.sl1) (Step.whole rfl Step.zero1)
end Case

end Attn

end
-- ==== Proof.Attn.CaseB.lean ====
/- What a block of queries after the block of keys leaves in its outputs and scratch, over blocks of real numbers. -/
module

public import proofs.«01_k».proof.Proof.Attn.Cases

@[expose] public section

set_option maxRecDepth 16384
set_option maxHeartbeats 2000000

noncomputable section

namespace Attn

open Cert.KernelIdeal Cert.KernelIdeal.Gen Idealize.ShloMosaic Idealize.ShloMosaic.TcCoe Idealize.ShloMosaic.Tactic

variable (m : (ℓ : Loc nD τ sig) → Buf (Elt Ideal) ℓ) (c : Dev nD) (t : Fin cfg0.N)

variable {Q K : Fin 1024 → Fin 256 → ℝ} {V G : Fin 1024 → Fin 128 → ℝ} {Z E : ℕ → Fin 1024 → ℝ}

namespace Case
theorem B_dks (h0 : ¬t.val % 16 = 0) (h1 : ¬t.val % 4 = 0) (h2 : t.val / 4 % 4 + 1 ≤ t.val % 4) (h3 : ¬t.val / 4 % 4 = t.val % 4) (h4 : ¬t.val % 4 = 3) (H : AtPt m c t Q K V G Z E)
    {X : Fin 1024 → Fin 256 → ℝ} (hX : IsR (outsAt0 m c (t.val - 1) (Nat.lt_of_le_of_lt (Nat.sub_le _ _) t.isLt)).2.2.2.1 X) :
    IsR (outsAt0 m c t.val t.isLt).2.2.2.1 (dkF Q K V G Z E X) := by
  rw [outsAt0_B m c t h0 h1 h2 h3 h4]
  dsimp only
  unfold sout0_B_0 kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact (Step.two (Pay.p24 H.sf0 (Step.ldR H.q rfl) (Step.ldR hX rfl)) (Pay.p6 H.sf1 (Step.ldR H.q rfl) (Step.ldR hX rfl)))

theorem B_dvs (h0 : ¬t.val % 16 = 0) (h1 : ¬t.val % 4 = 0) (h2 : t.val / 4 % 4 + 1 ≤ t.val % 4) (h3 : ¬t.val / 4 % 4 = t.val % 4) (h4 : ¬t.val % 4 = 3) (H : AtPt m c t Q K V G Z E)
    {X : Fin 1024 → Fin 128 → ℝ} (hX : IsR (outsAt0 m c (t.val - 1) (Nat.lt_of_le_of_lt (Nat.sub_le _ _) t.isLt)).2.2.2.2 X) :
    IsR (outsAt0 m c t.val t.isLt).2.2.2.2 (dvF Q K G Z X) := by
  rw [outsAt0_B m c t h0 h1 h2 h3 h4]
  dsimp only
  unfold sout0_B_1 kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.whole rfl (Pay.p5 Pay.p16 H.pf1 (Step.un17 (Step.ldR H.g rfl)) (Pay.p23 Pay.p16 (Step.un22 H.pf0) (Step.un17 (Step.ldR H.g rfl)) (Step.ldR hX rfl)))

theorem B_dq (h0 : ¬t.val % 16 = 0) (h1 : ¬t.val % 4 = 0) (h2 : t.val / 4 % 4 + 1 ≤ t.val % 4) (h3 : ¬t.val / 4 % 4 = t.val % 4) (h4 : ¬t.val % 4 = 3) (H : AtPt m c t Q K V G Z E)
    {X : Fin 4096 → Fin 256 → ℝ} (hX : IsR (outsAt0 m c (t.val - 1) (Nat.lt_of_le_of_lt (Nat.sub_le _ _) t.isLt)).1 X) :
    IsR (outsAt0 m c t.val t.isLt).1 (dqF Q K V G Z E (1024 * (grid0.coords t 2).val) X) := by
  rw [outsAt0_B m c t h0 h1 h2 h3 h4]
  dsimp only
  unfold out0_B_6 kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  have hc := Step.coord2 t
  have ho := Step.rowOff (grid0.coords t 2).val (by omega)
  exact Step.wr ho (Pay.p7 (Step.ldR H.k rfl) (Pay.p25 (Step.ldR H.k rfl) H.sf0) (Step.ldR hX ho) H.sf1) (by intro i j; exact (congrFun ((hs0_6 t).read_unread _) _).trans (hX i j))
end Case

end Attn

end
-- ==== Proof.Attn.CaseC.lean ====
/- What the last block of queries after the block of keys leaves in its outputs and scratch, over blocks of real numbers. -/
module

public import proofs.«01_k».proof.Proof.Attn.Cases

@[expose] public section

set_option maxRecDepth 16384
set_option maxHeartbeats 2000000

noncomputable section

namespace Attn

open Cert.KernelIdeal Cert.KernelIdeal.Gen Idealize.ShloMosaic Idealize.ShloMosaic.TcCoe Idealize.ShloMosaic.Tactic

variable (m : (ℓ : Loc nD τ sig) → Buf (Elt Ideal) ℓ) (c : Dev nD) (t : Fin cfg0.N)

variable {Q K : Fin 1024 → Fin 256 → ℝ} {V G : Fin 1024 → Fin 128 → ℝ} {Z E : ℕ → Fin 1024 → ℝ}

namespace Case
theorem C_dk (h0 : ¬t.val % 16 = 0) (h1 : ¬t.val % 4 = 0) (h2 : t.val / 4 % 4 + 1 ≤ t.val % 4) (h3 : ¬t.val / 4 % 4 = t.val % 4) (h4 : t.val % 4 = 3) (H : AtPt m c t Q K V G Z E)
    {X : Fin 1024 → Fin 256 → ℝ} (hX : IsR (outsAt0 m c (t.val - 1) (Nat.lt_of_le_of_lt (Nat.sub_le _ _) t.isLt)).2.2.2.1 X) :
    IsR (outsAt0 m c t.val t.isLt).2.1 (dkF Q K V G Z E X) := by
  rw [outsAt0_C m c t h0 h1 h2 h3 h4]
  dsimp only
  unfold out0_C_7 kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.full (Step.whole rfl (Step.ldR (Step.two (Pay.p24 H.sf0 (Step.ldR H.q rfl) (Step.ldR hX rfl)) (Pay.p6 H.sf1 (Step.ldR H.q rfl) (Step.ldR hX rfl))) rfl))

theorem C_dv (h0 : ¬t.val % 16 = 0) (h1 : ¬t.val % 4 = 0) (h2 : t.val / 4 % 4 + 1 ≤ t.val % 4) (h3 : ¬t.val / 4 % 4 = t.val % 4) (h4 : t.val % 4 = 3) (H : AtPt m c t Q K V G Z E)
    {X : Fin 1024 → Fin 128 → ℝ} (hX : IsR (outsAt0 m c (t.val - 1) (Nat.lt_of_le_of_lt (Nat.sub_le _ _) t.isLt)).2.2.2.2 X) :
    IsR (outsAt0 m c t.val t.isLt).2.2.1 (dvF Q K G Z X) := by
  rw [outsAt0_C m c t h0 h1 h2 h3 h4]
  dsimp only
  unfold out0_C_8 kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.whole rfl (Pay.p5 Pay.p16 H.pf1 (Step.un17 (Step.ldR H.g rfl)) (Pay.p23 Pay.p16 (Step.un22 H.pf0) (Step.un17 (Step.ldR H.g rfl)) (Step.ldR hX rfl)))

theorem C_dq (h0 : ¬t.val % 16 = 0) (h1 : ¬t.val % 4 = 0) (h2 : t.val / 4 % 4 + 1 ≤ t.val % 4) (h3 : ¬t.val / 4 % 4 = t.val % 4) (h4 : t.val % 4 = 3) (H : AtPt m c t Q K V G Z E)
    {X : Fin 4096 → Fin 256 → ℝ} (hX : IsR (outsAt0 m c (t.val - 1) (Nat.lt_of_le_of_lt (Nat.sub_le _ _) t.isLt)).1 X) :
    IsR (outsAt0 m c t.val t.isLt).1 (dqF Q K V G Z E (1024 * (grid0.coords t 2).val) X) := by
  rw [outsAt0_C m c t h0 h1 h2 h3 h4]
  dsimp only
  unfold out0_C_6 kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  have hc := Step.coord2 t
  have ho := Step.rowOff (grid0.coords t 2).val (by omega)
  exact Step.wr ho (Pay.p7 (Step.ldR H.k rfl) (Pay.p25 (Step.ldR H.k rfl) H.sf0) (Step.ldR hX ho) H.sf1) (by intro i j; exact (congrFun ((hs0_6 t).read_unread _) _).trans (hX i j))
end Case

end Attn

end
-- ==== Proof.Attn.CaseE.lean ====
/- What the block on the diagonal leaves in its outputs and scratch, over blocks of real numbers. -/
module

public import proofs.«01_k».proof.Proof.Attn.Cases

@[expose] public section

set_option maxRecDepth 16384
set_option maxHeartbeats 2000000

noncomputable section

namespace Attn

open Cert.KernelIdeal Cert.KernelIdeal.Gen Idealize.ShloMosaic Idealize.ShloMosaic.TcCoe Idealize.ShloMosaic.Tactic

variable (m : (ℓ : Loc nD τ sig) → Buf (Elt Ideal) ℓ) (c : Dev nD) (t : Fin cfg0.N)

variable {Q K : Fin 1024 → Fin 256 → ℝ} {V G : Fin 1024 → Fin 128 → ℝ} {Z E : ℕ → Fin 1024 → ℝ}

namespace Case
theorem E_dks (h0 : ¬t.val % 16 = 0) (h1 : ¬t.val % 4 = 0) (h2 : ¬t.val / 4 % 4 + 1 ≤ t.val % 4) (h3 : t.val / 4 % 4 = t.val % 4) (h4 : ¬t.val % 4 = 3) (H : AtPt m c t Q K V G Z E)
    {X : Fin 1024 → Fin 256 → ℝ} (hX : IsR (outsAt0 m c (t.val - 1) (Nat.lt_of_le_of_lt (Nat.sub_le _ _) t.isLt)).2.2.2.1 X) :
    IsR (outsAt0 m c t.val t.isLt).2.2.2.1 (dkD Q K V G Z E X) := by
  rw [outsAt0_E m c t h0 h1 h2 h3 h4]
  dsimp only
  unfold sout0_E_0 kernelRun0_E
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact (Step.two (Pay.p65 H.sl0 (Step.ldR H.q rfl) (Step.ldR (Step.wr rfl (Pay.p51 H.st1 (Step.ldR H.q rfl) (Step.ldR hX rfl)) (Step.wr rfl (Pay.p44 H.st0 (Step.ldR H.q rfl) (Step.ldR hX rfl)) (Step.rd0 hX))) rfl)) (Pay.p10 H.sl1 (Step.ldR H.q rfl) (Step.skip (Step.ldR (Step.wr rfl (Pay.p51 H.st1 (Step.ldR H.q rfl) (Step.ldR hX rfl)) (Step.wr rfl (Pay.p44 H.st0 (Step.ldR H.q rfl) (Step.ldR hX rfl)) (Step.rd0 hX))) rfl))))

theorem E_dvs (h0 : ¬t.val % 16 = 0) (h1 : ¬t.val % 4 = 0) (h2 : ¬t.val / 4 % 4 + 1 ≤ t.val % 4) (h3 : t.val / 4 % 4 = t.val % 4) (h4 : ¬t.val % 4 = 3) (H : AtPt m c t Q K V G Z E)
    {X : Fin 1024 → Fin 128 → ℝ} (hX : IsR (outsAt0 m c (t.val - 1) (Nat.lt_of_le_of_lt (Nat.sub_le _ _) t.isLt)).2.2.2.2 X) :
    IsR (outsAt0 m c t.val t.isLt).2.2.2.2 (dvD Q K G Z X) := by
  rw [outsAt0_E m c t h0 h1 h2 h3 h4]
  dsimp only
  unfold sout0_E_1 kernelRun0_E
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.whole rfl (Pay.p9 Pay.p57 H.pl1 (Step.un58 (Step.ldR H.g rfl)) (Pay.p64 Pay.p57 (Pay.p63 H.pl0 (Step.ldR H.g rfl)) (Step.ldR (Step.wr rfl (Pay.p50 Pay.p35 H.pt1 (Step.un36 (Step.ldR H.g rfl)) (Pay.p43 Pay.p35 H.pt0 (Step.un36 (Step.ldR H.g rfl)) (Step.ldR hX rfl))) (Step.wr rfl (Pay.p43 Pay.p35 H.pt0 (Step.un36 (Step.ldR H.g rfl)) (Step.ldR hX rfl)) (Step.rd1 hX))) rfl)))

theorem E_dq (h0 : ¬t.val % 16 = 0) (h1 : ¬t.val % 4 = 0) (h2 : ¬t.val / 4 % 4 + 1 ≤ t.val % 4) (h3 : t.val / 4 % 4 = t.val % 4) (h4 : ¬t.val % 4 = 3) (H : AtPt m c t Q K V G Z E)
    {X : Fin 4096 → Fin 256 → ℝ} (hX : IsR (outsAt0 m c (t.val - 1) (Nat.lt_of_le_of_lt (Nat.sub_le _ _) t.isLt)).1 X) :
    IsR (outsAt0 m c t.val t.isLt).1 (dqD Q K V G Z E (1024 * (grid0.coords t 2).val) X) := by
  rw [outsAt0_E m c t h0 h1 h2 h3 h4]
  dsimp only
  unfold out0_E_6 kernelRun0_E
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  have hc := Step.coord2 t
  have ho := Step.rowOff (grid0.coords t 2).val (by omega)
  exact Step.wr ho (Pay.p11 (Pay.p52 (Step.ldR H.k rfl) (Pay.p45 (Step.ldR H.k rfl) H.st0) H.st1) (Step.ldR H.k rfl) (Pay.p66 (Step.ldR H.k rfl) H.sl0) (Step.ldR hX ho) H.sl1) (by intro i j; exact (congrFun ((hs0_6 t).read_unread _) _).trans (hX i j))
end Case

end Attn

end
-- ==== Proof.Attn.CaseG.lean ====
/- What the last block on the diagonal leaves in its outputs and scratch, over blocks of real numbers. -/
module

public import proofs.«01_k».proof.Proof.Attn.Cases

@[expose] public section

set_option maxRecDepth 16384
set_option maxHeartbeats 2000000

noncomputable section

namespace Attn

open Cert.KernelIdeal Cert.KernelIdeal.Gen Idealize.ShloMosaic Idealize.ShloMosaic.TcCoe Idealize.ShloMosaic.Tactic

variable (m : (ℓ : Loc nD τ sig) → Buf (Elt Ideal) ℓ) (c : Dev nD) (t : Fin cfg0.N)

variable {Q K : Fin 1024 → Fin 256 → ℝ} {V G : Fin 1024 → Fin 128 → ℝ} {Z E : ℕ → Fin 1024 → ℝ}

namespace Case
theorem G_dk (h0 : ¬t.val % 16 = 0) (h1 : ¬t.val % 4 = 0) (h2 : ¬t.val / 4 % 4 + 1 ≤ t.val % 4) (h3 : t.val / 4 % 4 = t.val % 4) (h4 : t.val % 4 = 3) (H : AtPt m c t Q K V G Z E)
    {X : Fin 1024 → Fin 256 → ℝ} (hX : IsR (outsAt0 m c (t.val - 1) (Nat.lt_of_le_of_lt (Nat.sub_le _ _) t.isLt)).2.2.2.1 X) :
    IsR (outsAt0 m c t.val t.isLt).2.1 (dkD Q K V G Z E X) := by
  rw [outsAt0_G m c t h0 h1 h2 h3 h4]
  dsimp only
  unfold out0_G_7 kernelRun0_G
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.full (Step.whole rfl (Step.ldR (Step.two (Pay.p65 H.sl0 (Step.ldR H.q rfl) (Step.ldR (Step.wr rfl (Pay.p51 H.st1 (Step.ldR H.q rfl) (Step.ldR hX rfl)) (Step.wr rfl (Pay.p44 H.st0 (Step.ldR H.q rfl) (Step.ldR hX rfl)) (Step.rd0 hX))) rfl)) (Pay.p10 H.sl1 (Step.ldR H.q rfl) (Step.skip (Step.ldR (Step.wr rfl (Pay.p51 H.st1 (Step.ldR H.q rfl) (Step.ldR hX rfl)) (Step.wr rfl (Pay.p44 H.st0 (Step.ldR H.q rfl) (Step.ldR hX rfl)) (Step.rd0 hX))) rfl)))) rfl))

theorem G_dv (h0 : ¬t.val % 16 = 0) (h1 : ¬t.val % 4 = 0) (h2 : ¬t.val / 4 % 4 + 1 ≤ t.val % 4) (h3 : t.val / 4 % 4 = t.val % 4) (h4 : t.val % 4 = 3) (H : AtPt m c t Q K V G Z E)
    {X : Fin 1024 → Fin 128 → ℝ} (hX : IsR (outsAt0 m c (t.val - 1) (Nat.lt_of_le_of_lt (Nat.sub_le _ _) t.isLt)).2.2.2.2 X) :
    IsR (outsAt0 m c t.val t.isLt).2.2.1 (dvD Q K G Z X) := by
  rw [outsAt0_G m c t h0 h1 h2 h3 h4]
  dsimp only
  unfold out0_G_8 kernelRun0_G
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  exact Step.whole rfl (Pay.p9 Pay.p57 H.pl1 (Step.un58 (Step.ldR H.g rfl)) (Pay.p64 Pay.p57 (Pay.p63 H.pl0 (Step.ldR H.g rfl)) (Step.ldR (Step.wr rfl (Pay.p50 Pay.p35 H.pt1 (Step.un36 (Step.ldR H.g rfl)) (Pay.p43 Pay.p35 H.pt0 (Step.un36 (Step.ldR H.g rfl)) (Step.ldR hX rfl))) (Step.wr rfl (Pay.p43 Pay.p35 H.pt0 (Step.un36 (Step.ldR H.g rfl)) (Step.ldR hX rfl)) (Step.rd1 hX))) rfl)))

theorem G_dq (h0 : ¬t.val % 16 = 0) (h1 : ¬t.val % 4 = 0) (h2 : ¬t.val / 4 % 4 + 1 ≤ t.val % 4) (h3 : t.val / 4 % 4 = t.val % 4) (h4 : t.val % 4 = 3) (H : AtPt m c t Q K V G Z E)
    {X : Fin 4096 → Fin 256 → ℝ} (hX : IsR (outsAt0 m c (t.val - 1) (Nat.lt_of_le_of_lt (Nat.sub_le _ _) t.isLt)).1 X) :
    IsR (outsAt0 m c t.val t.isLt).1 (dqD Q K V G Z E (1024 * (grid0.coords t 2).val) X) := by
  rw [outsAt0_G m c t h0 h1 h2 h3 h4]
  dsimp only
  unfold out0_G_6 kernelRun0_G
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, read_unread_whole, View.readCov_cons_toLoadRect, Pay.p12, Pay.p13, Pay.p14, Pay.p18, Pay.p19, Pay.p26, Pay.p27, Pay.p30, Pay.p32, Pay.p33, Pay.p37, Pay.p38, Pay.p46, Pay.p47, Pay.p54, Pay.p55, Pay.p59, Pay.p60, Pay.p67, Pay.p68]
  try simp only [View.readCov, View.readAt_eq_ld]
  have hc := Step.coord2 t
  have ho := Step.rowOff (grid0.coords t 2).val (by omega)
  exact Step.wr ho (Pay.p11 (Pay.p52 (Step.ldR H.k rfl) (Pay.p45 (Step.ldR H.k rfl) H.st0) H.st1) (Step.ldR H.k rfl) (Pay.p66 (Step.ldR H.k rfl) H.sl0) (Step.ldR hX ho) H.sl1) (by intro i j; exact (congrFun ((hs0_6 t).read_unread _) _).trans (hX i j))
end Case

end Attn

end
-- ==== Proof.Attn.Inv.lean ====
/- What the pipeline's outputs and scratch hold after each grid point: the contributions of the blocks treated so far. -/
module

public import proofs.«01_k».proof.Proof.Attn.Tiles
public import proofs.«01_k».proof.Proof.Attn.CaseA
public import proofs.«01_k».proof.Proof.Attn.CaseB
public import proofs.«01_k».proof.Proof.Attn.CaseC
public import proofs.«01_k».proof.Proof.Attn.CaseE
public import proofs.«01_k».proof.Proof.Attn.CaseG

@[expose] public section

noncomputable section

namespace Attn

open Finset Cert.KernelIdeal Cert.KernelIdeal.Gen Idealize.ShloMosaic Idealize.ShloMosaic.TcCoe

theorem sum_upto (f : Fin 4 → ℝ) (b : Fin 4) :
    ∑ x : Fin 4, (if x.val < b.val + 1 then f x else 0) = (∑ x : Fin 4, if x.val < b.val then f x else 0) + f b := by
  fin_cases b <;> simp [Fin.sum_univ_four]

theorem sum_next (f : Fin 4 → ℝ) (b b' k : Fin 4) :
    ∑ x : Fin 4, (if 4 * x.val + b'.val < 4 * k.val + b.val + 1 then f x else 0)
      = (∑ x : Fin 4, if 4 * x.val + b'.val < 4 * k.val + b.val then f x else 0) + if b' = b then f k else 0 := by
  have e : (if b' = b then f k else 0) = ∑ x : Fin 4, if x = k then (if b' = b then f x else 0) else 0 := by
    rw [Finset.sum_ite_eq' univ k, if_pos (mem_univ _)]
  rw [e, ← sum_add_distrib]
  refine sum_congr rfl fun x _ => ?_
  have hx := x.isLt; have hk := k.isLt; have hb := b.isLt; have hb' := b'.isLt
  by_cases h : x = k
  · subst h
    rw [if_pos rfl]
    by_cases h' : b' = b
    · subst h'
      rw [if_pos (by omega), if_neg (by omega), if_pos rfl, zero_add]
    · have : b'.val ≠ b.val := fun e => h' (Fin.ext e)
      rw [if_neg h', add_zero]
      by_cases h2 : 4 * x.val + b'.val < 4 * x.val + b.val
      · rw [if_pos h2, if_pos (by omega)]
      · rw [if_neg h2, if_neg (by omega)]
  · have : x.val ≠ k.val := fun e => h (Fin.ext e)
    rw [if_neg h, add_zero]
    by_cases h2 : 4 * x.val + b'.val < 4 * k.val + b.val
    · rw [if_pos h2, if_pos (by omega)]
    · rw [if_neg h2, if_neg (by omega)]

namespace Data

variable (D : Data) (p k : Fin 4)

/-- The first `n` blocks of queries' part of the gradients of block `k` of keys and of values. -/
def sK (n : ℕ) (s : Fin 1024) (l : Fin 256) : ℝ := ∑ b : Fin 4, if b.val < n then D.cK p b k (lh l) s l else 0
def sV (n : ℕ) (s : Fin 1024) (z : Fin 128) : ℝ := ∑ b : Fin 4, if b.val < n then D.cV p b k (zh z) s z else 0

/-- The first `n` pairs of blocks' part of the gradient of the queries. -/
def sQ (n : ℕ) (i : Fin 4096) (l : Fin 256) : ℝ :=
  ∑ x : Fin 4, if 4 * x.val + i.val / 1024 < n then D.cQ p ⟨i.val / 1024, by omega⟩ x (lh l) ⟨i.val % 1024, by omega⟩ l else 0

theorem sQ_pos (n : ℕ) (b : Fin 4) (r : Fin 1024) (l : Fin 256) :
    D.sQ p n (pos b r) l = ∑ x : Fin 4, if 4 * x.val + b.val < n then D.cQ p b x (lh l) r l else 0 := by
  have e : (1024 * b.val + r.val) / 1024 = b.val := by omega
  have e' : (1024 * b.val + r.val) % 1024 = r.val := by omega
  simp only [sQ, pos, e, e']

theorem sK_succ (b : Fin 4) (s l) : D.sK p k (b.val + 1) s l = D.sK p k b.val s l + D.cK p b k (lh l) s l := sum_upto _ b
theorem sV_succ (b : Fin 4) (s z) : D.sV p k (b.val + 1) s z = D.sV p k b.val s z + D.cV p b k (zh z) s z := sum_upto _ b
theorem sQ_succ (b b' : Fin 4) (r l) : D.sQ p (4 * k.val + b.val + 1) (pos b' r) l
    = D.sQ p (4 * k.val + b.val) (pos b' r) l + if b' = b then D.cQ p b k (lh l) r l else 0 := by
  rw [sQ_pos, sQ_pos, sum_next]
  by_cases h : b' = b
  · subst h; rfl
  · rw [if_neg h, if_neg h]

theorem sK_zero (s l) : D.sK p k 0 s l = 0 := sum_eq_zero fun b _ => if_neg (Nat.not_lt_zero _)
theorem sV_zero (s z) : D.sV p k 0 s z = 0 := sum_eq_zero fun b _ => if_neg (Nat.not_lt_zero _)
theorem sQ_zero (i l) : D.sQ p 0 i l = 0 := sum_eq_zero fun b _ => if_neg (Nat.not_lt_zero _)

/-- Every position is a row of a block. -/
theorem sQ_ext {n : ℕ} {X : Fin 4096 → Fin 256 → ℝ} (h : ∀ b r l, X (pos b r) l = D.sQ p n (pos b r) l) : X = D.sQ p n := by
  funext i l
  have e : i = pos ⟨i.val / 1024, by omega⟩ ⟨i.val % 1024, by omega⟩ := Fin.ext (by show i.val = 1024 * (i.val / 1024) + i.val % 1024; omega)
  rw [e]; exact h _ _ _

end Data

section

variable (D : Data) (m : (ℓ : Loc nD τ sig) → Buf (Elt Ideal) ℓ) (c : Dev nD)

/-- What the outputs and the scratch hold after point `t`. -/
structure After (t : Fin cfg0.N) : Prop where
  dq : IsR (outsAt0 m c t.val t.isLt).1 (D.sQ (pt t) (t.val % 16 + 1))
  dks : t.val % 4 ≠ 3 → IsR (outsAt0 m c t.val t.isLt).2.2.2.1 (D.sK (pt t) (ki t) (t.val % 4 + 1))
  dvs : t.val % 4 ≠ 3 → IsR (outsAt0 m c t.val t.isLt).2.2.2.2 (D.sV (pt t) (ki t) (t.val % 4 + 1))
  dk : t.val % 4 = 3 → IsR (outsAt0 m c t.val t.isLt).2.1 (D.sK (pt t) (ki t) 4)
  dv : t.val % 4 = 3 → IsR (outsAt0 m c t.val t.isLt).2.2.1 (D.sV (pt t) (ki t) 4)

end

section

variable {D : Data} {m : (ℓ : Loc nD τ sig) → Buf (Elt Ideal) ℓ} {c : Dev nD}

theorem IsR.to {n k : ℕ} {x : (⟨2, ![n, k]⟩ : Shape).Idx → EReal} {f g : Fin n → Fin k → ℝ} (h : IsR x f) (e : f = g) : IsR x g := e ▸ h

section Before

variable {t t' : Fin cfg0.N} (ht : t'.val + 1 = t.val) (A : After D m c t')
include ht A

theorem Before.dq (h : t.val % 16 ≠ 0) : IsR (outsAt0 m c t'.val t'.isLt).1 (D.sQ (pt t) (t.val % 16)) := by
  have e : pt t' = pt t := Fin.ext (by show t'.val / 16 = t.val / 16; omega)
  have e' : t'.val % 16 + 1 = t.val % 16 := by omega
  have := A.dq
  rw [e, e'] at this; exact this

theorem Before.dks (h : t.val % 4 ≠ 0) : IsR (outsAt0 m c t'.val t'.isLt).2.2.2.1 (D.sK (pt t) (ki t) (t.val % 4)) := by
  have e : pt t' = pt t := Fin.ext (by show t'.val / 16 = t.val / 16; omega)
  have e1 : ki t' = ki t := Fin.ext (by show t'.val / 4 % 4 = t.val / 4 % 4; omega)
  have e' : t'.val % 4 + 1 = t.val % 4 := by omega
  have := A.dks (by omega)
  rw [e, e1, e'] at this; exact this

theorem Before.dvs (h : t.val % 4 ≠ 0) : IsR (outsAt0 m c t'.val t'.isLt).2.2.2.2 (D.sV (pt t) (ki t) (t.val % 4)) := by
  have e : pt t' = pt t := Fin.ext (by show t'.val / 16 = t.val / 16; omega)
  have e1 : ki t' = ki t := Fin.ext (by show t'.val / 4 % 4 = t.val / 4 % 4; omega)
  have e' : t'.val % 4 + 1 = t.val % 4 := by omega
  have := A.dvs (by omega)
  rw [e, e1, e'] at this; exact this

end Before

/-- The sums at a point whose blocks are a pair on the diagonal, from those before it. -/
theorem toK (t : Fin cfg0.N) {f : Fin 1024 → Fin 256 → ℝ} (h : ∀ s l, f s l = D.sK (pt t) (ki t) (t.val % 4) s l + D.cK (pt t) (qi t) (ki t) (Data.lh l) s l) :
    f = D.sK (pt t) (ki t) (t.val % 4 + 1) := by
  funext s l
  rw [h]; exact (D.sK_succ (pt t) (ki t) (qi t) s l).symm

theorem toV (t : Fin cfg0.N) {f : Fin 1024 → Fin 128 → ℝ} (h : ∀ s l, f s l = D.sV (pt t) (ki t) (t.val % 4) s l + D.cV (pt t) (qi t) (ki t) (Data.zh l) s l) :
    f = D.sV (pt t) (ki t) (t.val % 4 + 1) := by
  funext s l
  rw [h]; exact (D.sV_succ (pt t) (ki t) (qi t) s l).symm

theorem toQ (t : Fin cfg0.N) {f : Fin 4096 → Fin 256 → ℝ} (h : ∀ b r l, f (pos b r) l = D.sQ (pt t) (t.val % 16) (pos b r) l
      + if b = qi t then D.cQ (pt t) (qi t) (ki t) (Data.lh l) r l else 0) :
    f = D.sQ (pt t) (t.val % 16 + 1) := by
  refine D.sQ_ext (pt t) fun b r l => ?_
  rw [h]
  have := D.sQ_succ (pt t) (ki t) (qi t) b r l
  rw [show 4 * (ki t).val + (qi t).val = t.val % 16 from by show 4 * (t.val / 4 % 4) + t.val % 4 = t.val % 16; omega] at this
  exact this.symm

variable (H : Host.Holds D (m (c.tc.loc main_arg0)) (m (c.tc.loc main_arg1)) (m (c.tc.loc main_arg2)) (m (c.tc.loc main_arg3)))

/-- The blocks of a point on the diagonal. -/
theorem atDiag (t : Fin cfg0.N) (h : t.val / 4 % 4 = t.val % 4)
    (H : AtPt m c t (D.bq (pt t) (qi t)) (D.bk (pt t) (ki t)) (D.bv (pt t) (ki t)) (D.bg (pt t) (qi t)) (D.bz (pt t) (qi t)) (D.be (pt t) (qi t))) :
    ki t = qi t ∧ AtPt m c t (D.bq (pt t) (qi t)) (D.bk (pt t) (qi t)) (D.bv (pt t) (qi t)) (D.bg (pt t) (qi t)) (D.bz (pt t) (qi t)) (D.be (pt t) (qi t)) := by
  have e : ki t = qi t := Fin.ext h
  rw [e] at H
  exact ⟨e, H⟩

include H

/-- One point. -/
theorem after_step (t : Fin cfg0.N) (hp : t.val % 16 ≠ 0 → ∀ h : t.val - 1 < cfg0.N, After D m c ⟨t.val - 1, h⟩) : After D m c t := by
  have hlt : t.val - 1 < cfg0.N := Nat.lt_of_le_of_lt (Nat.sub_le _ _) t.isLt
  have eo : 1024 * (grid0.coords t 2).val = 1024 * (qi t).val := congrArg (1024 * ·) (Step.coord2 t)
  by_cases h0 : t.val % 16 = 0
  · -- the first point of a pair of heads
    have h1 : t.val % 4 = 0 := by omega
    have h3 : t.val / 4 % 4 = t.val % 4 := by omega
    have h2 : ¬t.val / 4 % 4 + 1 ≤ t.val % 4 := by omega
    have h4 : ¬t.val % 4 = 3 := by omega
    obtain ⟨ek, B⟩ := atDiag t h3 (atPt H t h3.le)
    refine ⟨(Case.A_dq m c t h0 h1 h2 h3 h4 B).to (toQ t fun b r l => ?_), fun _ => (Case.A_dks m c t h0 h1 h2 h3 h4 B).to (toK t fun s l => ?_),
      fun _ => (Case.A_dvs m c t h0 h1 h2 h3 h4 B).to (toV t fun s l => ?_), fun h => absurd h h4, fun h => absurd h h4⟩
    · rw [eo, D.dqD_eq, h0, D.sQ_zero, ek]
    · rw [D.dkD_eq, h1, D.sK_zero, ek]
    · rw [D.dvD_eq, h1, D.sV_zero, ek]
  · have A := hp h0 hlt
    have et : (⟨t.val - 1, hlt⟩ : Fin cfg0.N).val + 1 = t.val := by show t.val - 1 + 1 = t.val; omega
    have Xq := Before.dq et A h0
    by_cases h1 : t.val % 4 = 0
    · -- the first point of a block of keys
      have h2 : ¬t.val / 4 % 4 + 1 ≤ t.val % 4 := by omega
      have h3 : ¬t.val / 4 % 4 = t.val % 4 := by omega
      have h4 : ¬t.val % 4 = 3 := by omega
      have hlt : qi t < ki t := by show t.val % 4 < t.val / 4 % 4; omega
      refine ⟨(Case.D_dq m c t h0 h1 h2 h3 h4 Xq).to (toQ t fun b r l => ?_), fun _ => (Case.D_dks m c t h0 h1 h2 h3 h4).to (toK t fun s l => ?_),
        fun _ => (Case.D_dvs m c t h0 h1 h2 h3 h4).to (toV t fun s l => ?_), fun h => absurd h h4, fun h => absurd h h4⟩
      · rw [D.cQ_above _ _ _ _ hlt, ite_self, add_zero]
      · rw [D.cK_above _ _ _ _ hlt, h1, D.sK_zero, add_zero]
      · rw [D.cV_above _ _ _ _ hlt, h1, D.sV_zero, add_zero]
    · have Xk := Before.dks et A h1
      have Xv := Before.dvs et A h1
      by_cases h2 : t.val / 4 % 4 + 1 ≤ t.val % 4
      · have h3 : ¬t.val / 4 % 4 = t.val % 4 := by omega
        have B := atPt H t (by omega)
        have hlt : ki t < qi t := by show t.val / 4 % 4 < t.val % 4; omega
        by_cases h4 : t.val % 4 = 3
        · have e4 : 4 = t.val % 4 + 1 := by omega
          refine ⟨(Case.C_dq m c t h0 h1 h2 h3 h4 B Xq).to (toQ t fun b r l => ?_), fun h => absurd h4 h, fun h => absurd h4 h,
            fun _ => (Case.C_dk m c t h0 h1 h2 h3 h4 B Xk).to ((toK t fun s l => ?_).trans (by rw [← e4])),
            fun _ => (Case.C_dv m c t h0 h1 h2 h3 h4 B Xv).to ((toV t fun s l => ?_).trans (by rw [← e4]))⟩
          · rw [eo, D.dqF_eq _ _ _ hlt]
          · rw [D.dkF_eq _ _ _ hlt]
          · rw [D.dvF_eq _ _ _ hlt]
        · refine ⟨(Case.B_dq m c t h0 h1 h2 h3 h4 B Xq).to (toQ t fun b r l => ?_),
            fun _ => (Case.B_dks m c t h0 h1 h2 h3 h4 B Xk).to (toK t fun s l => ?_),
            fun _ => (Case.B_dvs m c t h0 h1 h2 h3 h4 B Xv).to (toV t fun s l => ?_), fun h => absurd h h4, fun h => absurd h h4⟩
          · rw [eo, D.dqF_eq _ _ _ hlt]
          · rw [D.dkF_eq _ _ _ hlt]
          · rw [D.dvF_eq _ _ _ hlt]
      · by_cases h3 : t.val / 4 % 4 = t.val % 4
        · obtain ⟨ek, B⟩ := atDiag t h3 (atPt H t h3.le)
          by_cases h4 : t.val % 4 = 3
          · have e4 : 4 = t.val % 4 + 1 := by omega
            refine ⟨(Case.G_dq m c t h0 h1 h2 h3 h4 B Xq).to (toQ t fun b r l => ?_), fun h => absurd h4 h, fun h => absurd h4 h,
              fun _ => (Case.G_dk m c t h0 h1 h2 h3 h4 B Xk).to ((toK t fun s l => ?_).trans (by rw [← e4])),
              fun _ => (Case.G_dv m c t h0 h1 h2 h3 h4 B Xv).to ((toV t fun s l => ?_).trans (by rw [← e4]))⟩
            · rw [eo, D.dqD_eq, ek]
            · rw [D.dkD_eq, ek]
            · rw [D.dvD_eq, ek]
          · refine ⟨(Case.E_dq m c t h0 h1 h2 h3 h4 B Xq).to (toQ t fun b r l => ?_),
              fun _ => (Case.E_dks m c t h0 h1 h2 h3 h4 B Xk).to (toK t fun s l => ?_),
              fun _ => (Case.E_dvs m c t h0 h1 h2 h3 h4 B Xv).to (toV t fun s l => ?_), fun h => absurd h h4, fun h => absurd h h4⟩
            · rw [eo, D.dqD_eq, ek]
            · rw [D.dkD_eq, ek]
            · rw [D.dvD_eq, ek]
        · have h4 : ¬t.val % 4 = 3 := by omega
          have hlt : qi t < ki t := by show t.val % 4 < t.val / 4 % 4; omega
          refine ⟨(Case.F_dq m c t h0 h1 h2 h3 h4 Xq).to (toQ t fun b r l => ?_), fun _ => (Case.F_dks m c t h0 h1 h2 h3 h4 Xk).to (toK t fun s l => ?_),
            fun _ => (Case.F_dvs m c t h0 h1 h2 h3 h4 Xv).to (toV t fun s l => ?_), fun h => absurd h h4, fun h => absurd h h4⟩
          · rw [D.cQ_above _ _ _ _ hlt, ite_self, add_zero]
          · rw [D.cK_above _ _ _ _ hlt, add_zero]
          · rw [D.cV_above _ _ _ _ hlt, add_zero]

/-- Every point. -/
theorem after_all : ∀ (n : ℕ) (hn : n < cfg0.N), After D m c ⟨n, hn⟩
  | 0, hn => after_step H ⟨0, hn⟩ fun h => absurd (Nat.zero_mod _) h
  | n + 1, hn => after_step H ⟨n + 1, hn⟩ fun _ h => after_all n h

end

end Attn

end
-- ==== Proof.Attn.Final.lean ====
/- The three arrays the kernel leaves, and its whole run. -/
module

public import proofs.«01_k».proof.Proof.Attn.Inv
public import Idealize.ShloMosaic.Lib.Pipeline.Value

@[expose] public section

set_option maxRecDepth 16384

noncomputable section

namespace Attn

open Finset Cert.KernelIdeal Cert.KernelIdeal.Gen Idealize.ShloMosaic Idealize.ShloMosaic.TcCoe Idealize.SL.Sem

namespace Data

variable (D : Data)

/-- The packed gradients: eight heads of 128 lanes of which 96 are used, and eight heads of 64. -/
def pq (i : Fin 4096) (l : Fin 1024) : ℝ := if hl : l.val % 128 < 96 then D.gq i ⟨l.val / 128, by omega⟩ ⟨l.val % 128, hl⟩ else 0
def pk (i : Fin 4096) (l : Fin 1024) : ℝ := if hl : l.val % 128 < 96 then D.gk i ⟨l.val / 128, by omega⟩ ⟨l.val % 128, hl⟩ else 0
def pv (i : Fin 4096) (l : Fin 512) : ℝ := D.gv i ⟨l.val / 64, by omega⟩ ⟨l.val % 64, by omega⟩

variable (p : Fin 4)

theorem sQ_all (b : Fin 4) (r : Fin 1024) (l : Fin 256) : D.sQ p 16 (pos b r) l = D.pq (pos b r) ⟨256 * p.val + l.val, by omega⟩ := by
  have e : (⟨(256 * p.val + l.val) / 128, by omega⟩ : Fin 8) = hd p (lh l) :=
    Fin.ext (by show (256 * p.val + l.val) / 128 = 2 * p.val + l.val / 128; omega)
  have h2 : Real.log 2 ≠ 0 := Host.log_two_ne
  rw [sQ_pos, pq]
  rw [show (∑ x : Fin 4, if 4 * x.val + b.val < 16 then D.cQ p b x (lh l) r l else 0) = ∑ x : Fin 4, D.cQ p b x (lh l) r l from
    sum_congr rfl fun x _ => if_pos (by omega)]
  simp only [cQ, bk, kl, ← sum_mul, e]
  split
  · rw [gq, sum_blocks, sum_mul]
    refine sum_congr rfl fun x _ => ?_
    rw [sum_mul]
    refine sum_congr rfl fun s _ => ?_
    field_simp
  · simp

theorem sK_all (k : Fin 4) (s : Fin 1024) (l : Fin 256) : D.sK p k 4 s l = D.pk (pos k s) ⟨256 * p.val + l.val, by omega⟩ := by
  have e : (⟨(256 * p.val + l.val) / 128, by omega⟩ : Fin 8) = hd p (lh l) :=
    Fin.ext (by show (256 * p.val + l.val) / 128 = 2 * p.val + l.val / 128; omega)
  have h2 : Real.log 2 ≠ 0 := Host.log_two_ne
  rw [sK, pk]
  rw [show (∑ b : Fin 4, if b.val < 4 then D.cK p b k (lh l) s l else 0) = ∑ b : Fin 4, D.cK p b k (lh l) s l from
    sum_congr rfl fun b _ => if_pos b.isLt]
  simp only [cK, bq, ql, e]
  split
  · rw [gk, sum_blocks]
    refine sum_congr rfl fun x _ => sum_congr rfl fun r _ => ?_
    field_simp
  · simp

theorem sV_all (k : Fin 4) (s : Fin 1024) (z : Fin 128) : D.sV p k 4 s z = D.pv (pos k s) ⟨128 * p.val + z.val, by omega⟩ := by
  have e : (⟨(128 * p.val + z.val) / 64, by omega⟩ : Fin 8) = hd p (zh z) :=
    Fin.ext (by show (128 * p.val + z.val) / 64 = 2 * p.val + z.val / 64; omega)
  rw [sV, pv]
  rw [show (∑ b : Fin 4, if b.val < 4 then D.cV p b k (zh z) s z else 0) = ∑ b : Fin 4, D.cV p b k (zh z) s z from
    sum_congr rfl fun b _ => if_pos b.isLt]
  simp only [cV, bg, gl, e]
  rw [gv, sum_blocks]

end Data

/-- The three arrays. -/
def arrQ (D : Data) : S4096x1024.Idx → EReal := fun i => ((D.pq (i 0) (i 1) : ℝ) : EReal)
def arrK (D : Data) : S4096x1024.Idx → EReal := fun i => ((D.pk (i 0) (i 1) : ℝ) : EReal)
def arrV (D : Data) : S4096x512.Idx → EReal := fun i => ((D.pv (i 0) (i 1) : ℝ) : EReal)

theorem at6 : ∀ t : Fin cfg0.N, win0_6.index t (0 : Fin 2) = 0 ∧ win0_6.index t (1 : Fin 2) = t.val / 16 :=
  (by decide +kernel : ∀ t : Fin grid0.N, _)
theorem at7 : ∀ t : Fin cfg0.N, win0_7.index t (0 : Fin 2) = t.val / 4 % 4 ∧ win0_7.index t (1 : Fin 2) = t.val / 16 :=
  (by decide +kernel : ∀ t : Fin grid0.N, _)
theorem at8 : ∀ t : Fin cfg0.N, win0_8.index t (0 : Fin 2) = t.val / 4 % 4 ∧ win0_8.index t (1 : Fin 2) = t.val / 16 :=
  (by decide +kernel : ∀ t : Fin grid0.N, _)

section

variable {D : Data} {m : (ℓ : Loc nD τ sig) → Buf (Elt Ideal) ℓ} {c : Dev nD}
  (H : Host.Holds D (m (c.tc.loc main_arg0)) (m (c.tc.loc main_arg1)) (m (c.tc.loc main_arg2)) (m (c.tc.loc main_arg3)))
include H

theorem back6 (t : Fin cfg0.N) (hf : (cfg0.win 6).flush t = true) :
    (dats m 0 c).flushed 6 t = ((cfg0.win 6).blk t).view.read (Elt Ideal) (arrQ D) := by
  have hm : t.val % 16 = 15 := (flush0_6 t).mp hf
  have hN : t.val < 64 := lt_of_lt_of_eq t.isLt N_0
  obtain ⟨e0, e1⟩ := at6 t
  have A := (after_all H t.val t.isLt).dq
  show (cfg0.win 6).cut (grid0.coords t) ((dats m 0 c).after 6 t) = _
  rw [after0_6]
  funext y
  have hy0 : (y 0).val < 4096 := (y 0).isLt
  have hy1 : (y 1).val < 256 := (y 1).isLt
  have hb0 : (((cfg0.win 6).blk t).view.emb y 0).val = win0_6.index t (0 : Fin 2) * 4096 + 1 * (y 0).val := rfl
  have hb1 : (((cfg0.win 6).blk t).view.emb y 1).val = win0_6.index t (1 : Fin 2) * 256 + 1 * (y 1).val := rfl
  have ex : (cfg0.win 6).xinj (grid0.coords t) y = ix2 (pos ⟨(y 0).val / 1024, by omega⟩ ⟨(y 0).val % 1024, by omega⟩) (⟨(y 1).val, hy1⟩ : Fin 256) := by
    funext a; apply Fin.ext
    match a with
    | ⟨0, _⟩ => show (y 0).val = 1024 * ((y 0).val / 1024) + (y 0).val % 1024; omega
    | ⟨1, _⟩ => rfl
  show (outsAt0 m c t.val t.isLt).1 ((cfg0.win 6).xinj (grid0.coords t) y) = arrQ D (((cfg0.win 6).blk t).view.emb y)
  rw [ex, A, hm, D.sQ_all, arrQ]
  congr 2 <;> apply Fin.ext
  · show 1024 * ((y 0).val / 1024) + (y 0).val % 1024 = (((cfg0.win 6).blk t).view.emb y 0).val; rw [hb0]; omega
  · show 256 * (t.val / 16) + (y 1).val = (((cfg0.win 6).blk t).view.emb y 1).val; rw [hb1]; omega

theorem back7 (t : Fin cfg0.N) (hf : (cfg0.win 7).flush t = true) :
    (dats m 0 c).flushed 7 t = ((cfg0.win 7).blk t).view.read (Elt Ideal) (arrK D) := by
  have hm : t.val % 4 = 3 := (flush0_7 t).mp hf
  have hN : t.val < 64 := lt_of_lt_of_eq t.isLt N_0
  obtain ⟨e0, e1⟩ := at7 t
  have A := (after_all H t.val t.isLt).dk hm
  show (cfg0.win 7).cut (grid0.coords t) ((dats m 0 c).after 7 t) = _
  rw [after0_7]
  funext y
  have hy0 : (y 0).val < 1024 := (y 0).isLt
  have hy1 : (y 1).val < 256 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 256 + 1 * (y 1).val := rfl
  have ex : (cfg0.win 7).xinj (grid0.coords t) y = ix2 (⟨(y 0).val, hy0⟩ : Fin 1024) (⟨(y 1).val, hy1⟩ : Fin 256) := by
    funext a; apply Fin.ext
    match a with
    | ⟨0, _⟩ => rfl
    | ⟨1, _⟩ => rfl
  show (outsAt0 m c t.val t.isLt).2.1 ((cfg0.win 7).xinj (grid0.coords t) y) = arrK D (((cfg0.win 7).blk t).view.emb y)
  rw [ex, A, D.sK_all, arrK]
  congr 2 <;> apply Fin.ext
  · show 1024 * (t.val / 4 % 4) + (y 0).val = (((cfg0.win 7).blk t).view.emb y 0).val; rw [hb0]; omega
  · show 256 * (t.val / 16) + (y 1).val = (((cfg0.win 7).blk t).view.emb y 1).val; rw [hb1]; omega

theorem back8 (t : Fin cfg0.N) (hf : (cfg0.win 8).flush t = true) :
    (dats m 0 c).flushed 8 t = ((cfg0.win 8).blk t).view.read (Elt Ideal) (arrV D) := by
  have hm : t.val % 4 = 3 := (flush0_8 t).mp hf
  have hN : t.val < 64 := lt_of_lt_of_eq t.isLt N_0
  obtain ⟨e0, e1⟩ := at8 t
  have A := (after_all H t.val t.isLt).dv hm
  show (cfg0.win 8).cut (grid0.coords t) ((dats m 0 c).after 8 t) = _
  rw [after0_8]
  funext y
  have hy0 : (y 0).val < 1024 := (y 0).isLt
  have hy1 : (y 1).val < 128 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 128 + 1 * (y 1).val := rfl
  have ex : (cfg0.win 8).xinj (grid0.coords t) y = ix2 (⟨(y 0).val, hy0⟩ : Fin 1024) (⟨(y 1).val, hy1⟩ : Fin 128) := by
    funext a; apply Fin.ext
    match a with
    | ⟨0, _⟩ => rfl
    | ⟨1, _⟩ => rfl
  show (outsAt0 m c t.val t.isLt).2.2.1 ((cfg0.win 8).xinj (grid0.coords t) y) = arrV D (((cfg0.win 8).blk t).view.emb y)
  rw [ex, A, D.sV_all, arrV]
  congr 2 <;> apply Fin.ext
  · show 1024 * (t.val / 4 % 4) + (y 0).val = (((cfg0.win 8).blk t).view.emb y 0).val; rw [hb0]; omega
  · show 128 * (t.val / 16) + (y 1).val = (((cfg0.win 8).blk t).view.emb y 1).val; rw [hb1]; omega

omit H

theorem mem6 (t : Fin cfg0.N) (i : S4096x1024.Idx) :
    i ∈ ((cfg0.win 6).blk t).view.set ↔ ∀ a : Fin 2, win0_6.index t a * S4096x256.size a ≤ (i a).val ∧ (i a).val < win0_6.index t a * S4096x256.size a + S4096x256.size a := by
  show i ∈ ((View.whole main_v52_0).slice (win0_6.rect t)).set ↔ _
  rw [View.set_slice_whole, Rect.mem_set_unit]
  exact Iff.rfl
theorem mem7 (t : Fin cfg0.N) (i : S4096x1024.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v52_1).slice (win0_7.rect t)).set ↔ _
  rw [View.set_slice_whole, Rect.mem_set_unit]
  exact Iff.rfl
theorem mem8 (t : Fin cfg0.N) (i : S4096x512.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v52_2).slice (win0_8.rect t)).set ↔ _
  rw [View.set_slice_whole, Rect.mem_set_unit]
  exact Iff.rfl

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : 16 * ((i 1).val / 256) + 15 < cfg0.N := lt_of_lt_of_eq (show _ < 64 by omega) N_0.symm
  refine ⟨⟨16 * ((i 1).val / 256) + 15, ht⟩, (flush0_6 _).mpr (by show (16 * ((i 1).val / 256) + 15) % 16 = 15; omega), ?_⟩
  have e0 : win0_6.index ⟨16 * ((i 1).val / 256) + 15, ht⟩ (0 : Fin 2) = 0 := (at6 _).1
  have e1 : win0_6.index ⟨16 * ((i 1).val / 256) + 15, ht⟩ (1 : Fin 2) = (16 * ((i 1).val / 256) + 15) / 16 := (at6 _).2
  rw [mem6]
  intro a
  match a with
  | ⟨0, _⟩ => show win0_6.index _ (0 : Fin 2) * 4096 ≤ (i 0).val ∧ (i 0).val < win0_6.index _ (0 : Fin 2) * 4096 + 4096; rw [e0]; omega
  | ⟨1, _⟩ => show win0_6.index _ (1 : Fin 2) * 256 ≤ (i 1).val ∧ (i 1).val < win0_6.index _ (1 : Fin 2) * 256 + 256; rw [e1]; omega

theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have ht : 16 * ((i 1).val / 256) + 4 * ((i 0).val / 1024) + 3 < cfg0.N := lt_of_lt_of_eq (show _ < 64 by omega) N_0.symm
  refine ⟨⟨16 * ((i 1).val / 256) + 4 * ((i 0).val / 1024) + 3, ht⟩, (flush0_7 _).mpr (by show (16 * ((i 1).val / 256) + 4 * ((i 0).val / 1024) + 3) % 4 = 3; omega), ?_⟩
  have e0 : win0_7.index ⟨16 * ((i 1).val / 256) + 4 * ((i 0).val / 1024) + 3, ht⟩ (0 : Fin 2) = (16 * ((i 1).val / 256) + 4 * ((i 0).val / 1024) + 3) / 4 % 4 := (at7 _).1
  have e1 : win0_7.index ⟨16 * ((i 1).val / 256) + 4 * ((i 0).val / 1024) + 3, ht⟩ (1 : Fin 2) = (16 * ((i 1).val / 256) + 4 * ((i 0).val / 1024) + 3) / 16 := (at7 _).2
  rw [mem7]
  intro a
  match a with
  | ⟨0, _⟩ => show win0_7.index _ (0 : Fin 2) * 1024 ≤ (i 0).val ∧ (i 0).val < win0_7.index _ (0 : Fin 2) * 1024 + 1024; rw [e0]; omega
  | ⟨1, _⟩ => show win0_7.index _ (1 : Fin 2) * 256 ≤ (i 1).val ∧ (i 1).val < win0_7.index _ (1 : Fin 2) * 256 + 256; rw [e1]; omega

theorem cover8 (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  have ht : 16 * ((i 1).val / 128) + 4 * ((i 0).val / 1024) + 3 < cfg0.N := lt_of_lt_of_eq (show _ < 64 by omega) N_0.symm
  refine ⟨⟨16 * ((i 1).val / 128) + 4 * ((i 0).val / 1024) + 3, ht⟩, (flush0_8 _).mpr (by show (16 * ((i 1).val / 128) + 4 * ((i 0).val / 1024) + 3) % 4 = 3; omega), ?_⟩
  have e0 : win0_8.index ⟨16 * ((i 1).val / 128) + 4 * ((i 0).val / 1024) + 3, ht⟩ (0 : Fin 2) = (16 * ((i 1).val / 128) + 4 * ((i 0).val / 1024) + 3) / 4 % 4 := (at8 _).1
  have e1 : win0_8.index ⟨16 * ((i 1).val / 128) + 4 * ((i 0).val / 1024) + 3, ht⟩ (1 : Fin 2) = (16 * ((i 1).val / 128) + 4 * ((i 0).val / 1024) + 3) / 16 := (at8 _).2
  rw [mem8]
  intro a
  match a with
  | ⟨0, _⟩ => show win0_8.index _ (0 : Fin 2) * 1024 ≤ (i 0).val ∧ (i 0).val < win0_8.index _ (0 : Fin 2) * 1024 + 1024; rw [e0]; omega
  | ⟨1, _⟩ => show win0_8.index _ (1 : Fin 2) * 128 ≤ (i 1).val ∧ (i 1).val < win0_8.index _ (1 : Fin 2) * 128 + 128; rw [e1]; omega

end

/-- The kernel's run: the three arrays, and the arguments as launched. -/
theorem run {D : Dev nD → Data} {m : (ℓ : Loc nD τ sig) → Buf (Elt Ideal) ℓ} (ρ : Dev nD → PrngReg)
    (H : ∀ c : Dev nD, Host.Holds (D c) (m (c.tc.loc main_arg0)) (m (c.tc.loc main_arg1)) (m (c.tc.loc main_arg2)) (m (c.tc.loc main_arg3))) :
    θ_run defs (onTc (τ := τ) (main (F := Ideal))) ⟨m, fun _ => 0, ρ⟩ fun r => ∀ c : Dev nD,
      r.2.mem ((c : Thread nD τ).loc main_v52_0) = arrQ (D c) ∧ r.2.mem ((c : Thread nD τ).loc main_v52_1) = arrK (D c)
      ∧ r.2.mem ((c : Thread nD τ).loc main_v52_2) = arrV (D c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).1 6).trans ((dats m 0 c).arrAt_eq_of_cover 6 _ (back6 (H c)) cover6),
     ((h c).1 7).trans ((dats m 0 c).arrAt_eq_of_cover 7 _ (back7 (H c)) cover7),
     ((h c).1 8).trans ((dats m 0 c).arrAt_eq_of_cover 8 _ (back8 (H c)) cover8),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩)
    (run_main m ρ)

end Attn

end
-- ==== Proof.Attn.Ref.lean ====
/- The reference's results read to the formulas of Real.lean: one theorem per value of the program that matters, each
   saying what the value is at an index where the four arguments hold real numbers. -/
module

public import proofs.«01_k».proof.Proof.Attn.Words
public import proofs.«01_k».proof.Proof.Gen.ReferenceIdeal.Read

@[expose] public section

set_option maxRecDepth 16384

noncomputable section

namespace Attn.Ref

open Cert.ReferenceIdeal Cert.ReferenceIdeal.Gen Cert.ReferenceIdeal.Read Idealize.ShloMosaic Idealize.ShloMosaic.TcCoe

abbrev A96 := (⟨S4096x8x96, .f32⟩ : BufTy).Contents (Elt Ideal)
abbrev A64 := (⟨S4096x8x64, .f32⟩ : BufTy).Contents (Elt Ideal)

/-- The four arrays hold the real numbers of `D`. -/
structure Holds (D : Data) (x0 x1 : A96) (x2 x3 : A64) : Prop where
  q : ∀ i h d, x0 (ix3 i h d) = ((D.q i h d : ℝ) : EReal)
  k : ∀ i h d, x1 (ix3 i h d) = ((D.k i h d : ℝ) : EReal)
  v : ∀ i h d, x2 (ix3 i h d) = ((D.v i h d : ℝ) : EReal)
  g : ∀ i h d, x3 (ix3 i h d) = ((D.g i h d : ℝ) : EReal)

theorem v10_fold (x0 x1 : A96) (h : Fin 8) (i : Fin 4096) : val_main_v10 (F := Ideal) x0 x1 (ix2 h i)
    = (Finset.univ : Finset (Fin 4096)).fold max (⊥ : EReal) (fun j => val_main_v9_0 (F := Ideal) x0 x1 (ix3 h i j)) := by
  pointwise [val_main_v10, val_main_cst_1]
  generalize val_main_v9_0 (F := Ideal) x0 x1 = f
  rw [ofBits_bot]

theorem v28_at (x0 x1 : A96) (h : Fin 8) (i j : Fin 4096) :
    val_main_v28 (F := Ideal) x0 x1 (ix3 h i j) = val_main_v17 (F := Ideal) x0 x1 (ix2 h i) := by
  unfold val_main_v28 val_main_v27
  generalize val_main_v17 (F := Ideal) x0 x1 = y
  pointwise

theorem max_bot (z : EReal) : max (Ideal.ofBits .f32 0xFF800000#32) z = z := by rw [ofBits_bot]; exact max_eq_right bot_le

theorem max_at (y : FVec Ideal S8x4096 .f32) (h : Fin 8) (i : Fin 4096) :
    maximumf (val_main_v16 (F := Ideal)) y (ix2 h i) = max (Ideal.ofBits .f32 0xFF800000#32) (y (ix2 h i)) := by
  pointwise [val_main_v16, val_main_cst_3]

theorem v17_at (x0 x1 : A96) (h : Fin 8) (i : Fin 4096) :
    val_main_v17 (F := Ideal) x0 x1 (ix2 h i) = val_main_v10 (F := Ideal) x0 x1 (ix2 h i) := by
  unfold val_main_v17
  exact (max_at _ h i).trans (max_bot _)

theorem v30_at (x0 x1 : A96) (h : Fin 8) (i j : Fin 4096) : val_main_v30 (F := Ideal) x0 x1 (ix3 h i j)
    = Ideal.exp (val_main_v9_0 (F := Ideal) x0 x1 (ix3 h i j) - val_main_v28 (F := Ideal) x0 x1 (ix3 h i j)) := by
  unfold val_main_v30 val_main_v29
  generalize val_main_v9_0 (F := Ideal) x0 x1 = f
  generalize val_main_v28 (F := Ideal) x0 x1 = g
  pointwise

variable {D : Data} {x0 x1 : A96} {x2 x3 : A64} (H : Holds D x0 x1 x2 x3)
include H

theorem v0 (h : Fin 8) (i j : Fin 4096) : val_main_v0 (F := Ideal) x0 x1 (ix3 h i j) = ((D.score h i j : ℝ) : EReal) := by
  pointwise [val_main_v0]
  simp only [H.q, H.k, Data.score, coe_sum, EReal.coe_mul]

/-- The masked, scaled scores. -/
theorem v9 (h : Fin 8) (i j : Fin 4096) :
    val_main_v9_0 (F := Ideal) x0 x1 (ix3 h i j) = if j ≤ i then ((D.score h i j * scale : ℝ) : EReal) else ⊥ := by
  pointwise [val_main_v9_0, val_main_v9_1, val_main_v2, val_main_call0_v2, val_main_call0_v0, val_main_cst_0, val_main_v8,
    val_main_v6, val_main_v7, val_main_v1, val_main_cst, val_main_v4, val_main_v5, val_main_v3]
  rw [select_le j.isLt i.isLt, v0 H, ofBits_scale, EReal.coe_mul]
  rw [show id (constant (F := Ideal) S_ .f32 0xFF800000#32) ix0 = (⊥ : EReal) from ofBits_bot]
  rfl

theorem v10 (h : Fin 8) (i : Fin 4096) : val_main_v10 (F := Ideal) x0 x1 (ix2 h i) = ((D.top h i : ℝ) : EReal) :=
  (v10_fold x0 x1 h i).trans ((Finset.fold_congr fun j _ => v9 H h i j).trans
    (fold_max_masked (fun j => D.score h i j * scale) i))

/-- The softmax's numerator. -/
theorem v30 (h : Fin 8) (i j : Fin 4096) : val_main_v30 (F := Ideal) x0 x1 (ix3 h i j) = ((D.wt h i j : ℝ) : EReal) := by
  rw [v30_at, v28_at, v17_at, v10 H, v9 H, Data.wt]
  split
  · rw [← EReal.coe_sub]; exact Ideal.exp_coe _
  · rw [EReal.bot_sub]; exact Ideal.exp_bot

/-- The softmax's denominator. -/
theorem v32 (h : Fin 8) (i : Fin 4096) : val_main_v32 (F := Ideal) x0 x1 (ix3 h i 0) = ((D.tot h i : ℝ) : EReal) := by
  pointwise [val_main_v32, val_main_v31, val_main_cst_9]
  simp only [v30 H, sum_real]; rfl

theorem v34 (h : Fin 8) (i j : Fin 4096) : val_main_v34 (F := Ideal) x0 x1 (ix3 h i j) = ((D.prob h i j : ℝ) : EReal) := by
  pointwise [val_main_v34, val_main_v33]
  rw [v30 H, v32 H, div_real _ (D.tot_ne h i)]; rfl

/-- The probability's cotangent. -/
theorem v41 (h : Fin 8) (i j : Fin 4096) : val_main_v41 (F := Ideal) x2 x3 (ix3 h i j) = ((D.dprob h i j : ℝ) : EReal) := by
  pointwise [val_main_v41, val_main_v40]
  simp only [H.g, H.v, Data.dprob, coe_sum, EReal.coe_mul]

theorem v37 (h : Fin 8) (i : Fin 4096) :
    val_main_v37 (F := Ideal) x0 x1 (ix3 h i 0) = ((1 / (D.tot h i * D.tot h i) : ℝ) : EReal) := by
  pointwise [val_main_v37, val_main_v36, val_main_v35, val_main_cst_10]
  rw [v32 H, ← EReal.coe_mul, ← EReal.coe_one, div_real _ (mul_ne_zero (D.tot_ne h i) (D.tot_ne h i))]

theorem v47 (h : Fin 8) (i : Fin 4096) : val_main_v47 (F := Ideal) x0 x1 x2 x3 (ix2 h i)
    = ((∑ l, D.dprob h i l * (1 / (D.tot h i * D.tot h i)) * D.wt h i l : ℝ) : EReal) := by
  pointwise [val_main_v47, val_main_v46, val_main_v45, val_main_v44, val_main_cst_11]
  simp only [v41 H, v37 H, v30 H, ← EReal.coe_mul, sum_real]

/-- The score's cotangent, before the scale. -/
theorem v56 (h : Fin 8) (i j : Fin 4096) : val_main_v56 (F := Ideal) x0 x1 x2 x3 (ix3 h i j) = ((D.ds h i j : ℝ) : EReal) := by
  pointwise [val_main_v56, val_main_v9_1, val_main_v8, val_main_v6, val_main_v7, val_main_v4, val_main_v5, val_main_v3,
    val_main_v55, val_main_v54, val_main_v53, val_main_v52, val_main_v51, val_main_v50, val_main_v49, val_main_v48,
    val_main_call1_v0, val_main_call1_cst, val_main_cst_12]
  rw [select_le j.isLt i.isLt, v41 H, v32 H, v30 H, div_real _ (D.tot_ne h i)]
  simp only [v47 H, Fin.sum_univ_one, ← EReal.coe_neg, ← EReal.coe_add, ← EReal.coe_mul, Data.ds_eq]
  split
  · rfl
  · rename_i hn
    rw [D.ds_of_lt (Fin.lt_def.mpr (not_le.mp hn))]; rfl

theorem v58 (h : Fin 8) (i j : Fin 4096) :
    val_main_v58 (F := Ideal) x0 x1 x2 x3 (ix3 h i j) = ((D.ds h i j * scale : ℝ) : EReal) := by
  pointwise [val_main_v58, val_main_v57, val_main_cst_13]
  rw [v56 H, ofBits_scale, EReal.coe_mul]

/-- The gradient of the queries, the heads padded to 128 lanes side by side. -/
theorem v64 (i : Fin 4096) (l : Fin 1024) : val_main_v64 (F := Ideal) x0 x1 x2 x3 (ix2 i l)
    = if hl : l.val % 128 < 96 then ((D.gq i ⟨l.val / 128, by omega⟩ ⟨l.val % 128, hl⟩ : ℝ) : EReal) else 0 := by
  pointwise [val_main_v64, val_main_v63, val_main_v62, val_main_v61, val_main_call2_v0, val_main_c]
  have h8 : l.val / 128 < 8 := by omega
  by_cases hl : l.val % 128 < 96
  · refine (dif_pos ⟨h8, hl⟩).trans (Eq.trans ?_ (dif_pos hl).symm)
    simp only [v58 H, H.k, ← EReal.coe_mul, sum_real, Data.gq]
  · refine (dif_neg fun h => hl h.2).trans (Eq.trans ?_ (dif_neg hl).symm)
    exact sitofp_zero

theorem v66 (i : Fin 4096) (l : Fin 1024) : val_main_v66 (F := Ideal) x0 x1 x2 x3 (ix2 i l)
    = if hl : l.val % 128 < 96 then ((D.gk i ⟨l.val / 128, by omega⟩ ⟨l.val % 128, hl⟩ : ℝ) : EReal) else 0 := by
  pointwise [val_main_v66, val_main_v65, val_main_v60, val_main_v59, val_main_call3_v0, val_main_c_14]
  have h8 : l.val / 128 < 8 := by omega
  by_cases hl : l.val % 128 < 96
  · refine (dif_pos ⟨h8, hl⟩).trans (Eq.trans ?_ (dif_pos hl).symm)
    simp only [v58 H, H.q, ← EReal.coe_mul, sum_real, Data.gk]
  · refine (dif_neg fun h => hl h.2).trans (Eq.trans ?_ (dif_neg hl).symm)
    exact sitofp_zero

theorem v67 (i : Fin 4096) (l : Fin 512) : val_main_v67 (F := Ideal) x0 x1 x3 (ix2 i l)
    = ((D.gv i ⟨l.val / 64, by omega⟩ ⟨l.val % 64, by omega⟩ : ℝ) : EReal) := by
  pointwise [val_main_v67, val_main_v43, val_main_v42, val_main_v40]
  simp only [v34 H, H.g, ← EReal.coe_mul, sum_real, Data.gv]
  congr 1
  exact Finset.sum_congr rfl fun _ _ => mul_comm _ _

end Attn.Ref
end
-- ==== Proof.Attn.Finite.lean ====
/- What the precondition says: every argument is a real number. -/
module

public import proofs.«01_k».proof.Defs
public import proofs.«01_k».proof.Proof.Attn.Real
public import proofs.«01_k».proof.Proof.Attn.Words
public import Idealize.ShloMosaic.Lib.Pointwise

@[expose] public section

noncomputable section

namespace Attn

open Idealize.ShloMosaic

theorem factsFinite : Cert.Pre_finite.Facts := ⟨by decide, by decide⟩

/-- An element whose absolute value is printed as below infinity is a real number. -/
theorem real_of_abs_lt {x : EReal} (h : BitVec.ofBool (decide (FloatOps.absf (F := Ideal) (φ := .f32) x < Ideal.ofBits .f32 2139095040#32)) = 1#1) :
    ((x.toReal : ℝ) : EReal) = x := by
  have h1 : max x (-x) < (⊤ : EReal) := by
    rw [← ofBits_top]
    by_contra hc
    have e : BitVec.ofBool (decide (FloatOps.absf (F := Ideal) (φ := .f32) x < Ideal.ofBits .f32 2139095040#32)) = 0#1 := by
      rw [decide_eq_false (show ¬ (FloatOps.absf (F := Ideal) (φ := .f32) x < Ideal.ofBits .f32 2139095040#32) from hc)]
      rfl
    rw [e] at h
    exact absurd h (by decide)
  induction x with
  | bot => simp at h1
  | top => simp at h1
  | coe r => rfl

section
attribute [local instance] factsFinite

theorem fn_real {x0 x1 : FVec Ideal Cert.Pre_finite.S4096x8x96 .f32} {x2 x3 : FVec Ideal Cert.Pre_finite.S4096x8x64 .f32}
    (h : Cert.Pre_finite.fn (F := Ideal) x0 x1 x2 x3 = fun _ => 1#1) (i : Fin 4096) (a : Fin 8) :
    (∀ d : Fin 96, (((x0 (ix3 i a d) : EReal).toReal : ℝ) : EReal) = x0 (ix3 i a d))
    ∧ (∀ d : Fin 96, (((x1 (ix3 i a d) : EReal).toReal : ℝ) : EReal) = x1 (ix3 i a d))
    ∧ (∀ d : Fin 64, (((x2 (ix3 i a d) : EReal).toReal : ℝ) : EReal) = x2 (ix3 i a d))
    ∧ (∀ d : Fin 64, (((x3 (ix3 i a d) : EReal).toReal : ℝ) : EReal) = x3 (ix3 i a d)) := by
  have key : ∀ l : Fin 320, _ := fun l => congrFun h (ix3 i a l)
  revert key
  pointwise [Cert.Pre_finite.fn]
  intro key
  refine ⟨fun d => ?_, fun d => ?_, fun d => ?_, fun d => ?_⟩
  · have e := key ⟨d.val, by omega⟩
    rw [dif_pos (show d.val < 96 from d.isLt)] at e
    exact real_of_abs_lt e
  · have e := key ⟨96 + d.val, by omega⟩
    rw [dif_neg (show ¬ 96 + d.val < 96 by omega), dif_pos (show 96 + d.val - 96 < 96 by omega)] at e
    simpa only [Nat.add_sub_cancel_left] using real_of_abs_lt e
  · have e := key ⟨96 + 96 + d.val, by omega⟩
    rw [dif_neg (show ¬ 96 + 96 + d.val < 96 by omega), dif_neg (show ¬ 96 + 96 + d.val - 96 < 96 by omega), dif_pos (show 96 + 96 + d.val - 96 - 96 < 64 by omega)] at e
    have n : 96 + 96 + d.val - 96 - 96 = d.val := by omega
    simpa only [n] using real_of_abs_lt e
  · have e := key ⟨96 + 96 + 64 + d.val, by omega⟩
    rw [dif_neg (show ¬ 96 + 96 + 64 + d.val < 96 by omega), dif_neg (show ¬ 96 + 96 + 64 + d.val - 96 < 96 by omega), dif_neg (show ¬ 96 + 96 + 64 + d.val - 96 - 96 < 64 by omega)] at e
    have n : 96 + 96 + 64 + d.val - 96 - 96 - 64 = d.val := by omega
    simpa only [n] using real_of_abs_lt e

end

/-- The real numbers four arrays hold. -/
def dataOf (x0 x1 : FVec Ideal Cert.Pre_finite.S4096x8x96 .f32) (x2 x3 : FVec Ideal Cert.Pre_finite.S4096x8x64 .f32) : Data where
  q i h d := (x0 (ix3 i h d) : EReal).toReal
  k i h d := (x1 (ix3 i h d) : EReal).toReal
  v i h d := (x2 (ix3 i h d) : EReal).toReal
  g i h d := (x3 (ix3 i h d) : EReal).toReal

end Attn

end
-- ==== Proof.Mlp.Spec.lean ====
/- The feed-forward block's arrays as sums: the hidden activations, their slope, and the gradients. -/
module

public import Idealize.ShloMosaic.Lib.Pointwise

@[expose] public section

noncomputable section

namespace Mlp

open Idealize.ShloMosaic

/-- A matrix of extended reals. -/
abbrev Mat (n k : ℕ) := (⟨2, ![n, k]⟩ : Shape).Idx → EReal

/-- The literal 2. -/
def two : EReal := Ideal.ofBits .f32 0x40000000#32

variable (x : Mat 4096 1024) (w : Mat 1024 4096) (d g : Mat 4096 1024)

/-- The hidden layer before its activation, and its positive part. -/
def pre (i j : Fin 4096) : EReal := ∑ k : Fin 1024, x (ix2 i k) * w (ix2 k j)
def pos (i j : Fin 4096) : EReal := max (pre x w i j) 0
/-- The squared positive part, and its slope. -/
def act (i j : Fin 4096) : EReal := pos x w i j * pos x w i j
def slope (i j : Fin 4096) : EReal := two * pos x w i j
/-- The gradient of the hidden layer. -/
def back (i j : Fin 4096) : EReal := (∑ k : Fin 1024, g (ix2 i k) * d (ix2 j k)) * slope x w i j
/-- The gradients of the two weights. -/
def gradDown (j : Fin 4096) (k : Fin 1024) : EReal := ∑ i : Fin 4096, act x w i j * g (ix2 i k)
def gradUp (k : Fin 1024) (j : Fin 4096) : EReal := ∑ i : Fin 4096, x (ix2 i k) * back x w d g i j

/-- The arrays. -/
def actA : Mat 4096 4096 := fun i => act x w (i 0) (i 1)
def slopeA : Mat 4096 4096 := fun i => slope x w (i 0) (i 1)
def backA : Mat 4096 4096 := fun i => back x w d g (i 0) (i 1)
def downA : Mat 4096 1024 := fun i => gradDown x w g (i 0) (i 1)
/-- The gradient of the first weight in eight slots of 512 columns. -/
def upA : (⟨3, ![8, 1024, 512]⟩ : Shape).Idx → EReal := fun i =>
  gradUp x w d g (i 1) ⟨512 * (i 0).val + (i 2).val, by
    have h0 : (i 0).val < 8 := (i 0).isLt
    have h2 : (i 2).val < 512 := (i 2).isLt
    omega⟩

/-- The products as the calls take them, of arrays already computed. -/
def prodB (s : Mat 4096 4096) : Mat 4096 4096 := fun i => (∑ k : Fin 1024, g (ix2 (i 0) k) * d (ix2 (i 1) k)) * s (ix2 (i 0) (i 1))
def prodD (a : Mat 4096 4096) : Mat 4096 1024 := fun i => ∑ k : Fin 4096, a (ix2 k (i 0)) * g (ix2 k (i 1))
def prodU (b : Mat 4096 4096) : (⟨3, ![8, 1024, 512]⟩ : Shape).Idx → EReal := fun i =>
  ∑ k : Fin 4096, x (ix2 k (i 1)) * b (ix2 k (⟨512 * (i 0).val + (i 2).val, by
    have h0 : (i 0).val < 8 := (i 0).isLt
    have h2 : (i 2).val < 512 := (i 2).isLt
    omega⟩ : Fin 4096))

theorem prodB_eq : prodB d g (slopeA x w) = backA x w d g := rfl
theorem prodD_eq : prodD g (actA x w) = downA x w g := rfl
theorem prodU_eq : prodU x (backA x w d g) = upA x w d g := rfl

/-- Where the hidden layer is not positive its slope is zero. -/
theorem slope_zero {i j : Fin 4096} (h : ¬ 0 < pre x w i j) : slope x w i j = 0 := by
  unfold slope pos
  rw [max_eq_right (not_lt.mp h), mul_zero]

end Mlp

end
-- ==== Proof.Mlp.Pay.lean ====
/- What one tile of each of the four products computes. -/
module

public import proofs.«01_k».proof.Proof.Gen.Kernel2Ideal.Skeleton
public import proofs.«01_k».proof.Proof.Mlp.Spec

@[expose] public section

set_option maxRecDepth 16384

noncomputable section

namespace Mlp

open Cert.Kernel2Ideal Cert.Kernel2Ideal.Gen Idealize.ShloMosaic

variable (x y z : Mat 1024 1024)

theorem pay1 (i j : Fin 1024) : k0_pay1 (F := Ideal) x y (ix2 i j) = max (∑ k : Fin 1024, x (ix2 i k) * y (ix2 k j)) 0 := by
  pointwise [k0_pay1]

theorem pay2 (i j : Fin 1024) : k0_pay2 (F := Ideal) x y (ix2 i j)
    = max (∑ k : Fin 1024, x (ix2 i k) * y (ix2 k j)) 0 * max (∑ k : Fin 1024, x (ix2 i k) * y (ix2 k j)) 0 := by
  show FloatOps.mulf (F := Ideal) (φ := .f32) (k0_pay1 x y (ix2 i j)) (k0_pay1 x y (ix2 i j)) = _
  rw [pay1]; rfl

theorem pay3 (i j : Fin 1024) : k0_pay3 (F := Ideal) x y (ix2 i j)
    = two * max (∑ k : Fin 1024, x (ix2 i k) * y (ix2 k j)) 0 := by
  show FloatOps.mulf (F := Ideal) (φ := .f32) two (k0_pay1 x y (ix2 i j)) = _
  rw [pay1]; rfl

theorem payB (i j : Fin 1024) : k1_pay1 (F := Ideal) x y z (ix2 i j)
    = (∑ k : Fin 1024, x (ix2 i k) * y (ix2 j k)) * z (ix2 i j) := by
  pointwise [k1_pay1]

theorem payD (a b : Mat 4096 1024) (i j : Fin 1024) : k2_pay1 (F := Ideal) a b (ix2 i j)
    = ∑ k : Fin 4096, a (ix2 k i) * b (ix2 k j) := by
  pointwise [k2_pay1]

theorem payU (a : Mat 4096 1024) (b : Mat 4096 512) (u : Fin 1) (i : Fin 1024) (j : Fin 512) : k3_pay1 (F := Ideal) a b (ix3 u i j)
    = ∑ k : Fin 4096, a (ix2 k i) * b (ix2 k j) := by
  pointwise [k3_pay1]

end Mlp

end
-- ==== Proof.Mlp.Tiles.lean ====
/- The arrays that the four calls leave, from the arrays that they find. -/
module

public import proofs.«01_k».proof.Proof.Gen.Kernel2Ideal.Frame
public import proofs.«01_k».proof.Proof.Mlp.Pay
public import Idealize.ShloMosaic.Lib.Pipeline.Value

@[expose] public section

set_option maxRecDepth 16384

noncomputable section

namespace Mlp

open Cert.Kernel2Ideal Cert.Kernel2Ideal.Gen Idealize.ShloMosaic Idealize.ShloMosaic.TcCoe Idealize.SL.Sem

/-- The offsets of a whole tile. -/
theorem off2 : (![0, 0] : Fin 2 → Nat) = fun _ => 0 := by funext a; match a with | ⟨0, _⟩ => rfl | ⟨1, _⟩ => rfl
theorem off3 : (![0, 0, 0] : Fin 3 → Nat) = fun _ => 0 := by funext a; match a with | ⟨0, _⟩ => rfl | ⟨1, _⟩ => rfl | ⟨2, _⟩ => rfl

/-- A load of a whole tile is the tile. -/
theorem ldS {e : EltTy} (X : S1024x1024.Idx → Elt Ideal e) : View.ld (Val := Elt Ideal) X r0_0 = X := View.ld_unit_zero (S := S1024x1024) off2 _ X
theorem ldL {e : EltTy} (X : S4096x1024.Idx → Elt Ideal e) : View.ld (Val := Elt Ideal) X r2_0 = X := View.ld_unit_zero (S := S4096x1024) off2 _ X
theorem ldM {e : EltTy} (X : S4096x512.Idx → Elt Ideal e) : View.ld (Val := Elt Ideal) X r3_1 = X := View.ld_unit_zero (S := S4096x512) off2 _ X

/-- An entry of a matrix. -/
abbrev ent {n k : Nat} (a : Mat n k) (i : Fin n) (j : Fin k) : EReal := a (ix2 i j)

variable (V : (c : Dev nD) → (b : Ref sig .tc) → Buf (Elt Ideal) ((c : Thread nD τ).loc b)) (c : Dev nD)

theorem at0_0 : ∀ t : Fin cfg0.N, win0_0.index t (0 : Fin 2) = t.val / 4 ∧ win0_0.index t (1 : Fin 2) = 0 :=
  (by decide +kernel : ∀ t : Fin grid0.N, _)

theorem at0_1 : ∀ t : Fin cfg0.N, win0_1.index t (0 : Fin 2) = 0 ∧ win0_1.index t (1 : Fin 2) = t.val % 4 :=
  (by decide +kernel : ∀ t : Fin grid0.N, _)

theorem at0_2 : ∀ t : Fin cfg0.N, win0_2.index t (0 : Fin 2) = t.val / 4 ∧ win0_2.index t (1 : Fin 2) = t.val % 4 :=
  (by decide +kernel : ∀ t : Fin grid0.N, _)

theorem at0_3 : ∀ t : Fin cfg0.N, win0_3.index t (0 : Fin 2) = t.val / 4 ∧ win0_3.index t (1 : Fin 2) = t.val % 4 :=
  (by decide +kernel : ∀ t : Fin grid0.N, _)

theorem at1_0 : ∀ t : Fin cfg1.N, win1_0.index t (0 : Fin 2) = t.val / 4 ∧ win1_0.index t (1 : Fin 2) = 0 :=
  (by decide +kernel : ∀ t : Fin grid1.N, _)

theorem at1_1 : ∀ t : Fin cfg1.N, win1_1.index t (0 : Fin 2) = t.val % 4 ∧ win1_1.index t (1 : Fin 2) = 0 :=
  (by decide +kernel : ∀ t : Fin grid1.N, _)

theorem at1_2 : ∀ t : Fin cfg1.N, win1_2.index t (0 : Fin 2) = t.val / 4 ∧ win1_2.index t (1 : Fin 2) = t.val % 4 :=
  (by decide +kernel : ∀ t : Fin grid1.N, _)

theorem at1_3 : ∀ t : Fin cfg1.N, win1_3.index t (0 : Fin 2) = t.val / 4 ∧ win1_3.index t (1 : Fin 2) = t.val % 4 :=
  (by decide +kernel : ∀ t : Fin grid1.N, _)

theorem at2_0 : ∀ t : Fin cfg2.N, win2_0.index t (0 : Fin 2) = 0 ∧ win2_0.index t (1 : Fin 2) = t.val :=
  (by decide +kernel : ∀ t : Fin grid2.N, _)

theorem at2_1 : ∀ t : Fin cfg2.N, win2_1.index t (0 : Fin 2) = 0 ∧ win2_1.index t (1 : Fin 2) = 0 :=
  (by decide +kernel : ∀ t : Fin grid2.N, _)

theorem at2_2 : ∀ t : Fin cfg2.N, win2_2.index t (0 : Fin 2) = t.val ∧ win2_2.index t (1 : Fin 2) = 0 :=
  (by decide +kernel : ∀ t : Fin grid2.N, _)

theorem at3_0 : ∀ t : Fin cfg3.N, win3_0.index t (0 : Fin 2) = 0 ∧ win3_0.index t (1 : Fin 2) = 0 :=
  (by decide +kernel : ∀ t : Fin grid3.N, _)

theorem at3_1 : ∀ t : Fin cfg3.N, win3_1.index t (0 : Fin 2) = 0 ∧ win3_1.index t (1 : Fin 2) = t.val :=
  (by decide +kernel : ∀ t : Fin grid3.N, _)

theorem at3_2 : ∀ t : Fin cfg3.N, win3_2.index t (0 : Fin 3) = t.val ∧ win3_2.index t (1 : Fin 3) = 0 ∧ win3_2.index t (2 : Fin 3) = 0 :=
  (by decide +kernel : ∀ t : Fin grid3.N, _)

theorem tile0_0 (t : Fin cfg0.N) (i : Fin 1024) (j : Fin 1024) (p : Fin 4096) (q : Fin 1024)
    (hp : p.val = 1024 * (t.val / 4) + i.val) (hq : q.val = 1024 * (0) + j.val) :
    (iblk0 V c 0 t : Mat 1024 1024) (ix2 i j) = (V c main_arg0 : Mat 4096 1024) (ix2 p q) := by
  obtain ⟨e0, e1⟩ := at0_0 t
  refine congrArg (V c main_arg0 : Mat 4096 1024) ?_
  funext a; apply Fin.ext
  match a with
  | ⟨0, _⟩ => show win0_0.index t (0 : Fin 2) * 1024 + 1 * i.val = p.val; omega
  | ⟨1, _⟩ => show win0_0.index t (1 : Fin 2) * 1024 + 1 * j.val = q.val; omega

theorem tile0_1 (t : Fin cfg0.N) (i : Fin 1024) (j : Fin 1024) (p : Fin 1024) (q : Fin 4096)
    (hp : p.val = 1024 * (0) + i.val) (hq : q.val = 1024 * (t.val % 4) + j.val) :
    (iblk0 V c 1 t : Mat 1024 1024) (ix2 i j) = (V c main_arg1 : Mat 1024 4096) (ix2 p q) := by
  obtain ⟨e0, e1⟩ := at0_1 t
  refine congrArg (V c main_arg1 : Mat 1024 4096) ?_
  funext a; apply Fin.ext
  match a with
  | ⟨0, _⟩ => show win0_1.index t (0 : Fin 2) * 1024 + 1 * i.val = p.val; omega
  | ⟨1, _⟩ => show win0_1.index t (1 : Fin 2) * 1024 + 1 * j.val = q.val; omega

theorem tile1_0 (t : Fin cfg1.N) (i : Fin 1024) (j : Fin 1024) (p : Fin 4096) (q : Fin 1024)
    (hp : p.val = 1024 * (t.val / 4) + i.val) (hq : q.val = 1024 * (0) + j.val) :
    (iblk1 V c 0 t : Mat 1024 1024) (ix2 i j) = (V c main_arg3 : Mat 4096 1024) (ix2 p q) := by
  obtain ⟨e0, e1⟩ := at1_0 t
  refine congrArg (V c main_arg3 : Mat 4096 1024) ?_
  funext a; apply Fin.ext
  match a with
  | ⟨0, _⟩ => show win1_0.index t (0 : Fin 2) * 1024 + 1 * i.val = p.val; omega
  | ⟨1, _⟩ => show win1_0.index t (1 : Fin 2) * 1024 + 1 * j.val = q.val; omega

theorem tile1_1 (t : Fin cfg1.N) (i : Fin 1024) (j : Fin 1024) (p : Fin 4096) (q : Fin 1024)
    (hp : p.val = 1024 * (t.val % 4) + i.val) (hq : q.val = 1024 * (0) + j.val) :
    (iblk1 V c 1 t : Mat 1024 1024) (ix2 i j) = (V c main_arg2 : Mat 4096 1024) (ix2 p q) := by
  obtain ⟨e0, e1⟩ := at1_1 t
  refine congrArg (V c main_arg2 : Mat 4096 1024) ?_
  funext a; apply Fin.ext
  match a with
  | ⟨0, _⟩ => show win1_1.index t (0 : Fin 2) * 1024 + 1 * i.val = p.val; omega
  | ⟨1, _⟩ => show win1_1.index t (1 : Fin 2) * 1024 + 1 * j.val = q.val; omega

theorem tile1_2 (t : Fin cfg1.N) (i : Fin 1024) (j : Fin 1024) (p : Fin 4096) (q : Fin 4096)
    (hp : p.val = 1024 * (t.val / 4) + i.val) (hq : q.val = 1024 * (t.val % 4) + j.val) :
    (iblk1 V c 2 t : Mat 1024 1024) (ix2 i j) = (V c main_v0_1 : Mat 4096 4096) (ix2 p q) := by
  obtain ⟨e0, e1⟩ := at1_2 t
  refine congrArg (V c main_v0_1 : Mat 4096 4096) ?_
  funext a; apply Fin.ext
  match a with
  | ⟨0, _⟩ => show win1_2.index t (0 : Fin 2) * 1024 + 1 * i.val = p.val; omega
  | ⟨1, _⟩ => show win1_2.index t (1 : Fin 2) * 1024 + 1 * j.val = q.val; omega

theorem tile2_0 (t : Fin cfg2.N) (i : Fin 4096) (j : Fin 1024) (p : Fin 4096) (q : Fin 4096)
    (hp : p.val = 4096 * (0) + i.val) (hq : q.val = 1024 * (t.val) + j.val) :
    (iblk2 V c 0 t : Mat 4096 1024) (ix2 i j) = (V c main_v0_0 : Mat 4096 4096) (ix2 p q) := by
  obtain ⟨e0, e1⟩ := at2_0 t
  refine congrArg (V c main_v0_0 : Mat 4096 4096) ?_
  funext a; apply Fin.ext
  match a with
  | ⟨0, _⟩ => show win2_0.index t (0 : Fin 2) * 4096 + 1 * i.val = p.val; omega
  | ⟨1, _⟩ => show win2_0.index t (1 : Fin 2) * 1024 + 1 * j.val = q.val; omega

theorem tile2_1 (t : Fin cfg2.N) (i : Fin 4096) (j : Fin 1024) (p : Fin 4096) (q : Fin 1024)
    (hp : p.val = 4096 * (0) + i.val) (hq : q.val = 1024 * (0) + j.val) :
    (iblk2 V c 1 t : Mat 4096 1024) (ix2 i j) = (V c main_arg3 : Mat 4096 1024) (ix2 p q) := by
  obtain ⟨e0, e1⟩ := at2_1 t
  refine congrArg (V c main_arg3 : Mat 4096 1024) ?_
  funext a; apply Fin.ext
  match a with
  | ⟨0, _⟩ => show win2_1.index t (0 : Fin 2) * 4096 + 1 * i.val = p.val; omega
  | ⟨1, _⟩ => show win2_1.index t (1 : Fin 2) * 1024 + 1 * j.val = q.val; omega

theorem tile3_0 (t : Fin cfg3.N) (i : Fin 4096) (j : Fin 1024) (p : Fin 4096) (q : Fin 1024)
    (hp : p.val = 4096 * (0) + i.val) (hq : q.val = 1024 * (0) + j.val) :
    (iblk3 V c 0 t : Mat 4096 1024) (ix2 i j) = (V c main_arg0 : Mat 4096 1024) (ix2 p q) := by
  obtain ⟨e0, e1⟩ := at3_0 t
  refine congrArg (V c main_arg0 : Mat 4096 1024) ?_
  funext a; apply Fin.ext
  match a with
  | ⟨0, _⟩ => show win3_0.index t (0 : Fin 2) * 4096 + 1 * i.val = p.val; omega
  | ⟨1, _⟩ => show win3_0.index t (1 : Fin 2) * 1024 + 1 * j.val = q.val; omega

theorem tile3_1 (t : Fin cfg3.N) (i : Fin 4096) (j : Fin 512) (p : Fin 4096) (q : Fin 4096)
    (hp : p.val = 4096 * (0) + i.val) (hq : q.val = 512 * (t.val) + j.val) :
    (iblk3 V c 1 t : Mat 4096 512) (ix2 i j) = (V c main_v1 : Mat 4096 4096) (ix2 p q) := by
  obtain ⟨e0, e1⟩ := at3_1 t
  refine congrArg (V c main_v1 : Mat 4096 4096) ?_
  funext a; apply Fin.ext
  match a with
  | ⟨0, _⟩ => show win3_1.index t (0 : Fin 2) * 4096 + 1 * i.val = p.val; omega
  | ⟨1, _⟩ => show win3_1.index t (1 : Fin 2) * 512 + 1 * j.val = q.val; omega

theorem back0_2 (t : Fin cfg0.N) :
    (dat0 V c).flushed 2 t = ((cfg0.win 2).blk t).view.read (Elt Ideal) (actA (V c main_arg0) (V c main_arg1)) := by
  have hN : t.val < 16 := lt_of_lt_of_eq t.isLt N_0
  obtain ⟨e0, e1⟩ := at0_2 t
  show (cfg0.win 2).cut (grid0.coords t) ((dat0 V c).after 2 t) = _
  rw [after0_2]
  funext y
  have hy0 : (y 0).val < 1024 := (y 0).isLt
  have hy1 : (y 1).val < 1024 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have ex : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show out0_2 (iblk0 V c 0 t) (iblk0 V c 1 t) ((cfg0.win 2).xinj (grid0.coords t) y) = (actA (V c main_arg0) (V c main_arg1)) (((cfg0.win 2).blk t).view.emb y)
  rw [ex, show out0_2 (iblk0 V c 0 t) (iblk0 V c 1 t) = k0_pay2 (iblk0 V c 0 t) (iblk0 V c 1 t) from by
    unfold out0_2; rw [View.canon_unit_zero (S := S1024x1024) off2]; simp only [ldS, ldL, ldM], pay2]
  have E := Finset.sum_congr (s₁ := (Finset.univ : Finset (Fin 1024))) rfl fun k _ => congrArg₂ (fun a b : EReal => a * b)
    (tile0_0 V c t ⟨(y 0).val, hy0⟩ k (((cfg0.win 2).blk t).view.emb y 0) k (by rw [hb0]; show _ = _ + (y 0).val; omega) (by omega))
    (tile0_1 V c t k ⟨(y 1).val, hy1⟩ k (((cfg0.win 2).blk t).view.emb y 1) (by omega) (by rw [hb1]; show _ = _ + (y 1).val; omega))
  exact congrArg (fun s : EReal => max s 0 * max s 0) E

theorem mem0_2 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0_0).slice (win0_2.rect t)).set ↔ _
  rw [View.set_slice_whole, Rect.mem_set_unit]
  exact Iff.rfl

theorem cover0_2 (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have ht : 4 * ((i 0).val / 1024) + (i 1).val / 1024 < cfg0.N := lt_of_lt_of_eq (show _ < 16 by omega) N_0.symm
  refine ⟨⟨4 * ((i 0).val / 1024) + (i 1).val / 1024, ht⟩, flush0_2 _, ?_⟩
  have e0 : win0_2.index ⟨4 * ((i 0).val / 1024) + (i 1).val / 1024, ht⟩ (0 : Fin 2) = (4 * ((i 0).val / 1024) + (i 1).val / 1024) / 4 := (at0_2 _).1
  have e1 : win0_2.index ⟨4 * ((i 0).val / 1024) + (i 1).val / 1024, ht⟩ (1 : Fin 2) = (4 * ((i 0).val / 1024) + (i 1).val / 1024) % 4 := (at0_2 _).2
  rw [mem0_2]
  intro a
  match a with
  | ⟨0, _⟩ => show win0_2.index _ (0 : Fin 2) * 1024 ≤ (i 0).val ∧ (i 0).val < win0_2.index _ (0 : Fin 2) * 1024 + 1024; rw [e0]; omega
  | ⟨1, _⟩ => show win0_2.index _ (1 : Fin 2) * 1024 ≤ (i 1).val ∧ (i 1).val < win0_2.index _ (1 : Fin 2) * 1024 + 1024; rw [e1]; omega

/-- The array that call 0 leaves in its output window 2. -/
theorem arr0_2 : (dat0 V c).arrAt 2 cfg0.N = (actA (V c main_arg0) (V c main_arg1)) :=
  (dat0 V c).arrAt_eq_of_cover 2 _ (fun t _ => back0_2 V c t) cover0_2

theorem back0_3 (t : Fin cfg0.N) :
    (dat0 V c).flushed 3 t = ((cfg0.win 3).blk t).view.read (Elt Ideal) (slopeA (V c main_arg0) (V c main_arg1)) := by
  have hN : t.val < 16 := lt_of_lt_of_eq t.isLt N_0
  obtain ⟨e0, e1⟩ := at0_3 t
  show (cfg0.win 3).cut (grid0.coords t) ((dat0 V c).after 3 t) = _
  rw [after0_3]
  funext y
  have hy0 : (y 0).val < 1024 := (y 0).isLt
  have hy1 : (y 1).val < 1024 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have ex : (cfg0.win 3).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show out0_3 (iblk0 V c 0 t) (iblk0 V c 1 t) ((cfg0.win 3).xinj (grid0.coords t) y) = (slopeA (V c main_arg0) (V c main_arg1)) (((cfg0.win 3).blk t).view.emb y)
  rw [ex, show out0_3 (iblk0 V c 0 t) (iblk0 V c 1 t) = k0_pay3 (iblk0 V c 0 t) (iblk0 V c 1 t) from by
    unfold out0_3; rw [View.canon_unit_zero (S := S1024x1024) off2]; simp only [ldS, ldL, ldM], pay3]
  have E := Finset.sum_congr (s₁ := (Finset.univ : Finset (Fin 1024))) rfl fun k _ => congrArg₂ (fun a b : EReal => a * b)
    (tile0_0 V c t ⟨(y 0).val, hy0⟩ k (((cfg0.win 3).blk t).view.emb y 0) k (by rw [hb0]; show _ = _ + (y 0).val; omega) (by omega))
    (tile0_1 V c t k ⟨(y 1).val, hy1⟩ k (((cfg0.win 3).blk t).view.emb y 1) (by omega) (by rw [hb1]; show _ = _ + (y 1).val; omega))
  exact congrArg (fun s : EReal => two * max s 0) E

theorem mem0_3 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0_1).slice (win0_3.rect t)).set ↔ _
  rw [View.set_slice_whole, Rect.mem_set_unit]
  exact Iff.rfl

theorem cover0_3 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have ht : 4 * ((i 0).val / 1024) + (i 1).val / 1024 < cfg0.N := lt_of_lt_of_eq (show _ < 16 by omega) N_0.symm
  refine ⟨⟨4 * ((i 0).val / 1024) + (i 1).val / 1024, ht⟩, flush0_3 _, ?_⟩
  have e0 : win0_3.index ⟨4 * ((i 0).val / 1024) + (i 1).val / 1024, ht⟩ (0 : Fin 2) = (4 * ((i 0).val / 1024) + (i 1).val / 1024) / 4 := (at0_3 _).1
  have e1 : win0_3.index ⟨4 * ((i 0).val / 1024) + (i 1).val / 1024, ht⟩ (1 : Fin 2) = (4 * ((i 0).val / 1024) + (i 1).val / 1024) % 4 := (at0_3 _).2
  rw [mem0_3]
  intro a
  match a with
  | ⟨0, _⟩ => show win0_3.index _ (0 : Fin 2) * 1024 ≤ (i 0).val ∧ (i 0).val < win0_3.index _ (0 : Fin 2) * 1024 + 1024; rw [e0]; omega
  | ⟨1, _⟩ => show win0_3.index _ (1 : Fin 2) * 1024 ≤ (i 1).val ∧ (i 1).val < win0_3.index _ (1 : Fin 2) * 1024 + 1024; rw [e1]; omega

/-- The array that call 0 leaves in its output window 3. -/
theorem arr0_3 : (dat0 V c).arrAt 3 cfg0.N = (slopeA (V c main_arg0) (V c main_arg1)) :=
  (dat0 V c).arrAt_eq_of_cover 3 _ (fun t _ => back0_3 V c t) cover0_3

theorem back1_3 (t : Fin cfg1.N) :
    (dat1 V c).flushed 3 t = ((cfg1.win 3).blk t).view.read (Elt Ideal) (prodB (V c main_arg2) (V c main_arg3) (V c main_v0_1)) := by
  have hN : t.val < 16 := lt_of_lt_of_eq t.isLt N_1
  obtain ⟨e0, e1⟩ := at1_3 t
  show (cfg1.win 3).cut (grid1.coords t) ((dat1 V c).after 3 t) = _
  rw [after1_3]
  funext y
  have hy0 : (y 0).val < 1024 := (y 0).isLt
  have hy1 : (y 1).val < 1024 := (y 1).isLt
  have hb0 : (((cfg1.win 3).blk t).view.emb y 0).val = win1_3.index t (0 : Fin 2) * 1024 + 1 * (y 0).val := rfl
  have hb1 : (((cfg1.win 3).blk t).view.emb y 1).val = win1_3.index t (1 : Fin 2) * 1024 + 1 * (y 1).val := rfl
  have ex : (cfg1.win 3).xinj (grid1.coords t) y = ix2 (⟨(y 0).val, hy0⟩ : Fin 1024) (⟨(y 1).val, hy1⟩ : Fin 1024) := by
    funext a; apply Fin.ext
    match a with
    | ⟨0, _⟩ => rfl
    | ⟨1, _⟩ => rfl
  show out1_3 (iblk1 V c 0 t) (iblk1 V c 1 t) (iblk1 V c 2 t) ((cfg1.win 3).xinj (grid1.coords t) y) = (prodB (V c main_arg2) (V c main_arg3) (V c main_v0_1)) (((cfg1.win 3).blk t).view.emb y)
  rw [ex, show out1_3 (iblk1 V c 0 t) (iblk1 V c 1 t) (iblk1 V c 2 t) = k1_pay1 (iblk1 V c 0 t) (iblk1 V c 1 t) (iblk1 V c 2 t) from by
    unfold out1_3; rw [View.canon_unit_zero (S := S1024x1024) off2]; simp only [ldS, ldL, ldM], payB]
  have E := Finset.sum_congr (s₁ := (Finset.univ : Finset (Fin 1024))) rfl fun k _ => congrArg₂ (fun a b : EReal => a * b)
    (tile1_0 V c t ⟨(y 0).val, hy0⟩ k (((cfg1.win 3).blk t).view.emb y 0) k (by rw [hb0]; show _ = _ + (y 0).val; omega) (by omega))
    (tile1_1 V c t ⟨(y 1).val, hy1⟩ k (((cfg1.win 3).blk t).view.emb y 1) k (by rw [hb1]; show _ = _ + (y 1).val; omega) (by omega))
  exact congrArg₂ (fun a b : EReal => a * b) E
    (tile1_2 V c t ⟨(y 0).val, hy0⟩ ⟨(y 1).val, hy1⟩ (((cfg1.win 3).blk t).view.emb y 0) (((cfg1.win 3).blk t).view.emb y 1)
      (by rw [hb0]; show _ = _ + (y 0).val; omega) (by rw [hb1]; show _ = _ + (y 1).val; omega))

theorem mem1_3 (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

theorem cover1_3 (i : S4096x4096.Idx) : ∃ t : Fin cfg1.N, (cfg1.win 3).flush t = true ∧ i ∈ ((cfg1.win 3).blk t).view.set := by
  have h0 : (i 0).val < 4096 := (i 0).isLt
  have h1 : (i 1).val < 4096 := (i 1).isLt
  have ht : 4 * ((i 0).val / 1024) + (i 1).val / 1024 < cfg1.N := lt_of_lt_of_eq (show _ < 16 by omega) N_1.symm
  refine ⟨⟨4 * ((i 0).val / 1024) + (i 1).val / 1024, ht⟩, flush1_3 _, ?_⟩
  have e0 : win1_3.index ⟨4 * ((i 0).val / 1024) + (i 1).val / 1024, ht⟩ (0 : Fin 2) = (4 * ((i 0).val / 1024) + (i 1).val / 1024) / 4 := (at1_3 _).1
  have e1 : win1_3.index ⟨4 * ((i 0).val / 1024) + (i 1).val / 1024, ht⟩ (1 : Fin 2) = (4 * ((i 0).val / 1024) + (i 1).val / 1024) % 4 := (at1_3 _).2
  rw [mem1_3]
  intro a
  match a with
  | ⟨0, _⟩ => show win1_3.index _ (0 : Fin 2) * 1024 ≤ (i 0).val ∧ (i 0).val < win1_3.index _ (0 : Fin 2) * 1024 + 1024; rw [e0]; omega
  | ⟨1, _⟩ => show win1_3.index _ (1 : Fin 2) * 1024 ≤ (i 1).val ∧ (i 1).val < win1_3.index _ (1 : Fin 2) * 1024 + 1024; rw [e1]; omega

/-- The array that call 1 leaves in its output window 3. -/
theorem arr1_3 : (dat1 V c).arrAt 3 cfg1.N = (prodB (V c main_arg2) (V c main_arg3) (V c main_v0_1)) :=
  (dat1 V c).arrAt_eq_of_cover 3 _ (fun t _ => back1_3 V c t) cover1_3

theorem back2_2 (t : Fin cfg2.N) :
    (dat2 V c).flushed 2 t = ((cfg2.win 2).blk t).view.read (Elt Ideal) (prodD (V c main_arg3) (V c main_v0_0)) := by
  have hN : t.val < 4 := lt_of_lt_of_eq t.isLt N_2
  obtain ⟨e0, e1⟩ := at2_2 t
  show (cfg2.win 2).cut (grid2.coords t) ((dat2 V c).after 2 t) = _
  rw [after2_2]
  funext y
  have hy0 : (y 0).val < 1024 := (y 0).isLt
  have hy1 : (y 1).val < 1024 := (y 1).isLt
  have hb0 : (((cfg2.win 2).blk t).view.emb y 0).val = win2_2.index t (0 : Fin 2) * 1024 + 1 * (y 0).val := rfl
  have hb1 : (((cfg2.win 2).blk t).view.emb y 1).val = win2_2.index t (1 : Fin 2) * 1024 + 1 * (y 1).val := rfl
  have ex : (cfg2.win 2).xinj (grid2.coords t) y = ix2 (⟨(y 0).val, hy0⟩ : Fin 1024) (⟨(y 1).val, hy1⟩ : Fin 1024) := by
    funext a; apply Fin.ext
    match a with
    | ⟨0, _⟩ => rfl
    | ⟨1, _⟩ => rfl
  show out2_2 (iblk2 V c 0 t) (iblk2 V c 1 t) ((cfg2.win 2).xinj (grid2.coords t) y) = (prodD (V c main_arg3) (V c main_v0_0)) (((cfg2.win 2).blk t).view.emb y)
  rw [ex, show out2_2 (iblk2 V c 0 t) (iblk2 V c 1 t) = k2_pay1 (iblk2 V c 0 t) (iblk2 V c 1 t) from by
    unfold out2_2; rw [View.canon_unit_zero (S := S1024x1024) off2]; simp only [ldS, ldL, ldM], payD]
  have E := Finset.sum_congr (s₁ := (Finset.univ : Finset (Fin 4096))) rfl fun k _ => congrArg₂ (fun a b : EReal => a * b)
    (tile2_0 V c t k ⟨(y 0).val, hy0⟩ k (((cfg2.win 2).blk t).view.emb y 0) (by omega) (by rw [hb0]; show _ = _ + (y 0).val; omega))
    (tile2_1 V c t k ⟨(y 1).val, hy1⟩ k (((cfg2.win 2).blk t).view.emb y 1) (by omega) (by rw [hb1]; show _ = _ + (y 1).val; omega))
  exact E

theorem mem2_2 (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v2).slice (win2_2.rect t)).set ↔ _
  rw [View.set_slice_whole, Rect.mem_set_unit]
  exact Iff.rfl

theorem cover2_2 (i : S4096x1024.Idx) : ∃ t : Fin cfg2.N, (cfg2.win 2).flush t = true ∧ i ∈ ((cfg2.win 2).blk t).view.set := by
  have h0 : (i 0).val < 4096 := (i 0).isLt
  have h1 : (i 1).val < 1024 := (i 1).isLt
  have ht : (i 0).val / 1024 < cfg2.N := lt_of_lt_of_eq (show _ < 4 by omega) N_2.symm
  refine ⟨⟨(i 0).val / 1024, ht⟩, flush2_2 _, ?_⟩
  have e0 : win2_2.index ⟨(i 0).val / 1024, ht⟩ (0 : Fin 2) = ((i 0).val / 1024) := (at2_2 _).1
  have e1 : win2_2.index ⟨(i 0).val / 1024, ht⟩ (1 : Fin 2) = 0 := (at2_2 _).2
  rw [mem2_2]
  intro a
  match a with
  | ⟨0, _⟩ => show win2_2.index _ (0 : Fin 2) * 1024 ≤ (i 0).val ∧ (i 0).val < win2_2.index _ (0 : Fin 2) * 1024 + 1024; rw [e0]; omega
  | ⟨1, _⟩ => show win2_2.index _ (1 : Fin 2) * 1024 ≤ (i 1).val ∧ (i 1).val < win2_2.index _ (1 : Fin 2) * 1024 + 1024; rw [e1]; omega

/-- The array that call 2 leaves in its output window 2. -/
theorem arr2_2 : (dat2 V c).arrAt 2 cfg2.N = (prodD (V c main_arg3) (V c main_v0_0)) :=
  (dat2 V c).arrAt_eq_of_cover 2 _ (fun t _ => back2_2 V c t) cover2_2

theorem back3_2 (t : Fin cfg3.N) :
    (dat3 V c).flushed 2 t = ((cfg3.win 2).blk t).view.read (Elt Ideal) (prodU (V c main_arg0) (V c main_v1)) := by
  have hN : t.val < 8 := lt_of_lt_of_eq t.isLt N_3
  obtain ⟨e0, e1, e2⟩ := at3_2 t
  show (cfg3.win 2).cut (grid3.coords t) ((dat3 V c).after 2 t) = _
  rw [after3_2]
  funext y
  have hy0 : (y 0).val < 1 := (y 0).isLt
  have hy1 : (y 1).val < 1024 := (y 1).isLt
  have hy2 : (y 2).val < 512 := (y 2).isLt
  have hb0 : (((cfg3.win 2).blk t).view.emb y 0).val = win3_2.index t (0 : Fin 3) * 1 + 1 * (y 0).val := rfl
  have hb1 : (((cfg3.win 2).blk t).view.emb y 1).val = win3_2.index t (1 : Fin 3) * 1024 + 1 * (y 1).val := rfl
  have hb2 : (((cfg3.win 2).blk t).view.emb y 2).val = win3_2.index t (2 : Fin 3) * 512 + 1 * (y 2).val := rfl
  have ex : (cfg3.win 2).xinj (grid3.coords t) y = ix3 (⟨(y 0).val, hy0⟩ : Fin 1) (⟨(y 1).val, hy1⟩ : Fin 1024) (⟨(y 2).val, hy2⟩ : Fin 512) := by
    funext a; apply Fin.ext
    match a with
    | ⟨0, _⟩ => rfl
    | ⟨1, _⟩ => rfl
    | ⟨2, _⟩ => rfl
  show out3_2 (iblk3 V c 0 t) (iblk3 V c 1 t) ((cfg3.win 2).xinj (grid3.coords t) y) = prodU (V c main_arg0) (V c main_v1) (((cfg3.win 2).blk t).view.emb y)
  rw [ex, show out3_2 (iblk3 V c 0 t) (iblk3 V c 1 t) = k3_pay1 (iblk3 V c 0 t) (iblk3 V c 1 t) from by
    unfold out3_2; rw [View.canon_unit_zero (S := S1x1024x512) off3]; simp only [ldS, ldL, ldM], payU, prodU]
  refine Finset.sum_congr rfl fun k _ => ?_
  rw [tile3_0 V c t k ⟨(y 1).val, hy1⟩ k (((cfg3.win 2).blk t).view.emb y 1) (by omega) (by rw [hb1]; show _ = _ + (y 1).val; omega)]
  refine congrArg _ (tile3_1 V c t k ⟨(y 2).val, hy2⟩ k _ (by omega) ?_)
  show 512 * (((cfg3.win 2).blk t).view.emb y 0).val + (((cfg3.win 2).blk t).view.emb y 2).val = 512 * t.val + (y 2).val
  rw [hb0, hb2]; omega

theorem mem3_2 (t : Fin cfg3.N) (i : S8x1024x512.Idx) :
    i ∈ ((cfg3.win 2).blk t).view.set ↔ ∀ a : Fin 3, win3_2.index t a * S1x1024x512.size a ≤ (i a).val ∧ (i a).val < win3_2.index t a * S1x1024x512.size a + S1x1024x512.size a := by
  show i ∈ ((View.whole main_v3).slice (win3_2.rect t)).set ↔ _
  rw [View.set_slice_whole, Rect.mem_set_unit]
  exact Iff.rfl

theorem cover3_2 (i : S8x1024x512.Idx) : ∃ t : Fin cfg3.N, (cfg3.win 2).flush t = true ∧ i ∈ ((cfg3.win 2).blk t).view.set := by
  have h0 : (i 0).val < 8 := (i 0).isLt
  have h1 : (i 1).val < 1024 := (i 1).isLt
  have h2 : (i 2).val < 512 := (i 2).isLt
  have ht : (i 0).val < cfg3.N := lt_of_lt_of_eq (show _ < 8 by omega) N_3.symm
  refine ⟨⟨(i 0).val, ht⟩, flush3_2 _, ?_⟩
  obtain ⟨e0, e1, e2⟩ := at3_2 ⟨(i 0).val, ht⟩
  rw [mem3_2]
  intro a
  match a with
  | ⟨0, _⟩ => show win3_2.index _ (0 : Fin 3) * 1 ≤ (i 0).val ∧ (i 0).val < win3_2.index _ (0 : Fin 3) * 1 + 1; rw [e0]; exact ⟨by show (i 0).val * 1 ≤ _; omega, by show _ < (i 0).val * 1 + 1; omega⟩
  | ⟨1, _⟩ => show win3_2.index _ (1 : Fin 3) * 1024 ≤ (i 1).val ∧ (i 1).val < win3_2.index _ (1 : Fin 3) * 1024 + 1024; rw [e1]; omega
  | ⟨2, _⟩ => show win3_2.index _ (2 : Fin 3) * 512 ≤ (i 2).val ∧ (i 2).val < win3_2.index _ (2 : Fin 3) * 512 + 512; rw [e2]; omega

/-- The array that call 3 leaves. -/
theorem arr3_2 : (dat3 V c).arrAt 2 cfg3.N = prodU (V c main_arg0) (V c main_v1) :=
  (dat3 V c).arrAt_eq_of_cover 2 _ (fun t _ => back3_2 V c t) cover3_2

end Mlp

end
-- ==== Proof.Mlp.Run.lean ====
/- The run of the four calls, and the gradients that it leaves. -/
module

public import proofs.«01_k».proof.Proof.Mlp.Tiles

@[expose] public section

set_option maxRecDepth 16384

noncomputable section

namespace Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with its counters at zero the program ends, its counters at zero, and every array outside the
    calls' own buffers holds what the four calls leave. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]; · iexact Hb
      isplitl [Hr]; · iexists _; iexact Hr
      iexists ∅; iexact Ho)
    (QY := fun c s => ∀ b ∈ Pipeline.ucRefs τ sig, s.mem ((c : Thread nD τ).1, b) = W4 m ρ c b)
    (hfin := fun c s' => by
      iintro ⟨⟨Hb, -⟩, HS⟩
      unfold StableHlo.held
      imodintro
      iapply (pointsTo_read_all (Pipeline.ucRefs τ sig) (fun b => ((c : Thread nD τ).1, b)) (W4 m ρ c) s')
      isplitl [Hb] <;> iassumption)
    (hQ := fun s h hz => ⟨h, funext fun g => hz g (.inr (no_unscoped g.2))⟩)

/-- The program ends, its counters at zero and its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide))⟩, h.2⟩) (run_main m ρ)

end

variable (m : (ℓ : Loc nD τ sig) → Buf (Elt Ideal) ℓ) (ρ : Dev nD → PrngReg) (c : Dev nD)

/-- The arguments. -/
abbrev argX : Mat 4096 1024 := m ((c.tc : Thread nD τ).loc main_arg0)
abbrev argW : Mat 1024 4096 := m ((c.tc : Thread nD τ).loc main_arg1)
abbrev argD : Mat 4096 1024 := m ((c.tc : Thread nD τ).loc main_arg2)
abbrev argG : Mat 4096 1024 := m ((c.tc : Thread nD τ).loc main_arg3)

/-- After the first call: the activation and its slope. -/
theorem act_at1 : W1 m ρ c (Proc.devRef .tc main_v0_0) = actA (argX m c) (argW m c) :=
  (W1_arr m ρ c 2).trans (arr0_2 (V0 m ρ) c)
theorem slope_at1 : W1 m ρ c (Proc.devRef .tc main_v0_1) = slopeA (argX m c) (argW m c) :=
  (W1_arr m ρ c 3).trans (arr0_3 (V0 m ρ) c)

/-- After the second: the hidden gradient, and the activation still. -/
theorem back_at2 : W2 m ρ c (Proc.devRef .tc main_v1) = backA (argX m c) (argW m c) (argD m c) (argG m c) := by
  refine (W2_arr m ρ c 3).trans ((arr1_3 (V1 m ρ) c).trans ?_)
  rw [show V1 m ρ c main_arg2 = argD m c from W1_args m ρ c main_arg2 (by decide),
    show V1 m ρ c main_arg3 = argG m c from W1_args m ρ c main_arg3 (by decide),
    show V1 m ρ c main_v0_1 = slopeA (argX m c) (argW m c) from slope_at1 m ρ c]
  rfl
theorem act_at2 : W2 m ρ c (Proc.devRef .tc main_v0_0) = actA (argX m c) (argW m c) :=
  (W2_of m ρ c main_v0_0 (by decide)).trans (act_at1 m ρ c)

/-- After the third: the gradient of the second weight. -/
theorem down_at3 : W3 m ρ c (Proc.devRef .tc main_v2) = downA (argX m c) (argW m c) (argG m c) := by
  refine (W3_arr m ρ c 2).trans ((arr2_2 (V2 m ρ) c).trans ?_)
  rw [show V2 m ρ c main_arg3 = argG m c from W2_args m ρ c main_arg3 (by decide),
    show V2 m ρ c main_v0_0 = actA (argX m c) (argW m c) from act_at2 m ρ c]
  rfl
theorem back_at3 : W3 m ρ c (Proc.devRef .tc main_v1) = backA (argX m c) (argW m c) (argD m c) (argG m c) :=
  (W3_of m ρ c main_v1 (by decide)).trans (back_at2 m ρ c)

/-- After the fourth: the three gradients. -/
theorem up_at4 : W4 m ρ c (Proc.devRef .tc main_v3) = upA (argX m c) (argW m c) (argD m c) (argG m c) := by
  refine (W4_arr m ρ c 2).trans ((arr3_2 (V3 m ρ) c).trans ?_)
  rw [show V3 m ρ c main_arg0 = argX m c from W3_args m ρ c main_arg0 (by decide),
    show V3 m ρ c main_v1 = backA (argX m c) (argW m c) (argD m c) (argG m c) from back_at3 m ρ c]
  rfl
theorem back_at4 : W4 m ρ c (Proc.devRef .tc main_v1) = backA (argX m c) (argW m c) (argD m c) (argG m c) :=
  (W4_of m ρ c main_v1 (by decide)).trans (back_at3 m ρ c)
theorem down_at4 : W4 m ρ c (Proc.devRef .tc main_v2) = downA (argX m c) (argW m c) (argG m c) :=
  (W4_of m ρ c main_v2 (by decide)).trans (down_at3 m ρ c)

/-- The run at exact arithmetic. -/
theorem run : θ_run defs (onTc (τ := τ) (main (F := Ideal))) ⟨m, fun _ => 0, ρ⟩ (fun r => ∀ c : Dev nD,
      r.2.mem ((c.tc : Thread nD τ).loc main_v1) = backA (argX m c) (argW m c) (argD m c) (argG m c)
      ∧ r.2.mem ((c.tc : Thread nD τ).loc main_v2) = downA (argX m c) (argW m c) (argG m c)
      ∧ r.2.mem ((c.tc : Thread nD τ).loc main_v3) = upA (argX m c) (argW m c) (argD m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c _ (mem_uc main_v1 (by decide))).trans (back_at4 m ρ c),
     (h.1 c _ (mem_uc main_v2 (by decide))).trans (down_at4 m ρ c),
     (h.1 c _ (mem_uc main_v3 (by decide))).trans (up_at4 m ρ c),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide))⟩) (run_main m ρ)

end Mlp

end
-- ==== Proof.Mlp.Same.lean ====
/- The frame of the feed-forward's calls at the hardware's words: the idealized program has the same text. -/
module

public import proofs.«01_k».proof.Defs
public import proofs.«01_k».proof.Proof.Gen.Kernel2
public import proofs.«01_k».proof.Proof.Mlp.Run

@[expose] public section

set_option maxRecDepth 16384
set_option maxHeartbeats 1000000

namespace Mlp

open Idealize.ShloMosaic Idealize.SL.Sem

/-- The two programs' bodies, tables of calls and main functions are the same. -/
theorem same_bodies : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, _ => rfl
  | ⟨1, _⟩, _ => rfl
  | ⟨2, _⟩, _ => rfl
  | ⟨3, _⟩, _ => rfl

theorem same_defs : Cert.Kernel2.defs (F := Bits) = Cert.Kernel2Ideal.defs (F := Bits) :=
  congrArg (Idealize.ShloMosaic.Pipeline.defs Cert.Kernel2Ideal.pcfgs) same_bodies

theorem same_main : Cert.Kernel2.main (F := Bits) = Cert.Kernel2Ideal.main (F := Bits) := rfl

theorem frame_words : Cert.quiescent_Kernel2 := fun m ρ _ => by
  have h := Mlp.frame (F := Bits) m ρ
  rw [← same_main, ← same_defs] at h
  exact h

end Mlp
-- ==== Proof.Mlp.Ref.lean ====
/- The reference's three arrays are those sums. -/
module

public import proofs.«01_k».proof.Proof.Gen.Reference2Ideal.Read
public import proofs.«01_k».proof.Proof.Mlp.Spec

@[expose] public section

set_option maxRecDepth 16384

noncomputable section

namespace Mlp

open Cert.Reference2Ideal Cert.Reference2Ideal.Read Idealize.ShloMosaic

variable (x : Mat 4096 1024) (w : Mat 1024 4096) (d g : Mat 4096 1024)

/-- Two ways of naming an index. -/
theorem pair {n k : ℕ} (i : (⟨2, ![n, k]⟩ : Shape).Idx) (p : Fin n) (q : Fin k) (hp : (i 0).val = p.val) (hq : (i 1).val = q.val) : i = ix2 p q := by
  funext a
  match a with
  | ⟨0, _⟩ => exact Fin.ext hp
  | ⟨1, _⟩ => exact Fin.ext hq

theorem v4 (i : S4096x4096.Idx) : val_main_v4 (F := Ideal) x w i = pre x w (i 0) (i 1) := by
  rw [val_main_v4_apply]
  unfold pre
  refine Finset.sum_congr rfl fun k _ => ?_
  rw [pair (lidx_main_v4 i k) (i 0) k rfl rfl, pair (ridx_main_v4 i k) k (i 1) rfl rfl]
  rfl

theorem v5 (i : S4096x4096.Idx) : val_main_v5 (F := Ideal) x w i = pos x w (i 0) (i 1) := by
  rw [val_main_v5_apply, v4]
  show max (pre x w (i 0) (i 1)) (Ideal.ofBits .f32 0x00000000#32) = _
  rw [Ideal.ofBits_zero_f32]; rfl

theorem v11 (i : S4096x4096.Idx) : val_main_v11 (F := Ideal) x w i = slope x w (i 0) (i 1) := by
  rw [val_main_v11_apply, v5]; rfl

theorem v13 (i : S4096x4096.Idx) : val_main_v13 (F := Ideal) d g i = ∑ k : Fin 1024, g (ix2 (i 0) k) * d (ix2 (i 1) k) := by
  rw [val_main_v13_apply]
  refine Finset.sum_congr rfl fun k _ => ?_
  rw [pair (lidx_main_v13 i k) (i 0) k rfl rfl, pair (ridx_main_v13 i k) (i 1) k rfl rfl]
  rfl

/-- The choice that the gradient of a positive part makes: nothing is lost by taking the first branch throughout. -/
theorem choice (i : S4096x4096.Idx) (a : EReal) :
    Scalar.select (FloatOps.cmpf (F := Ideal) (φ := .f32) .ogt (pre x w (i 0) (i 1)) (Ideal.ofBits .f32 0x00000000#32)) (a * slope x w (i 0) (i 1))
      (Ideal.ofBits .f32 0x00000000#32) = a * slope x w (i 0) (i 1) := by
  rw [Ideal.ofBits_zero_f32]
  show Scalar.select (BitVec.ofBool (decide (0 < pre x w (i 0) (i 1)))) _ _ = _
  by_cases h : 0 < pre x w (i 0) (i 1)
  · simp [h, Scalar.select]
  · simp [h, Scalar.select, slope_zero x w h]

theorem v16 (i : S4096x4096.Idx) : val_main_v16 (F := Ideal) x w d g i = back x w d g (i 0) (i 1) := by
  rw [val_main_v16_apply, val_main_v7_apply, val_main_v14_apply, v4, v11, v13]
  exact choice x w i _

theorem v17 : val_main_v17 (F := Ideal) x w = val_main_v4 (F := Ideal) x w := rfl
theorem v31 : val_main_v31 (F := Ideal) x w d g = val_main_v16 (F := Ideal) x w d g := rfl
theorem v18 : val_main_v18 (F := Ideal) x w = val_main_v5 (F := Ideal) x w := rfl

theorem refBack : val_main_v34 (F := Ideal) x w d g = backA x w d g := by
  funext i
  rw [val_main_v34_apply]
  exact v16 x w d g i

theorem v22 (i : S4096x4096.Idx) : val_main_v22 (F := Ideal) x w i = act x w (i 0) (i 1) := by
  rw [val_main_v22_apply, v18, v5]; rfl

theorem refDown : val_main_v35 (F := Ideal) x w g = downA x w g := by
  funext i
  rw [val_main_v35_apply, val_main_v27_apply, val_main_v26_apply]
  show (∑ k : Fin 4096, _) = gradDown x w g (i 0) (i 1)
  unfold gradDown
  refine Finset.sum_congr rfl fun k _ => ?_
  rw [pair (lidx_main_v26 (idx_main_v27 i) k) k (i 1) rfl rfl, v22]
  exact mul_comm _ _

theorem refUp : val_main_v38 (F := Ideal) x w d g = upA x w d g := by
  funext i
  have h0 : (i 0).val < 8 := (i 0).isLt
  have h1 : (i 1).val < 1024 := (i 1).isLt
  have h2 : (i 2).val < 512 := (i 2).isLt
  rw [val_main_v38_apply, val_main_v37_apply, val_main_v36_apply, val_main_v33_apply, val_main_v32_apply]
  show (∑ k : Fin 4096, _) = gradUp x w d g (i 1) _
  unfold gradUp
  refine Finset.sum_congr rfl fun k _ => ?_
  rw [v31, v16, mul_comm]
  refine congrArg₂ (· * ·) ?_ ?_
  · refine congrArg x (pair _ k (i 1) rfl ?_)
    show (((i 1).val * 8 + (i 0).val) * 512 + (i 2).val) / 4096 = (i 1).val
    omega
  · refine congrArg₂ (back x w d g) (Fin.ext rfl) (Fin.ext ?_)
    show (((i 1).val * 8 + (i 0).val) * 512 + (i 2).val) % 4096 = 512 * (i 0).val + (i 2).val
    omega

end Mlp

end
-- ==== Proof.Proj.Spec.lean ====
/- Three ways of multiplying two matrices. -/
module

public import Idealize.ShloMosaic.Lib.Pointwise

@[expose] public section

set_option maxRecDepth 16384

noncomputable section

namespace Proj

open Idealize.ShloMosaic

/-- A matrix of extended reals. -/
abbrev Mat (n k : ℕ) := (⟨2, ![n, k]⟩ : Shape).Idx → EReal

/-- The product of two matrices. -/
def mulNN {n m k : ℕ} (a : Mat n k) (b : Mat k m) : Mat n m := fun i => ∑ r : Fin k, a (ix2 (i 0) r) * b (ix2 r (i 1))
/-- A matrix times the transpose of another. -/
def mulNT {n m k : ℕ} (a : Mat n k) (b : Mat m k) : Mat n m := fun i => ∑ r : Fin k, a (ix2 (i 0) r) * b (ix2 (i 1) r)
/-- The transpose of a matrix times another. -/
def mulTN {n m k : ℕ} (a : Mat k n) (b : Mat k m) : Mat n m := fun i => ∑ r : Fin k, a (ix2 r (i 0)) * b (ix2 r (i 1))

end Proj

end
-- ==== Proof.Proj.Pay.lean ====
/- What one tile of each of the nine products computes. -/
module

public import proofs.«01_k».proof.Proof.Gen.Kernel3Ideal.Skeleton
public import proofs.«01_k».proof.Proof.Proj.Spec

@[expose] public section

set_option maxRecDepth 16384

noncomputable section

namespace Proj

open Cert.Kernel3Ideal Cert.Kernel3Ideal.Gen Idealize.ShloMosaic

theorem pay0 (a : Mat 1024 1024) (b : Mat 1024 1280) (i : Fin 1024) (j : Fin 1280) : k0_pay1 (F := Ideal) a b (ix2 i j)
    = ∑ r : Fin 1024, a (ix2 i r) * b (ix2 r j) := by
  pointwise [k0_pay1]

theorem pay1 (a : Mat 1024 1024) (b : Mat 1024 1024) (i : Fin 1024) (j : Fin 1024) : k1_pay1 (F := Ideal) a b (ix2 i j)
    = ∑ r : Fin 1024, a (ix2 i r) * b (ix2 r j) := by
  pointwise [k1_pay1]

theorem pay2 (a : Mat 1024 1024) (b : Mat 1024 1024) (i : Fin 1024) (j : Fin 1024) : k2_pay1 (F := Ideal) a b (ix2 i j)
    = ∑ r : Fin 1024, a (ix2 i r) * b (ix2 j r) := by
  pointwise [k2_pay1]

theorem pay3 (a : Mat 4096 1024) (b : Mat 4096 1024) (i : Fin 1024) (j : Fin 1024) : k3_pay1 (F := Ideal) a b (ix2 i j)
    = ∑ r : Fin 4096, a (ix2 r i) * b (ix2 r j) := by
  pointwise [k3_pay1]

theorem pay4 (a : Mat 4096 1024) (b : Mat 4096 1024) (i : Fin 1024) (j : Fin 1024) : k4_pay1 (F := Ideal) a b (ix2 i j)
    = ∑ r : Fin 4096, a (ix2 r i) * b (ix2 r j) := by
  pointwise [k4_pay1]

theorem pay5 (a : Mat 4096 1024) (b : Mat 4096 1024) (i : Fin 1024) (j : Fin 1024) : k5_pay1 (F := Ideal) a b (ix2 i j)
    = ∑ r : Fin 4096, a (ix2 r i) * b (ix2 r j) := by
  pointwise [k5_pay1]

theorem pay6 (a : Mat 4096 384) (b : Mat 4096 1024) (i : Fin 384) (j : Fin 1024) : k6_pay1 (F := Ideal) a b (ix2 i j)
    = ∑ r : Fin 4096, a (ix2 r i) * b (ix2 r j) := by
  pointwise [k6_pay1]

theorem pay7 (a : Mat 1024 1024) (b : Mat 384 1024) (i : Fin 1024) (j : Fin 384) : k7_pay1 (F := Ideal) a b (ix2 i j)
    = ∑ r : Fin 1024, a (ix2 i r) * b (ix2 j r) := by
  pointwise [k7_pay1]

theorem pay8 (a : Mat 4096 1024) (b : Mat 4096 1280) (i : Fin 1024) (j : Fin 1280) : k8_pay1 (F := Ideal) a b (ix2 i j)
    = ∑ r : Fin 4096, a (ix2 r i) * b (ix2 r j) := by
  pointwise [k8_pay1]

end Proj

end
-- ==== Proof.Proj.Tiles.lean ====
/- The arrays that the nine calls leave, from the arrays that they find. -/
module

public import proofs.«01_k».proof.Proof.Gen.Kernel3Ideal.Frame
public import proofs.«01_k».proof.Proof.Proj.Pay
public import Idealize.ShloMosaic.Lib.Pipeline.Value

@[expose] public section

set_option maxRecDepth 16384

noncomputable section

namespace Proj

open Cert.Kernel3Ideal Cert.Kernel3Ideal.Gen Idealize.ShloMosaic Idealize.ShloMosaic.TcCoe Idealize.SL.Sem

/-- The offsets of a whole tile. -/
theorem off2 : (![0, 0] : Fin 2 → Nat) = fun _ => 0 := by funext a; match a with | ⟨0, _⟩ => rfl | ⟨1, _⟩ => rfl

/-- A load of a whole tile is the tile. -/
theorem ldr0_0 {e : EltTy} (X : S1024x1024.Idx → Elt Ideal e) : View.ld (Val := Elt Ideal) X r0_0 = X := View.ld_unit_zero (S := S1024x1024) off2 _ X
theorem ldr0_1 {e : EltTy} (X : S1024x1280.Idx → Elt Ideal e) : View.ld (Val := Elt Ideal) X r0_1 = X := View.ld_unit_zero (S := S1024x1280) off2 _ X
theorem ldr1_0 {e : EltTy} (X : S1024x1024.Idx → Elt Ideal e) : View.ld (Val := Elt Ideal) X r1_0 = X := View.ld_unit_zero (S := S1024x1024) off2 _ X
theorem ldr2_0 {e : EltTy} (X : S1024x1024.Idx → Elt Ideal e) : View.ld (Val := Elt Ideal) X r2_0 = X := View.ld_unit_zero (S := S1024x1024) off2 _ X
theorem ldr3_0 {e : EltTy} (X : S4096x1024.Idx → Elt Ideal e) : View.ld (Val := Elt Ideal) X r3_0 = X := View.ld_unit_zero (S := S4096x1024) off2 _ X
theorem ldr3_1 {e : EltTy} (X : S1024x1024.Idx → Elt Ideal e) : View.ld (Val := Elt Ideal) X r3_1 = X := View.ld_unit_zero (S := S1024x1024) off2 _ X
theorem ldr4_0 {e : EltTy} (X : S4096x1024.Idx → Elt Ideal e) : View.ld (Val := Elt Ideal) X r4_0 = X := View.ld_unit_zero (S := S4096x1024) off2 _ X
theorem ldr4_1 {e : EltTy} (X : S1024x1024.Idx → Elt Ideal e) : View.ld (Val := Elt Ideal) X r4_1 = X := View.ld_unit_zero (S := S1024x1024) off2 _ X
theorem ldr5_0 {e : EltTy} (X : S4096x1024.Idx → Elt Ideal e) : View.ld (Val := Elt Ideal) X r5_0 = X := View.ld_unit_zero (S := S4096x1024) off2 _ X
theorem ldr5_1 {e : EltTy} (X : S1024x1024.Idx → Elt Ideal e) : View.ld (Val := Elt Ideal) X r5_1 = X := View.ld_unit_zero (S := S1024x1024) off2 _ X
theorem ldr6_0 {e : EltTy} (X : S4096x384.Idx → Elt Ideal e) : View.ld (Val := Elt Ideal) X r6_0 = X := View.ld_unit_zero (S := S4096x384) off2 _ X
theorem ldr6_1 {e : EltTy} (X : S4096x1024.Idx → Elt Ideal e) : View.ld (Val := Elt Ideal) X r6_1 = X := View.ld_unit_zero (S := S4096x1024) off2 _ X
theorem ldr6_2 {e : EltTy} (X : S384x1024.Idx → Elt Ideal e) : View.ld (Val := Elt Ideal) X r6_2 = X := View.ld_unit_zero (S := S384x1024) off2 _ X
theorem ldr7_0 {e : EltTy} (X : S1024x1024.Idx → Elt Ideal e) : View.ld (Val := Elt Ideal) X r7_0 = X := View.ld_unit_zero (S := S1024x1024) off2 _ X
theorem ldr7_1 {e : EltTy} (X : S384x1024.Idx → Elt Ideal e) : View.ld (Val := Elt Ideal) X r7_1 = X := View.ld_unit_zero (S := S384x1024) off2 _ X
theorem ldr7_2 {e : EltTy} (X : S1024x384.Idx → Elt Ideal e) : View.ld (Val := Elt Ideal) X r7_2 = X := View.ld_unit_zero (S := S1024x384) off2 _ X
theorem ldr8_0 {e : EltTy} (X : S4096x1024.Idx → Elt Ideal e) : View.ld (Val := Elt Ideal) X r8_0 = X := View.ld_unit_zero (S := S4096x1024) off2 _ X
theorem ldr8_1 {e : EltTy} (X : S4096x1280.Idx → Elt Ideal e) : View.ld (Val := Elt Ideal) X r8_1 = X := View.ld_unit_zero (S := S4096x1280) off2 _ X
theorem ldr8_2 {e : EltTy} (X : S1024x1280.Idx → Elt Ideal e) : View.ld (Val := Elt Ideal) X r8_2 = X := View.ld_unit_zero (S := S1024x1280) off2 _ X

variable (V : (c : Dev nD) → (b : Ref sig .tc) → Buf (Elt Ideal) ((c : Thread nD τ).loc b)) (c : Dev nD)

theorem at0_0 : ∀ t : Fin cfg0.N, win0_0.index t (0 : Fin 2) = t.val / 2 ∧ win0_0.index t (1 : Fin 2) = 0 :=
  (by decide +kernel : ∀ t : Fin grid0.N, _)

theorem at0_1 : ∀ t : Fin cfg0.N, win0_1.index t (0 : Fin 2) = 0 ∧ win0_1.index t (1 : Fin 2) = t.val % 2 :=
  (by decide +kernel : ∀ t : Fin grid0.N, _)

theorem at0_2 : ∀ t : Fin cfg0.N, win0_2.index t (0 : Fin 2) = t.val / 2 ∧ win0_2.index t (1 : Fin 2) = t.val % 2 :=
  (by decide +kernel : ∀ t : Fin grid0.N, _)

theorem tile0_0 (t : Fin cfg0.N) (i : Fin 1024) (j : Fin 1024) (p : Fin 4096) (q : Fin 1024)
    (hp : p.val = 1024 * (t.val / 2) + i.val) (hq : q.val = 1024 * (0) + j.val) :
    (iblk0 V c 0 t : Mat 1024 1024) (ix2 i j) = (V c main_arg0 : Mat 4096 1024) (ix2 p q) := by
  obtain ⟨e0, e1⟩ := at0_0 t
  refine congrArg (V c main_arg0 : Mat 4096 1024) ?_
  funext a; apply Fin.ext
  match a with
  | ⟨0, _⟩ => show win0_0.index t (0 : Fin 2) * 1024 + 1 * i.val = p.val; omega
  | ⟨1, _⟩ => show win0_0.index t (1 : Fin 2) * 1024 + 1 * j.val = q.val; omega

theorem tile0_1 (t : Fin cfg0.N) (i : Fin 1024) (j : Fin 1280) (p : Fin 1024) (q : Fin 2560)
    (hp : p.val = 1024 * (0) + i.val) (hq : q.val = 1280 * (t.val % 2) + j.val) :
    (iblk0 V c 1 t : Mat 1024 1280) (ix2 i j) = (V c main_arg1 : Mat 1024 2560) (ix2 p q) := by
  obtain ⟨e0, e1⟩ := at0_1 t
  refine congrArg (V c main_arg1 : Mat 1024 2560) ?_
  funext a; apply Fin.ext
  match a with
  | ⟨0, _⟩ => show win0_1.index t (0 : Fin 2) * 1024 + 1 * i.val = p.val; omega
  | ⟨1, _⟩ => show win0_1.index t (1 : Fin 2) * 1280 + 1 * j.val = q.val; omega

theorem back0 (t : Fin cfg0.N) :
    (dat0 V c).flushed 2 t = ((cfg0.win 2).blk t).view.read (Elt Ideal) (mulNN (V c main_arg0 : Mat 4096 1024) (V c main_arg1 : Mat 1024 2560)) := by
  have hN : t.val < 8 := lt_of_lt_of_eq t.isLt N_0
  obtain ⟨e0, e1⟩ := at0_2 t
  show (cfg0.win 2).cut (grid0.coords t) ((dat0 V c).after 2 t) = _
  rw [after0_2]
  funext y
  have hy0 : (y 0).val < 1024 := (y 0).isLt
  have hy1 : (y 1).val < 1280 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1280 + 1 * (y 1).val := rfl
  have ex : (cfg0.win 2).xinj (grid0.coords t) y = ix2 (⟨(y 0).val, hy0⟩ : Fin 1024) (⟨(y 1).val, hy1⟩ : Fin 1280) := by
    funext a; apply Fin.ext
    match a with
    | ⟨0, _⟩ => rfl
    | ⟨1, _⟩ => rfl
  show out0_2 (iblk0 V c 0 t) (iblk0 V c 1 t) ((cfg0.win 2).xinj (grid0.coords t) y) = (mulNN (V c main_arg0 : Mat 4096 1024) (V c main_arg1 : Mat 1024 2560)) (((cfg0.win 2).blk t).view.emb y)
  rw [ex, show out0_2 (iblk0 V c 0 t) (iblk0 V c 1 t) = k0_pay1 (iblk0 V c 0 t) (iblk0 V c 1 t) from by
    unfold out0_2; rw [View.canon_unit_zero (S := S1024x1280) off2]; simp only [ldr0_0, ldr0_1], pay0]
  have E := Finset.sum_congr (s₁ := (Finset.univ : Finset (Fin 1024))) rfl fun k _ => congrArg₂ (fun a b : EReal => a * b)
    (tile0_0 V c t ⟨(y 0).val, hy0⟩ k (((cfg0.win 2).blk t).view.emb y 0) k (by rw [hb0]; show _ = _ + (y 0).val; omega) (by omega))
    (tile0_1 V c t k ⟨(y 1).val, hy1⟩ k (((cfg0.win 2).blk t).view.emb y 1) (by omega) (by rw [hb1]; show _ = _ + (y 1).val; omega))
  exact E

theorem mem0 (t : Fin cfg0.N) (i : S4096x2560.Idx) :
    i ∈ ((cfg0.win 2).blk t).view.set ↔ ∀ a : Fin 2, win0_2.index t a * S1024x1280.size a ≤ (i a).val ∧ (i a).val < win0_2.index t a * S1024x1280.size a + S1024x1280.size a := by
  show i ∈ ((View.whole main_v0).slice (win0_2.rect t)).set ↔ _
  rw [View.set_slice_whole, Rect.mem_set_unit]
  exact Iff.rfl

theorem cover0 (i : S4096x2560.Idx) : ∃ t : Fin cfg0.N, (cfg0.win 2).flush t = true ∧ i ∈ ((cfg0.win 2).blk t).view.set := by
  have h0 : (i 0).val < 4096 := (i 0).isLt
  have h1 : (i 1).val < 2560 := (i 1).isLt
  have ht : 2 * ((i 0).val / 1024) + (i 1).val / 1280 < cfg0.N := lt_of_lt_of_eq (show _ < 8 by omega) N_0.symm
  refine ⟨⟨2 * ((i 0).val / 1024) + (i 1).val / 1280, ht⟩, flush0_2 _, ?_⟩
  have e0 : win0_2.index ⟨2 * ((i 0).val / 1024) + (i 1).val / 1280, ht⟩ (0 : Fin 2) = (2 * ((i 0).val / 1024) + (i 1).val / 1280) / 2 := (at0_2 _).1
  have e1 : win0_2.index ⟨2 * ((i 0).val / 1024) + (i 1).val / 1280, ht⟩ (1 : Fin 2) = (2 * ((i 0).val / 1024) + (i 1).val / 1280) % 2 := (at0_2 _).2
  rw [mem0]
  intro a
  match a with
  | ⟨0, _⟩ => show win0_2.index _ (0 : Fin 2) * 1024 ≤ (i 0).val ∧ (i 0).val < win0_2.index _ (0 : Fin 2) * 1024 + 1024; rw [e0]; omega
  | ⟨1, _⟩ => show win0_2.index _ (1 : Fin 2) * 1280 ≤ (i 1).val ∧ (i 1).val < win0_2.index _ (1 : Fin 2) * 1280 + 1280; rw [e1]; omega

/-- The array that call 0 leaves: the first projection. -/
theorem arr0 : (dat0 V c).arrAt 2 cfg0.N = mulNN (V c main_arg0 : Mat 4096 1024) (V c main_arg1 : Mat 1024 2560) :=
  (dat0 V c).arrAt_eq_of_cover 2 _ (fun t _ => back0 V c t) cover0

theorem at1_0 : ∀ t : Fin cfg1.N, win1_0.index t (0 : Fin 2) = t.val ∧ win1_0.index t (1 : Fin 2) = 0 :=
  (by decide +kernel : ∀ t : Fin grid1.N, _)

theorem at1_1 : ∀ t : Fin cfg1.N, win1_1.index t (0 : Fin 2) = 0 ∧ win1_1.index t (1 : Fin 2) = 0 :=
  (by decide +kernel : ∀ t : Fin grid1.N, _)

theorem at1_2 : ∀ t : Fin cfg1.N, win1_2.index t (0 : Fin 2) = t.val ∧ win1_2.index t (1 : Fin 2) = 0 :=
  (by decide +kernel : ∀ t : Fin grid1.N, _)

theorem tile1_0 (t : Fin cfg1.N) (i : Fin 1024) (j : Fin 1024) (p : Fin 4096) (q : Fin 1024)
    (hp : p.val = 1024 * (t.val) + i.val) (hq : q.val = 1024 * (0) + j.val) :
    (iblk1 V c 0 t : Mat 1024 1024) (ix2 i j) = (V c main_arg3 : Mat 4096 1024) (ix2 p q) := by
  obtain ⟨e0, e1⟩ := at1_0 t
  refine congrArg (V c main_arg3 : Mat 4096 1024) ?_
  funext a; apply Fin.ext
  match a with
  | ⟨0, _⟩ => show win1_0.index t (0 : Fin 2) * 1024 + 1 * i.val = p.val; omega
  | ⟨1, _⟩ => show win1_0.index t (1 : Fin 2) * 1024 + 1 * j.val = q.val; omega

theorem tile1_1 (t : Fin cfg1.N) (i : Fin 1024) (j : Fin 1024) (p : Fin 1024) (q : Fin 1024)
    (hp : p.val = 1024 * (0) + i.val) (hq : q.val = 1024 * (0) + j.val) :
    (iblk1 V c 1 t : Mat 1024 1024) (ix2 i j) = (V c main_arg4 : Mat 1024 1024) (ix2 p q) := by
  obtain ⟨e0, e1⟩ := at1_1 t
  refine congrArg (V c main_arg4 : Mat 1024 1024) ?_
  funext a; apply Fin.ext
  match a with
  | ⟨0, _⟩ => show win1_1.index t (0 : Fin 2) * 1024 + 1 * i.val = p.val; omega
  | ⟨1, _⟩ => show win1_1.index t (1 : Fin 2) * 1024 + 1 * j.val = q.val; omega

theorem back1 (t : Fin cfg1.N) :
    (dat1 V c).flushed 2 t = ((cfg1.win 2).blk t).view.read (Elt Ideal) (mulNN (V c main_arg3 : Mat 4096 1024) (V c main_arg4 : Mat 1024 1024)) := by
  have hN : t.val < 4 := lt_of_lt_of_eq t.isLt N_1
  obtain ⟨e0, e1⟩ := at1_2 t
  show (cfg1.win 2).cut (grid1.coords t) ((dat1 V c).after 2 t) = _
  rw [after1_2]
  funext y
  have hy0 : (y 0).val < 1024 := (y 0).isLt
  have hy1 : (y 1).val < 1024 := (y 1).isLt
  have hb0 : (((cfg1.win 2).blk t).view.emb y 0).val = win1_2.index t (0 : Fin 2) * 1024 + 1 * (y 0).val := rfl
  have hb1 : (((cfg1.win 2).blk t).view.emb y 1).val = win1_2.index t (1 : Fin 2) * 1024 + 1 * (y 1).val := rfl
  have ex : (cfg1.win 2).xinj (grid1.coords t) y = ix2 (⟨(y 0).val, hy0⟩ : Fin 1024) (⟨(y 1).val, hy1⟩ : Fin 1024) := by
    funext a; apply Fin.ext
    match a with
    | ⟨0, _⟩ => rfl
    | ⟨1, _⟩ => rfl
  show out1_2 (iblk1 V c 0 t) (iblk1 V c 1 t) ((cfg1.win 2).xinj (grid1.coords t) y) = (mulNN (V c main_arg3 : Mat 4096 1024) (V c main_arg4 : Mat 1024 1024)) (((cfg1.win 2).blk t).view.emb y)
  rw [ex, show out1_2 (iblk1 V c 0 t) (iblk1 V c 1 t) = k1_pay1 (iblk1 V c 0 t) (iblk1 V c 1 t) from by
    unfold out1_2; rw [View.canon_unit_zero (S := S1024x1024) off2]; simp only [ldr1_0], pay1]
  have E := Finset.sum_congr (s₁ := (Finset.univ : Finset (Fin 1024))) rfl fun k _ => congrArg₂ (fun a b : EReal => a * b)
    (tile1_0 V c t ⟨(y 0).val, hy0⟩ k (((cfg1.win 2).blk t).view.emb y 0) k (by rw [hb0]; show _ = _ + (y 0).val; omega) (by omega))
    (tile1_1 V c t k ⟨(y 1).val, hy1⟩ k (((cfg1.win 2).blk t).view.emb y 1) (by omega) (by rw [hb1]; show _ = _ + (y 1).val; omega))
  exact E

theorem mem1 (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

theorem cover1 (i : S4096x1024.Idx) : ∃ t : Fin cfg1.N, (cfg1.win 2).flush t = true ∧ i ∈ ((cfg1.win 2).blk t).view.set := by
  have h0 : (i 0).val < 4096 := (i 0).isLt
  have h1 : (i 1).val < 1024 := (i 1).isLt
  have ht : (i 0).val / 1024 < cfg1.N := lt_of_lt_of_eq (show _ < 4 by omega) N_1.symm
  refine ⟨⟨(i 0).val / 1024, ht⟩, flush1_2 _, ?_⟩
  have e0 : win1_2.index ⟨(i 0).val / 1024, ht⟩ (0 : Fin 2) = ((i 0).val / 1024) := (at1_2 _).1
  have e1 : win1_2.index ⟨(i 0).val / 1024, ht⟩ (1 : Fin 2) = 0 := (at1_2 _).2
  rw [mem1]
  intro a
  match a with
  | ⟨0, _⟩ => show win1_2.index _ (0 : Fin 2) * 1024 ≤ (i 0).val ∧ (i 0).val < win1_2.index _ (0 : Fin 2) * 1024 + 1024; rw [e0]; omega
  | ⟨1, _⟩ => show win1_2.index _ (1 : Fin 2) * 1024 ≤ (i 1).val ∧ (i 1).val < win1_2.index _ (1 : Fin 2) * 1024 + 1024; rw [e1]; omega

/-- The array that call 1 leaves: the query of the memory attention. -/
theorem arr1 : (dat1 V c).arrAt 2 cfg1.N = mulNN (V c main_arg3 : Mat 4096 1024) (V c main_arg4 : Mat 1024 1024) :=
  (dat1 V c).arrAt_eq_of_cover 2 _ (fun t _ => back1 V c t) cover1

theorem at2_0 : ∀ t : Fin cfg2.N, win2_0.index t (0 : Fin 2) = t.val ∧ win2_0.index t (1 : Fin 2) = 0 :=
  (by decide +kernel : ∀ t : Fin grid2.N, _)

theorem at2_1 : ∀ t : Fin cfg2.N, win2_1.index t (0 : Fin 2) = 0 ∧ win2_1.index t (1 : Fin 2) = 0 :=
  (by decide +kernel : ∀ t : Fin grid2.N, _)

theorem at2_2 : ∀ t : Fin cfg2.N, win2_2.index t (0 : Fin 2) = t.val ∧ win2_2.index t (1 : Fin 2) = 0 :=
  (by decide +kernel : ∀ t : Fin grid2.N, _)

theorem tile2_0 (t : Fin cfg2.N) (i : Fin 1024) (j : Fin 1024) (p : Fin 4096) (q : Fin 1024)
    (hp : p.val = 1024 * (t.val) + i.val) (hq : q.val = 1024 * (0) + j.val) :
    (iblk2 V c 0 t : Mat 1024 1024) (ix2 i j) = (V c main_arg8 : Mat 4096 1024) (ix2 p q) := by
  obtain ⟨e0, e1⟩ := at2_0 t
  refine congrArg (V c main_arg8 : Mat 4096 1024) ?_
  funext a; apply Fin.ext
  match a with
  | ⟨0, _⟩ => show win2_0.index t (0 : Fin 2) * 1024 + 1 * i.val = p.val; omega
  | ⟨1, _⟩ => show win2_0.index t (1 : Fin 2) * 1024 + 1 * j.val = q.val; omega

theorem tile2_1 (t : Fin cfg2.N) (i : Fin 1024) (j : Fin 1024) (p : Fin 1024) (q : Fin 1024)
    (hp : p.val = 1024 * (0) + i.val) (hq : q.val = 1024 * (0) + j.val) :
    (iblk2 V c 1 t : Mat 1024 1024) (ix2 i j) = (V c main_arg7 : Mat 1024 1024) (ix2 p q) := by
  obtain ⟨e0, e1⟩ := at2_1 t
  refine congrArg (V c main_arg7 : Mat 1024 1024) ?_
  funext a; apply Fin.ext
  match a with
  | ⟨0, _⟩ => show win2_1.index t (0 : Fin 2) * 1024 + 1 * i.val = p.val; omega
  | ⟨1, _⟩ => show win2_1.index t (1 : Fin 2) * 1024 + 1 * j.val = q.val; omega

theorem back2 (t : Fin cfg2.N) :
    (dat2 V c).flushed 2 t = ((cfg2.win 2).blk t).view.read (Elt Ideal) (mulNT (V c main_arg8 : Mat 4096 1024) (V c main_arg7 : Mat 1024 1024)) := by
  have hN : t.val < 4 := lt_of_lt_of_eq t.isLt N_2
  obtain ⟨e0, e1⟩ := at2_2 t
  show (cfg2.win 2).cut (grid2.coords t) ((dat2 V c).after 2 t) = _
  rw [after2_2]
  funext y
  have hy0 : (y 0).val < 1024 := (y 0).isLt
  have hy1 : (y 1).val < 1024 := (y 1).isLt
  have hb0 : (((cfg2.win 2).blk t).view.emb y 0).val = win2_2.index t (0 : Fin 2) * 1024 + 1 * (y 0).val := rfl
  have hb1 : (((cfg2.win 2).blk t).view.emb y 1).val = win2_2.index t (1 : Fin 2) * 1024 + 1 * (y 1).val := rfl
  have ex : (cfg2.win 2).xinj (grid2.coords t) y = ix2 (⟨(y 0).val, hy0⟩ : Fin 1024) (⟨(y 1).val, hy1⟩ : Fin 1024) := by
    funext a; apply Fin.ext
    match a with
    | ⟨0, _⟩ => rfl
    | ⟨1, _⟩ => rfl
  show out2_2 (iblk2 V c 0 t) (iblk2 V c 1 t) ((cfg2.win 2).xinj (grid2.coords t) y) = (mulNT (V c main_arg8 : Mat 4096 1024) (V c main_arg7 : Mat 1024 1024)) (((cfg2.win 2).blk t).view.emb y)
  rw [ex, show out2_2 (iblk2 V c 0 t) (iblk2 V c 1 t) = k2_pay1 (iblk2 V c 0 t) (iblk2 V c 1 t) from by
    unfold out2_2; rw [View.canon_unit_zero (S := S1024x1024) off2]; simp only [ldr2_0], pay2]
  have E := Finset.sum_congr (s₁ := (Finset.univ : Finset (Fin 1024))) rfl fun k _ => congrArg₂ (fun a b : EReal => a * b)
    (tile2_0 V c t ⟨(y 0).val, hy0⟩ k (((cfg2.win 2).blk t).view.emb y 0) k (by rw [hb0]; show _ = _ + (y 0).val; omega) (by omega))
    (tile2_1 V c t ⟨(y 1).val, hy1⟩ k (((cfg2.win 2).blk t).view.emb y 1) k (by rw [hb1]; show _ = _ + (y 1).val; omega) (by omega))
  exact E

theorem mem2 (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v2).slice (win2_2.rect t)).set ↔ _
  rw [View.set_slice_whole, Rect.mem_set_unit]
  exact Iff.rfl

theorem cover2 (i : S4096x1024.Idx) : ∃ t : Fin cfg2.N, (cfg2.win 2).flush t = true ∧ i ∈ ((cfg2.win 2).blk t).view.set := by
  have h0 : (i 0).val < 4096 := (i 0).isLt
  have h1 : (i 1).val < 1024 := (i 1).isLt
  have ht : (i 0).val / 1024 < cfg2.N := lt_of_lt_of_eq (show _ < 4 by omega) N_2.symm
  refine ⟨⟨(i 0).val / 1024, ht⟩, flush2_2 _, ?_⟩
  have e0 : win2_2.index ⟨(i 0).val / 1024, ht⟩ (0 : Fin 2) = ((i 0).val / 1024) := (at2_2 _).1
  have e1 : win2_2.index ⟨(i 0).val / 1024, ht⟩ (1 : Fin 2) = 0 := (at2_2 _).2
  rw [mem2]
  intro a
  match a with
  | ⟨0, _⟩ => show win2_2.index _ (0 : Fin 2) * 1024 ≤ (i 0).val ∧ (i 0).val < win2_2.index _ (0 : Fin 2) * 1024 + 1024; rw [e0]; omega
  | ⟨1, _⟩ => show win2_2.index _ (1 : Fin 2) * 1024 ≤ (i 1).val ∧ (i 1).val < win2_2.index _ (1 : Fin 2) * 1024 + 1024; rw [e1]; omega

/-- The array that call 2 leaves: the input gradient of the memory output. -/
theorem arr2 : (dat2 V c).arrAt 2 cfg2.N = mulNT (V c main_arg8 : Mat 4096 1024) (V c main_arg7 : Mat 1024 1024) :=
  (dat2 V c).arrAt_eq_of_cover 2 _ (fun t _ => back2 V c t) cover2

theorem at3_0 : ∀ t : Fin cfg3.N, win3_0.index t (0 : Fin 2) = 0 ∧ win3_0.index t (1 : Fin 2) = 0 :=
  (by decide +kernel : ∀ t : Fin grid3.N, _)

theorem at3_1 : ∀ t : Fin cfg3.N, win3_1.index t (0 : Fin 2) = 0 ∧ win3_1.index t (1 : Fin 2) = 0 :=
  (by decide +kernel : ∀ t : Fin grid3.N, _)

theorem at3_2 : ∀ t : Fin cfg3.N, win3_2.index t (0 : Fin 2) = 0 ∧ win3_2.index t (1 : Fin 2) = 0 :=
  (by decide +kernel : ∀ t : Fin grid3.N, _)

theorem tile3_0 (t : Fin cfg3.N) (i : Fin 4096) (j : Fin 1024) (p : Fin 4096) (q : Fin 1024)
    (hp : p.val = 4096 * (0) + i.val) (hq : q.val = 1024 * (0) + j.val) :
    (iblk3 V c 0 t : Mat 4096 1024) (ix2 i j) = (V c main_arg6 : Mat 4096 1024) (ix2 p q) := by
  obtain ⟨e0, e1⟩ := at3_0 t
  refine congrArg (V c main_arg6 : Mat 4096 1024) ?_
  funext a; apply Fin.ext
  match a with
  | ⟨0, _⟩ => show win3_0.index t (0 : Fin 2) * 4096 + 1 * i.val = p.val; omega
  | ⟨1, _⟩ => show win3_0.index t (1 : Fin 2) * 1024 + 1 * j.val = q.val; omega

theorem tile3_1 (t : Fin cfg3.N) (i : Fin 4096) (j : Fin 1024) (p : Fin 4096) (q : Fin 1024)
    (hp : p.val = 4096 * (0) + i.val) (hq : q.val = 1024 * (0) + j.val) :
    (iblk3 V c 1 t : Mat 4096 1024) (ix2 i j) = (V c main_arg8 : Mat 4096 1024) (ix2 p q) := by
  obtain ⟨e0, e1⟩ := at3_1 t
  refine congrArg (V c main_arg8 : Mat 4096 1024) ?_
  funext a; apply Fin.ext
  match a with
  | ⟨0, _⟩ => show win3_1.index t (0 : Fin 2) * 4096 + 1 * i.val = p.val; omega
  | ⟨1, _⟩ => show win3_1.index t (1 : Fin 2) * 1024 + 1 * j.val = q.val; omega

theorem back3 (t : Fin cfg3.N) :
    (dat3 V c).flushed 2 t = ((cfg3.win 2).blk t).view.read (Elt Ideal) (mulTN (V c main_arg6 : Mat 4096 1024) (V c main_arg8 : Mat 4096 1024)) := by
  have hN : t.val < 1 := lt_of_lt_of_eq t.isLt N_3
  obtain ⟨e0, e1⟩ := at3_2 t
  show (cfg3.win 2).cut (grid3.coords t) ((dat3 V c).after 2 t) = _
  rw [after3_2]
  funext y
  have hy0 : (y 0).val < 1024 := (y 0).isLt
  have hy1 : (y 1).val < 1024 := (y 1).isLt
  have hb0 : (((cfg3.win 2).blk t).view.emb y 0).val = win3_2.index t (0 : Fin 2) * 1024 + 1 * (y 0).val := rfl
  have hb1 : (((cfg3.win 2).blk t).view.emb y 1).val = win3_2.index t (1 : Fin 2) * 1024 + 1 * (y 1).val := rfl
  have ex : (cfg3.win 2).xinj (grid3.coords t) y = ix2 (⟨(y 0).val, hy0⟩ : Fin 1024) (⟨(y 1).val, hy1⟩ : Fin 1024) := by
    funext a; apply Fin.ext
    match a with
    | ⟨0, _⟩ => rfl
    | ⟨1, _⟩ => rfl
  show out3_2 (iblk3 V c 0 t) (iblk3 V c 1 t) ((cfg3.win 2).xinj (grid3.coords t) y) = (mulTN (V c main_arg6 : Mat 4096 1024) (V c main_arg8 : Mat 4096 1024)) (((cfg3.win 2).blk t).view.emb y)
  rw [ex, show out3_2 (iblk3 V c 0 t) (iblk3 V c 1 t) = k3_pay1 (iblk3 V c 0 t) (iblk3 V c 1 t) from by
    unfold out3_2; rw [View.canon_unit_zero (S := S1024x1024) off2]; simp only [ldr3_0, ldr3_1], pay3]
  have E := Finset.sum_congr (s₁ := (Finset.univ : Finset (Fin 4096))) rfl fun k _ => congrArg₂ (fun a b : EReal => a * b)
    (tile3_0 V c t k ⟨(y 0).val, hy0⟩ k (((cfg3.win 2).blk t).view.emb y 0) (by omega) (by rw [hb0]; show _ = _ + (y 0).val; omega))
    (tile3_1 V c t k ⟨(y 1).val, hy1⟩ k (((cfg3.win 2).blk t).view.emb y 1) (by omega) (by rw [hb1]; show _ = _ + (y 1).val; omega))
  exact E

theorem mem3 (t : Fin cfg3.N) (i : S1024x1024.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v3).slice (win3_2.rect t)).set ↔ _
  rw [View.set_slice_whole, Rect.mem_set_unit]
  exact Iff.rfl

theorem cover3 (i : S1024x1024.Idx) : ∃ t : Fin cfg3.N, (cfg3.win 2).flush t = true ∧ i ∈ ((cfg3.win 2).blk t).view.set := by
  have h0 : (i 0).val < 1024 := (i 0).isLt
  have h1 : (i 1).val < 1024 := (i 1).isLt
  have ht : 0 < cfg3.N := lt_of_lt_of_eq (show _ < 1 by omega) N_3.symm
  refine ⟨⟨0, ht⟩, flush3_2 _, ?_⟩
  have e0 : win3_2.index ⟨0, ht⟩ (0 : Fin 2) = 0 := (at3_2 _).1
  have e1 : win3_2.index ⟨0, ht⟩ (1 : Fin 2) = 0 := (at3_2 _).2
  rw [mem3]
  intro a
  match a with
  | ⟨0, _⟩ => show win3_2.index _ (0 : Fin 2) * 1024 ≤ (i 0).val ∧ (i 0).val < win3_2.index _ (0 : Fin 2) * 1024 + 1024; rw [e0]; omega
  | ⟨1, _⟩ => show win3_2.index _ (1 : Fin 2) * 1024 ≤ (i 1).val ∧ (i 1).val < win3_2.index _ (1 : Fin 2) * 1024 + 1024; rw [e1]; omega

/-- The array that call 3 leaves: the weight gradient of the memory output. -/
theorem arr3 : (dat3 V c).arrAt 2 cfg3.N = mulTN (V c main_arg6 : Mat 4096 1024) (V c main_arg8 : Mat 4096 1024) :=
  (dat3 V c).arrAt_eq_of_cover 2 _ (fun t _ => back3 V c t) cover3

theorem at4_0 : ∀ t : Fin cfg4.N, win4_0.index t (0 : Fin 2) = 0 ∧ win4_0.index t (1 : Fin 2) = 0 :=
  (by decide +kernel : ∀ t : Fin grid4.N, _)

theorem at4_1 : ∀ t : Fin cfg4.N, win4_1.index t (0 : Fin 2) = 0 ∧ win4_1.index t (1 : Fin 2) = 0 :=
  (by decide +kernel : ∀ t : Fin grid4.N, _)

theorem at4_2 : ∀ t : Fin cfg4.N, win4_2.index t (0 : Fin 2) = 0 ∧ win4_2.index t (1 : Fin 2) = 0 :=
  (by decide +kernel : ∀ t : Fin grid4.N, _)

theorem tile4_0 (t : Fin cfg4.N) (i : Fin 4096) (j : Fin 1024) (p : Fin 4096) (q : Fin 1024)
    (hp : p.val = 4096 * (0) + i.val) (hq : q.val = 1024 * (0) + j.val) :
    (iblk4 V c 0 t : Mat 4096 1024) (ix2 i j) = (V c main_arg3 : Mat 4096 1024) (ix2 p q) := by
  obtain ⟨e0, e1⟩ := at4_0 t
  refine congrArg (V c main_arg3 : Mat 4096 1024) ?_
  funext a; apply Fin.ext
  match a with
  | ⟨0, _⟩ => show win4_0.index t (0 : Fin 2) * 4096 + 1 * i.val = p.val; omega
  | ⟨1, _⟩ => show win4_0.index t (1 : Fin 2) * 1024 + 1 * j.val = q.val; omega

theorem tile4_1 (t : Fin cfg4.N) (i : Fin 4096) (j : Fin 1024) (p : Fin 4096) (q : Fin 1024)
    (hp : p.val = 4096 * (0) + i.val) (hq : q.val = 1024 * (0) + j.val) :
    (iblk4 V c 1 t : Mat 4096 1024) (ix2 i j) = (V c main_arg5 : Mat 4096 1024) (ix2 p q) := by
  obtain ⟨e0, e1⟩ := at4_1 t
  refine congrArg (V c main_arg5 : Mat 4096 1024) ?_
  funext a; apply Fin.ext
  match a with
  | ⟨0, _⟩ => show win4_1.index t (0 : Fin 2) * 4096 + 1 * i.val = p.val; omega
  | ⟨1, _⟩ => show win4_1.index t (1 : Fin 2) * 1024 + 1 * j.val = q.val; omega

theorem back4 (t : Fin cfg4.N) :
    (dat4 V c).flushed 2 t = ((cfg4.win 2).blk t).view.read (Elt Ideal) (mulTN (V c main_arg3 : Mat 4096 1024) (V c main_arg5 : Mat 4096 1024)) := by
  have hN : t.val < 1 := lt_of_lt_of_eq t.isLt N_4
  obtain ⟨e0, e1⟩ := at4_2 t
  show (cfg4.win 2).cut (grid4.coords t) ((dat4 V c).after 2 t) = _
  rw [after4_2]
  funext y
  have hy0 : (y 0).val < 1024 := (y 0).isLt
  have hy1 : (y 1).val < 1024 := (y 1).isLt
  have hb0 : (((cfg4.win 2).blk t).view.emb y 0).val = win4_2.index t (0 : Fin 2) * 1024 + 1 * (y 0).val := rfl
  have hb1 : (((cfg4.win 2).blk t).view.emb y 1).val = win4_2.index t (1 : Fin 2) * 1024 + 1 * (y 1).val := rfl
  have ex : (cfg4.win 2).xinj (grid4.coords t) y = ix2 (⟨(y 0).val, hy0⟩ : Fin 1024) (⟨(y 1).val, hy1⟩ : Fin 1024) := by
    funext a; apply Fin.ext
    match a with
    | ⟨0, _⟩ => rfl
    | ⟨1, _⟩ => rfl
  show out4_2 (iblk4 V c 0 t) (iblk4 V c 1 t) ((cfg4.win 2).xinj (grid4.coords t) y) = (mulTN (V c main_arg3 : Mat 4096 1024) (V c main_arg5 : Mat 4096 1024)) (((cfg4.win 2).blk t).view.emb y)
  rw [ex, show out4_2 (iblk4 V c 0 t) (iblk4 V c 1 t) = k4_pay1 (iblk4 V c 0 t) (iblk4 V c 1 t) from by
    unfold out4_2; rw [View.canon_unit_zero (S := S1024x1024) off2]; simp only [ldr4_0, ldr4_1], pay4]
  have E := Finset.sum_congr (s₁ := (Finset.univ : Finset (Fin 4096))) rfl fun k _ => congrArg₂ (fun a b : EReal => a * b)
    (tile4_0 V c t k ⟨(y 0).val, hy0⟩ k (((cfg4.win 2).blk t).view.emb y 0) (by omega) (by rw [hb0]; show _ = _ + (y 0).val; omega))
    (tile4_1 V c t k ⟨(y 1).val, hy1⟩ k (((cfg4.win 2).blk t).view.emb y 1) (by omega) (by rw [hb1]; show _ = _ + (y 1).val; omega))
  exact E

theorem mem4 (t : Fin cfg4.N) (i : S1024x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v4).slice (win4_2.rect t)).set ↔ _
  rw [View.set_slice_whole, Rect.mem_set_unit]
  exact Iff.rfl

theorem cover4 (i : S1024x1024.Idx) : ∃ t : Fin cfg4.N, (cfg4.win 2).flush t = true ∧ i ∈ ((cfg4.win 2).blk t).view.set := by
  have h0 : (i 0).val < 1024 := (i 0).isLt
  have h1 : (i 1).val < 1024 := (i 1).isLt
  have ht : 0 < cfg4.N := lt_of_lt_of_eq (show _ < 1 by omega) N_4.symm
  refine ⟨⟨0, ht⟩, flush4_2 _, ?_⟩
  have e0 : win4_2.index ⟨0, ht⟩ (0 : Fin 2) = 0 := (at4_2 _).1
  have e1 : win4_2.index ⟨0, ht⟩ (1 : Fin 2) = 0 := (at4_2 _).2
  rw [mem4]
  intro a
  match a with
  | ⟨0, _⟩ => show win4_2.index _ (0 : Fin 2) * 1024 ≤ (i 0).val ∧ (i 0).val < win4_2.index _ (0 : Fin 2) * 1024 + 1024; rw [e0]; omega
  | ⟨1, _⟩ => show win4_2.index _ (1 : Fin 2) * 1024 ≤ (i 1).val ∧ (i 1).val < win4_2.index _ (1 : Fin 2) * 1024 + 1024; rw [e1]; omega

/-- The array that call 4 leaves: the weight gradient of the memory query. -/
theorem arr4 : (dat4 V c).arrAt 2 cfg4.N = mulTN (V c main_arg3 : Mat 4096 1024) (V c main_arg5 : Mat 4096 1024) :=
  (dat4 V c).arrAt_eq_of_cover 2 _ (fun t _ => back4 V c t) cover4

theorem at5_0 : ∀ t : Fin cfg5.N, win5_0.index t (0 : Fin 2) = 0 ∧ win5_0.index t (1 : Fin 2) = 0 :=
  (by decide +kernel : ∀ t : Fin grid5.N, _)

theorem at5_1 : ∀ t : Fin cfg5.N, win5_1.index t (0 : Fin 2) = 0 ∧ win5_1.index t (1 : Fin 2) = 0 :=
  (by decide +kernel : ∀ t : Fin grid5.N, _)

theorem at5_2 : ∀ t : Fin cfg5.N, win5_2.index t (0 : Fin 2) = 0 ∧ win5_2.index t (1 : Fin 2) = 0 :=
  (by decide +kernel : ∀ t : Fin grid5.N, _)

theorem tile5_0 (t : Fin cfg5.N) (i : Fin 4096) (j : Fin 1024) (p : Fin 4096) (q : Fin 1024)
    (hp : p.val = 4096 * (0) + i.val) (hq : q.val = 1024 * (0) + j.val) :
    (iblk5 V c 0 t : Mat 4096 1024) (ix2 i j) = (V c main_arg9 : Mat 4096 1024) (ix2 p q) := by
  obtain ⟨e0, e1⟩ := at5_0 t
  refine congrArg (V c main_arg9 : Mat 4096 1024) ?_
  funext a; apply Fin.ext
  match a with
  | ⟨0, _⟩ => show win5_0.index t (0 : Fin 2) * 4096 + 1 * i.val = p.val; omega
  | ⟨1, _⟩ => show win5_0.index t (1 : Fin 2) * 1024 + 1 * j.val = q.val; omega

theorem tile5_1 (t : Fin cfg5.N) (i : Fin 4096) (j : Fin 1024) (p : Fin 4096) (q : Fin 1024)
    (hp : p.val = 4096 * (0) + i.val) (hq : q.val = 1024 * (0) + j.val) :
    (iblk5 V c 1 t : Mat 4096 1024) (ix2 i j) = (V c main_arg10 : Mat 4096 1024) (ix2 p q) := by
  obtain ⟨e0, e1⟩ := at5_1 t
  refine congrArg (V c main_arg10 : Mat 4096 1024) ?_
  funext a; apply Fin.ext
  match a with
  | ⟨0, _⟩ => show win5_1.index t (0 : Fin 2) * 4096 + 1 * i.val = p.val; omega
  | ⟨1, _⟩ => show win5_1.index t (1 : Fin 2) * 1024 + 1 * j.val = q.val; omega

theorem back5 (t : Fin cfg5.N) :
    (dat5 V c).flushed 2 t = ((cfg5.win 2).blk t).view.read (Elt Ideal) (mulTN (V c main_arg9 : Mat 4096 1024) (V c main_arg10 : Mat 4096 1024)) := by
  have hN : t.val < 1 := lt_of_lt_of_eq t.isLt N_5
  obtain ⟨e0, e1⟩ := at5_2 t
  show (cfg5.win 2).cut (grid5.coords t) ((dat5 V c).after 2 t) = _
  rw [after5_2]
  funext y
  have hy0 : (y 0).val < 1024 := (y 0).isLt
  have hy1 : (y 1).val < 1024 := (y 1).isLt
  have hb0 : (((cfg5.win 2).blk t).view.emb y 0).val = win5_2.index t (0 : Fin 2) * 1024 + 1 * (y 0).val := rfl
  have hb1 : (((cfg5.win 2).blk t).view.emb y 1).val = win5_2.index t (1 : Fin 2) * 1024 + 1 * (y 1).val := rfl
  have ex : (cfg5.win 2).xinj (grid5.coords t) y = ix2 (⟨(y 0).val, hy0⟩ : Fin 1024) (⟨(y 1).val, hy1⟩ : Fin 1024) := by
    funext a; apply Fin.ext
    match a with
    | ⟨0, _⟩ => rfl
    | ⟨1, _⟩ => rfl
  show out5_2 (iblk5 V c 0 t) (iblk5 V c 1 t) ((cfg5.win 2).xinj (grid5.coords t) y) = (mulTN (V c main_arg9 : Mat 4096 1024) (V c main_arg10 : Mat 4096 1024)) (((cfg5.win 2).blk t).view.emb y)
  rw [ex, show out5_2 (iblk5 V c 0 t) (iblk5 V c 1 t) = k5_pay1 (iblk5 V c 0 t) (iblk5 V c 1 t) from by
    unfold out5_2; rw [View.canon_unit_zero (S := S1024x1024) off2]; simp only [ldr5_0, ldr5_1], pay5]
  have E := Finset.sum_congr (s₁ := (Finset.univ : Finset (Fin 4096))) rfl fun k _ => congrArg₂ (fun a b : EReal => a * b)
    (tile5_0 V c t k ⟨(y 0).val, hy0⟩ k (((cfg5.win 2).blk t).view.emb y 0) (by omega) (by rw [hb0]; show _ = _ + (y 0).val; omega))
    (tile5_1 V c t k ⟨(y 1).val, hy1⟩ k (((cfg5.win 2).blk t).view.emb y 1) (by omega) (by rw [hb1]; show _ = _ + (y 1).val; omega))
  exact E

theorem mem5 (t : Fin cfg5.N) (i : S1024x1024.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v5).slice (win5_2.rect t)).set ↔ _
  rw [View.set_slice_whole, Rect.mem_set_unit]
  exact Iff.rfl

theorem cover5 (i : S1024x1024.Idx) : ∃ t : Fin cfg5.N, (cfg5.win 2).flush t = true ∧ i ∈ ((cfg5.win 2).blk t).view.set := by
  have h0 : (i 0).val < 1024 := (i 0).isLt
  have h1 : (i 1).val < 1024 := (i 1).isLt
  have ht : 0 < cfg5.N := lt_of_lt_of_eq (show _ < 1 by omega) N_5.symm
  refine ⟨⟨0, ht⟩, flush5_2 _, ?_⟩
  have e0 : win5_2.index ⟨0, ht⟩ (0 : Fin 2) = 0 := (at5_2 _).1
  have e1 : win5_2.index ⟨0, ht⟩ (1 : Fin 2) = 0 := (at5_2 _).2
  rw [mem5]
  intro a
  match a with
  | ⟨0, _⟩ => show win5_2.index _ (0 : Fin 2) * 1024 ≤ (i 0).val ∧ (i 0).val < win5_2.index _ (0 : Fin 2) * 1024 + 1024; rw [e0]; omega
  | ⟨1, _⟩ => show win5_2.index _ (1 : Fin 2) * 1024 ≤ (i 1).val ∧ (i 1).val < win5_2.index _ (1 : Fin 2) * 1024 + 1024; rw [e1]; omega

/-- The array that call 5 leaves: the weight gradient of the mixer output. -/
theorem arr5 : (dat5 V c).arrAt 2 cfg5.N = mulTN (V c main_arg9 : Mat 4096 1024) (V c main_arg10 : Mat 4096 1024) :=
  (dat5 V c).arrAt_eq_of_cover 2 _ (fun t _ => back5 V c t) cover5

theorem at6_0 : ∀ t : Fin cfg6.N, win6_0.index t (0 : Fin 2) = 0 ∧ win6_0.index t (1 : Fin 2) = 0 :=
  (by decide +kernel : ∀ t : Fin grid6.N, _)

theorem at6_1 : ∀ t : Fin cfg6.N, win6_1.index t (0 : Fin 2) = 0 ∧ win6_1.index t (1 : Fin 2) = 0 :=
  (by decide +kernel : ∀ t : Fin grid6.N, _)

theorem at6_2 : ∀ t : Fin cfg6.N, win6_2.index t (0 : Fin 2) = 0 ∧ win6_2.index t (1 : Fin 2) = 0 :=
  (by decide +kernel : ∀ t : Fin grid6.N, _)

theorem tile6_0 (t : Fin cfg6.N) (i : Fin 4096) (j : Fin 384) (p : Fin 4096) (q : Fin 384)
    (hp : p.val = 4096 * (0) + i.val) (hq : q.val = 384 * (0) + j.val) :
    (iblk6 V c 0 t : Mat 4096 384) (ix2 i j) = (V c main_arg11 : Mat 4096 384) (ix2 p q) := by
  obtain ⟨e0, e1⟩ := at6_0 t
  refine congrArg (V c main_arg11 : Mat 4096 384) ?_
  funext a; apply Fin.ext
  match a with
  | ⟨0, _⟩ => show win6_0.index t (0 : Fin 2) * 4096 + 1 * i.val = p.val; omega
  | ⟨1, _⟩ => show win6_0.index t (1 : Fin 2) * 384 + 1 * j.val = q.val; omega

theorem tile6_1 (t : Fin cfg6.N) (i : Fin 4096) (j : Fin 1024) (p : Fin 4096) (q : Fin 1024)
    (hp : p.val = 4096 * (0) + i.val) (hq : q.val = 1024 * (0) + j.val) :
    (iblk6 V c 1 t : Mat 4096 1024) (ix2 i j) = (V c main_arg13 : Mat 4096 1024) (ix2 p q) := by
  obtain ⟨e0, e1⟩ := at6_1 t
  refine congrArg (V c main_arg13 : Mat 4096 1024) ?_
  funext a; apply Fin.ext
  match a with
  | ⟨0, _⟩ => show win6_1.index t (0 : Fin 2) * 4096 + 1 * i.val = p.val; omega
  | ⟨1, _⟩ => show win6_1.index t (1 : Fin 2) * 1024 + 1 * j.val = q.val; omega

theorem back6 (t : Fin cfg6.N) :
    (dat6 V c).flushed 2 t = ((cfg6.win 2).blk t).view.read (Elt Ideal) (mulTN (V c main_arg11 : Mat 4096 384) (V c main_arg13 : Mat 4096 1024)) := by
  have hN : t.val < 1 := lt_of_lt_of_eq t.isLt N_6
  obtain ⟨e0, e1⟩ := at6_2 t
  show (cfg6.win 2).cut (grid6.coords t) ((dat6 V c).after 2 t) = _
  rw [after6_2]
  funext y
  have hy0 : (y 0).val < 384 := (y 0).isLt
  have hy1 : (y 1).val < 1024 := (y 1).isLt
  have hb0 : (((cfg6.win 2).blk t).view.emb y 0).val = win6_2.index t (0 : Fin 2) * 384 + 1 * (y 0).val := rfl
  have hb1 : (((cfg6.win 2).blk t).view.emb y 1).val = win6_2.index t (1 : Fin 2) * 1024 + 1 * (y 1).val := rfl
  have ex : (cfg6.win 2).xinj (grid6.coords t) y = ix2 (⟨(y 0).val, hy0⟩ : Fin 384) (⟨(y 1).val, hy1⟩ : Fin 1024) := by
    funext a; apply Fin.ext
    match a with
    | ⟨0, _⟩ => rfl
    | ⟨1, _⟩ => rfl
  show out6_2 (iblk6 V c 0 t) (iblk6 V c 1 t) ((cfg6.win 2).xinj (grid6.coords t) y) = (mulTN (V c main_arg11 : Mat 4096 384) (V c main_arg13 : Mat 4096 1024)) (((cfg6.win 2).blk t).view.emb y)
  rw [ex, show out6_2 (iblk6 V c 0 t) (iblk6 V c 1 t) = k6_pay1 (iblk6 V c 0 t) (iblk6 V c 1 t) from by
    unfold out6_2; rw [View.canon_unit_zero (S := S384x1024) off2]; simp only [ldr6_0, ldr6_1, ldr6_2], pay6]
  have E := Finset.sum_congr (s₁ := (Finset.univ : Finset (Fin 4096))) rfl fun k _ => congrArg₂ (fun a b : EReal => a * b)
    (tile6_0 V c t k ⟨(y 0).val, hy0⟩ k (((cfg6.win 2).blk t).view.emb y 0) (by omega) (by rw [hb0]; show _ = _ + (y 0).val; omega))
    (tile6_1 V c t k ⟨(y 1).val, hy1⟩ k (((cfg6.win 2).blk t).view.emb y 1) (by omega) (by rw [hb1]; show _ = _ + (y 1).val; omega))
  exact E

theorem mem6 (t : Fin cfg6.N) (i : S384x1024.Idx) :
    i ∈ ((cfg6.win 2).blk t).view.set ↔ ∀ a : Fin 2, win6_2.index t a * S384x1024.size a ≤ (i a).val ∧ (i a).val < win6_2.index t a * S384x1024.size a + S384x1024.size a := by
  show i ∈ ((View.whole main_v6).slice (win6_2.rect t)).set ↔ _
  rw [View.set_slice_whole, Rect.mem_set_unit]
  exact Iff.rfl

theorem cover6 (i : S384x1024.Idx) : ∃ t : Fin cfg6.N, (cfg6.win 2).flush t = true ∧ i ∈ ((cfg6.win 2).blk t).view.set := by
  have h0 : (i 0).val < 384 := (i 0).isLt
  have h1 : (i 1).val < 1024 := (i 1).isLt
  have ht : 0 < cfg6.N := lt_of_lt_of_eq (show _ < 1 by omega) N_6.symm
  refine ⟨⟨0, ht⟩, flush6_2 _, ?_⟩
  have e0 : win6_2.index ⟨0, ht⟩ (0 : Fin 2) = 0 := (at6_2 _).1
  have e1 : win6_2.index ⟨0, ht⟩ (1 : Fin 2) = 0 := (at6_2 _).2
  rw [mem6]
  intro a
  match a with
  | ⟨0, _⟩ => show win6_2.index _ (0 : Fin 2) * 384 ≤ (i 0).val ∧ (i 0).val < win6_2.index _ (0 : Fin 2) * 384 + 384; rw [e0]; omega
  | ⟨1, _⟩ => show win6_2.index _ (1 : Fin 2) * 1024 ≤ (i 1).val ∧ (i 1).val < win6_2.index _ (1 : Fin 2) * 1024 + 1024; rw [e1]; omega

/-- The array that call 6 leaves: the weight gradient of the query's second factor. -/
theorem arr6 : (dat6 V c).arrAt 2 cfg6.N = mulTN (V c main_arg11 : Mat 4096 384) (V c main_arg13 : Mat 4096 1024) :=
  (dat6 V c).arrAt_eq_of_cover 2 _ (fun t _ => back6 V c t) cover6

theorem at7_0 : ∀ t : Fin cfg7.N, win7_0.index t (0 : Fin 2) = t.val ∧ win7_0.index t (1 : Fin 2) = 0 :=
  (by decide +kernel : ∀ t : Fin grid7.N, _)

theorem at7_1 : ∀ t : Fin cfg7.N, win7_1.index t (0 : Fin 2) = 0 ∧ win7_1.index t (1 : Fin 2) = 0 :=
  (by decide +kernel : ∀ t : Fin grid7.N, _)

theorem at7_2 : ∀ t : Fin cfg7.N, win7_2.index t (0 : Fin 2) = t.val ∧ win7_2.index t (1 : Fin 2) = 0 :=
  (by decide +kernel : ∀ t : Fin grid7.N, _)

theorem tile7_0 (t : Fin cfg7.N) (i : Fin 1024) (j : Fin 1024) (p : Fin 4096) (q : Fin 1024)
    (hp : p.val = 1024 * (t.val) + i.val) (hq : q.val = 1024 * (0) + j.val) :
    (iblk7 V c 0 t : Mat 1024 1024) (ix2 i j) = (V c main_arg13 : Mat 4096 1024) (ix2 p q) := by
  obtain ⟨e0, e1⟩ := at7_0 t
  refine congrArg (V c main_arg13 : Mat 4096 1024) ?_
  funext a; apply Fin.ext
  match a with
  | ⟨0, _⟩ => show win7_0.index t (0 : Fin 2) * 1024 + 1 * i.val = p.val; omega
  | ⟨1, _⟩ => show win7_0.index t (1 : Fin 2) * 1024 + 1 * j.val = q.val; omega

theorem tile7_1 (t : Fin cfg7.N) (i : Fin 384) (j : Fin 1024) (p : Fin 384) (q : Fin 1024)
    (hp : p.val = 384 * (0) + i.val) (hq : q.val = 1024 * (0) + j.val) :
    (iblk7 V c 1 t : Mat 384 1024) (ix2 i j) = (V c main_arg12 : Mat 384 1024) (ix2 p q) := by
  obtain ⟨e0, e1⟩ := at7_1 t
  refine congrArg (V c main_arg12 : Mat 384 1024) ?_
  funext a; apply Fin.ext
  match a with
  | ⟨0, _⟩ => show win7_1.index t (0 : Fin 2) * 384 + 1 * i.val = p.val; omega
  | ⟨1, _⟩ => show win7_1.index t (1 : Fin 2) * 1024 + 1 * j.val = q.val; omega

theorem back7 (t : Fin cfg7.N) :
    (dat7 V c).flushed 2 t = ((cfg7.win 2).blk t).view.read (Elt Ideal) (mulNT (V c main_arg13 : Mat 4096 1024) (V c main_arg12 : Mat 384 1024)) := by
  have hN : t.val < 4 := lt_of_lt_of_eq t.isLt N_7
  obtain ⟨e0, e1⟩ := at7_2 t
  show (cfg7.win 2).cut (grid7.coords t) ((dat7 V c).after 2 t) = _
  rw [after7_2]
  funext y
  have hy0 : (y 0).val < 1024 := (y 0).isLt
  have hy1 : (y 1).val < 384 := (y 1).isLt
  have hb0 : (((cfg7.win 2).blk t).view.emb y 0).val = win7_2.index t (0 : Fin 2) * 1024 + 1 * (y 0).val := rfl
  have hb1 : (((cfg7.win 2).blk t).view.emb y 1).val = win7_2.index t (1 : Fin 2) * 384 + 1 * (y 1).val := rfl
  have ex : (cfg7.win 2).xinj (grid7.coords t) y = ix2 (⟨(y 0).val, hy0⟩ : Fin 1024) (⟨(y 1).val, hy1⟩ : Fin 384) := by
    funext a; apply Fin.ext
    match a with
    | ⟨0, _⟩ => rfl
    | ⟨1, _⟩ => rfl
  show out7_2 (iblk7 V c 0 t) (iblk7 V c 1 t) ((cfg7.win 2).xinj (grid7.coords t) y) = (mulNT (V c main_arg13 : Mat 4096 1024) (V c main_arg12 : Mat 384 1024)) (((cfg7.win 2).blk t).view.emb y)
  rw [ex, show out7_2 (iblk7 V c 0 t) (iblk7 V c 1 t) = k7_pay1 (iblk7 V c 0 t) (iblk7 V c 1 t) from by
    unfold out7_2; rw [View.canon_unit_zero (S := S1024x384) off2]; simp only [ldr7_0, ldr7_1, ldr7_2], pay7]
  have E := Finset.sum_congr (s₁ := (Finset.univ : Finset (Fin 1024))) rfl fun k _ => congrArg₂ (fun a b : EReal => a * b)
    (tile7_0 V c t ⟨(y 0).val, hy0⟩ k (((cfg7.win 2).blk t).view.emb y 0) k (by rw [hb0]; show _ = _ + (y 0).val; omega) (by omega))
    (tile7_1 V c t ⟨(y 1).val, hy1⟩ k (((cfg7.win 2).blk t).view.emb y 1) k (by rw [hb1]; show _ = _ + (y 1).val; omega) (by omega))
  exact E

theorem mem7 (t : Fin cfg7.N) (i : S4096x384.Idx) :
    i ∈ ((cfg7.win 2).blk t).view.set ↔ ∀ a : Fin 2, win7_2.index t a * S1024x384.size a ≤ (i a).val ∧ (i a).val < win7_2.index t a * S1024x384.size a + S1024x384.size a := by
  show i ∈ ((View.whole main_v7).slice (win7_2.rect t)).set ↔ _
  rw [View.set_slice_whole, Rect.mem_set_unit]
  exact Iff.rfl

theorem cover7 (i : S4096x384.Idx) : ∃ t : Fin cfg7.N, (cfg7.win 2).flush t = true ∧ i ∈ ((cfg7.win 2).blk t).view.set := by
  have h0 : (i 0).val < 4096 := (i 0).isLt
  have h1 : (i 1).val < 384 := (i 1).isLt
  have ht : (i 0).val / 1024 < cfg7.N := lt_of_lt_of_eq (show _ < 4 by omega) N_7.symm
  refine ⟨⟨(i 0).val / 1024, ht⟩, flush7_2 _, ?_⟩
  have e0 : win7_2.index ⟨(i 0).val / 1024, ht⟩ (0 : Fin 2) = ((i 0).val / 1024) := (at7_2 _).1
  have e1 : win7_2.index ⟨(i 0).val / 1024, ht⟩ (1 : Fin 2) = 0 := (at7_2 _).2
  rw [mem7]
  intro a
  match a with
  | ⟨0, _⟩ => show win7_2.index _ (0 : Fin 2) * 1024 ≤ (i 0).val ∧ (i 0).val < win7_2.index _ (0 : Fin 2) * 1024 + 1024; rw [e0]; omega
  | ⟨1, _⟩ => show win7_2.index _ (1 : Fin 2) * 384 ≤ (i 1).val ∧ (i 1).val < win7_2.index _ (1 : Fin 2) * 384 + 384; rw [e1]; omega

/-- The array that call 7 leaves: the input gradient of the query's second factor. -/
theorem arr7 : (dat7 V c).arrAt 2 cfg7.N = mulNT (V c main_arg13 : Mat 4096 1024) (V c main_arg12 : Mat 384 1024) :=
  (dat7 V c).arrAt_eq_of_cover 2 _ (fun t _ => back7 V c t) cover7

theorem at8_0 : ∀ t : Fin cfg8.N, win8_0.index t (0 : Fin 2) = 0 ∧ win8_0.index t (1 : Fin 2) = 0 :=
  (by decide +kernel : ∀ t : Fin grid8.N, _)

theorem at8_1 : ∀ t : Fin cfg8.N, win8_1.index t (0 : Fin 2) = 0 ∧ win8_1.index t (1 : Fin 2) = t.val :=
  (by decide +kernel : ∀ t : Fin grid8.N, _)

theorem at8_2 : ∀ t : Fin cfg8.N, win8_2.index t (0 : Fin 2) = 0 ∧ win8_2.index t (1 : Fin 2) = t.val :=
  (by decide +kernel : ∀ t : Fin grid8.N, _)

theorem tile8_0 (t : Fin cfg8.N) (i : Fin 4096) (j : Fin 1024) (p : Fin 4096) (q : Fin 1024)
    (hp : p.val = 4096 * (0) + i.val) (hq : q.val = 1024 * (0) + j.val) :
    (iblk8 V c 0 t : Mat 4096 1024) (ix2 i j) = (V c main_arg0 : Mat 4096 1024) (ix2 p q) := by
  obtain ⟨e0, e1⟩ := at8_0 t
  refine congrArg (V c main_arg0 : Mat 4096 1024) ?_
  funext a; apply Fin.ext
  match a with
  | ⟨0, _⟩ => show win8_0.index t (0 : Fin 2) * 4096 + 1 * i.val = p.val; omega
  | ⟨1, _⟩ => show win8_0.index t (1 : Fin 2) * 1024 + 1 * j.val = q.val; omega

theorem tile8_1 (t : Fin cfg8.N) (i : Fin 4096) (j : Fin 1280) (p : Fin 4096) (q : Fin 2560)
    (hp : p.val = 4096 * (0) + i.val) (hq : q.val = 1280 * (t.val) + j.val) :
    (iblk8 V c 1 t : Mat 4096 1280) (ix2 i j) = (V c main_arg2 : Mat 4096 2560) (ix2 p q) := by
  obtain ⟨e0, e1⟩ := at8_1 t
  refine congrArg (V c main_arg2 : Mat 4096 2560) ?_
  funext a; apply Fin.ext
  match a with
  | ⟨0, _⟩ => show win8_1.index t (0 : Fin 2) * 4096 + 1 * i.val = p.val; omega
  | ⟨1, _⟩ => show win8_1.index t (1 : Fin 2) * 1280 + 1 * j.val = q.val; omega

theorem back8 (t : Fin cfg8.N) :
    (dat8 V c).flushed 2 t = ((cfg8.win 2).blk t).view.read (Elt Ideal) (mulTN (V c main_arg0 : Mat 4096 1024) (V c main_arg2 : Mat 4096 2560)) := by
  have hN : t.val < 2 := lt_of_lt_of_eq t.isLt N_8
  obtain ⟨e0, e1⟩ := at8_2 t
  show (cfg8.win 2).cut (grid8.coords t) ((dat8 V c).after 2 t) = _
  rw [after8_2]
  funext y
  have hy0 : (y 0).val < 1024 := (y 0).isLt
  have hy1 : (y 1).val < 1280 := (y 1).isLt
  have hb0 : (((cfg8.win 2).blk t).view.emb y 0).val = win8_2.index t (0 : Fin 2) * 1024 + 1 * (y 0).val := rfl
  have hb1 : (((cfg8.win 2).blk t).view.emb y 1).val = win8_2.index t (1 : Fin 2) * 1280 + 1 * (y 1).val := rfl
  have ex : (cfg8.win 2).xinj (grid8.coords t) y = ix2 (⟨(y 0).val, hy0⟩ : Fin 1024) (⟨(y 1).val, hy1⟩ : Fin 1280) := by
    funext a; apply Fin.ext
    match a with
    | ⟨0, _⟩ => rfl
    | ⟨1, _⟩ => rfl
  show out8_2 (iblk8 V c 0 t) (iblk8 V c 1 t) ((cfg8.win 2).xinj (grid8.coords t) y) = (mulTN (V c main_arg0 : Mat 4096 1024) (V c main_arg2 : Mat 4096 2560)) (((cfg8.win 2).blk t).view.emb y)
  rw [ex, show out8_2 (iblk8 V c 0 t) (iblk8 V c 1 t) = k8_pay1 (iblk8 V c 0 t) (iblk8 V c 1 t) from by
    unfold out8_2; rw [View.canon_unit_zero (S := S1024x1280) off2]; simp only [ldr8_0, ldr8_1, ldr8_2], pay8]
  have E := Finset.sum_congr (s₁ := (Finset.univ : Finset (Fin 4096))) rfl fun k _ => congrArg₂ (fun a b : EReal => a * b)
    (tile8_0 V c t k ⟨(y 0).val, hy0⟩ k (((cfg8.win 2).blk t).view.emb y 0) (by omega) (by rw [hb0]; show _ = _ + (y 0).val; omega))
    (tile8_1 V c t k ⟨(y 1).val, hy1⟩ k (((cfg8.win 2).blk t).view.emb y 1) (by omega) (by rw [hb1]; show _ = _ + (y 1).val; omega))
  exact E

theorem mem8 (t : Fin cfg8.N) (i : S1024x2560.Idx) :
    i ∈ ((cfg8.win 2).blk t).view.set ↔ ∀ a : Fin 2, win8_2.index t a * S1024x1280.size a ≤ (i a).val ∧ (i a).val < win8_2.index t a * S1024x1280.size a + S1024x1280.size a := by
  show i ∈ ((View.whole main_v8).slice (win8_2.rect t)).set ↔ _
  rw [View.set_slice_whole, Rect.mem_set_unit]
  exact Iff.rfl

theorem cover8 (i : S1024x2560.Idx) : ∃ t : Fin cfg8.N, (cfg8.win 2).flush t = true ∧ i ∈ ((cfg8.win 2).blk t).view.set := by
  have h0 : (i 0).val < 1024 := (i 0).isLt
  have h1 : (i 1).val < 2560 := (i 1).isLt
  have ht : (i 1).val / 1280 < cfg8.N := lt_of_lt_of_eq (show _ < 2 by omega) N_8.symm
  refine ⟨⟨(i 1).val / 1280, ht⟩, flush8_2 _, ?_⟩
  have e0 : win8_2.index ⟨(i 1).val / 1280, ht⟩ (0 : Fin 2) = 0 := (at8_2 _).1
  have e1 : win8_2.index ⟨(i 1).val / 1280, ht⟩ (1 : Fin 2) = ((i 1).val / 1280) := (at8_2 _).2
  rw [mem8]
  intro a
  match a with
  | ⟨0, _⟩ => show win8_2.index _ (0 : Fin 2) * 1024 ≤ (i 0).val ∧ (i 0).val < win8_2.index _ (0 : Fin 2) * 1024 + 1024; rw [e0]; omega
  | ⟨1, _⟩ => show win8_2.index _ (1 : Fin 2) * 1280 ≤ (i 1).val ∧ (i 1).val < win8_2.index _ (1 : Fin 2) * 1280 + 1280; rw [e1]; omega

/-- The array that call 8 leaves: the weight gradient of the first projection. -/
theorem arr8 : (dat8 V c).arrAt 2 cfg8.N = mulTN (V c main_arg0 : Mat 4096 1024) (V c main_arg2 : Mat 4096 2560) :=
  (dat8 V c).arrAt_eq_of_cover 2 _ (fun t _ => back8 V c t) cover8

end Proj

end
-- ==== Proof.Proj.Run.lean ====
/- The run of the nine calls, and the products that it leaves. -/
module

public import proofs.«01_k».proof.Proof.Proj.Tiles

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with its counters at zero the program ends, its counters at zero, and every array outside the
    calls' own buffers holds what the nine calls leave. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]; · iexact Hb
      isplitl [Hr]; · iexists _; iexact Hr
      iexists ∅; iexact Ho)
    (QY := fun c s => ∀ b ∈ Pipeline.ucRefs τ sig, s.mem ((c : Thread nD τ).1, b) = W9 m ρ c b)
    (hfin := fun c s' => by
      iintro ⟨⟨Hb, -⟩, HS⟩
      unfold StableHlo.held
      imodintro
      iapply (pointsTo_read_all (Pipeline.ucRefs τ sig) (fun b => ((c : Thread nD τ).1, b)) (W9 m ρ c) s')
      isplitl [Hb] <;> iassumption)
    (hQ := fun s h hz => ⟨h, funext fun g => hz g (.inr (no_unscoped g.2))⟩)

/-- The program ends, its counters at zero and its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c =>
    ⟨(h.1 c _ (mem_uc main_arg0 (by decide))).trans (W9_args m ρ c main_arg0 (by decide)),
     (h.1 c _ (mem_uc main_arg1 (by decide))).trans (W9_args m ρ c main_arg1 (by decide)),
     (h.1 c _ (mem_uc main_arg2 (by decide))).trans (W9_args m ρ c main_arg2 (by decide)),
     (h.1 c _ (mem_uc main_arg3 (by decide))).trans (W9_args m ρ c main_arg3 (by decide)),
     (h.1 c _ (mem_uc main_arg4 (by decide))).trans (W9_args m ρ c main_arg4 (by decide)),
     (h.1 c _ (mem_uc main_arg5 (by decide))).trans (W9_args m ρ c main_arg5 (by decide)),
     (h.1 c _ (mem_uc main_arg6 (by decide))).trans (W9_args m ρ c main_arg6 (by decide)),
     (h.1 c _ (mem_uc main_arg7 (by decide))).trans (W9_args m ρ c main_arg7 (by decide)),
     (h.1 c _ (mem_uc main_arg8 (by decide))).trans (W9_args m ρ c main_arg8 (by decide)),
     (h.1 c _ (mem_uc main_arg9 (by decide))).trans (W9_args m ρ c main_arg9 (by decide)),
     (h.1 c _ (mem_uc main_arg10 (by decide))).trans (W9_args m ρ c main_arg10 (by decide)),
     (h.1 c _ (mem_uc main_arg11 (by decide))).trans (W9_args m ρ c main_arg11 (by decide)),
     (h.1 c _ (mem_uc main_arg12 (by decide))).trans (W9_args m ρ c main_arg12 (by decide)),
     (h.1 c _ (mem_uc main_arg13 (by decide))).trans (W9_args m ρ c main_arg13 (by decide))⟩, h.2⟩) (run_main m ρ)

end

variable (m : (ℓ : Loc nD τ sig) → Buf (Elt Ideal) ℓ) (ρ : Dev nD → PrngReg) (c : Dev nD)

/-- The arguments. -/
abbrev arg0 : Mat 4096 1024 := m ((c.tc : Thread nD τ).loc main_arg0)
abbrev arg1 : Mat 1024 2560 := m ((c.tc : Thread nD τ).loc main_arg1)
abbrev arg2 : Mat 4096 2560 := m ((c.tc : Thread nD τ).loc main_arg2)
abbrev arg3 : Mat 4096 1024 := m ((c.tc : Thread nD τ).loc main_arg3)
abbrev arg4 : Mat 1024 1024 := m ((c.tc : Thread nD τ).loc main_arg4)
abbrev arg5 : Mat 4096 1024 := m ((c.tc : Thread nD τ).loc main_arg5)
abbrev arg6 : Mat 4096 1024 := m ((c.tc : Thread nD τ).loc main_arg6)
abbrev arg7 : Mat 1024 1024 := m ((c.tc : Thread nD τ).loc main_arg7)
abbrev arg8 : Mat 4096 1024 := m ((c.tc : Thread nD τ).loc main_arg8)
abbrev arg9 : Mat 4096 1024 := m ((c.tc : Thread nD τ).loc main_arg9)
abbrev arg10 : Mat 4096 1024 := m ((c.tc : Thread nD τ).loc main_arg10)
abbrev arg11 : Mat 4096 384 := m ((c.tc : Thread nD τ).loc main_arg11)
abbrev arg12 : Mat 384 1024 := m ((c.tc : Thread nD τ).loc main_arg12)
abbrev arg13 : Mat 4096 1024 := m ((c.tc : Thread nD τ).loc main_arg13)

/-- The products, each after its own call and at the end. -/
theorem at0 : W1 m ρ c (Proc.devRef .tc main_v0) = mulNN (arg0 m c) (arg1 m c) := by
  refine (W1_arr m ρ c 2).trans ((arr0 (V0 m ρ) c).trans ?_)
  rfl
theorem end0 : W9 m ρ c (Proc.devRef .tc main_v0) = mulNN (arg0 m c) (arg1 m c) :=
  (W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (at0 m ρ c))))))))
theorem at1 : W2 m ρ c (Proc.devRef .tc main_v1) = mulNN (arg3 m c) (arg4 m c) := by
  refine (W2_arr m ρ c 2).trans ((arr1 (V1 m ρ) c).trans ?_)
  rw [show V1 m ρ c main_arg3 = arg3 m c from W1_args m ρ c main_arg3 (by decide),
    show V1 m ρ c main_arg4 = arg4 m c from W1_args m ρ c main_arg4 (by decide)]
theorem end1 : W9 m ρ c (Proc.devRef .tc main_v1) = mulNN (arg3 m c) (arg4 m c) :=
  (W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (at1 m ρ c)))))))
theorem at2 : W3 m ρ c (Proc.devRef .tc main_v2) = mulNT (arg8 m c) (arg7 m c) := by
  refine (W3_arr m ρ c 2).trans ((arr2 (V2 m ρ) c).trans ?_)
  rw [show V2 m ρ c main_arg8 = arg8 m c from W2_args m ρ c main_arg8 (by decide),
    show V2 m ρ c main_arg7 = arg7 m c from W2_args m ρ c main_arg7 (by decide)]
theorem end2 : W9 m ρ c (Proc.devRef .tc main_v2) = mulNT (arg8 m c) (arg7 m c) :=
  (W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans (at2 m ρ c))))))
theorem at3 : W4 m ρ c (Proc.devRef .tc main_v3) = mulTN (arg6 m c) (arg8 m c) := by
  refine (W4_arr m ρ c 2).trans ((arr3 (V3 m ρ) c).trans ?_)
  rw [show V3 m ρ c main_arg6 = arg6 m c from W3_args m ρ c main_arg6 (by decide),
    show V3 m ρ c main_arg8 = arg8 m c from W3_args m ρ c main_arg8 (by decide)]
theorem end3 : W9 m ρ c (Proc.devRef .tc main_v3) = mulTN (arg6 m c) (arg8 m c) :=
  (W9_of m ρ c main_v3 (by decide)).trans ((W8_of m ρ c main_v3 (by decide)).trans ((W7_of m ρ c main_v3 (by decide)).trans ((W6_of m ρ c main_v3 (by decide)).trans ((W5_of m ρ c main_v3 (by decide)).trans (at3 m ρ c)))))
theorem at4 : W5 m ρ c (Proc.devRef .tc main_v4) = mulTN (arg3 m c) (arg5 m c) := by
  refine (W5_arr m ρ c 2).trans ((arr4 (V4 m ρ) c).trans ?_)
  rw [show V4 m ρ c main_arg3 = arg3 m c from W4_args m ρ c main_arg3 (by decide),
    show V4 m ρ c main_arg5 = arg5 m c from W4_args m ρ c main_arg5 (by decide)]
theorem end4 : W9 m ρ c (Proc.devRef .tc main_v4) = mulTN (arg3 m c) (arg5 m c) :=
  (W9_of m ρ c main_v4 (by decide)).trans ((W8_of m ρ c main_v4 (by decide)).trans ((W7_of m ρ c main_v4 (by decide)).trans ((W6_of m ρ c main_v4 (by decide)).trans (at4 m ρ c))))
theorem at5 : W6 m ρ c (Proc.devRef .tc main_v5) = mulTN (arg9 m c) (arg10 m c) := by
  refine (W6_arr m ρ c 2).trans ((arr5 (V5 m ρ) c).trans ?_)
  rw [show V5 m ρ c main_arg9 = arg9 m c from W5_args m ρ c main_arg9 (by decide),
    show V5 m ρ c main_arg10 = arg10 m c from W5_args m ρ c main_arg10 (by decide)]
theorem end5 : W9 m ρ c (Proc.devRef .tc main_v5) = mulTN (arg9 m c) (arg10 m c) :=
  (W9_of m ρ c main_v5 (by decide)).trans ((W8_of m ρ c main_v5 (by decide)).trans ((W7_of m ρ c main_v5 (by decide)).trans (at5 m ρ c)))
theorem at6 : W7 m ρ c (Proc.devRef .tc main_v6) = mulTN (arg11 m c) (arg13 m c) := by
  refine (W7_arr m ρ c 2).trans ((arr6 (V6 m ρ) c).trans ?_)
  rw [show V6 m ρ c main_arg11 = arg11 m c from W6_args m ρ c main_arg11 (by decide),
    show V6 m ρ c main_arg13 = arg13 m c from W6_args m ρ c main_arg13 (by decide)]
theorem end6 : W9 m ρ c (Proc.devRef .tc main_v6) = mulTN (arg11 m c) (arg13 m c) :=
  (W9_of m ρ c main_v6 (by decide)).trans ((W8_of m ρ c main_v6 (by decide)).trans (at6 m ρ c))
theorem at7 : W8 m ρ c (Proc.devRef .tc main_v7) = mulNT (arg13 m c) (arg12 m c) := by
  refine (W8_arr m ρ c 2).trans ((arr7 (V7 m ρ) c).trans ?_)
  rw [show V7 m ρ c main_arg13 = arg13 m c from W7_args m ρ c main_arg13 (by decide),
    show V7 m ρ c main_arg12 = arg12 m c from W7_args m ρ c main_arg12 (by decide)]
theorem end7 : W9 m ρ c (Proc.devRef .tc main_v7) = mulNT (arg13 m c) (arg12 m c) :=
  (W9_of m ρ c main_v7 (by decide)).trans (at7 m ρ c)
theorem at8 : W9 m ρ c (Proc.devRef .tc main_v8) = mulTN (arg0 m c) (arg2 m c) := by
  refine (W9_arr m ρ c 2).trans ((arr8 (V8 m ρ) c).trans ?_)
  rw [show V8 m ρ c main_arg0 = arg0 m c from W8_args m ρ c main_arg0 (by decide),
    show V8 m ρ c main_arg2 = arg2 m c from W8_args m ρ c main_arg2 (by decide)]
theorem end8 : W9 m ρ c (Proc.devRef .tc main_v8) = mulTN (arg0 m c) (arg2 m c) := at8 m ρ c

/-- The run at exact arithmetic. -/
theorem run : θ_run defs (onTc (τ := τ) (main (F := Ideal))) ⟨m, fun _ => 0, ρ⟩ (fun r => ∀ c : Dev nD,
      r.2.mem ((c.tc : Thread nD τ).loc main_v0) = mulNN (arg0 m c) (arg1 m c)
      ∧ r.2.mem ((c.tc : Thread nD τ).loc main_v1) = mulNN (arg3 m c) (arg4 m c)
      ∧ r.2.mem ((c.tc : Thread nD τ).loc main_v2) = mulNT (arg8 m c) (arg7 m c)
      ∧ r.2.mem ((c.tc : Thread nD τ).loc main_v3) = mulTN (arg6 m c) (arg8 m c)
      ∧ r.2.mem ((c.tc : Thread nD τ).loc main_v4) = mulTN (arg3 m c) (arg5 m c)
      ∧ r.2.mem ((c.tc : Thread nD τ).loc main_v5) = mulTN (arg9 m c) (arg10 m c)
      ∧ r.2.mem ((c.tc : Thread nD τ).loc main_v6) = mulTN (arg11 m c) (arg13 m c)
      ∧ r.2.mem ((c.tc : Thread nD τ).loc main_v7) = mulNT (arg13 m c) (arg12 m c)
      ∧ r.2.mem ((c.tc : Thread nD τ).loc main_v8) = mulTN (arg0 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h.1 c _ (mem_uc main_v0 (by decide))).trans (end0 m ρ c),
     (h.1 c _ (mem_uc main_v1 (by decide))).trans (end1 m ρ c),
     (h.1 c _ (mem_uc main_v2 (by decide))).trans (end2 m ρ c),
     (h.1 c _ (mem_uc main_v3 (by decide))).trans (end3 m ρ c),
     (h.1 c _ (mem_uc main_v4 (by decide))).trans (end4 m ρ c),
     (h.1 c _ (mem_uc main_v5 (by decide))).trans (end5 m ρ c),
     (h.1 c _ (mem_uc main_v6 (by decide))).trans (end6 m ρ c),
     (h.1 c _ (mem_uc main_v7 (by decide))).trans (end7 m ρ c),
     (h.1 c _ (mem_uc main_v8 (by decide))).trans (end8 m ρ c),
     (h.1 c _ (mem_uc main_arg0 (by decide))).trans (W9_args m ρ c main_arg0 (by decide)),
     (h.1 c _ (mem_uc main_arg1 (by decide))).trans (W9_args m ρ c main_arg1 (by decide)),
     (h.1 c _ (mem_uc main_arg2 (by decide))).trans (W9_args m ρ c main_arg2 (by decide)),
     (h.1 c _ (mem_uc main_arg3 (by decide))).trans (W9_args m ρ c main_arg3 (by decide)),
     (h.1 c _ (mem_uc main_arg4 (by decide))).trans (W9_args m ρ c main_arg4 (by decide)),
     (h.1 c _ (mem_uc main_arg5 (by decide))).trans (W9_args m ρ c main_arg5 (by decide)),
     (h.1 c _ (mem_uc main_arg6 (by decide))).trans (W9_args m ρ c main_arg6 (by decide)),
     (h.1 c _ (mem_uc main_arg7 (by decide))).trans (W9_args m ρ c main_arg7 (by decide)),
     (h.1 c _ (mem_uc main_arg8 (by decide))).trans (W9_args m ρ c main_arg8 (by decide)),
     (h.1 c _ (mem_uc main_arg9 (by decide))).trans (W9_args m ρ c main_arg9 (by decide)),
     (h.1 c _ (mem_uc main_arg10 (by decide))).trans (W9_args m ρ c main_arg10 (by decide)),
     (h.1 c _ (mem_uc main_arg11 (by decide))).trans (W9_args m ρ c main_arg11 (by decide)),
     (h.1 c _ (mem_uc main_arg12 (by decide))).trans (W9_args m ρ c main_arg12 (by decide)),
     (h.1 c _ (mem_uc main_arg13 (by decide))).trans (W9_args m ρ c main_arg13 (by decide))⟩) (run_main m ρ)

end Proj

end
-- ==== Proof.Proj.Same.lean ====
/- The frame of the projections' calls at the hardware's words: the idealized program has the same text. -/
module

public import proofs.«01_k».proof.Defs
public import proofs.«01_k».proof.Proof.Gen.Kernel3
public import proofs.«01_k».proof.Proof.Proj.Run

@[expose] public section

set_option maxRecDepth 16384
set_option maxHeartbeats 1000000

namespace Proj

open Idealize.ShloMosaic Idealize.SL.Sem

/-- The two programs' bodies, tables of calls and main functions are the same. -/
theorem same_bodies : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl

theorem same_defs : Cert.Kernel3.defs (F := Bits) = Cert.Kernel3Ideal.defs (F := Bits) :=
  congrArg (Idealize.ShloMosaic.Pipeline.defs Cert.Kernel3Ideal.pcfgs) same_bodies

theorem same_main : Cert.Kernel3.main (F := Bits) = Cert.Kernel3Ideal.main (F := Bits) := rfl

theorem frame_words : Cert.quiescent_Kernel3 := fun m ρ _ => by
  have h := Proj.frame (F := Bits) m ρ
  rw [← same_main, ← same_defs] at h
  exact h

end Proj
-- ==== Proof.Proj.Ref.lean ====
/- The reference's nine arrays are those products. -/
module

public import proofs.«01_k».proof.Proof.Gen.Reference3Ideal.Read
public import proofs.«01_k».proof.Proof.Proj.Spec

@[expose] public section

set_option maxRecDepth 16384

noncomputable section

namespace Proj

open Cert.Reference3Ideal Cert.Reference3Ideal.Read Idealize.ShloMosaic

/-- Two ways of naming an index. -/
theorem pair {n k : ℕ} (i : (⟨2, ![n, k]⟩ : Shape).Idx) (p : Fin n) (q : Fin k) (hp : (i 0).val = p.val) (hq : (i 1).val = q.val) : i = ix2 p q := by
  funext a
  match a with
  | ⟨0, _⟩ => exact Fin.ext hp
  | ⟨1, _⟩ => exact Fin.ext hq

theorem ref0 (a : Mat 4096 1024) (b : Mat 1024 2560) : val_main_v14 (F := Ideal) a b = mulNN a b := by
  funext i
  rw [val_main_v14_apply]
  show (∑ k : Fin 1024, _) = ∑ k : Fin 1024, _
  refine Finset.sum_congr rfl fun k _ => ?_
  rw [pair (lidx_main_v14 i k) (i 0) k rfl rfl, pair (ridx_main_v14 i k) k (i 1) rfl rfl]
  rfl

theorem ref1 (a : Mat 4096 1024) (b : Mat 1024 1024) : val_main_v28 (F := Ideal) a b = mulNN a b := by
  funext i
  rw [val_main_v28_apply, val_main_v15_apply]
  show (∑ k : Fin 1024, _) = ∑ k : Fin 1024, _
  refine Finset.sum_congr rfl fun k _ => ?_
  rw [pair (lidx_main_v15 i k) (i 0) k rfl rfl, pair (ridx_main_v15 i k) k (i 1) rfl rfl]
  rfl

theorem ref2 (a : Mat 4096 1024) (b : Mat 1024 1024) : val_main_v29 (F := Ideal) b a = mulNT a b := by
  funext i
  rw [val_main_v29_apply, val_main_v19_apply]
  show (∑ k : Fin 1024, _) = ∑ k : Fin 1024, _
  refine Finset.sum_congr rfl fun k _ => ?_
  rw [pair (lidx_main_v19 i k) (i 0) k rfl rfl, pair (ridx_main_v19 i k) (i 1) k rfl rfl]
  rfl

theorem ref3 (a : Mat 4096 1024) (b : Mat 4096 1024) : val_main_v30 (F := Ideal) a b = mulTN a b := by
  funext i
  rw [val_main_v30_apply, val_main_v18_apply, val_main_v17_apply]
  show (∑ k : Fin 4096, _) = ∑ k : Fin 4096, _
  refine Finset.sum_congr rfl fun k _ => ?_
  rw [pair (lidx_main_v17 (idx_main_v18 i) k) k (i 1) rfl rfl, pair (ridx_main_v17 (idx_main_v18 i) k) k (i 0) rfl rfl]
  exact mul_comm _ _

theorem ref4 (a : Mat 4096 1024) (b : Mat 4096 1024) : val_main_v34 (F := Ideal) a b = mulTN a b := by
  funext i
  rw [val_main_v34_apply, val_main_v32_apply, val_main_v31_apply]
  show (∑ k : Fin 4096, _) = ∑ k : Fin 4096, _
  refine Finset.sum_congr rfl fun k _ => ?_
  rw [pair (lidx_main_v31 (idx_main_v32 i) k) k (i 1) rfl rfl, pair (ridx_main_v31 (idx_main_v32 i) k) k (i 0) rfl rfl]
  exact mul_comm _ _

theorem ref5 (a : Mat 4096 1024) (b : Mat 4096 1024) : val_main_v35 (F := Ideal) a b = mulTN a b := by
  funext i
  rw [val_main_v35_apply, val_main_v23_apply, val_main_v22_apply]
  show (∑ k : Fin 4096, _) = ∑ k : Fin 4096, _
  refine Finset.sum_congr rfl fun k _ => ?_
  rw [pair (lidx_main_v22 (idx_main_v23 i) k) k (i 1) rfl rfl, pair (ridx_main_v22 (idx_main_v23 i) k) k (i 0) rfl rfl]
  exact mul_comm _ _

theorem ref6 (a : Mat 4096 384) (b : Mat 4096 1024) : val_main_v36 (F := Ideal) a b = mulTN a b := by
  funext i
  rw [val_main_v36_apply, val_main_v26_apply, val_main_v25_apply]
  show (∑ k : Fin 4096, _) = ∑ k : Fin 4096, _
  refine Finset.sum_congr rfl fun k _ => ?_
  rw [pair (lidx_main_v25 (idx_main_v26 i) k) k (i 1) rfl rfl, pair (ridx_main_v25 (idx_main_v26 i) k) k (i 0) rfl rfl]
  exact mul_comm _ _

theorem ref7 (a : Mat 4096 1024) (b : Mat 384 1024) : val_main_v27 (F := Ideal) b a = mulNT a b := by
  funext i
  rw [val_main_v27_apply]
  show (∑ k : Fin 1024, _) = ∑ k : Fin 1024, _
  refine Finset.sum_congr rfl fun k _ => ?_
  rw [pair (lidx_main_v27 i k) (i 0) k rfl rfl, pair (ridx_main_v27 i k) (i 1) k rfl rfl]
  rfl

theorem ref8 (a : Mat 4096 1024) (b : Mat 4096 2560) : val_main_v40 (F := Ideal) a b = mulTN a b := by
  funext i
  rw [val_main_v40_apply, val_main_v38_apply, val_main_v37_apply]
  show (∑ k : Fin 4096, _) = ∑ k : Fin 4096, _
  refine Finset.sum_congr rfl fun k _ => ?_
  rw [pair (lidx_main_v37 (idx_main_v38 i) k) k (i 1) rfl rfl, pair (ridx_main_v37 (idx_main_v38 i) k) k (i 0) rfl rfl]
  exact mul_comm _ _

end Proj

end
-- ==== Proof.Norm.Real.lean ====
/- The gradients of a norm over the real numbers: a row's mean, its deviations and its spread, what the gradient of the
   norm's output is for the norm's input, and what a sum over 4096 rows is in blocks of 512. Nothing here speaks of a
   program. -/
module

public import proofs.«01_k».proof.Proof.Attn.Real

@[expose] public section

noncomputable section

namespace Norm

open Finset

/-- The binary32 numbers nearest `10 ^ (-5)` and `2 ^ (1/4)`. -/
def eps : ℝ := 2748779 / 274877906944
def alpha : ℝ := 9975792 / 8388608

/-- A row's mean, deviations, spread, the inverse of its root, and the normed row. -/
def mean (x : Fin 1024 → ℝ) : ℝ := (∑ j, x j) / 1024
def cen (x : Fin 1024 → ℝ) (j : Fin 1024) : ℝ := x j - mean x
def spread (x : Fin 1024 → ℝ) : ℝ := mean (fun j => cen x j * cen x j) + eps
def rs (x : Fin 1024 → ℝ) : ℝ := (√(spread x))⁻¹
def xh (x : Fin 1024 → ℝ) (j : Fin 1024) : ℝ := cen x j * rs x

/-- The gradient of a row from that of the normed row. -/
def back (x y : Fin 1024 → ℝ) (j : Fin 1024) : ℝ := rs x * (y j - mean y - xh x j * mean (fun l => y l * xh x l))

theorem spread_pos (x : Fin 1024 → ℝ) : 0 < spread x := by
  have h : 0 ≤ mean (fun j => cen x j * cen x j) := div_nonneg (sum_nonneg fun j _ => mul_self_nonneg _) (by norm_num)
  have e : 0 < eps := by unfold eps; norm_num
  unfold spread; linarith

theorem rs_sq (x : Fin 1024 → ℝ) : rs x / spread x = rs x * (rs x * rs x) := by
  have h := spread_pos x
  have e : rs x * rs x = (spread x)⁻¹ := by
    rw [rs, ← mul_inv, Real.mul_self_sqrt h.le]
  rw [e, div_eq_mul_inv]

theorem sum_cen (x : Fin 1024 → ℝ) : ∑ j, cen x j = 0 := by
  simp only [cen, mean, sum_sub_distrib, sum_const, card_univ, Fintype.card_fin, nsmul_eq_mul]
  push_cast
  ring

/-- The row's gradient as the chain rule writes it. -/
theorem chain (x y : Fin 1024 → ℝ) (j : Fin 1024) :
    y j * rs x + (∑ l, cen x l * y l) * (-(1 / 2) * (rs x / spread x)) / 1024 * (2 * cen x j)
      + ((∑ l, -(y l * rs x)) + ∑ l, -((∑ l, cen x l * y l) * (-(1 / 2) * (rs x / spread x)) / 1024 * (2 * cen x l))) / 1024 = back x y j := by
  have e1 : ∑ l, -((∑ l, cen x l * y l) * (-(1 / 2) * (rs x / spread x)) / 1024 * (2 * cen x l)) = 0 := by
    rw [sum_neg_distrib, ← mul_sum, ← mul_sum, sum_cen]; ring
  have e2 : ∑ l, -(y l * rs x) = -((∑ l, y l) * rs x) := by rw [sum_neg_distrib, sum_mul]
  have e3 : ∑ l, y l * xh x l = (∑ l, cen x l * y l) * rs x := by
    rw [sum_mul]; exact sum_congr rfl fun l _ => by unfold xh; ring
  rw [e1, e2, rs_sq, back, mean, mean, e3, xh]
  ring

/-- The arguments of the product and of the norm it ends at, with `K` numbers summed over. -/
structure Data (K : ℕ) where
  u : Fin 4096 → Fin K → ℝ
  w : Fin 1024 → Fin K → ℝ
  d : Fin 4096 → Fin 1024 → ℝ
  r : Fin 4096 → Fin 1024 → ℝ
  g : Fin 1024 → ℝ

namespace Data

variable {K : ℕ} (D : Data K)

/-- The gradient of the norm's output, and the gradients of the norm's input, scale and shift. -/
def dh (i : Fin 4096) (j : Fin 1024) : ℝ := alpha * D.d i j + ∑ k, D.u i k * D.w j k
def dr (i : Fin 4096) (j : Fin 1024) : ℝ := back (D.r i) (fun l => D.dh i l * D.g l) j
def tg (i : Fin 4096) (j : Fin 1024) : ℝ := D.dh i j * xh (D.r i) j
def dg (j : Fin 1024) : ℝ := ∑ i, D.tg i j
def db (j : Fin 1024) : ℝ := ∑ i, D.dh i j

end Data

/-- Row `r` of block `b`. -/
abbrev row (b : Fin 8) (r : Fin 512) : Fin 4096 := ⟨512 * b.val + r.val, by omega⟩

/-- A column's sum over the rows of the first `n` blocks. -/
def upto (f : Fin 4096 → Fin 1024 → ℝ) (n : ℕ) (j : Fin 1024) : ℝ := ∑ b : Fin 8, if b.val < n then ∑ r : Fin 512, f (row b r) j else 0

theorem upto_zero (f : Fin 4096 → Fin 1024 → ℝ) (j : Fin 1024) : upto f 0 j = 0 := by simp [upto]

theorem upto_succ (f : Fin 4096 → Fin 1024 → ℝ) (b : Fin 8) (j : Fin 1024) : upto f (b.val + 1) j = upto f b.val j + ∑ r : Fin 512, f (row b r) j := by
  have e : ∑ r : Fin 512, f (row b r) j = ∑ a : Fin 8, if a = b then ∑ r : Fin 512, f (row a r) j else 0 := by simp
  rw [upto, upto, e, ← sum_add_distrib]
  refine sum_congr rfl fun a _ => ?_
  rcases lt_trichotomy a b with h | h | h
  · have h' : a.val < b.val := h
    rw [if_pos (by omega), if_pos h', if_neg h.ne, add_zero]
  · subst h; simp
  · have h' : b.val < a.val := h
    rw [if_neg (by omega), if_neg (by omega), if_neg h.ne', add_zero]

theorem upto_all (f : Fin 4096 → Fin 1024 → ℝ) (j : Fin 1024) : upto f 8 j = ∑ i, f i j := by
  rw [upto, ← Equiv.sum_comp (finProdFinEquiv (m := 8) (n := 512)), ← Finset.univ_product_univ, Finset.sum_product]
  refine sum_congr rfl fun b _ => ?_
  rw [if_pos b.isLt]
  refine sum_congr rfl fun r _ => congrArg (f · j) (Fin.ext ?_)
  simp [finProdFinEquiv, row]; omega

end Norm

end
-- ==== Proof.Norm.Words.lean ====
/- The literals of the norms' gradients and the inverse root, as real numbers. -/
module

public import proofs.«01_k».proof.Proof.Norm.Real
public import proofs.«01_k».proof.Proof.Attn.Words
public import Idealize.ShloMosaic.Lib.Pointwise

@[expose] public section

noncomputable section

namespace Norm

open Idealize.ShloMosaic

/-- An array whose entries are the real numbers `f i j`. -/
abbrev IsR {n k : ℕ} (x : (⟨2, ![n, k]⟩ : Shape).Idx → EReal) (f : Fin n → Fin k → ℝ) : Prop :=
  ∀ i j, x (ix2 i j) = ((f i j : ℝ) : EReal)

theorem lit_width : Ideal.ofBits .f32 0x44800000#32 = ((1024 : ℝ) : EReal) := by
  simp [Ideal.ofBits, Ideal.ieee, -EReal.coe_mul]; norm_num

theorem lit_eps : Ideal.ofBits .f32 0x3727C5AC#32 = ((eps : ℝ) : EReal) := by
  unfold eps
  simp [Ideal.ofBits, Ideal.ieee, -EReal.coe_mul]; norm_num

theorem lit_alpha : Ideal.ofBits .f32 0x3F9837F0#32 = ((alpha : ℝ) : EReal) := by
  unfold alpha
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

theorem over (a : ℝ) : Ideal.div (a : EReal) ((1024 : ℝ) : EReal) = ((a / 1024 : ℝ) : EReal) := Attn.div_real a (by norm_num)

theorem root (x : Fin 1024 → ℝ) : Ideal.rsqrt ((spread x : ℝ) : EReal) = ((rs x : ℝ) : EReal) := by
  rw [Ideal.rsqrt_coe, if_neg (not_lt.mpr (spread_pos x).le), if_neg (spread_pos x).ne']; rfl

end Norm

end
-- ==== Proof.Norm.Up.Pay.lean ====
/- One block of 512 rows of `mlp_up_dx`: each value the body forms, as real numbers. -/
module

public import proofs.«01_k».proof.Proof.Gen.Kernel4Ideal.Skeleton
public import proofs.«01_k».proof.Proof.Norm.Words

@[expose] public section

set_option maxRecDepth 16384

noncomputable section

namespace Norm.Up

open Cert.Kernel4Ideal Cert.Kernel4Ideal.Gen Idealize.ShloMosaic Idealize.ShloMosaic.TcCoe Idealize.ShloMosaic.Tactic

variable {U : Fin 512 → Fin 4096 → ℝ} {W : Fin 1024 → Fin 4096 → ℝ} {D R : Fin 512 → Fin 1024 → ℝ} {G : Fin 1 → Fin 1024 → ℝ}
  {u : FVec Ideal S512x4096 .bf16} {w : FVec Ideal S1024x4096 .bf16} {d r : FVec Ideal S512x1024 .f32} {g : FVec Ideal S1x1024 .f32}

/-- A block's gradient of the norm's output. -/
def dH (U : Fin 512 → Fin 4096 → ℝ) (W : Fin 1024 → Fin 4096 → ℝ) (D : Fin 512 → Fin 1024 → ℝ) (i : Fin 512) (j : Fin 1024) : ℝ :=
  alpha * D i j + ∑ k, U i k * W j k

theorem p_cen (hr : IsR r R) : IsR (k0_pay7 (F := Ideal) r) (fun i => cen (R i)) := by
  intro i j; pointwise [k0_pay7]
  simp only [hr _ _, lit_width, Attn.sum_real, over, ← EReal.coe_sub]; rfl

theorem p_rs (hr : IsR r R) : IsR (k0_pay8 (F := Ideal) r) (fun i _ => rs (R i)) := by
  intro i j; pointwise [k0_pay8]
  simp only [p_cen hr _ _, lit_width, lit_eps, Attn.sum_real, over, ← EReal.coe_mul, ← EReal.coe_add]
  exact root (R i)

theorem p_xh (hr : IsR r R) : IsR (k0_pay9 (F := Ideal) r) (fun i => xh (R i)) := by
  intro i j; pointwise [k0_pay9]
  simp only [p_cen hr _ _, p_rs hr _ _, ← EReal.coe_mul, xh]

theorem p_dh (hu : IsR u U) (hw : IsR w W) (hd : IsR d D) : IsR (k0_pay10 (F := Ideal) u w d) (dH U W D) := by
  intro i j; pointwise [k0_pay10]
  simp only [hu _ _, hw _ _, hd _ _, lit_alpha, ← EReal.coe_mul, Attn.sum_real, ← EReal.coe_add]; rfl

theorem p_dx (hu : IsR u U) (hw : IsR w W) (hd : IsR d D) (hg : IsR g G) : IsR (k0_pay11 (F := Ideal) u w d g) (fun i j => dH U W D i j * G 0 j) := by
  intro i j; pointwise [k0_pay11]
  simp only [p_dh hu hw hd _ _, hg _ _, ← EReal.coe_mul]

theorem p_m1 (hu : IsR u U) (hw : IsR w W) (hd : IsR d D) (hg : IsR g G) : IsR (k0_pay12 (F := Ideal) u w d g) (fun i _ => mean fun l => dH U W D i l * G 0 l) := by
  intro i j; pointwise [k0_pay12]
  simp only [p_dx hu hw hd hg _ _, lit_width, Attn.sum_real, over]; rfl

theorem p_m2 (hu : IsR u U) (hw : IsR w W) (hd : IsR d D) (hr : IsR r R) (hg : IsR g G) :
    IsR (k0_pay13 (F := Ideal) u w d r g) (fun i _ => mean fun l => dH U W D i l * G 0 l * xh (R i) l) := by
  intro i j; pointwise [k0_pay13]
  simp only [p_dx hu hw hd hg _ _, p_xh hr _ _, ← EReal.coe_mul, lit_width, Attn.sum_real, over]; rfl

/-- What the body stores: the gradient of the norm's input, and the block's part of the gradients of scale and shift. -/
def dR (U : Fin 512 → Fin 4096 → ℝ) (W : Fin 1024 → Fin 4096 → ℝ) (D R : Fin 512 → Fin 1024 → ℝ) (G : Fin 1 → Fin 1024 → ℝ) (i : Fin 512) (j : Fin 1024) : ℝ :=
  back (R i) (fun l => dH U W D i l * G 0 l) j
def dG (U : Fin 512 → Fin 4096 → ℝ) (W : Fin 1024 → Fin 4096 → ℝ) (D R : Fin 512 → Fin 1024 → ℝ) (_ : Fin 1) (j : Fin 1024) : ℝ :=
  ∑ i, dH U W D i j * xh (R i) j
def dB (U : Fin 512 → Fin 4096 → ℝ) (W : Fin 1024 → Fin 4096 → ℝ) (D : Fin 512 → Fin 1024 → ℝ) (_ : Fin 1) (j : Fin 1024) : ℝ :=
  ∑ i, dH U W D i j

section

variable (hu : IsR u U) (hw : IsR w W) (hd : IsR d D) (hr : IsR r R) (hg : IsR g G)
include hu hw hd

theorem q_sb : IsR (k0_pay3 (F := Ideal) (k0_pay10 u w d)) (dB U W D) := by
  intro i j; pointwise [k0_pay3]
  simp only [p_dh hu hw hd _ _, Attn.sum_real]; rfl

theorem q_ab {x : FVec Ideal S1x1024 .f32} {X : Fin 1 → Fin 1024 → ℝ} (hx : IsR x X) :
    IsR (k0_pay6 (F := Ideal) (k0_pay10 u w d) x) (fun i j => X i j + dB U W D i j) := by
  intro i j; pointwise [k0_pay6]
  rw [q_sb hu hw hd i j]
  simp only [hx _ _, ← EReal.coe_add]

include hr

theorem q_sx : IsR (k0_pay2 (F := Ideal) (k0_pay9 r) (k0_pay10 u w d)) (dG U W D R) := by
  intro i j; pointwise [k0_pay2]
  simp only [p_dh hu hw hd _ _, p_xh hr _ _, ← EReal.coe_mul, Attn.sum_real]; rfl

theorem q_ax {x : FVec Ideal S1x1024 .f32} {X : Fin 1 → Fin 1024 → ℝ} (hx : IsR x X) :
    IsR (k0_pay5 (F := Ideal) (k0_pay9 r) (k0_pay10 u w d) x) (fun i j => X i j + dG U W D R i j) := by
  intro i j; pointwise [k0_pay5]
  rw [q_sx hu hw hd hr i j]
  simp only [hx _ _, ← EReal.coe_add]

include hg

theorem q_dr : IsR (k0_pay1 (F := Ideal) (k0_pay8 r) (k0_pay9 r) (k0_pay11 u w d g) (k0_pay12 u w d g) (k0_pay13 u w d r g)) (dR U W D R G) := by
  intro i j; pointwise [k0_pay1]
  simp only [p_rs hr _ _, p_xh hr _ _, p_dx hu hw hd hg _ _, p_m1 hu hw hd hg _ _, p_m2 hu hw hd hr hg _ _, ← EReal.coe_mul, ← EReal.coe_sub]; rfl

theorem q_bf : IsR (k0_pay4 (F := Ideal) (k0_pay8 r) (k0_pay9 r) (k0_pay11 u w d g) (k0_pay12 u w d g) (k0_pay13 u w d r g)) (dR U W D R G) := by
  intro i j; pointwise [k0_pay4]
  exact q_dr hu hw hd hr hg i j

end

end Norm.Up

end
-- ==== Proof.Norm.Step.lean ====
/- What loading a whole block gives and what storing one leaves. -/
module

public import proofs.«01_k».proof.Proof.Norm.Words
public import Idealize.ShloMosaic.Lib.WritesUnit
public import Idealize.ShloMosaic.Lib.Pipeline.ValueKit.Tiles

@[expose] public section

noncomputable section

namespace Norm.Step

open Idealize.ShloMosaic

section Load

variable {N M : ℕ} {x : (⟨2, ![N, M]⟩ : Shape).Idx → EReal} {X : Fin N → Fin M → ℝ}
  {inb : ∀ a : Fin 2, (![0, 0] : Fin 2 → ℕ) a + (![N, M] : Fin 2 → ℕ) a ≤ (![N, M] : Fin 2 → ℕ) a}

theorem ld32 (hx : IsR x X) : IsR (View.ld (S := ⟨2, ![N, M]⟩) (Val := Elt Ideal) (e' := .f32) x (Rect.unit (s := ⟨2, ![N, M]⟩) ![0, 0] ![N, M] inb)) X := fun i j =>
  (View.ld_unit_apply_of (S := ⟨2, ![N, M]⟩) (Val := Elt Ideal) (e := .f32) x _ _ inb (ix2 i j) (ix2 i j)
    (Fin.forall_fin_two.mpr ⟨(Nat.zero_add _).symm, (Nat.zero_add _).symm⟩)).trans (hx i j)

theorem ld16 (hx : IsR x X) : IsR (View.ld (S := ⟨2, ![N, M]⟩) (Val := Elt Ideal) (e' := .bf16) x (Rect.unit (s := ⟨2, ![N, M]⟩) ![0, 0] ![N, M] inb)) X := fun i j =>
  (View.ld_unit_apply_of (S := ⟨2, ![N, M]⟩) (Val := Elt Ideal) (e := .bf16) x _ _ inb (ix2 i j) (ix2 i j)
    (Fin.forall_fin_two.mpr ⟨(Nat.zero_add _).symm, (Nat.zero_add _).symm⟩)).trans (hx i j)

end Load

section Store

variable {sig : RefSig} {κ : Kind} {sp : Space} {N M : ℕ}
  {inb : ∀ a : Fin 2, (![0, 0] : Fin 2 → ℕ) a + (![N, M] : Fin 2 → ℕ) a ≤ (![N, M] : Fin 2 → ℕ) a}
  {w : (⟨2, ![N, M]⟩ : Shape).Idx → EReal} {W : Fin N → Fin M → ℝ}

theorem st32 {v : View sig κ sp (⟨2, ![N, M]⟩ : Shape) .f32} {f : v.ty.Contents (Elt Ideal)} {L : List (View.Piece (Elt Ideal) (⟨2, ![N, M]⟩ : Shape) .f32)} (hw : IsR w W) :
    IsR (v.read (Elt Ideal) (v.writes (Elt Ideal) f (⟨Rect.unit (s := ⟨2, ![N, M]⟩) ![0, 0] ![N, M] inb, w⟩ :: L))) W := fun i j =>
  (View.read_writes_cons_unit_of_mem v f inb w L (ix2 i j) (ix2 i j) rfl
      (Fin.forall_fin_two.mpr ⟨(Nat.zero_add _).symm, (Nat.zero_add _).symm⟩)).trans (hw i j)

theorem st16 {v : View sig κ sp (⟨2, ![N, M]⟩ : Shape) .bf16} {f : v.ty.Contents (Elt Ideal)} {L : List (View.Piece (Elt Ideal) (⟨2, ![N, M]⟩ : Shape) .bf16)} (hw : IsR w W) :
    IsR (v.read (Elt Ideal) (v.writes (Elt Ideal) f (⟨Rect.unit (s := ⟨2, ![N, M]⟩) ![0, 0] ![N, M] inb, w⟩ :: L))) W := fun i j =>
  (View.read_writes_cons_unit_of_mem v f inb w L (ix2 i j) (ix2 i j) rfl
      (Fin.forall_fin_two.mpr ⟨(Nat.zero_add _).symm, (Nat.zero_add _).symm⟩)).trans (hw i j)

end Store

end Norm.Step

end
-- ==== Proof.Norm.Up.Tiles.lean ====
/- What each grid point of `mlp_up_dx` leaves in its output windows, and the arrays after the last one. -/
module

public import proofs.«01_k».proof.Proof.Gen.Kernel4Ideal.Frame
public import proofs.«01_k».proof.Proof.Norm.Up.Pay
public import proofs.«01_k».proof.Proof.Norm.Step

@[expose] public section

set_option maxRecDepth 16384

noncomputable section

namespace Norm.Up

open Cert.Kernel4Ideal Cert.Kernel4Ideal.Gen Idealize.ShloMosaic Idealize.ShloMosaic.TcCoe Idealize.ShloMosaic.Tactic Idealize.SL.Sem

/-- The blocks that a grid point reads. -/
structure AtPt (m : (ℓ : Loc nD τ sig) → Buf (Elt Ideal) ℓ) (c : Dev nD) (t : Fin cfg0.N) (U : Fin 512 → Fin 4096 → ℝ) (W : Fin 1024 → Fin 4096 → ℝ)
    (D R : Fin 512 → Fin 1024 → ℝ) (G : Fin 1 → Fin 1024 → ℝ) : Prop where
  u : IsR (n := 512) (k := 4096) (iblk m c 0 t) U
  w : IsR (n := 1024) (k := 4096) (iblk m c 1 t) W
  d : IsR (n := 512) (k := 1024) (iblk m c 2 t) D
  r : IsR (n := 512) (k := 1024) (iblk m c 3 t) R
  g : IsR (n := 1) (k := 1024) (iblk m c 4 t) G

section Cases

variable {m : (ℓ : Loc nD τ sig) → Buf (Elt Ideal) ℓ} {c : Dev nD} {t : Fin cfg0.N} {U : Fin 512 → Fin 4096 → ℝ} {W : Fin 1024 → Fin 4096 → ℝ}
  {D R : Fin 512 → Fin 1024 → ℝ} {G : Fin 1 → Fin 1024 → ℝ}

theorem A_dr (h0 : t.val % 8 = 0) (h1 : ¬1 ≤ t.val) (P : AtPt m c t U W D R G) :
    IsR (outsAt0 m c t.val t.isLt).1 (dR U W D R G) := by
  rw [outsAt0_A m c t h0 h1]
  dsimp only
  unfold out0_A_5 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_dr (Step.ld16 P.u) (Step.ld16 P.w) (Step.ld32 P.d) (Step.ld32 P.r) (Step.ld32 P.g))

theorem A_bf (h0 : t.val % 8 = 0) (h1 : ¬1 ≤ t.val) (P : AtPt m c t U W D R G) :
    IsR (outsAt0 m c t.val t.isLt).2.1 (dR U W D R G) := by
  rw [outsAt0_A m c t h0 h1]
  dsimp only
  unfold out0_A_6 kernelRun0_A
  dsimp only
  sl_unfold_words
  simp only [View.readAt_eq_ld, (hs0_0 t).read_unread, (hs0_1 t).read_unread, (hs0_2 t).read_unread, (hs0_3 t).read_unread, (hs0_4 t).read_unread]
  exact Step.st16 (q_bf (Step.ld16 P.u) (Step.ld16 P.w) (Step.ld32 P.d) (Step.ld32 P.r) (Step.ld32 P.g))

theorem A_dg (h0 : t.val % 8 = 0) (h1 : ¬1 ≤ t.val) (P : AtPt m c t U W D R G) :
    IsR (outsAt0 m c t.val t.isLt).2.2.1 (dG U W D R) := by
  rw [outsAt0_A m c t h0 h1]
  dsimp only
  unfold out0_A_7 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_sx (Step.ld16 P.u) (Step.ld16 P.w) (Step.ld32 P.d) (Step.ld32 P.r))

theorem A_db (h0 : t.val % 8 = 0) (h1 : ¬1 ≤ t.val) (P : AtPt m c t U W D R G) :
    IsR (outsAt0 m c t.val t.isLt).2.2.2 (dB U W D) := by
  rw [outsAt0_A m c t h0 h1]
  dsimp only
  unfold out0_A_8 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_sb (Step.ld16 P.u) (Step.ld16 P.w) (Step.ld32 P.d))

theorem B_dr (h0 : ¬t.val % 8 = 0) (h1 : 1 ≤ t.val) (P : AtPt m c t U W D R G) :
    IsR (outsAt0 m c t.val t.isLt).1 (dR U W D R G) := by
  rw [outsAt0_B m c t h0 h1]
  dsimp only
  unfold out0_B_5 kernelRun0_B
  dsimp only
  sl_unfold_words
  simp only [View.readAt_eq_ld, (hs0_0 t).read_unread, (hs0_1 t).read_unread, (hs0_2 t).read_unread, (hs0_3 t).read_unread, (hs0_4 t).read_unread]
  exact Step.st32 (q_dr (Step.ld16 P.u) (Step.ld16 P.w) (Step.ld32 P.d) (Step.ld32 P.r) (Step.ld32 P.g))

theorem B_bf (h0 : ¬t.val % 8 = 0) (h1 : 1 ≤ t.val) (P : AtPt m c t U W D R G) :
    IsR (outsAt0 m c t.val t.isLt).2.1 (dR U W D R G) := by
  rw [outsAt0_B m c t h0 h1]
  dsimp only
  unfold out0_B_6 kernelRun0_B
  dsimp only
  sl_unfold_words
  simp only [View.readAt_eq_ld, (hs0_0 t).read_unread, (hs0_1 t).read_unread, (hs0_2 t).read_unread, (hs0_3 t).read_unread, (hs0_4 t).read_unread]
  exact Step.st16 (q_bf (Step.ld16 P.u) (Step.ld16 P.w) (Step.ld32 P.d) (Step.ld32 P.r) (Step.ld32 P.g))

theorem B_dg (h0 : ¬t.val % 8 = 0) (h1 : 1 ≤ t.val) (P : AtPt m c t U W D R G) {X : Fin 1 → Fin 1024 → ℝ}
    (hX : IsR (n := 1) (k := 1024) (outsAt0 m c (t.val - 1) (Nat.lt_of_le_of_lt (Nat.sub_le _ _) t.isLt)).2.2.1 X) :
    IsR (outsAt0 m c t.val t.isLt).2.2.1 (fun i j => X i j + dG U W D R i j) := by
  rw [outsAt0_B m c t h0 h1]
  dsimp only
  unfold out0_B_7 kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread]
  exact Step.st32 (q_ax (Step.ld16 P.u) (Step.ld16 P.w) (Step.ld32 P.d) (Step.ld32 P.r) (Step.ld32 hX))

theorem B_db (h0 : ¬t.val % 8 = 0) (h1 : 1 ≤ t.val) (P : AtPt m c t U W D R G) {X : Fin 1 → Fin 1024 → ℝ}
    (hX : IsR (n := 1) (k := 1024) (outsAt0 m c (t.val - 1) (Nat.lt_of_le_of_lt (Nat.sub_le _ _) t.isLt)).2.2.2 X) :
    IsR (outsAt0 m c t.val t.isLt).2.2.2 (fun i j => X i j + dB U W D i j) := by
  rw [outsAt0_B m c t h0 h1]
  dsimp only
  unfold out0_B_8 kernelRun0_B
  dsimp only
  sl_unfold_words
  simp only [View.readAt_eq_ld, (hs0_0 t).read_unread, (hs0_1 t).read_unread, (hs0_2 t).read_unread, (hs0_3 t).read_unread, (hs0_4 t).read_unread, (hs0_8 t).read_unread]
  exact Step.st32 (q_ab (Step.ld16 P.u) (Step.ld16 P.w) (Step.ld32 P.d) (Step.ld32 hX))

end Cases

/-- A grid point's block of rows. -/
abbrev bl (t : Fin cfg0.N) : Fin 8 := ⟨t.val, lt_of_lt_of_eq t.isLt N_0⟩

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at8 : ∀ t : Fin cfg0.N, win0_8.index t (0 : Fin 2) = 0 ∧ win0_8.index t (1 : Fin 2) = 0 := (by decide +kernel : ∀ t : Fin grid0.N, _)

/-- The arguments are the real numbers of `D`. -/
structure Holds (D : Data 4096) (x0 : S4096x4096.Idx → EReal) (x1 : S1024x4096.Idx → EReal) (x2 x3 : S4096x1024.Idx → EReal) (x4 : S1x1024.Idx → EReal) : Prop where
  u : IsR x0 D.u
  w : IsR x1 D.w
  d : IsR x2 D.d
  r : IsR x3 D.r
  g : IsR x4 fun _ => D.g

section

variable {D : Data 4096} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem atPt (t : Fin cfg0.N) :
    AtPt m c t (fun i => D.u (row (bl t) i)) D.w (fun i => D.d (row (bl t) i)) (fun i => D.r (row (bl t) i)) (fun _ => D.g) := by
  refine ⟨fun i j => ?_, fun i j => ?_, fun i j => ?_, fun i j => ?_, fun i j => ?_⟩
  · obtain ⟨e0, e1⟩ := at0 t
    refine Eq.trans (congrArg (V m c main_arg0 : FVec Ideal S4096x4096 .bf16) ?_) (H.u (row (bl t) i) j)
    funext a; apply Fin.ext
    match a with
    | ⟨0, _⟩ => show win0_0.index t (0 : Fin 2) * 512 + 1 * i.val = 512 * t.val + i.val; omega
    | ⟨1, _⟩ => show win0_0.index t (1 : Fin 2) * 4096 + 1 * j.val = j.val; omega
  · obtain ⟨e0, e1⟩ := at1 t
    refine Eq.trans (congrArg (V m c main_arg1 : FVec Ideal S1024x4096 .bf16) ?_) (H.w i j)
    funext a; apply Fin.ext
    match a with
    | ⟨0, _⟩ => show win0_1.index t (0 : Fin 2) * 1024 + 1 * i.val = i.val; omega
    | ⟨1, _⟩ => show win0_1.index t (1 : Fin 2) * 4096 + 1 * j.val = j.val; omega
  · obtain ⟨e0, e1⟩ := at2 t
    refine Eq.trans (congrArg (V m c main_arg2 : FVec Ideal S4096x1024 .f32) ?_) (H.d (row (bl t) i) j)
    funext a; apply Fin.ext
    match a with
    | ⟨0, _⟩ => show win0_2.index t (0 : Fin 2) * 512 + 1 * i.val = 512 * t.val + i.val; omega
    | ⟨1, _⟩ => show win0_2.index t (1 : Fin 2) * 1024 + 1 * j.val = j.val; omega
  · obtain ⟨e0, e1⟩ := at3 t
    refine Eq.trans (congrArg (V m c main_arg3 : FVec Ideal S4096x1024 .f32) ?_) (H.r (row (bl t) i) j)
    funext a; apply Fin.ext
    match a with
    | ⟨0, _⟩ => show win0_3.index t (0 : Fin 2) * 512 + 1 * i.val = 512 * t.val + i.val; omega
    | ⟨1, _⟩ => show win0_3.index t (1 : Fin 2) * 1024 + 1 * j.val = j.val; omega
  · obtain ⟨e0, e1⟩ := at4 t
    refine Eq.trans (congrArg (V m c main_arg4 : FVec Ideal S1x1024 .f32) ?_) (H.g i j)
    funext a; apply Fin.ext
    match a with
    | ⟨0, _⟩ => show win0_4.index t (0 : Fin 2) * 1 + 1 * i.val = i.val; omega
    | ⟨1, _⟩ => show win0_4.index t (1 : Fin 2) * 1024 + 1 * j.val = j.val; omega

end

/-- What the windows hold after a grid point. -/
structure After (D : Data 4096) (m : (ℓ : Loc nD τ sig) → Buf (Elt Ideal) ℓ) (c : Dev nD) (t : Fin cfg0.N) : Prop where
  dr : IsR (n := 512) (k := 1024) (outsAt0 m c t.val t.isLt).1 fun i => D.dr (row (bl t) i)
  bf : IsR (n := 512) (k := 1024) (outsAt0 m c t.val t.isLt).2.1 fun i => D.dr (row (bl t) i)
  dg : IsR (n := 1) (k := 1024) (outsAt0 m c t.val t.isLt).2.2.1 fun _ j => upto D.tg (t.val + 1) j
  db : IsR (n := 1) (k := 1024) (outsAt0 m c t.val t.isLt).2.2.2 fun _ j => upto D.dh (t.val + 1) j

/-- The sums after a point from those before it. -/
theorem more (f : Fin 4096 → Fin 1024 → ℝ) (t : Fin cfg0.N) (j : Fin 1024) :
    upto f (t.val + 1) j = upto f t.val j + ∑ r : Fin 512, f (row (bl t) r) j := upto_succ f (bl t) j

section

variable {D : Data 4096} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem after_all : ∀ (n : ℕ) (hn : n < cfg0.N), After D m c ⟨n, hn⟩
  | 0, hn => by
    have P := atPt H ⟨0, hn⟩
    refine ⟨A_dr (t := ⟨0, hn⟩) rfl (by show ¬1 ≤ 0; omega) P, A_bf (t := ⟨0, hn⟩) rfl (by show ¬1 ≤ 0; omega) P, fun i j => (A_dg (t := ⟨0, hn⟩) rfl (by show ¬1 ≤ 0; omega) P i j).trans ?_,
      fun i j => (A_db (t := ⟨0, hn⟩) rfl (by show ¬1 ≤ 0; omega) P i j).trans ?_⟩
    · refine congrArg _ ((more D.tg ⟨0, hn⟩ j).trans ?_).symm
      rw [show upto D.tg (⟨0, hn⟩ : Fin cfg0.N).val j = 0 from upto_zero _ _, zero_add]; rfl
    · refine congrArg _ ((more D.dh ⟨0, hn⟩ j).trans ?_).symm
      rw [show upto D.dh (⟨0, hn⟩ : Fin cfg0.N).val j = 0 from upto_zero _ _, zero_add]; rfl
  | n + 1, hn => by
    have P := atPt H ⟨n + 1, hn⟩
    have I := after_all n (Nat.lt_of_succ_lt hn)
    have hN : n + 1 < 8 := lt_of_lt_of_eq hn N_0
    have h0 : ¬(⟨n + 1, hn⟩ : Fin cfg0.N).val % 8 = 0 := by show ¬(n + 1) % 8 = 0; omega
    have h1 : 1 ≤ (⟨n + 1, hn⟩ : Fin cfg0.N).val := by show 1 ≤ n + 1; omega
    refine ⟨B_dr h0 h1 P, B_bf h0 h1 P, fun i j => (B_dg h0 h1 P I.dg i j).trans ?_, fun i j => (B_db h0 h1 P I.db i j).trans ?_⟩
    · exact congrArg _ (more D.tg ⟨n + 1, hn⟩ j).symm
    · exact congrArg _ (more D.dh ⟨n + 1, hn⟩ j).symm

end

/-- The arrays. -/
def arrD (D : Data 4096) : S4096x1024.Idx → EReal := fun i => ((D.dr (i 0) (i 1) : ℝ) : EReal)
def arrG (D : Data 4096) : S1x1024.Idx → EReal := fun i => ((D.dg (i 1) : ℝ) : EReal)
def arrB (D : Data 4096) : S1x1024.Idx → EReal := fun i => ((D.db (i 1) : ℝ) : EReal)

section

variable {D : Data 4096} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem back5 (t : Fin cfg0.N) (_ : (cfg0.win 5).flush t = true) :
    (dats m 0 c).flushed 5 t = ((cfg0.win 5).blk t).view.read (Elt Ideal) (arrD D) := by
  obtain ⟨e0, e1⟩ := at5 t
  have A := (after_all H t.val t.isLt).dr
  show (cfg0.win 5).cut (grid0.coords t) ((dats m 0 c).after 5 t) = _
  rw [after0_5]
  funext y
  have hy0 : (y 0).val < 512 := (y 0).isLt
  have hy1 : (y 1).val < 1024 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have ex : (cfg0.win 5).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  show (outsAt0 m c t.val t.isLt).1 ((cfg0.win 5).xinj (grid0.coords t) y) = arrD D (((cfg0.win 5).blk t).view.emb y)
  rw [ex, A]
  refine congrArg₂ (fun (i : Fin 4096) (j : Fin 1024) => ((D.dr i j : ℝ) : EReal)) (Fin.ext ?_) (Fin.ext ?_)
  · show 512 * t.val + (y 0).val = (((cfg0.win 5).blk t).view.emb y 0).val; rw [hb0]; omega
  · show (y 1).val = (((cfg0.win 5).blk t).view.emb y 1).val; rw [hb1]; omega

theorem back6 (t : Fin cfg0.N) (_ : (cfg0.win 6).flush t = true) :
    (dats m 0 c).flushed 6 t = ((cfg0.win 6).blk t).view.read (Elt Ideal) (arrD D) := by
  obtain ⟨e0, e1⟩ := at6 t
  have A := (after_all H t.val t.isLt).bf
  show (cfg0.win 6).cut (grid0.coords t) ((dats m 0 c).after 6 t) = _
  rw [after0_6]
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have ex : (cfg0.win 6).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  show (outsAt0 m c t.val t.isLt).2.1 ((cfg0.win 6).xinj (grid0.coords t) y) = arrD D (((cfg0.win 6).blk t).view.emb y)
  rw [ex, A]
  refine congrArg₂ (fun (i : Fin 4096) (j : Fin 1024) => ((D.dr i j : ℝ) : EReal)) (Fin.ext ?_) (Fin.ext ?_)
  · show 512 * t.val + (y 0).val = (((cfg0.win 6).blk t).view.emb y 0).val; rw [hb0]; omega
  · show (y 1).val = (((cfg0.win 6).blk t).view.emb y 1).val; rw [hb1]; omega

theorem back7 (t : Fin cfg0.N) (hf : (cfg0.win 7).flush t = true) :
    (dats m 0 c).flushed 7 t = ((cfg0.win 7).blk t).view.read (Elt Ideal) (arrG D) := by
  have hm : t.val % 8 = 7 := (flush0_7 t).mp hf
  have hN : t.val < 8 := lt_of_lt_of_eq t.isLt N_0
  have h8 : t.val + 1 = 8 := by omega
  obtain ⟨e0, e1⟩ := at7 t
  have A := (after_all H t.val t.isLt).dg
  show (cfg0.win 7).cut (grid0.coords t) ((dats m 0 c).after 7 t) = _
  rw [after0_7]
  funext y
  have hy0 : (y 0).val < 1 := (y 0).isLt
  have hy1 : (y 1).val < 1024 := (y 1).isLt
  have hb1 : (((cfg0.win 7).blk t).view.emb y 1).val = win0_7.index t (1 : Fin 2) * 1024 + 1 * (y 1).val := rfl
  have ex : (cfg0.win 7).xinj (grid0.coords t) y = ix2 (⟨(y 0).val, hy0⟩ : Fin 1) (⟨(y 1).val, hy1⟩ : Fin 1024) := by
    funext a; apply Fin.ext
    match a with
    | ⟨0, _⟩ => rfl
    | ⟨1, _⟩ => rfl
  show (outsAt0 m c t.val t.isLt).2.2.1 ((cfg0.win 7).xinj (grid0.coords t) y) = arrG D (((cfg0.win 7).blk t).view.emb y)
  rw [ex, A]
  show ((upto D.tg (t.val + 1) ⟨(y 1).val, hy1⟩ : ℝ) : EReal) = _
  rw [h8, upto_all]
  refine congrArg (fun j : Fin 1024 => ((D.dg j : ℝ) : EReal)) (Fin.ext ?_)
  show (y 1).val = (((cfg0.win 7).blk t).view.emb y 1).val; rw [hb1]; omega

theorem back8 (t : Fin cfg0.N) (hf : (cfg0.win 8).flush t = true) :
    (dats m 0 c).flushed 8 t = ((cfg0.win 8).blk t).view.read (Elt Ideal) (arrB D) := by
  have hm : t.val % 8 = 7 := (flush0_8 t).mp hf
  have hN : t.val < 8 := lt_of_lt_of_eq t.isLt N_0
  have h8 : t.val + 1 = 8 := by omega
  obtain ⟨e0, e1⟩ := at8 t
  have A := (after_all H t.val t.isLt).db
  show (cfg0.win 8).cut (grid0.coords t) ((dats m 0 c).after 8 t) = _
  rw [after0_8]
  funext y
  have hy0 : (y 0).val < 1 := (y 0).isLt
  have hy1 : (y 1).val < 1024 := (y 1).isLt
  have hb1 : (((cfg0.win 8).blk t).view.emb y 1).val = win0_8.index t (1 : Fin 2) * 1024 + 1 * (y 1).val := rfl
  have ex : (cfg0.win 8).xinj (grid0.coords t) y = ix2 (⟨(y 0).val, hy0⟩ : Fin 1) (⟨(y 1).val, hy1⟩ : Fin 1024) := by
    funext a; apply Fin.ext
    match a with
    | ⟨0, _⟩ => rfl
    | ⟨1, _⟩ => rfl
  show (outsAt0 m c t.val t.isLt).2.2.2 ((cfg0.win 8).xinj (grid0.coords t) y) = arrB D (((cfg0.win 8).blk t).view.emb y)
  rw [ex, A]
  show ((upto D.dh (t.val + 1) ⟨(y 1).val, hy1⟩ : ℝ) : EReal) = _
  rw [h8, upto_all]
  refine congrArg (fun j : Fin 1024 => ((D.db j : ℝ) : EReal)) (Fin.ext ?_)
  show (y 1).val = (((cfg0.win 8).blk t).view.emb y 1).val; rw [hb1]; omega

end

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 512 < cfg0.N := lt_of_lt_of_eq (show _ < 8 by omega) N_0.symm
  refine ⟨⟨(i 0).val / 512, ht⟩, flush0_5 _, ?_⟩
  have e0 : win0_5.index ⟨(i 0).val / 512, ht⟩ (0 : Fin 2) = (i 0).val / 512 := (at5 _).1
  have e1 : win0_5.index ⟨(i 0).val / 512, ht⟩ (1 : Fin 2) = 0 := (at5 _).2
  show i ∈ ((View.whole main_v0_0).slice (win0_5.rect ⟨(i 0).val / 512, ht⟩)).set
  rw [View.set_slice_whole, Rect.mem_set_unit]
  intro a
  match a with
  | ⟨0, _⟩ => show win0_5.index _ (0 : Fin 2) * 512 ≤ (i 0).val ∧ (i 0).val < win0_5.index _ (0 : Fin 2) * 512 + 512; rw [e0]; omega
  | ⟨1, _⟩ => show win0_5.index _ (1 : Fin 2) * 1024 ≤ (i 1).val ∧ (i 1).val < win0_5.index _ (1 : Fin 2) * 1024 + 1024; rw [e1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : (i 0).val / 512 < cfg0.N := lt_of_lt_of_eq (show _ < 8 by omega) N_0.symm
  refine ⟨⟨(i 0).val / 512, ht⟩, flush0_6 _, ?_⟩
  have e0 : win0_6.index ⟨(i 0).val / 512, ht⟩ (0 : Fin 2) = (i 0).val / 512 := (at6 _).1
  have e1 : win0_6.index ⟨(i 0).val / 512, ht⟩ (1 : Fin 2) = 0 := (at6 _).2
  show i ∈ ((View.whole main_v0_1).slice (win0_6.rect ⟨(i 0).val / 512, ht⟩)).set
  rw [View.set_slice_whole, Rect.mem_set_unit]
  intro a
  match a with
  | ⟨0, _⟩ => show win0_6.index _ (0 : Fin 2) * 512 ≤ (i 0).val ∧ (i 0).val < win0_6.index _ (0 : Fin 2) * 512 + 512; rw [e0]; omega
  | ⟨1, _⟩ => show win0_6.index _ (1 : Fin 2) * 1024 ≤ (i 1).val ∧ (i 1).val < win0_6.index _ (1 : Fin 2) * 1024 + 1024; rw [e1]; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have ht : 7 < cfg0.N := lt_of_lt_of_eq (show 7 < 8 by omega) N_0.symm
  refine ⟨⟨7, ht⟩, (flush0_7 _).mpr rfl, ?_⟩
  have e0 : win0_7.index ⟨7, ht⟩ (0 : Fin 2) = 0 := (at7 _).1
  have e1 : win0_7.index ⟨7, ht⟩ (1 : Fin 2) = 0 := (at7 _).2
  show i ∈ ((View.whole main_v0_2).slice (win0_7.rect ⟨7, ht⟩)).set
  rw [View.set_slice_whole, Rect.mem_set_unit]
  intro a
  match a with
  | ⟨0, _⟩ => show win0_7.index _ (0 : Fin 2) * 1 ≤ (i 0).val ∧ (i 0).val < win0_7.index _ (0 : Fin 2) * 1 + 1; rw [e0]; omega
  | ⟨1, _⟩ => show win0_7.index _ (1 : Fin 2) * 1024 ≤ (i 1).val ∧ (i 1).val < win0_7.index _ (1 : Fin 2) * 1024 + 1024; rw [e1]; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  have ht : 7 < cfg0.N := lt_of_lt_of_eq (show 7 < 8 by omega) N_0.symm
  refine ⟨⟨7, ht⟩, (flush0_8 _).mpr rfl, ?_⟩
  have e0 : win0_8.index ⟨7, ht⟩ (0 : Fin 2) = 0 := (at8 _).1
  have e1 : win0_8.index ⟨7, ht⟩ (1 : Fin 2) = 0 := (at8 _).2
  show i ∈ ((View.whole main_v0_3).slice (win0_8.rect ⟨7, ht⟩)).set
  rw [View.set_slice_whole, Rect.mem_set_unit]
  intro a
  match a with
  | ⟨0, _⟩ => show win0_8.index _ (0 : Fin 2) * 1 ≤ (i 0).val ∧ (i 0).val < win0_8.index _ (0 : Fin 2) * 1 + 1; rw [e0]; omega
  | ⟨1, _⟩ => show win0_8.index _ (1 : Fin 2) * 1024 ≤ (i 1).val ∧ (i 1).val < win0_8.index _ (1 : Fin 2) * 1024 + 1024; rw [e1]; omega

/-- The kernel's run: the arrays, and the arguments as launched. -/
theorem run {D : Dev nD → Data 4096} {m : (ℓ : Loc nD τ sig) → Buf (Elt Ideal) ℓ} (ρ : Dev nD → PrngReg)
    (H : ∀ c : Dev nD, Holds (D c) (m (c.tc.loc main_arg0)) (m (c.tc.loc main_arg1)) (m (c.tc.loc main_arg2)) (m (c.tc.loc main_arg3)) (m (c.tc.loc main_arg4))) :
    θ_run defs (onTc (τ := τ) (main (F := Ideal))) ⟨m, fun _ => 0, ρ⟩ fun r => ∀ c : Dev nD,
      r.2.mem ((c : Thread nD τ).loc main_v0_0) = arrD (D c)
      ∧ r.2.mem ((c : Thread nD τ).loc main_v0_1) = arrD (D c)
      ∧ r.2.mem ((c : Thread nD τ).loc main_v0_2) = arrG (D c)
      ∧ r.2.mem ((c : Thread nD τ).loc main_v0_3) = arrB (D c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 5).trans ((dats m 0 c).arrAt_eq_of_cover 5 _ (back5 (H c)) cover5),
     ((h c).1 6).trans ((dats m 0 c).arrAt_eq_of_cover 6 _ (back6 (H c)) cover6),
     ((h c).1 7).trans ((dats m 0 c).arrAt_eq_of_cover 7 _ (back7 (H c)) cover7),
     ((h c).1 8).trans ((dats m 0 c).arrAt_eq_of_cover 8 _ (back8 (H c)) cover8),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Norm.Up

end
-- ==== Proof.Norm.Up.Ref.lean ====
/- The reference of `mlp_up_dx` is the gradient that the kernel computes. -/
module

public import proofs.«01_k».proof.Proof.Gen.Reference4Ideal.Read
public import proofs.«01_k».proof.Proof.Norm.Up.Tiles

@[expose] public section

set_option maxRecDepth 16384

noncomputable section

namespace Norm.Up

open Cert.Reference4Ideal Cert.Reference4Ideal.Read Idealize.ShloMosaic

section Ref

variable {D : Data 4096} {x0 : S4096x4096.Idx → EReal} {x1 : S1024x4096.Idx → EReal} {x2 x3 : S4096x1024.Idx → EReal} {x4 : S1x1024.Idx → EReal}

/-- An array of real numbers at an index that is not split yet. -/
theorem whole {n k : ℕ} {x : (⟨2, ![n, k]⟩ : Shape).Idx → EReal} {f : Fin n → Fin k → ℝ} (h : IsR x f) (i : (⟨2, ![n, k]⟩ : Shape).Idx) :
    x i = ((f (i 0) (i 1) : ℝ) : EReal) := by
  have e : i = ix2 (i 0) (i 1) := by
    funext a
    match a with
    | ⟨0, _⟩ => rfl
    | ⟨1, _⟩ => rfl
  exact (congrArg x e).trans (h _ _)

/-- A sum started at zero. -/
theorem total {n : ℕ} {y : Fin n → EReal} {f : Fin n → ℝ} (h : ∀ k, y k = ((f k : ℝ) : EReal)) :
    (FloatOps.ofBits (F := Ideal) .f32 0x00000000#32 : EReal) + ∑ k, y k = ((∑ k, f k : ℝ) : EReal) := by
  show Ideal.ofBits .f32 0x00000000#32 + _ = _
  rw [Ideal.ofBits_zero_f32, zero_add, Finset.sum_congr rfl fun k _ => h k, Attn.sum_real]

variable (H : Holds D x0 x1 x2 x3 x4)
include H

theorem e1 (i : S4096.Idx) : val_main_v1 (F := Ideal) x3 i = ((∑ k, D.r (i 0) k : ℝ) : EReal) := by
  rw [val_main_v1_apply, val_main_cst_0_apply]
  exact total fun k => whole H.r _

theorem e4 (i : S4096x1.Idx) : val_main_v4 (F := Ideal) x3 i = ((mean (D.r (i 0)) : ℝ) : EReal) := by
  rw [val_main_v4_apply, val_main_v2_apply, val_main_v3_apply, val_main_cst_1_apply, e1 H]
  show Ideal.div _ (Ideal.ofBits .f32 0x44800000#32) = _
  rw [lit_width, over]; rfl

theorem e6 (i : S4096x1024.Idx) : val_main_v6 (F := Ideal) x3 i = ((cen (D.r (i 0)) (i 1) : ℝ) : EReal) := by
  rw [val_main_v6_apply, val_main_v5_apply, e4 H, whole H.r]
  exact (EReal.coe_sub _ _).symm

theorem e15 (i : S4096x1024.Idx) : val_main_v15 (F := Ideal) x3 i = ((cen (D.r (i 0)) (i 1) : ℝ) : EReal) := by
  rw [val_main_v15_apply, val_main_v14_apply, e4 H, whole H.r]
  exact (EReal.coe_sub _ _).symm

theorem e9 (i : S4096x1024.Idx) : val_main_v9 (F := Ideal) x3 i = ((2 * cen (D.r (i 0)) (i 1) : ℝ) : EReal) := by
  rw [val_main_v9_apply, val_main_v8_apply, val_main_cst_2_apply, e6 H]
  show Ideal.ofBits .f32 0x40000000#32 * _ = _
  rw [Attn.ofBits_two]
  exact (EReal.coe_mul _ _).symm

theorem e7 (i : S4096x1024.Idx) : val_main_v7 (F := Ideal) x3 i = ((cen (D.r (i 0)) (i 1) * cen (D.r (i 0)) (i 1) : ℝ) : EReal) := by
  rw [val_main_v7_apply, e6 H]
  exact (EReal.coe_mul _ _).symm

theorem e17 (i : S4096x1.Idx) : val_main_v17 (F := Ideal) x3 i = ((spread (D.r (i 0)) : ℝ) : EReal) := by
  rw [val_main_v17_apply, val_main_v13_apply, val_main_v11_apply, val_main_v10_apply, val_main_v12_apply, val_main_v16_apply, val_main_cst_3_apply,
    val_main_cst_4_apply, val_main_cst_5_apply, total fun k => e7 H _]
  show Ideal.div _ (Ideal.ofBits .f32 0x44800000#32) + Ideal.ofBits .f32 0x3727C5AC#32 = _
  rw [lit_width, over, lit_eps]
  exact (EReal.coe_add _ _).symm

theorem e18 (i : S4096x1.Idx) : val_main_v18 (F := Ideal) x3 i = ((rs (D.r (i 0)) : ℝ) : EReal) := by
  rw [val_main_v18_apply, e17 H]
  exact root _

theorem e21 (i : S4096x1.Idx) : val_main_v21 (F := Ideal) x3 i = ((-(1 / 2) * (rs (D.r (i 0)) / spread (D.r (i 0))) : ℝ) : EReal) := by
  rw [val_main_v21_apply, val_main_v20_apply, val_main_cst_6_apply, val_main_v19_apply, e18 H, e17 H]
  show Ideal.ofBits .f32 0xBF000000#32 * Ideal.div _ _ = _
  rw [lit_half, Attn.div_real _ (spread_pos _).ne']
  exact (EReal.coe_mul _ _).symm

theorem e23 (i : S4096x1024.Idx) : val_main_v23 (F := Ideal) x3 i = ((xh (D.r (i 0)) (i 1) : ℝ) : EReal) := by
  rw [val_main_v23_apply, val_main_v22_apply, e18 H, e15 H]
  exact (EReal.coe_mul _ _).symm

theorem e33 (i : S4096x1024.Idx) : val_main_v33 (F := Ideal) x0 x1 i = ((∑ k, D.u (i 0) k * D.w (i 1) k : ℝ) : EReal) := by
  rw [val_main_v33_apply, ← Attn.sum_real]
  refine Finset.sum_congr rfl fun k _ => ?_
  rw [val_main_v32_apply, val_main_v30_apply]
  show x0 _ * x1 _ = _
  rw [whole H.u, whole H.w]
  exact (EReal.coe_mul _ _).symm

theorem e36 (i : S4096x1024.Idx) : val_main_v36 (F := Ideal) x0 x1 x2 i = ((D.dh (i 0) (i 1) : ℝ) : EReal) := by
  have e : D.dh (i 0) (i 1) = (∑ k, D.u (i 0) k * D.w (i 1) k) + alpha * D.d (i 0) (i 1) := add_comm _ _
  rw [val_main_v36_apply, val_main_v35_apply, val_main_v34_apply, val_main_cst_8_apply, e33 H, whole H.d, e]
  show _ + Ideal.ofBits .f32 0x3F9837F0#32 * _ = _
  rw [lit_alpha, EReal.coe_add, EReal.coe_mul]

theorem e38 : val_main_v38 (F := Ideal) x0 x1 x2 = arrB D := by
  funext i
  have h0 : (i 0).val < 1 := (i 0).isLt
  rw [val_main_v38_apply, val_main_v37_apply, val_main_cst_9_apply, total fun k => e36 H _]
  refine congrArg (fun j : Fin 1024 => ((D.db j : ℝ) : EReal)) (Fin.ext ?_)
  show (i 0).val * 1024 + (i 1).val = (i 1).val
  omega

theorem e39 (i : S4096x1024.Idx) : val_main_v39 (F := Ideal) x0 x1 x2 x3 i = ((D.tg (i 0) (i 1) : ℝ) : EReal) := by
  have e : D.tg (i 0) (i 1) = xh (D.r (i 0)) (i 1) * D.dh (i 0) (i 1) := mul_comm _ _
  rw [val_main_v39_apply, e36 H, e23 H, e]
  exact (EReal.coe_mul _ _).symm

theorem e41 : val_main_v41 (F := Ideal) x0 x1 x2 x3 = arrG D := by
  funext i
  have h0 : (i 0).val < 1 := (i 0).isLt
  rw [val_main_v41_apply, val_main_v40_apply, val_main_cst_10_apply, total fun k => e39 H _]
  refine congrArg (fun j : Fin 1024 => ((D.dg j : ℝ) : EReal)) (Fin.ext ?_)
  show (i 0).val * 1024 + (i 1).val = (i 1).val
  omega

theorem e43 (i : S4096x1024.Idx) : val_main_v43 (F := Ideal) x0 x1 x2 x4 i = ((D.dh (i 0) (i 1) * D.g (i 1) : ℝ) : EReal) := by
  rw [val_main_v43_apply, val_main_v42_apply, e36 H, whole H.g]
  exact (EReal.coe_mul _ _).symm

theorem e44 (i : S4096x1024.Idx) : val_main_v44 (F := Ideal) x0 x1 x2 x3 x4 i = ((cen (D.r (i 0)) (i 1) * (D.dh (i 0) (i 1) * D.g (i 1)) : ℝ) : EReal) := by
  rw [val_main_v44_apply, e15 H, e43 H]
  exact (EReal.coe_mul _ _).symm

/-- The first row index of a column of one. -/
theorem first (i : S4096x1.Idx) (h : (i 0).val * 1 + (i 1).val < 4096) : (⟨(i 0).val * 1 + (i 1).val, h⟩ : Fin 4096) = i 0 := by
  have h1 : (i 1).val < 1 := (i 1).isLt
  refine Fin.ext ?_
  show (i 0).val * 1 + (i 1).val = (i 0).val
  omega

theorem e46 (i : S4096x1.Idx) : val_main_v46 (F := Ideal) x0 x1 x2 x3 x4 i = ((∑ l, cen (D.r (i 0)) l * (D.dh (i 0) l * D.g l) : ℝ) : EReal) := by
  rw [val_main_v46_apply, val_main_v45_apply, val_main_cst_11_apply, total fun k => e44 H _]
  exact congrArg (fun p : Fin 4096 => ((∑ l, cen (D.r p) l * (D.dh p l * D.g l) : ℝ) : EReal)) (first H i _)

theorem e48 (i : S4096x1024.Idx) : val_main_v48 (F := Ideal) x0 x1 x2 x3 x4 i = ((D.dh (i 0) (i 1) * D.g (i 1) * rs (D.r (i 0)) : ℝ) : EReal) := by
  rw [val_main_v48_apply, val_main_v47_apply, e43 H, e18 H]
  exact (EReal.coe_mul _ _).symm

theorem e50 (i : S4096x1024.Idx) : val_main_v50 (F := Ideal) x0 x1 x2 x3 x4 i = ((-(D.dh (i 0) (i 1) * D.g (i 1) * rs (D.r (i 0))) : ℝ) : EReal) := by
  rw [val_main_v50_apply, e48 H]
  exact (EReal.coe_neg _).symm

theorem e52 (i : S4096x1.Idx) : val_main_v52 (F := Ideal) x0 x1 x2 x3 x4 i = ((∑ l, -(D.dh (i 0) l * D.g l * rs (D.r (i 0))) : ℝ) : EReal) := by
  rw [val_main_v52_apply, val_main_v51_apply, val_main_cst_12_apply, total fun k => e50 H _]
  exact congrArg (fun p : Fin 4096 => ((∑ l, -(D.dh p l * D.g l * rs (D.r p)) : ℝ) : EReal)) (first H i _)

omit H in
/-- What the gradient of the spread adds to the deviations. -/
def turn (D : Data 4096) (p : Fin 4096) : ℝ :=
  (∑ l, cen (D.r p) l * (D.dh p l * D.g l)) * (-(1 / 2) * (rs (D.r p) / spread (D.r p))) / 1024

theorem e54 (i : S4096x1.Idx) : val_main_v54 (F := Ideal) x0 x1 x2 x3 x4 i = ((turn D (i 0) : ℝ) : EReal) := by
  rw [val_main_v54_apply, val_main_v53_apply, val_main_cst_13_apply, val_main_v49_apply, e46 H, e21 H]
  show Ideal.div (_ * _) (Ideal.ofBits .f32 0x44800000#32) = _
  rw [lit_width, ← EReal.coe_mul, over]; rfl

theorem e57 (i : S4096x1024.Idx) : val_main_v57 (F := Ideal) x0 x1 x2 x3 x4 i = ((turn D (i 0) * (2 * cen (D.r (i 0)) (i 1)) : ℝ) : EReal) := by
  rw [val_main_v57_apply, val_main_v56_apply, val_main_v55_apply, val_main_cst_14_apply, total fun k => e54 H _, e9 H, Fin.sum_univ_one]
  exact (EReal.coe_mul _ _).symm

theorem e58 (i : S4096x1024.Idx) : val_main_v58 (F := Ideal) x0 x1 x2 x3 x4 i = ((-(turn D (i 0) * (2 * cen (D.r (i 0)) (i 1))) : ℝ) : EReal) := by
  rw [val_main_v58_apply, e57 H]
  exact (EReal.coe_neg _).symm

theorem e60 (i : S4096x1.Idx) : val_main_v60 (F := Ideal) x0 x1 x2 x3 x4 i = ((∑ l, -(turn D (i 0) * (2 * cen (D.r (i 0)) l)) : ℝ) : EReal) := by
  rw [val_main_v60_apply, val_main_v59_apply, val_main_cst_15_apply, total fun k => e58 H _]
  exact congrArg (fun p : Fin 4096 => ((∑ l, -(turn D p * (2 * cen (D.r p) l)) : ℝ) : EReal)) (first H i _)

theorem e64 (i : S4096x1.Idx) : val_main_v64 (F := Ideal) x0 x1 x2 x3 x4 i
    = ((((∑ l, -(D.dh (i 0) l * D.g l * rs (D.r (i 0)))) + ∑ l, -(turn D (i 0) * (2 * cen (D.r (i 0)) l))) / 1024 : ℝ) : EReal) := by
  rw [val_main_v64_apply, val_main_v63_apply, val_main_cst_16_apply, val_main_v62_apply, e52 H, e60 H]
  show Ideal.div (_ + _) (Ideal.ofBits .f32 0x44800000#32) = _
  rw [lit_width, ← EReal.coe_add, over]

theorem e67 : val_main_v67 (F := Ideal) x0 x1 x2 x3 x4 = arrD D := by
  funext i
  rw [val_main_v67_apply, val_main_v66_apply, val_main_v65_apply, val_main_cst_17_apply, total fun k => e64 H _, Fin.sum_univ_one, val_main_v61_apply,
    e48 H, e57 H]
  have e := chain (D.r (i 0)) (fun l => D.dh (i 0) l * D.g l) (i 1)
  refine Eq.trans ?_ (congrArg (fun a : ℝ => (a : EReal)) e)
  exact ((congrArg (· + _) (EReal.coe_add _ _)).symm.trans rfl |>.trans (EReal.coe_add _ _).symm)

theorem e68 : val_main_v68 (F := Ideal) x0 x1 x2 x3 x4 = arrD D := by
  funext i
  rw [val_main_v68_apply, e67 H]; rfl

end Ref

end Norm.Up

end
-- ==== Proof.Norm.Up.Finite.lean ====
/- What the precondition of `mlp_up_dx` says: every argument is an array of real numbers. -/
module

public import proofs.«01_k».proof.Proof.Gen.Pre_finite4
public import proofs.«01_k».proof.Proof.Attn.Finite
public import proofs.«01_k».proof.Proof.Norm.Up.Tiles

@[expose] public section

set_option maxRecDepth 16384

noncomputable section

namespace Norm.Up

open Idealize.ShloMosaic

section Fin

open Cert.Pre_finite4

variable {x0 : FVec Ideal S4096x4096 .bf16} {x1 : FVec Ideal S1024x4096 .bf16} {x2 x3 : FVec Ideal S4096x1024 .f32} {x4 : FVec Ideal S1x1024 .f32}

/-- The real numbers that five arrays hold. -/
def dataOf (x0 : FVec Ideal S4096x4096 .bf16) (x1 : FVec Ideal S1024x4096 .bf16) (x2 x3 : FVec Ideal S4096x1024 .f32) (x4 : FVec Ideal S1x1024 .f32) : Data 4096 where
  u i k := (x0 (ix2 i k) : EReal).toReal
  w j k := (x1 (ix2 j k) : EReal).toReal
  d i j := (x2 (ix2 i j) : EReal).toReal
  r i j := (x3 (ix2 i j) : EReal).toReal
  g j := (x4 (ix2 0 j) : EReal).toReal

theorem holds (h : fn (F := Ideal) x0 x1 x2 x3 x4 = fun _ => 1#1) : Holds (dataOf x0 x1 x2 x3 x4) x0 x1 x2 x3 x4 := by
  have key : ∀ (i : Fin 4096) (l : Fin 11264), _ := fun i l => congrFun h (ix2 i l)
  revert key
  pointwise [Cert.Pre_finite4.fn]
  intro key
  refine ⟨fun i k => ?_, fun j k => ?_, fun i j => ?_, fun i j => ?_, fun i j => ?_⟩
  · have e := key i ⟨k.val, by omega⟩
    rw [dif_pos (show k.val < 4096 from k.isLt)] at e
    exact (Attn.real_of_abs_lt e).symm
  · have e := key ⟨j.val, by omega⟩ ⟨4096 + k.val, by omega⟩
    rw [dif_neg (show ¬ 4096 + k.val < 4096 by omega), dif_pos (show 4096 + k.val - 4096 < 4096 by omega), dif_pos (show j.val < 1024 from j.isLt)] at e
    have q := Attn.real_of_abs_lt e
    simp only [Nat.add_sub_cancel_left] at q
    exact q.symm
  · have e := key i ⟨4096 + 4096 + j.val, by omega⟩
    have n : 4096 + 4096 + j.val - 4096 - 4096 = j.val := by omega
    rw [dif_neg (show ¬ 4096 + 4096 + j.val < 4096 by omega), dif_neg (show ¬ 4096 + 4096 + j.val - 4096 < 4096 by omega),
      dif_pos (show 4096 + 4096 + j.val - 4096 - 4096 < 1024 by omega)] at e
    have q := Attn.real_of_abs_lt e
    simp only [n] at q
    exact q.symm
  · have e := key i ⟨4096 + 4096 + 1024 + j.val, by omega⟩
    have n : 4096 + 4096 + 1024 + j.val - 4096 - 4096 - 1024 = j.val := by omega
    rw [dif_neg (show ¬ 4096 + 4096 + 1024 + j.val < 4096 by omega), dif_neg (show ¬ 4096 + 4096 + 1024 + j.val - 4096 < 4096 by omega),
      dif_neg (show ¬ 4096 + 4096 + 1024 + j.val - 4096 - 4096 < 1024 by omega), dif_pos (show 4096 + 4096 + 1024 + j.val - 4096 - 4096 - 1024 < 1024 by omega)] at e
    have q := Attn.real_of_abs_lt e
    simp only [n] at q
    exact q.symm
  · have e := key 0 ⟨4096 + 4096 + 1024 + 1024 + j.val, by omega⟩
    have n : 4096 + 4096 + 1024 + 1024 + j.val - 4096 - 4096 - 1024 - 1024 = j.val := by omega
    rw [dif_neg (show ¬ 4096 + 4096 + 1024 + 1024 + j.val < 4096 by omega), dif_neg (show ¬ 4096 + 4096 + 1024 + 1024 + j.val - 4096 < 4096 by omega),
      dif_neg (show ¬ 4096 + 4096 + 1024 + 1024 + j.val - 4096 - 4096 < 1024 by omega),
      dif_neg (show ¬ 4096 + 4096 + 1024 + 1024 + j.val - 4096 - 4096 - 1024 < 1024 by omega)] at e
    have z : i = 0 := Subsingleton.elim _ _
    rw [z]
    have q := Attn.real_of_abs_lt e
    simp only [n] at q
    exact q.symm

end Fin

end Norm.Up

end
-- ==== Proof.Norm.Up.End.lean ====
/- The claims about `mlp_up_dx`. -/
module

public import proofs.«01_k».proof.Proof.Gen.Kernel4.Frame
public import proofs.«01_k».proof.Proof.Gen.Reference4Ideal.Run
public import proofs.«01_k».proof.Proof.Norm.Up.Ref
public import proofs.«01_k».proof.Proof.Norm.Up.Finite

@[expose] public section

set_option maxRecDepth 16384

noncomputable section

namespace Norm.Up

open Idealize.ShloMosaic Idealize.SL.Sem

/-- The frames, at the hardware's words and at exact numbers. -/
theorem frame_kernel : Cert.quiescent_Kernel4 := fun m ρ _ => Cert.Kernel4.Gen.frame m ρ
theorem frame_kernelIdeal : Cert.quiescent_Kernel4Ideal := fun m ρ _ => Cert.Kernel4Ideal.Gen.frame m ρ
theorem frame_kernelIdeal_any : Cert.quiescent_Kernel4Ideal_pre_none := fun m ρ _ => Cert.Kernel4Ideal.Gen.frame m ρ
theorem frame_referenceIdeal : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)
theorem frame_referenceIdeal_finite : Cert.quiescent_Reference4Ideal_pre_finite4 := fun m ρ _ => frame_referenceIdeal m ρ trivial

/-- No operation is rewritten. -/
theorem preserves : Cert.preserves_Kernel4_Kernel4Ideal := trivial

/-- The kernel's gradients are the reference's. -/
theorem algebraic : Cert.algebraic_Kernel4Ideal_Reference4Ideal := by
  intro m ρ m' ρ' hp ha
  let D : Dev Cert.Kernel4Ideal.nD → Data 4096 := fun c => dataOf
    (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
  have HK : ∀ c, Holds (D c)
      (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) := fun c => holds (hp c)
  have HR : ∀ c, Holds (D c)
      (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4)) := fun c => by
    rw [(ha c).1, (ha c).2.1, (ha c).2.2.1, (ha c).2.2.2.1, (ha c).2.2.2.2]
    exact HK c
  refine ⟨fun c => arrD (D c), fun c => arrD (D c), fun c => arrG (D c), fun c => arrB (D c), run ρ HK, ?_⟩
  refine (θ_run Cert.Reference4Ideal.defs _ _).mono (fun r h c => ?_) (Cert.Reference4Ideal.Value.run (F := Ideal) m' ρ')
  obtain ⟨h0, h1, h2, h3, h4⟩ := h c
  exact ⟨h0.trans ((Cert.Reference4Ideal.Read.val_main_v67_eq m' c).trans (e67 (HR c))),
    h1.trans ((Cert.Reference4Ideal.Read.val_main_v68_eq m' c).trans (e68 (HR c))),
    h2.trans ((Cert.Reference4Ideal.Read.val_main_v41_eq _ _ _ _).trans (e41 (HR c))),
    h3.trans ((Cert.Reference4Ideal.Read.val_main_v38_eq _ _ _).trans (e38 (HR c))), h4⟩

end Norm.Up

end
-- ==== Proof.Norm.In.Pay.lean ====
/- One block of 512 rows of `proj_in_dx`: each value the body forms, as real numbers. -/
module

public import proofs.«01_k».proof.Proof.Gen.Kernel5Ideal.Skeleton
public import proofs.«01_k».proof.Proof.Norm.Words

@[expose] public section

set_option maxRecDepth 16384

noncomputable section

namespace Norm.In

open Cert.Kernel5Ideal Cert.Kernel5Ideal.Gen Idealize.ShloMosaic Idealize.ShloMosaic.TcCoe Idealize.ShloMosaic.Tactic

variable {U : Fin 512 → Fin 2560 → ℝ} {W : Fin 1024 → Fin 2560 → ℝ} {D R : Fin 512 → Fin 1024 → ℝ} {G : Fin 1 → Fin 1024 → ℝ}
  {u : FVec Ideal S512x2560 .bf16} {w : FVec Ideal S1024x2560 .bf16} {d r : FVec Ideal S512x1024 .f32} {g : FVec Ideal S1x1024 .f32}

/-- A block's gradient of the norm's output. -/
def dH (U : Fin 512 → Fin 2560 → ℝ) (W : Fin 1024 → Fin 2560 → ℝ) (D : Fin 512 → Fin 1024 → ℝ) (i : Fin 512) (j : Fin 1024) : ℝ :=
  alpha * D i j + ∑ k, U i k * W j k

theorem p_cen (hr : IsR r R) : IsR (k0_pay6 (F := Ideal) r) (fun i => cen (R i)) := by
  intro i j; pointwise [k0_pay6]
  simp only [hr _ _, lit_width, Attn.sum_real, over, ← EReal.coe_sub]; rfl

theorem p_rs (hr : IsR r R) : IsR (k0_pay7 (F := Ideal) r) (fun i _ => rs (R i)) := by
  intro i j; pointwise [k0_pay7]
  simp only [p_cen hr _ _, lit_width, lit_eps, Attn.sum_real, over, ← EReal.coe_mul, ← EReal.coe_add]
  exact root (R i)

theorem p_xh (hr : IsR r R) : IsR (k0_pay8 (F := Ideal) r) (fun i => xh (R i)) := by
  intro i j; pointwise [k0_pay8]
  simp only [p_cen hr _ _, p_rs hr _ _, ← EReal.coe_mul, xh]

theorem p_dh (hu : IsR u U) (hw : IsR w W) (hd : IsR d D) : IsR (k0_pay9 (F := Ideal) u w d) (dH U W D) := by
  intro i j; pointwise [k0_pay9]
  simp only [hu _ _, hw _ _, hd _ _, lit_alpha, ← EReal.coe_mul, Attn.sum_real, ← EReal.coe_add]; rfl

theorem p_dx (hu : IsR u U) (hw : IsR w W) (hd : IsR d D) (hg : IsR g G) : IsR (k0_pay10 (F := Ideal) u w d g) (fun i j => dH U W D i j * G 0 j) := by
  intro i j; pointwise [k0_pay10]
  simp only [p_dh hu hw hd _ _, hg _ _, ← EReal.coe_mul]

theorem p_m1 (hu : IsR u U) (hw : IsR w W) (hd : IsR d D) (hg : IsR g G) : IsR (k0_pay11 (F := Ideal) u w d g) (fun i _ => mean fun l => dH U W D i l * G 0 l) := by
  intro i j; pointwise [k0_pay11]
  simp only [p_dx hu hw hd hg _ _, lit_width, Attn.sum_real, over]; rfl

theorem p_m2 (hu : IsR u U) (hw : IsR w W) (hd : IsR d D) (hr : IsR r R) (hg : IsR g G) :
    IsR (k0_pay12 (F := Ideal) u w d r g) (fun i _ => mean fun l => dH U W D i l * G 0 l * xh (R i) l) := by
  intro i j; pointwise [k0_pay12]
  simp only [p_dx hu hw hd hg _ _, p_xh hr _ _, ← EReal.coe_mul, lit_width, Attn.sum_real, over]; rfl

/-- What the body stores: the gradient of the norm's input, and the block's part of the gradients of scale and shift. -/
def dR (U : Fin 512 → Fin 2560 → ℝ) (W : Fin 1024 → Fin 2560 → ℝ) (D R : Fin 512 → Fin 1024 → ℝ) (G : Fin 1 → Fin 1024 → ℝ) (i : Fin 512) (j : Fin 1024) : ℝ :=
  back (R i) (fun l => dH U W D i l * G 0 l) j
def dG (U : Fin 512 → Fin 2560 → ℝ) (W : Fin 1024 → Fin 2560 → ℝ) (D R : Fin 512 → Fin 1024 → ℝ) (_ : Fin 1) (j : Fin 1024) : ℝ :=
  ∑ i, dH U W D i j * xh (R i) j
def dB (U : Fin 512 → Fin 2560 → ℝ) (W : Fin 1024 → Fin 2560 → ℝ) (D : Fin 512 → Fin 1024 → ℝ) (_ : Fin 1) (j : Fin 1024) : ℝ :=
  ∑ i, dH U W D i j

section

variable (hu : IsR u U) (hw : IsR w W) (hd : IsR d D) (hr : IsR r R) (hg : IsR g G)
include hu hw hd

theorem q_sb : IsR (k0_pay3 (F := Ideal) (k0_pay9 u w d)) (dB U W D) := by
  intro i j; pointwise [k0_pay3]
  simp only [p_dh hu hw hd _ _, Attn.sum_real]; rfl

theorem q_ab {x : FVec Ideal S1x1024 .f32} {X : Fin 1 → Fin 1024 → ℝ} (hx : IsR x X) :
    IsR (k0_pay5 (F := Ideal) (k0_pay9 u w d) x) (fun i j => X i j + dB U W D i j) := by
  intro i j; pointwise [k0_pay5]
  rw [q_sb hu hw hd i j]
  simp only [hx _ _, ← EReal.coe_add]

include hr

theorem q_sx : IsR (k0_pay2 (F := Ideal) (k0_pay8 r) (k0_pay9 u w d)) (dG U W D R) := by
  intro i j; pointwise [k0_pay2]
  simp only [p_dh hu hw hd _ _, p_xh hr _ _, ← EReal.coe_mul, Attn.sum_real]; rfl

theorem q_ax {x : FVec Ideal S1x1024 .f32} {X : Fin 1 → Fin 1024 → ℝ} (hx : IsR x X) :
    IsR (k0_pay4 (F := Ideal) (k0_pay8 r) (k0_pay9 u w d) x) (fun i j => X i j + dG U W D R i j) := by
  intro i j; pointwise [k0_pay4]
  rw [q_sx hu hw hd hr i j]
  simp only [hx _ _, ← EReal.coe_add]

include hg

theorem q_dr : IsR (k0_pay1 (F := Ideal) (k0_pay7 r) (k0_pay8 r) (k0_pay10 u w d g) (k0_pay11 u w d g) (k0_pay12 u w d r g)) (dR U W D R G) := by
  intro i j; pointwise [k0_pay1]
  simp only [p_rs hr _ _, p_xh hr _ _, p_dx hu hw hd hg _ _, p_m1 hu hw hd hg _ _, p_m2 hu hw hd hr hg _ _, ← EReal.coe_mul, ← EReal.coe_sub]; rfl

end

end Norm.In

end
-- ==== Proof.Norm.In.Tiles.lean ====
/- What each grid point of `proj_in_dx` leaves in its output windows, and the arrays after the last one. -/
module

public import proofs.«01_k».proof.Proof.Gen.Kernel5Ideal.Frame
public import proofs.«01_k».proof.Proof.Norm.In.Pay
public import proofs.«01_k».proof.Proof.Norm.Step

@[expose] public section

set_option maxRecDepth 16384

noncomputable section

namespace Norm.In

open Cert.Kernel5Ideal Cert.Kernel5Ideal.Gen Idealize.ShloMosaic Idealize.ShloMosaic.TcCoe Idealize.ShloMosaic.Tactic Idealize.SL.Sem

/-- The blocks that a grid point reads. -/
structure AtPt (m : (ℓ : Loc nD τ sig) → Buf (Elt Ideal) ℓ) (c : Dev nD) (t : Fin cfg0.N) (U : Fin 512 → Fin 2560 → ℝ) (W : Fin 1024 → Fin 2560 → ℝ)
    (D R : Fin 512 → Fin 1024 → ℝ) (G : Fin 1 → Fin 1024 → ℝ) : Prop where
  u : IsR (n := 512) (k := 2560) (iblk m c 0 t) U
  w : IsR (n := 1024) (k := 2560) (iblk m c 1 t) W
  d : IsR (n := 512) (k := 1024) (iblk m c 2 t) D
  r : IsR (n := 512) (k := 1024) (iblk m c 3 t) R
  g : IsR (n := 1) (k := 1024) (iblk m c 4 t) G

section Cases

variable {m : (ℓ : Loc nD τ sig) → Buf (Elt Ideal) ℓ} {c : Dev nD} {t : Fin cfg0.N} {U : Fin 512 → Fin 2560 → ℝ} {W : Fin 1024 → Fin 2560 → ℝ}
  {D R : Fin 512 → Fin 1024 → ℝ} {G : Fin 1 → Fin 1024 → ℝ}

theorem A_dr (h0 : t.val % 8 = 0) (h1 : ¬1 ≤ t.val) (P : AtPt m c t U W D R G) :
    IsR (outsAt0 m c t.val t.isLt).1 (dR U W D R G) := by
  rw [outsAt0_A m c t h0 h1]
  dsimp only
  unfold out0_A_5 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_dr (Step.ld16 P.u) (Step.ld16 P.w) (Step.ld32 P.d) (Step.ld32 P.r) (Step.ld32 P.g))

theorem A_dg (h0 : t.val % 8 = 0) (h1 : ¬1 ≤ t.val) (P : AtPt m c t U W D R G) :
    IsR (outsAt0 m c t.val t.isLt).2.1 (dG U W D R) := by
  rw [outsAt0_A m c t h0 h1]
  dsimp only
  unfold out0_A_6 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_sx (Step.ld16 P.u) (Step.ld16 P.w) (Step.ld32 P.d) (Step.ld32 P.r))

theorem A_db (h0 : t.val % 8 = 0) (h1 : ¬1 ≤ t.val) (P : AtPt m c t U W D R G) :
    IsR (outsAt0 m c t.val t.isLt).2.2 (dB U W D) := by
  rw [outsAt0_A m c t h0 h1]
  dsimp only
  unfold out0_A_7 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_sb (Step.ld16 P.u) (Step.ld16 P.w) (Step.ld32 P.d))

theorem B_dr (h0 : ¬t.val % 8 = 0) (h1 : 1 ≤ t.val) (P : AtPt m c t U W D R G) :
    IsR (outsAt0 m c t.val t.isLt).1 (dR U W D R G) := by
  rw [outsAt0_B m c t h0 h1]
  dsimp only
  unfold out0_B_5 kernelRun0_B
  dsimp only
  sl_unfold_words
  simp only [View.readAt_eq_ld, (hs0_0 t).read_unread, (hs0_1 t).read_unread, (hs0_2 t).read_unread, (hs0_3 t).read_unread, (hs0_4 t).read_unread]
  exact Step.st32 (q_dr (Step.ld16 P.u) (Step.ld16 P.w) (Step.ld32 P.d) (Step.ld32 P.r) (Step.ld32 P.g))

theorem B_dg (h0 : ¬t.val % 8 = 0) (h1 : 1 ≤ t.val) (P : AtPt m c t U W D R G) {X : Fin 1 → Fin 1024 → ℝ}
    (hX : IsR (n := 1) (k := 1024) (outsAt0 m c (t.val - 1) (Nat.lt_of_le_of_lt (Nat.sub_le _ _) t.isLt)).2.1 X) :
    IsR (outsAt0 m c t.val t.isLt).2.1 (fun i j => X i j + dG U W D R i j) := by
  rw [outsAt0_B m c t h0 h1]
  dsimp only
  unfold out0_B_6 kernelRun0_B
  dsimp only
  sl_unfold_words
  simp only [View.readAt_eq_ld, (hs0_0 t).read_unread, (hs0_1 t).read_unread, (hs0_2 t).read_unread, (hs0_3 t).read_unread, (hs0_4 t).read_unread, (hs0_6 t).read_unread]
  exact Step.st32 (q_ax (Step.ld16 P.u) (Step.ld16 P.w) (Step.ld32 P.d) (Step.ld32 P.r) (Step.ld32 hX))

theorem B_db (h0 : ¬t.val % 8 = 0) (h1 : 1 ≤ t.val) (P : AtPt m c t U W D R G) {X : Fin 1 → Fin 1024 → ℝ}
    (hX : IsR (n := 1) (k := 1024) (outsAt0 m c (t.val - 1) (Nat.lt_of_le_of_lt (Nat.sub_le _ _) t.isLt)).2.2 X) :
    IsR (outsAt0 m c t.val t.isLt).2.2 (fun i j => X i j + dB U W D i j) := by
  rw [outsAt0_B m c t h0 h1]
  dsimp only
  unfold out0_B_7 kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread]
  exact Step.st32 (q_ab (Step.ld16 P.u) (Step.ld16 P.w) (Step.ld32 P.d) (Step.ld32 hX))

end Cases

/-- A grid point's block of rows. -/
abbrev bl (t : Fin cfg0.N) : Fin 8 := ⟨t.val, lt_of_lt_of_eq t.isLt N_0⟩

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)

/-- The arguments are the real numbers of `D`. -/
structure Holds (D : Data 2560) (x0 : S4096x2560.Idx → EReal) (x1 : S1024x2560.Idx → EReal) (x2 x3 : S4096x1024.Idx → EReal) (x4 : S1x1024.Idx → EReal) : Prop where
  u : IsR x0 D.u
  w : IsR x1 D.w
  d : IsR x2 D.d
  r : IsR x3 D.r
  g : IsR x4 fun _ => D.g

section

variable {D : Data 2560} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem atPt (t : Fin cfg0.N) :
    AtPt m c t (fun i => D.u (row (bl t) i)) D.w (fun i => D.d (row (bl t) i)) (fun i => D.r (row (bl t) i)) (fun _ => D.g) := by
  refine ⟨fun i j => ?_, fun i j => ?_, fun i j => ?_, fun i j => ?_, fun i j => ?_⟩
  · obtain ⟨e0, e1⟩ := at0 t
    refine Eq.trans (congrArg (V m c main_arg0 : FVec Ideal S4096x2560 .bf16) ?_) (H.u (row (bl t) i) j)
    funext a; apply Fin.ext
    match a with
    | ⟨0, _⟩ => show win0_0.index t (0 : Fin 2) * 512 + 1 * i.val = 512 * t.val + i.val; omega
    | ⟨1, _⟩ => show win0_0.index t (1 : Fin 2) * 2560 + 1 * j.val = j.val; omega
  · obtain ⟨e0, e1⟩ := at1 t
    refine Eq.trans (congrArg (V m c main_arg1 : FVec Ideal S1024x2560 .bf16) ?_) (H.w i j)
    funext a; apply Fin.ext
    match a with
    | ⟨0, _⟩ => show win0_1.index t (0 : Fin 2) * 1024 + 1 * i.val = i.val; omega
    | ⟨1, _⟩ => show win0_1.index t (1 : Fin 2) * 2560 + 1 * j.val = j.val; omega
  · obtain ⟨e0, e1⟩ := at2 t
    refine Eq.trans (congrArg (V m c main_arg2 : FVec Ideal S4096x1024 .f32) ?_) (H.d (row (bl t) i) j)
    funext a; apply Fin.ext
    match a with
    | ⟨0, _⟩ => show win0_2.index t (0 : Fin 2) * 512 + 1 * i.val = 512 * t.val + i.val; omega
    | ⟨1, _⟩ => show win0_2.index t (1 : Fin 2) * 1024 + 1 * j.val = j.val; omega
  · obtain ⟨e0, e1⟩ := at3 t
    refine Eq.trans (congrArg (V m c main_arg3 : FVec Ideal S4096x1024 .f32) ?_) (H.r (row (bl t) i) j)
    funext a; apply Fin.ext
    match a with
    | ⟨0, _⟩ => show win0_3.index t (0 : Fin 2) * 512 + 1 * i.val = 512 * t.val + i.val; omega
    | ⟨1, _⟩ => show win0_3.index t (1 : Fin 2) * 1024 + 1 * j.val = j.val; omega
  · obtain ⟨e0, e1⟩ := at4 t
    refine Eq.trans (congrArg (V m c main_arg4 : FVec Ideal S1x1024 .f32) ?_) (H.g i j)
    funext a; apply Fin.ext
    match a with
    | ⟨0, _⟩ => show win0_4.index t (0 : Fin 2) * 1 + 1 * i.val = i.val; omega
    | ⟨1, _⟩ => show win0_4.index t (1 : Fin 2) * 1024 + 1 * j.val = j.val; omega

end

/-- What the windows hold after a grid point. -/
structure After (D : Data 2560) (m : (ℓ : Loc nD τ sig) → Buf (Elt Ideal) ℓ) (c : Dev nD) (t : Fin cfg0.N) : Prop where
  dr : IsR (n := 512) (k := 1024) (outsAt0 m c t.val t.isLt).1 fun i => D.dr (row (bl t) i)
  dg : IsR (n := 1) (k := 1024) (outsAt0 m c t.val t.isLt).2.1 fun _ j => upto D.tg (t.val + 1) j
  db : IsR (n := 1) (k := 1024) (outsAt0 m c t.val t.isLt).2.2 fun _ j => upto D.dh (t.val + 1) j

/-- The sums after a point from those before it. -/
theorem more (f : Fin 4096 → Fin 1024 → ℝ) (t : Fin cfg0.N) (j : Fin 1024) :
    upto f (t.val + 1) j = upto f t.val j + ∑ r : Fin 512, f (row (bl t) r) j := upto_succ f (bl t) j

section

variable {D : Data 2560} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem after_all : ∀ (n : ℕ) (hn : n < cfg0.N), After D m c ⟨n, hn⟩
  | 0, hn => by
    have P := atPt H ⟨0, hn⟩
    refine ⟨A_dr (t := ⟨0, hn⟩) rfl (by show ¬1 ≤ 0; omega) P, fun i j => (A_dg (t := ⟨0, hn⟩) rfl (by show ¬1 ≤ 0; omega) P i j).trans ?_,
      fun i j => (A_db (t := ⟨0, hn⟩) rfl (by show ¬1 ≤ 0; omega) P i j).trans ?_⟩
    · refine congrArg _ ((more D.tg ⟨0, hn⟩ j).trans ?_).symm
      rw [show upto D.tg (⟨0, hn⟩ : Fin cfg0.N).val j = 0 from upto_zero _ _, zero_add]; rfl
    · refine congrArg _ ((more D.dh ⟨0, hn⟩ j).trans ?_).symm
      rw [show upto D.dh (⟨0, hn⟩ : Fin cfg0.N).val j = 0 from upto_zero _ _, zero_add]; rfl
  | n + 1, hn => by
    have P := atPt H ⟨n + 1, hn⟩
    have I := after_all n (Nat.lt_of_succ_lt hn)
    have hN : n + 1 < 8 := lt_of_lt_of_eq hn N_0
    have h0 : ¬(⟨n + 1, hn⟩ : Fin cfg0.N).val % 8 = 0 := by show ¬(n + 1) % 8 = 0; omega
    have h1 : 1 ≤ (⟨n + 1, hn⟩ : Fin cfg0.N).val := by show 1 ≤ n + 1; omega
    refine ⟨B_dr h0 h1 P, fun i j => (B_dg h0 h1 P I.dg i j).trans ?_, fun i j => (B_db h0 h1 P I.db i j).trans ?_⟩
    · exact congrArg _ (more D.tg ⟨n + 1, hn⟩ j).symm
    · exact congrArg _ (more D.dh ⟨n + 1, hn⟩ j).symm

end

/-- The arrays. -/
def arrD (D : Data 2560) : S4096x1024.Idx → EReal := fun i => ((D.dr (i 0) (i 1) : ℝ) : EReal)
def arrG (D : Data 2560) : S1x1024.Idx → EReal := fun i => ((D.dg (i 1) : ℝ) : EReal)
def arrB (D : Data 2560) : S1x1024.Idx → EReal := fun i => ((D.db (i 1) : ℝ) : EReal)

section

variable {D : Data 2560} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem back5 (t : Fin cfg0.N) (_ : (cfg0.win 5).flush t = true) :
    (dats m 0 c).flushed 5 t = ((cfg0.win 5).blk t).view.read (Elt Ideal) (arrD D) := by
  obtain ⟨e0, e1⟩ := at5 t
  have A := (after_all H t.val t.isLt).dr
  show (cfg0.win 5).cut (grid0.coords t) ((dats m 0 c).after 5 t) = _
  rw [after0_5]
  funext y
  have hy0 : (y 0).val < 512 := (y 0).isLt
  have hy1 : (y 1).val < 1024 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have ex : (cfg0.win 5).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  show (outsAt0 m c t.val t.isLt).1 ((cfg0.win 5).xinj (grid0.coords t) y) = arrD D (((cfg0.win 5).blk t).view.emb y)
  rw [ex, A]
  refine congrArg₂ (fun (i : Fin 4096) (j : Fin 1024) => ((D.dr i j : ℝ) : EReal)) (Fin.ext ?_) (Fin.ext ?_)
  · show 512 * t.val + (y 0).val = (((cfg0.win 5).blk t).view.emb y 0).val; rw [hb0]; omega
  · show (y 1).val = (((cfg0.win 5).blk t).view.emb y 1).val; rw [hb1]; omega

theorem back6 (t : Fin cfg0.N) (hf : (cfg0.win 6).flush t = true) :
    (dats m 0 c).flushed 6 t = ((cfg0.win 6).blk t).view.read (Elt Ideal) (arrG D) := by
  have hm : t.val % 8 = 7 := (flush0_6 t).mp hf
  have hN : t.val < 8 := lt_of_lt_of_eq t.isLt N_0
  have h8 : t.val + 1 = 8 := by omega
  obtain ⟨e0, e1⟩ := at6 t
  have A := (after_all H t.val t.isLt).dg
  show (cfg0.win 6).cut (grid0.coords t) ((dats m 0 c).after 6 t) = _
  rw [after0_6]
  funext y
  have hy0 : (y 0).val < 1 := (y 0).isLt
  have hy1 : (y 1).val < 1024 := (y 1).isLt
  have hb1 : (((cfg0.win 6).blk t).view.emb y 1).val = win0_6.index t (1 : Fin 2) * 1024 + 1 * (y 1).val := rfl
  have ex : (cfg0.win 6).xinj (grid0.coords t) y = ix2 (⟨(y 0).val, hy0⟩ : Fin 1) (⟨(y 1).val, hy1⟩ : Fin 1024) := by
    funext a; apply Fin.ext
    match a with
    | ⟨0, _⟩ => rfl
    | ⟨1, _⟩ => rfl
  show (outsAt0 m c t.val t.isLt).2.1 ((cfg0.win 6).xinj (grid0.coords t) y) = arrG D (((cfg0.win 6).blk t).view.emb y)
  rw [ex, A]
  show ((upto D.tg (t.val + 1) ⟨(y 1).val, hy1⟩ : ℝ) : EReal) = _
  rw [h8, upto_all]
  refine congrArg (fun j : Fin 1024 => ((D.dg j : ℝ) : EReal)) (Fin.ext ?_)
  show (y 1).val = (((cfg0.win 6).blk t).view.emb y 1).val; rw [hb1]; omega

theorem back7 (t : Fin cfg0.N) (hf : (cfg0.win 7).flush t = true) :
    (dats m 0 c).flushed 7 t = ((cfg0.win 7).blk t).view.read (Elt Ideal) (arrB D) := by
  have hm : t.val % 8 = 7 := (flush0_7 t).mp hf
  have hN : t.val < 8 := lt_of_lt_of_eq t.isLt N_0
  have h8 : t.val + 1 = 8 := by omega
  obtain ⟨e0, e1⟩ := at7 t
  have A := (after_all H t.val t.isLt).db
  show (cfg0.win 7).cut (grid0.coords t) ((dats m 0 c).after 7 t) = _
  rw [after0_7]
  funext y
  have hy0 : (y 0).val < 1 := (y 0).isLt
  have hy1 : (y 1).val < 1024 := (y 1).isLt
  have hb1 : (((cfg0.win 7).blk t).view.emb y 1).val = win0_7.index t (1 : Fin 2) * 1024 + 1 * (y 1).val := rfl
  have ex : (cfg0.win 7).xinj (grid0.coords t) y = ix2 (⟨(y 0).val, hy0⟩ : Fin 1) (⟨(y 1).val, hy1⟩ : Fin 1024) := by
    funext a; apply Fin.ext
    match a with
    | ⟨0, _⟩ => rfl
    | ⟨1, _⟩ => rfl
  show (outsAt0 m c t.val t.isLt).2.2 ((cfg0.win 7).xinj (grid0.coords t) y) = arrB D (((cfg0.win 7).blk t).view.emb y)
  rw [ex, A]
  show ((upto D.dh (t.val + 1) ⟨(y 1).val, hy1⟩ : ℝ) : EReal) = _
  rw [h8, upto_all]
  refine congrArg (fun j : Fin 1024 => ((D.db j : ℝ) : EReal)) (Fin.ext ?_)
  show (y 1).val = (((cfg0.win 7).blk t).view.emb y 1).val; rw [hb1]; omega

end

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 512 < cfg0.N := lt_of_lt_of_eq (show _ < 8 by omega) N_0.symm
  refine ⟨⟨(i 0).val / 512, ht⟩, flush0_5 _, ?_⟩
  have e0 : win0_5.index ⟨(i 0).val / 512, ht⟩ (0 : Fin 2) = (i 0).val / 512 := (at5 _).1
  have e1 : win0_5.index ⟨(i 0).val / 512, ht⟩ (1 : Fin 2) = 0 := (at5 _).2
  show i ∈ ((View.whole main_v0_0).slice (win0_5.rect ⟨(i 0).val / 512, ht⟩)).set
  rw [View.set_slice_whole, Rect.mem_set_unit]
  intro a
  match a with
  | ⟨0, _⟩ => show win0_5.index _ (0 : Fin 2) * 512 ≤ (i 0).val ∧ (i 0).val < win0_5.index _ (0 : Fin 2) * 512 + 512; rw [e0]; omega
  | ⟨1, _⟩ => show win0_5.index _ (1 : Fin 2) * 1024 ≤ (i 1).val ∧ (i 1).val < win0_5.index _ (1 : Fin 2) * 1024 + 1024; rw [e1]; omega

theorem cover6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have ht : 7 < cfg0.N := lt_of_lt_of_eq (show 7 < 8 by omega) N_0.symm
  refine ⟨⟨7, ht⟩, (flush0_6 _).mpr rfl, ?_⟩
  have e0 : win0_6.index ⟨7, ht⟩ (0 : Fin 2) = 0 := (at6 _).1
  have e1 : win0_6.index ⟨7, ht⟩ (1 : Fin 2) = 0 := (at6 _).2
  show i ∈ ((View.whole main_v0_1).slice (win0_6.rect ⟨7, ht⟩)).set
  rw [View.set_slice_whole, Rect.mem_set_unit]
  intro a
  match a with
  | ⟨0, _⟩ => show win0_6.index _ (0 : Fin 2) * 1 ≤ (i 0).val ∧ (i 0).val < win0_6.index _ (0 : Fin 2) * 1 + 1; rw [e0]; omega
  | ⟨1, _⟩ => show win0_6.index _ (1 : Fin 2) * 1024 ≤ (i 1).val ∧ (i 1).val < win0_6.index _ (1 : Fin 2) * 1024 + 1024; rw [e1]; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have ht : 7 < cfg0.N := lt_of_lt_of_eq (show 7 < 8 by omega) N_0.symm
  refine ⟨⟨7, ht⟩, (flush0_7 _).mpr rfl, ?_⟩
  have e0 : win0_7.index ⟨7, ht⟩ (0 : Fin 2) = 0 := (at7 _).1
  have e1 : win0_7.index ⟨7, ht⟩ (1 : Fin 2) = 0 := (at7 _).2
  show i ∈ ((View.whole main_v0_2).slice (win0_7.rect ⟨7, ht⟩)).set
  rw [View.set_slice_whole, Rect.mem_set_unit]
  intro a
  match a with
  | ⟨0, _⟩ => show win0_7.index _ (0 : Fin 2) * 1 ≤ (i 0).val ∧ (i 0).val < win0_7.index _ (0 : Fin 2) * 1 + 1; rw [e0]; omega
  | ⟨1, _⟩ => show win0_7.index _ (1 : Fin 2) * 1024 ≤ (i 1).val ∧ (i 1).val < win0_7.index _ (1 : Fin 2) * 1024 + 1024; rw [e1]; omega

/-- The kernel's run: the arrays, and the arguments as launched. -/
theorem run {D : Dev nD → Data 2560} {m : (ℓ : Loc nD τ sig) → Buf (Elt Ideal) ℓ} (ρ : Dev nD → PrngReg)
    (H : ∀ c : Dev nD, Holds (D c) (m (c.tc.loc main_arg0)) (m (c.tc.loc main_arg1)) (m (c.tc.loc main_arg2)) (m (c.tc.loc main_arg3)) (m (c.tc.loc main_arg4))) :
    θ_run defs (onTc (τ := τ) (main (F := Ideal))) ⟨m, fun _ => 0, ρ⟩ fun r => ∀ c : Dev nD,
      r.2.mem ((c : Thread nD τ).loc main_v0_0) = arrD (D c)
      ∧ r.2.mem ((c : Thread nD τ).loc main_v0_1) = arrG (D c)
      ∧ r.2.mem ((c : Thread nD τ).loc main_v0_2) = arrB (D c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 5).trans ((dats m 0 c).arrAt_eq_of_cover 5 _ (back5 (H c)) cover5),
     ((h c).1 6).trans ((dats m 0 c).arrAt_eq_of_cover 6 _ (back6 (H c)) cover6),
     ((h c).1 7).trans ((dats m 0 c).arrAt_eq_of_cover 7 _ (back7 (H c)) cover7),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Norm.In

end
-- ==== Proof.Norm.In.Ref.lean ====
/- The reference of `proj_in_dx` is the gradient that the kernel computes. -/
module

public import proofs.«01_k».proof.Proof.Gen.Reference5Ideal.Read
public import proofs.«01_k».proof.Proof.Norm.In.Tiles

@[expose] public section

set_option maxRecDepth 16384

noncomputable section

namespace Norm.In

open Cert.Reference5Ideal Cert.Reference5Ideal.Read Idealize.ShloMosaic

section Ref

variable {D : Data 2560} {x0 : S4096x2560.Idx → EReal} {x1 : S1024x2560.Idx → EReal} {x2 x3 : S4096x1024.Idx → EReal} {x4 : S1x1024.Idx → EReal}

/-- An array of real numbers at an index that is not split yet. -/
theorem whole {n k : ℕ} {x : (⟨2, ![n, k]⟩ : Shape).Idx → EReal} {f : Fin n → Fin k → ℝ} (h : IsR x f) (i : (⟨2, ![n, k]⟩ : Shape).Idx) :
    x i = ((f (i 0) (i 1) : ℝ) : EReal) := by
  have e : i = ix2 (i 0) (i 1) := by
    funext a
    match a with
    | ⟨0, _⟩ => rfl
    | ⟨1, _⟩ => rfl
  exact (congrArg x e).trans (h _ _)

/-- A sum started at zero. -/
theorem total {n : ℕ} {y : Fin n → EReal} {f : Fin n → ℝ} (h : ∀ k, y k = ((f k : ℝ) : EReal)) :
    (FloatOps.ofBits (F := Ideal) .f32 0x00000000#32 : EReal) + ∑ k, y k = ((∑ k, f k : ℝ) : EReal) := by
  show Ideal.ofBits .f32 0x00000000#32 + _ = _
  rw [Ideal.ofBits_zero_f32, zero_add, Finset.sum_congr rfl fun k _ => h k, Attn.sum_real]

variable (H : Holds D x0 x1 x2 x3 x4)
include H

theorem e1 (i : S4096.Idx) : val_main_v1 (F := Ideal) x3 i = ((∑ k, D.r (i 0) k : ℝ) : EReal) := by
  rw [val_main_v1_apply, val_main_cst_0_apply]
  exact total fun k => whole H.r _

theorem e4 (i : S4096x1.Idx) : val_main_v4 (F := Ideal) x3 i = ((mean (D.r (i 0)) : ℝ) : EReal) := by
  rw [val_main_v4_apply, val_main_v2_apply, val_main_v3_apply, val_main_cst_1_apply, e1 H]
  show Ideal.div _ (Ideal.ofBits .f32 0x44800000#32) = _
  rw [lit_width, over]; rfl

theorem e6 (i : S4096x1024.Idx) : val_main_v6 (F := Ideal) x3 i = ((cen (D.r (i 0)) (i 1) : ℝ) : EReal) := by
  rw [val_main_v6_apply, val_main_v5_apply, e4 H, whole H.r]
  exact (EReal.coe_sub _ _).symm

theorem e15 (i : S4096x1024.Idx) : val_main_v15 (F := Ideal) x3 i = ((cen (D.r (i 0)) (i 1) : ℝ) : EReal) := by
  rw [val_main_v15_apply, val_main_v14_apply, e4 H, whole H.r]
  exact (EReal.coe_sub _ _).symm

theorem e9 (i : S4096x1024.Idx) : val_main_v9 (F := Ideal) x3 i = ((2 * cen (D.r (i 0)) (i 1) : ℝ) : EReal) := by
  rw [val_main_v9_apply, val_main_v8_apply, val_main_cst_2_apply, e6 H]
  show Ideal.ofBits .f32 0x40000000#32 * _ = _
  rw [Attn.ofBits_two]
  exact (EReal.coe_mul _ _).symm

theorem e7 (i : S4096x1024.Idx) : val_main_v7 (F := Ideal) x3 i = ((cen (D.r (i 0)) (i 1) * cen (D.r (i 0)) (i 1) : ℝ) : EReal) := by
  rw [val_main_v7_apply, e6 H]
  exact (EReal.coe_mul _ _).symm

theorem e17 (i : S4096x1.Idx) : val_main_v17 (F := Ideal) x3 i = ((spread (D.r (i 0)) : ℝ) : EReal) := by
  rw [val_main_v17_apply, val_main_v13_apply, val_main_v11_apply, val_main_v10_apply, val_main_v12_apply, val_main_v16_apply, val_main_cst_3_apply,
    val_main_cst_4_apply, val_main_cst_5_apply, total fun k => e7 H _]
  show Ideal.div _ (Ideal.ofBits .f32 0x44800000#32) + Ideal.ofBits .f32 0x3727C5AC#32 = _
  rw [lit_width, over, lit_eps]
  exact (EReal.coe_add _ _).symm

theorem e18 (i : S4096x1.Idx) : val_main_v18 (F := Ideal) x3 i = ((rs (D.r (i 0)) : ℝ) : EReal) := by
  rw [val_main_v18_apply, e17 H]
  exact root _

theorem e21 (i : S4096x1.Idx) : val_main_v21 (F := Ideal) x3 i = ((-(1 / 2) * (rs (D.r (i 0)) / spread (D.r (i 0))) : ℝ) : EReal) := by
  rw [val_main_v21_apply, val_main_v20_apply, val_main_cst_6_apply, val_main_v19_apply, e18 H, e17 H]
  show Ideal.ofBits .f32 0xBF000000#32 * Ideal.div _ _ = _
  rw [lit_half, Attn.div_real _ (spread_pos _).ne']
  exact (EReal.coe_mul _ _).symm

theorem e23 (i : S4096x1024.Idx) : val_main_v23 (F := Ideal) x3 i = ((xh (D.r (i 0)) (i 1) : ℝ) : EReal) := by
  rw [val_main_v23_apply, val_main_v22_apply, e18 H, e15 H]
  exact (EReal.coe_mul _ _).symm

theorem e33 (i : S4096x1024.Idx) : val_main_v33 (F := Ideal) x0 x1 i = ((∑ k, D.u (i 0) k * D.w (i 1) k : ℝ) : EReal) := by
  rw [val_main_v33_apply, ← Attn.sum_real]
  refine Finset.sum_congr rfl fun k _ => ?_
  rw [val_main_v32_apply, val_main_v30_apply]
  show x0 _ * x1 _ = _
  rw [whole H.u, whole H.w]
  exact (EReal.coe_mul _ _).symm

theorem e36 (i : S4096x1024.Idx) : val_main_v36 (F := Ideal) x0 x1 x2 i = ((D.dh (i 0) (i 1) : ℝ) : EReal) := by
  have e : D.dh (i 0) (i 1) = (∑ k, D.u (i 0) k * D.w (i 1) k) + alpha * D.d (i 0) (i 1) := add_comm _ _
  rw [val_main_v36_apply, val_main_v35_apply, val_main_v34_apply, val_main_cst_8_apply, e33 H, whole H.d, e]
  show _ + Ideal.ofBits .f32 0x3F9837F0#32 * _ = _
  rw [lit_alpha, EReal.coe_add, EReal.coe_mul]

theorem e38 : val_main_v38 (F := Ideal) x0 x1 x2 = arrB D := by
  funext i
  have h0 : (i 0).val < 1 := (i 0).isLt
  rw [val_main_v38_apply, val_main_v37_apply, val_main_cst_9_apply, total fun k => e36 H _]
  refine congrArg (fun j : Fin 1024 => ((D.db j : ℝ) : EReal)) (Fin.ext ?_)
  show (i 0).val * 1024 + (i 1).val = (i 1).val
  omega

theorem e39 (i : S4096x1024.Idx) : val_main_v39 (F := Ideal) x0 x1 x2 x3 i = ((D.tg (i 0) (i 1) : ℝ) : EReal) := by
  have e : D.tg (i 0) (i 1) = xh (D.r (i 0)) (i 1) * D.dh (i 0) (i 1) := mul_comm _ _
  rw [val_main_v39_apply, e36 H, e23 H, e]
  exact (EReal.coe_mul _ _).symm

theorem e41 : val_main_v41 (F := Ideal) x0 x1 x2 x3 = arrG D := by
  funext i
  have h0 : (i 0).val < 1 := (i 0).isLt
  rw [val_main_v41_apply, val_main_v40_apply, val_main_cst_10_apply, total fun k => e39 H _]
  refine congrArg (fun j : Fin 1024 => ((D.dg j : ℝ) : EReal)) (Fin.ext ?_)
  show (i 0).val * 1024 + (i 1).val = (i 1).val
  omega

theorem e43 (i : S4096x1024.Idx) : val_main_v43 (F := Ideal) x0 x1 x2 x4 i = ((D.dh (i 0) (i 1) * D.g (i 1) : ℝ) : EReal) := by
  rw [val_main_v43_apply, val_main_v42_apply, e36 H, whole H.g]
  exact (EReal.coe_mul _ _).symm

theorem e44 (i : S4096x1024.Idx) : val_main_v44 (F := Ideal) x0 x1 x2 x3 x4 i = ((cen (D.r (i 0)) (i 1) * (D.dh (i 0) (i 1) * D.g (i 1)) : ℝ) : EReal) := by
  rw [val_main_v44_apply, e15 H, e43 H]
  exact (EReal.coe_mul _ _).symm

/-- The first row index of a column of one. -/
theorem first (i : S4096x1.Idx) (h : (i 0).val * 1 + (i 1).val < 4096) : (⟨(i 0).val * 1 + (i 1).val, h⟩ : Fin 4096) = i 0 := by
  have h1 : (i 1).val < 1 := (i 1).isLt
  refine Fin.ext ?_
  show (i 0).val * 1 + (i 1).val = (i 0).val
  omega

theorem e46 (i : S4096x1.Idx) : val_main_v46 (F := Ideal) x0 x1 x2 x3 x4 i = ((∑ l, cen (D.r (i 0)) l * (D.dh (i 0) l * D.g l) : ℝ) : EReal) := by
  rw [val_main_v46_apply, val_main_v45_apply, val_main_cst_11_apply, total fun k => e44 H _]
  exact congrArg (fun p : Fin 4096 => ((∑ l, cen (D.r p) l * (D.dh p l * D.g l) : ℝ) : EReal)) (first H i _)

theorem e48 (i : S4096x1024.Idx) : val_main_v48 (F := Ideal) x0 x1 x2 x3 x4 i = ((D.dh (i 0) (i 1) * D.g (i 1) * rs (D.r (i 0)) : ℝ) : EReal) := by
  rw [val_main_v48_apply, val_main_v47_apply, e43 H, e18 H]
  exact (EReal.coe_mul _ _).symm

theorem e50 (i : S4096x1024.Idx) : val_main_v50 (F := Ideal) x0 x1 x2 x3 x4 i = ((-(D.dh (i 0) (i 1) * D.g (i 1) * rs (D.r (i 0))) : ℝ) : EReal) := by
  rw [val_main_v50_apply, e48 H]
  exact (EReal.coe_neg _).symm

theorem e52 (i : S4096x1.Idx) : val_main_v52 (F := Ideal) x0 x1 x2 x3 x4 i = ((∑ l, -(D.dh (i 0) l * D.g l * rs (D.r (i 0))) : ℝ) : EReal) := by
  rw [val_main_v52_apply, val_main_v51_apply, val_main_cst_12_apply, total fun k => e50 H _]
  exact congrArg (fun p : Fin 4096 => ((∑ l, -(D.dh p l * D.g l * rs (D.r p)) : ℝ) : EReal)) (first H i _)

omit H in
/-- What the gradient of the spread adds to the deviations. -/
def turn (D : Data 2560) (p : Fin 4096) : ℝ :=
  (∑ l, cen (D.r p) l * (D.dh p l * D.g l)) * (-(1 / 2) * (rs (D.r p) / spread (D.r p))) / 1024

theorem e54 (i : S4096x1.Idx) : val_main_v54 (F := Ideal) x0 x1 x2 x3 x4 i = ((turn D (i 0) : ℝ) : EReal) := by
  rw [val_main_v54_apply, val_main_v53_apply, val_main_cst_13_apply, val_main_v49_apply, e46 H, e21 H]
  show Ideal.div (_ * _) (Ideal.ofBits .f32 0x44800000#32) = _
  rw [lit_width, ← EReal.coe_mul, over]; rfl

theorem e57 (i : S4096x1024.Idx) : val_main_v57 (F := Ideal) x0 x1 x2 x3 x4 i = ((turn D (i 0) * (2 * cen (D.r (i 0)) (i 1)) : ℝ) : EReal) := by
  rw [val_main_v57_apply, val_main_v56_apply, val_main_v55_apply, val_main_cst_14_apply, total fun k => e54 H _, e9 H, Fin.sum_univ_one]
  exact (EReal.coe_mul _ _).symm

theorem e58 (i : S4096x1024.Idx) : val_main_v58 (F := Ideal) x0 x1 x2 x3 x4 i = ((-(turn D (i 0) * (2 * cen (D.r (i 0)) (i 1))) : ℝ) : EReal) := by
  rw [val_main_v58_apply, e57 H]
  exact (EReal.coe_neg _).symm

theorem e60 (i : S4096x1.Idx) : val_main_v60 (F := Ideal) x0 x1 x2 x3 x4 i = ((∑ l, -(turn D (i 0) * (2 * cen (D.r (i 0)) l)) : ℝ) : EReal) := by
  rw [val_main_v60_apply, val_main_v59_apply, val_main_cst_15_apply, total fun k => e58 H _]
  exact congrArg (fun p : Fin 4096 => ((∑ l, -(turn D p * (2 * cen (D.r p) l)) : ℝ) : EReal)) (first H i _)

theorem e64 (i : S4096x1.Idx) : val_main_v64 (F := Ideal) x0 x1 x2 x3 x4 i
    = ((((∑ l, -(D.dh (i 0) l * D.g l * rs (D.r (i 0)))) + ∑ l, -(turn D (i 0) * (2 * cen (D.r (i 0)) l))) / 1024 : ℝ) : EReal) := by
  rw [val_main_v64_apply, val_main_v63_apply, val_main_cst_16_apply, val_main_v62_apply, e52 H, e60 H]
  show Ideal.div (_ + _) (Ideal.ofBits .f32 0x44800000#32) = _
  rw [lit_width, ← EReal.coe_add, over]

theorem e67 : val_main_v67 (F := Ideal) x0 x1 x2 x3 x4 = arrD D := by
  funext i
  rw [val_main_v67_apply, val_main_v66_apply, val_main_v65_apply, val_main_cst_17_apply, total fun k => e64 H _, Fin.sum_univ_one, val_main_v61_apply,
    e48 H, e57 H]
  have e := chain (D.r (i 0)) (fun l => D.dh (i 0) l * D.g l) (i 1)
  refine Eq.trans ?_ (congrArg (fun a : ℝ => (a : EReal)) e)
  exact ((congrArg (· + _) (EReal.coe_add _ _)).symm.trans rfl |>.trans (EReal.coe_add _ _).symm)

end Ref

end Norm.In

end
-- ==== Proof.Norm.In.Finite.lean ====
/- What the precondition of `proj_in_dx` says: every argument is an array of real numbers. -/
module

public import proofs.«01_k».proof.Proof.Gen.Pre_finite5
public import proofs.«01_k».proof.Proof.Attn.Finite
public import proofs.«01_k».proof.Proof.Norm.In.Tiles

@[expose] public section

set_option maxRecDepth 16384

noncomputable section

namespace Norm.In

open Idealize.ShloMosaic

section Fin

open Cert.Pre_finite5

variable {x0 : FVec Ideal S4096x2560 .bf16} {x1 : FVec Ideal S1024x2560 .bf16} {x2 x3 : FVec Ideal S4096x1024 .f32} {x4 : FVec Ideal S1x1024 .f32}

/-- The real numbers that five arrays hold. -/
def dataOf (x0 : FVec Ideal S4096x2560 .bf16) (x1 : FVec Ideal S1024x2560 .bf16) (x2 x3 : FVec Ideal S4096x1024 .f32) (x4 : FVec Ideal S1x1024 .f32) : Data 2560 where
  u i k := (x0 (ix2 i k) : EReal).toReal
  w j k := (x1 (ix2 j k) : EReal).toReal
  d i j := (x2 (ix2 i j) : EReal).toReal
  r i j := (x3 (ix2 i j) : EReal).toReal
  g j := (x4 (ix2 0 j) : EReal).toReal

theorem holds (h : fn (F := Ideal) x0 x1 x2 x3 x4 = fun _ => 1#1) : Holds (dataOf x0 x1 x2 x3 x4) x0 x1 x2 x3 x4 := by
  have key : ∀ (i : Fin 4096) (l : Fin 8192), _ := fun i l => congrFun h (ix2 i l)
  revert key
  pointwise [Cert.Pre_finite5.fn]
  intro key
  refine ⟨fun i k => ?_, fun j k => ?_, fun i j => ?_, fun i j => ?_, fun i j => ?_⟩
  · have e := key i ⟨k.val, by omega⟩
    rw [dif_pos (show k.val < 2560 from k.isLt)] at e
    exact (Attn.real_of_abs_lt e).symm
  · have e := key ⟨j.val, by omega⟩ ⟨2560 + k.val, by omega⟩
    rw [dif_neg (show ¬ 2560 + k.val < 2560 by omega), dif_pos (show 2560 + k.val - 2560 < 2560 by omega), dif_pos (show j.val < 1024 from j.isLt)] at e
    have q := Attn.real_of_abs_lt e
    simp only [Nat.add_sub_cancel_left] at q
    exact q.symm
  · have e := key i ⟨2560 + 2560 + j.val, by omega⟩
    have n : 2560 + 2560 + j.val - 2560 - 2560 = j.val := by omega
    rw [dif_neg (show ¬ 2560 + 2560 + j.val < 2560 by omega), dif_neg (show ¬ 2560 + 2560 + j.val - 2560 < 2560 by omega),
      dif_pos (show 2560 + 2560 + j.val - 2560 - 2560 < 1024 by omega)] at e
    have q := Attn.real_of_abs_lt e
    simp only [n] at q
    exact q.symm
  · have e := key i ⟨2560 + 2560 + 1024 + j.val, by omega⟩
    have n : 2560 + 2560 + 1024 + j.val - 2560 - 2560 - 1024 = j.val := by omega
    rw [dif_neg (show ¬ 2560 + 2560 + 1024 + j.val < 2560 by omega), dif_neg (show ¬ 2560 + 2560 + 1024 + j.val - 2560 < 2560 by omega),
      dif_neg (show ¬ 2560 + 2560 + 1024 + j.val - 2560 - 2560 < 1024 by omega), dif_pos (show 2560 + 2560 + 1024 + j.val - 2560 - 2560 - 1024 < 1024 by omega)] at e
    have q := Attn.real_of_abs_lt e
    simp only [n] at q
    exact q.symm
  · have e := key 0 ⟨2560 + 2560 + 1024 + 1024 + j.val, by omega⟩
    have n : 2560 + 2560 + 1024 + 1024 + j.val - 2560 - 2560 - 1024 - 1024 = j.val := by omega
    rw [dif_neg (show ¬ 2560 + 2560 + 1024 + 1024 + j.val < 2560 by omega), dif_neg (show ¬ 2560 + 2560 + 1024 + 1024 + j.val - 2560 < 2560 by omega),
      dif_neg (show ¬ 2560 + 2560 + 1024 + 1024 + j.val - 2560 - 2560 < 1024 by omega),
      dif_neg (show ¬ 2560 + 2560 + 1024 + 1024 + j.val - 2560 - 2560 - 1024 < 1024 by omega)] at e
    have z : i = 0 := Subsingleton.elim _ _
    rw [z]
    have q := Attn.real_of_abs_lt e
    simp only [n] at q
    exact q.symm

end Fin

end Norm.In

end
-- ==== Proof.Norm.In.End.lean ====
/- The claims about `proj_in_dx`. -/
module

public import proofs.«01_k».proof.Proof.Gen.Kernel5.Frame
public import proofs.«01_k».proof.Proof.Gen.Reference5Ideal.Run
public import proofs.«01_k».proof.Proof.Norm.In.Ref
public import proofs.«01_k».proof.Proof.Norm.In.Finite

@[expose] public section

set_option maxRecDepth 16384

noncomputable section

namespace Norm.In

open Idealize.ShloMosaic Idealize.SL.Sem

/-- The frames, at the hardware's words and at exact numbers. -/
theorem frame_kernel : Cert.quiescent_Kernel5 := fun m ρ _ => Cert.Kernel5.Gen.frame m ρ
theorem frame_kernelIdeal : Cert.quiescent_Kernel5Ideal := fun m ρ _ => Cert.Kernel5Ideal.Gen.frame m ρ
theorem frame_kernelIdeal_any : Cert.quiescent_Kernel5Ideal_pre_none := fun m ρ _ => Cert.Kernel5Ideal.Gen.frame m ρ
theorem frame_referenceIdeal : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)
theorem frame_referenceIdeal_finite : Cert.quiescent_Reference5Ideal_pre_finite5 := fun m ρ _ => frame_referenceIdeal m ρ trivial

/-- No operation is rewritten. -/
theorem preserves : Cert.preserves_Kernel5_Kernel5Ideal := trivial

/-- The kernel's gradients are the reference's. -/
theorem algebraic : Cert.algebraic_Kernel5Ideal_Reference5Ideal := by
  intro m ρ m' ρ' hp ha
  let D : Dev Cert.Kernel5Ideal.nD → Data 2560 := fun c => dataOf
    (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
  have HK : ∀ c, Holds (D c)
      (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)) := fun c => holds (hp c)
  have HR : ∀ c, Holds (D c)
      (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4)) := fun c => by
    rw [(ha c).1, (ha c).2.1, (ha c).2.2.1, (ha c).2.2.2.1, (ha c).2.2.2.2]
    exact HK c
  refine ⟨fun c => arrD (D c), fun c => arrG (D c), fun c => arrB (D c), run ρ HK, ?_⟩
  refine (θ_run Cert.Reference5Ideal.defs _ _).mono (fun r h c => ?_) (Cert.Reference5Ideal.Value.run (F := Ideal) m' ρ')
  obtain ⟨h0, h1, h2, h3⟩ := h c
  exact ⟨h0.trans ((Cert.Reference5Ideal.Read.val_main_v67_eq m' c).trans (e67 (HR c))),
    h1.trans ((Cert.Reference5Ideal.Read.val_main_v41_eq _ _ _ _).trans (e41 (HR c))),
    h2.trans ((Cert.Reference5Ideal.Read.val_main_v38_eq _ _ _).trans (e38 (HR c))), h3⟩

end Norm.In

end
-- ==== Proof.Norm.Mem.Pay.lean ====
/- One block of 512 rows of `mem_q_dx`: each value the body forms, as real numbers. -/
module

public import proofs.«01_k».proof.Proof.Gen.Kernel6Ideal.Skeleton
public import proofs.«01_k».proof.Proof.Norm.Words

@[expose] public section

set_option maxRecDepth 16384

noncomputable section

namespace Norm.Mem

open Cert.Kernel6Ideal Cert.Kernel6Ideal.Gen Idealize.ShloMosaic Idealize.ShloMosaic.TcCoe Idealize.ShloMosaic.Tactic

variable {U : Fin 512 → Fin 1024 → ℝ} {W : Fin 1024 → Fin 1024 → ℝ} {D R : Fin 512 → Fin 1024 → ℝ} {G : Fin 1 → Fin 1024 → ℝ}
  {u : FVec Ideal S512x1024 .bf16} {w : FVec Ideal S1024x1024 .bf16} {d r : FVec Ideal S512x1024 .f32} {g : FVec Ideal S1x1024 .f32}

/-- A block's gradient of the norm's output. -/
def dH (U : Fin 512 → Fin 1024 → ℝ) (W : Fin 1024 → Fin 1024 → ℝ) (D : Fin 512 → Fin 1024 → ℝ) (i : Fin 512) (j : Fin 1024) : ℝ :=
  alpha * D i j + ∑ k, U i k * W j k

theorem p_cen (hr : IsR r R) : IsR (k0_pay7 (F := Ideal) r) (fun i => cen (R i)) := by
  intro i j; pointwise [k0_pay7]
  simp only [hr _ _, lit_width, Attn.sum_real, over, ← EReal.coe_sub]; rfl

theorem p_rs (hr : IsR r R) : IsR (k0_pay8 (F := Ideal) r) (fun i _ => rs (R i)) := by
  intro i j; pointwise [k0_pay8]
  simp only [p_cen hr _ _, lit_width, lit_eps, Attn.sum_real, over, ← EReal.coe_mul, ← EReal.coe_add]
  exact root (R i)

theorem p_xh (hr : IsR r R) : IsR (k0_pay9 (F := Ideal) r) (fun i => xh (R i)) := by
  intro i j; pointwise [k0_pay9]
  simp only [p_cen hr _ _, p_rs hr _ _, ← EReal.coe_mul, xh]

theorem p_dh (hu : IsR u U) (hw : IsR w W) (hd : IsR d D) : IsR (k0_pay10 (F := Ideal) u w d) (dH U W D) := by
  intro i j; pointwise [k0_pay10]
  simp only [hu _ _, hw _ _, hd _ _, lit_alpha, ← EReal.coe_mul, Attn.sum_real, ← EReal.coe_add]; rfl

theorem p_dx (hu : IsR u U) (hw : IsR w W) (hd : IsR d D) (hg : IsR g G) : IsR (k0_pay11 (F := Ideal) u w d g) (fun i j => dH U W D i j * G 0 j) := by
  intro i j; pointwise [k0_pay11]
  simp only [p_dh hu hw hd _ _, hg _ _, ← EReal.coe_mul]

theorem p_m1 (hu : IsR u U) (hw : IsR w W) (hd : IsR d D) (hg : IsR g G) : IsR (k0_pay12 (F := Ideal) u w d g) (fun i _ => mean fun l => dH U W D i l * G 0 l) := by
  intro i j; pointwise [k0_pay12]
  simp only [p_dx hu hw hd hg _ _, lit_width, Attn.sum_real, over]; rfl

theorem p_m2 (hu : IsR u U) (hw : IsR w W) (hd : IsR d D) (hr : IsR r R) (hg : IsR g G) :
    IsR (k0_pay13 (F := Ideal) u w d r g) (fun i _ => mean fun l => dH U W D i l * G 0 l * xh (R i) l) := by
  intro i j; pointwise [k0_pay13]
  simp only [p_dx hu hw hd hg _ _, p_xh hr _ _, ← EReal.coe_mul, lit_width, Attn.sum_real, over]; rfl

/-- What the body stores: the gradient of the norm's input, and the block's part of the gradients of scale and shift. -/
def dR (U : Fin 512 → Fin 1024 → ℝ) (W : Fin 1024 → Fin 1024 → ℝ) (D R : Fin 512 → Fin 1024 → ℝ) (G : Fin 1 → Fin 1024 → ℝ) (i : Fin 512) (j : Fin 1024) : ℝ :=
  back (R i) (fun l => dH U W D i l * G 0 l) j
def dG (U : Fin 512 → Fin 1024 → ℝ) (W : Fin 1024 → Fin 1024 → ℝ) (D R : Fin 512 → Fin 1024 → ℝ) (_ : Fin 1) (j : Fin 1024) : ℝ :=
  ∑ i, dH U W D i j * xh (R i) j
def dB (U : Fin 512 → Fin 1024 → ℝ) (W : Fin 1024 → Fin 1024 → ℝ) (D : Fin 512 → Fin 1024 → ℝ) (_ : Fin 1) (j : Fin 1024) : ℝ :=
  ∑ i, dH U W D i j

section

variable (hu : IsR u U) (hw : IsR w W) (hd : IsR d D) (hr : IsR r R) (hg : IsR g G)
include hu hw hd

theorem q_sb : IsR (k0_pay3 (F := Ideal) (k0_pay10 u w d)) (dB U W D) := by
  intro i j; pointwise [k0_pay3]
  simp only [p_dh hu hw hd _ _, Attn.sum_real]; rfl

theorem q_ab {x : FVec Ideal S1x1024 .f32} {X : Fin 1 → Fin 1024 → ℝ} (hx : IsR x X) :
    IsR (k0_pay6 (F := Ideal) (k0_pay10 u w d) x) (fun i j => X i j + dB U W D i j) := by
  intro i j; pointwise [k0_pay6]
  rw [q_sb hu hw hd i j]
  simp only [hx _ _, ← EReal.coe_add]

include hr

theorem q_sx : IsR (k0_pay2 (F := Ideal) (k0_pay9 r) (k0_pay10 u w d)) (dG U W D R) := by
  intro i j; pointwise [k0_pay2]
  simp only [p_dh hu hw hd _ _, p_xh hr _ _, ← EReal.coe_mul, Attn.sum_real]; rfl

theorem q_ax {x : FVec Ideal S1x1024 .f32} {X : Fin 1 → Fin 1024 → ℝ} (hx : IsR x X) :
    IsR (k0_pay5 (F := Ideal) (k0_pay9 r) (k0_pay10 u w d) x) (fun i j => X i j + dG U W D R i j) := by
  intro i j; pointwise [k0_pay5]
  rw [q_sx hu hw hd hr i j]
  simp only [hx _ _, ← EReal.coe_add]

include hg

theorem q_dr : IsR (k0_pay1 (F := Ideal) (k0_pay8 r) (k0_pay9 r) (k0_pay11 u w d g) (k0_pay12 u w d g) (k0_pay13 u w d r g)) (dR U W D R G) := by
  intro i j; pointwise [k0_pay1]
  simp only [p_rs hr _ _, p_xh hr _ _, p_dx hu hw hd hg _ _, p_m1 hu hw hd hg _ _, p_m2 hu hw hd hr hg _ _, ← EReal.coe_mul, ← EReal.coe_sub]; rfl

theorem q_bf : IsR (k0_pay4 (F := Ideal) (k0_pay8 r) (k0_pay9 r) (k0_pay11 u w d g) (k0_pay12 u w d g) (k0_pay13 u w d r g)) (dR U W D R G) := by
  intro i j; pointwise [k0_pay4]
  exact q_dr hu hw hd hr hg i j

end

end Norm.Mem

end
-- ==== Proof.Norm.Mem.Tiles.lean ====
/- What each grid point of `mem_q_dx` leaves in its output windows, and the arrays after the last one. -/
module

public import proofs.«01_k».proof.Proof.Gen.Kernel6Ideal.Frame
public import proofs.«01_k».proof.Proof.Norm.Mem.Pay
public import proofs.«01_k».proof.Proof.Norm.Step

@[expose] public section

set_option maxRecDepth 16384

noncomputable section

namespace Norm.Mem

open Cert.Kernel6Ideal Cert.Kernel6Ideal.Gen Idealize.ShloMosaic Idealize.ShloMosaic.TcCoe Idealize.ShloMosaic.Tactic Idealize.SL.Sem

/-- The blocks that a grid point reads. -/
structure AtPt (m : (ℓ : Loc nD τ sig) → Buf (Elt Ideal) ℓ) (c : Dev nD) (t : Fin cfg0.N) (U : Fin 512 → Fin 1024 → ℝ) (W : Fin 1024 → Fin 1024 → ℝ)
    (D R : Fin 512 → Fin 1024 → ℝ) (G : Fin 1 → Fin 1024 → ℝ) : Prop where
  u : IsR (n := 512) (k := 1024) (iblk m c 0 t) U
  w : IsR (n := 1024) (k := 1024) (iblk m c 1 t) W
  d : IsR (n := 512) (k := 1024) (iblk m c 2 t) D
  r : IsR (n := 512) (k := 1024) (iblk m c 3 t) R
  g : IsR (n := 1) (k := 1024) (iblk m c 4 t) G

section Cases

variable {m : (ℓ : Loc nD τ sig) → Buf (Elt Ideal) ℓ} {c : Dev nD} {t : Fin cfg0.N} {U : Fin 512 → Fin 1024 → ℝ} {W : Fin 1024 → Fin 1024 → ℝ}
  {D R : Fin 512 → Fin 1024 → ℝ} {G : Fin 1 → Fin 1024 → ℝ}

theorem A_dr (h0 : t.val % 8 = 0) (h1 : ¬1 ≤ t.val) (P : AtPt m c t U W D R G) :
    IsR (outsAt0 m c t.val t.isLt).1 (dR U W D R G) := by
  rw [outsAt0_A m c t h0 h1]
  dsimp only
  unfold out0_A_5 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_dr (Step.ld16 P.u) (Step.ld16 P.w) (Step.ld32 P.d) (Step.ld32 P.r) (Step.ld32 P.g))

theorem A_bf (h0 : t.val % 8 = 0) (h1 : ¬1 ≤ t.val) (P : AtPt m c t U W D R G) :
    IsR (outsAt0 m c t.val t.isLt).2.1 (dR U W D R G) := by
  rw [outsAt0_A m c t h0 h1]
  dsimp only
  unfold out0_A_6 kernelRun0_A
  dsimp only
  sl_unfold_words
  simp only [View.readAt_eq_ld, (hs0_0 t).read_unread, (hs0_1 t).read_unread, (hs0_2 t).read_unread, (hs0_3 t).read_unread, (hs0_4 t).read_unread]
  exact Step.st16 (q_bf (Step.ld16 P.u) (Step.ld16 P.w) (Step.ld32 P.d) (Step.ld32 P.r) (Step.ld32 P.g))

theorem A_dg (h0 : t.val % 8 = 0) (h1 : ¬1 ≤ t.val) (P : AtPt m c t U W D R G) :
    IsR (outsAt0 m c t.val t.isLt).2.2.1 (dG U W D R) := by
  rw [outsAt0_A m c t h0 h1]
  dsimp only
  unfold out0_A_7 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_sx (Step.ld16 P.u) (Step.ld16 P.w) (Step.ld32 P.d) (Step.ld32 P.r))

theorem A_db (h0 : t.val % 8 = 0) (h1 : ¬1 ≤ t.val) (P : AtPt m c t U W D R G) :
    IsR (outsAt0 m c t.val t.isLt).2.2.2 (dB U W D) := by
  rw [outsAt0_A m c t h0 h1]
  dsimp only
  unfold out0_A_8 kernelRun0_A
  dsimp only
  sl_unfold_words
  simp only [View.readAt_eq_ld, (hs0_0 t).read_unread, (hs0_1 t).read_unread, (hs0_2 t).read_unread, (hs0_3 t).read_unread, (hs0_4 t).read_unread]
  exact Step.st32 (q_sb (Step.ld16 P.u) (Step.ld16 P.w) (Step.ld32 P.d))

theorem B_dr (h0 : ¬t.val % 8 = 0) (h1 : 1 ≤ t.val) (P : AtPt m c t U W D R G) :
    IsR (outsAt0 m c t.val t.isLt).1 (dR U W D R G) := by
  rw [outsAt0_B m c t h0 h1]
  dsimp only
  unfold out0_B_5 kernelRun0_B
  dsimp only
  sl_unfold_words
  simp only [View.readAt_eq_ld, (hs0_0 t).read_unread, (hs0_1 t).read_unread, (hs0_2 t).read_unread, (hs0_3 t).read_unread, (hs0_4 t).read_unread]
  exact Step.st32 (q_dr (Step.ld16 P.u) (Step.ld16 P.w) (Step.ld32 P.d) (Step.ld32 P.r) (Step.ld32 P.g))

theorem B_bf (h0 : ¬t.val % 8 = 0) (h1 : 1 ≤ t.val) (P : AtPt m c t U W D R G) :
    IsR (outsAt0 m c t.val t.isLt).2.1 (dR U W D R G) := by
  rw [outsAt0_B m c t h0 h1]
  dsimp only
  unfold out0_B_6 kernelRun0_B
  dsimp only
  sl_unfold_words
  simp only [View.readAt_eq_ld, (hs0_0 t).read_unread, (hs0_1 t).read_unread, (hs0_2 t).read_unread, (hs0_3 t).read_unread, (hs0_4 t).read_unread]
  exact Step.st16 (q_bf (Step.ld16 P.u) (Step.ld16 P.w) (Step.ld32 P.d) (Step.ld32 P.r) (Step.ld32 P.g))

theorem B_dg (h0 : ¬t.val % 8 = 0) (h1 : 1 ≤ t.val) (P : AtPt m c t U W D R G) {X : Fin 1 → Fin 1024 → ℝ}
    (hX : IsR (n := 1) (k := 1024) (outsAt0 m c (t.val - 1) (Nat.lt_of_le_of_lt (Nat.sub_le _ _) t.isLt)).2.2.1 X) :
    IsR (outsAt0 m c t.val t.isLt).2.2.1 (fun i j => X i j + dG U W D R i j) := by
  rw [outsAt0_B m c t h0 h1]
  dsimp only
  unfold out0_B_7 kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread]
  exact Step.st32 (q_ax (Step.ld16 P.u) (Step.ld16 P.w) (Step.ld32 P.d) (Step.ld32 P.r) (Step.ld32 hX))

theorem B_db (h0 : ¬t.val % 8 = 0) (h1 : 1 ≤ t.val) (P : AtPt m c t U W D R G) {X : Fin 1 → Fin 1024 → ℝ}
    (hX : IsR (n := 1) (k := 1024) (outsAt0 m c (t.val - 1) (Nat.lt_of_le_of_lt (Nat.sub_le _ _) t.isLt)).2.2.2 X) :
    IsR (outsAt0 m c t.val t.isLt).2.2.2 (fun i j => X i j + dB U W D i j) := by
  rw [outsAt0_B m c t h0 h1]
  dsimp only
  unfold out0_B_8 kernelRun0_B
  dsimp only
  sl_unfold_words
  simp only [View.readAt_eq_ld, (hs0_0 t).read_unread, (hs0_1 t).read_unread, (hs0_2 t).read_unread, (hs0_3 t).read_unread, (hs0_4 t).read_unread, (hs0_8 t).read_unread]
  exact Step.st32 (q_ab (Step.ld16 P.u) (Step.ld16 P.w) (Step.ld32 P.d) (Step.ld32 hX))

end Cases

/-- A grid point's block of rows. -/
abbrev bl (t : Fin cfg0.N) : Fin 8 := ⟨t.val, lt_of_lt_of_eq t.isLt N_0⟩

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at8 : ∀ t : Fin cfg0.N, win0_8.index t (0 : Fin 2) = 0 ∧ win0_8.index t (1 : Fin 2) = 0 := (by decide +kernel : ∀ t : Fin grid0.N, _)

/-- The arguments are the real numbers of `D`. -/
structure Holds (D : Data 1024) (x0 : S4096x1024.Idx → EReal) (x1 : S1024x1024.Idx → EReal) (x2 x3 : S4096x1024.Idx → EReal) (x4 : S1x1024.Idx → EReal) : Prop where
  u : IsR x0 D.u
  w : IsR x1 D.w
  d : IsR x2 D.d
  r : IsR x3 D.r
  g : IsR x4 fun _ => D.g

section

variable {D : Data 1024} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem atPt (t : Fin cfg0.N) :
    AtPt m c t (fun i => D.u (row (bl t) i)) D.w (fun i => D.d (row (bl t) i)) (fun i => D.r (row (bl t) i)) (fun _ => D.g) := by
  refine ⟨fun i j => ?_, fun i j => ?_, fun i j => ?_, fun i j => ?_, fun i j => ?_⟩
  · obtain ⟨e0, e1⟩ := at0 t
    refine Eq.trans (congrArg (V m c main_arg0 : FVec Ideal S4096x1024 .bf16) ?_) (H.u (row (bl t) i) j)
    funext a; apply Fin.ext
    match a with
    | ⟨0, _⟩ => show win0_0.index t (0 : Fin 2) * 512 + 1 * i.val = 512 * t.val + i.val; omega
    | ⟨1, _⟩ => show win0_0.index t (1 : Fin 2) * 1024 + 1 * j.val = j.val; omega
  · obtain ⟨e0, e1⟩ := at1 t
    refine Eq.trans (congrArg (V m c main_arg1 : FVec Ideal S1024x1024 .bf16) ?_) (H.w i j)
    funext a; apply Fin.ext
    match a with
    | ⟨0, _⟩ => show win0_1.index t (0 : Fin 2) * 1024 + 1 * i.val = i.val; omega
    | ⟨1, _⟩ => show win0_1.index t (1 : Fin 2) * 1024 + 1 * j.val = j.val; omega
  · obtain ⟨e0, e1⟩ := at2 t
    refine Eq.trans (congrArg (V m c main_arg2 : FVec Ideal S4096x1024 .f32) ?_) (H.d (row (bl t) i) j)
    funext a; apply Fin.ext
    match a with
    | ⟨0, _⟩ => show win0_2.index t (0 : Fin 2) * 512 + 1 * i.val = 512 * t.val + i.val; omega
    | ⟨1, _⟩ => show win0_2.index t (1 : Fin 2) * 1024 + 1 * j.val = j.val; omega
  · obtain ⟨e0, e1⟩ := at3 t
    refine Eq.trans (congrArg (V m c main_arg3 : FVec Ideal S4096x1024 .f32) ?_) (H.r (row (bl t) i) j)
    funext a; apply Fin.ext
    match a with
    | ⟨0, _⟩ => show win0_3.index t (0 : Fin 2) * 512 + 1 * i.val = 512 * t.val + i.val; omega
    | ⟨1, _⟩ => show win0_3.index t (1 : Fin 2) * 1024 + 1 * j.val = j.val; omega
  · obtain ⟨e0, e1⟩ := at4 t
    refine Eq.trans (congrArg (V m c main_arg4 : FVec Ideal S1x1024 .f32) ?_) (H.g i j)
    funext a; apply Fin.ext
    match a with
    | ⟨0, _⟩ => show win0_4.index t (0 : Fin 2) * 1 + 1 * i.val = i.val; omega
    | ⟨1, _⟩ => show win0_4.index t (1 : Fin 2) * 1024 + 1 * j.val = j.val; omega

end

/-- What the windows hold after a grid point. -/
structure After (D : Data 1024) (m : (ℓ : Loc nD τ sig) → Buf (Elt Ideal) ℓ) (c : Dev nD) (t : Fin cfg0.N) : Prop where
  dr : IsR (n := 512) (k := 1024) (outsAt0 m c t.val t.isLt).1 fun i => D.dr (row (bl t) i)
  bf : IsR (n := 512) (k := 1024) (outsAt0 m c t.val t.isLt).2.1 fun i => D.dr (row (bl t) i)
  dg : IsR (n := 1) (k := 1024) (outsAt0 m c t.val t.isLt).2.2.1 fun _ j => upto D.tg (t.val + 1) j
  db : IsR (n := 1) (k := 1024) (outsAt0 m c t.val t.isLt).2.2.2 fun _ j => upto D.dh (t.val + 1) j

/-- The sums after a point from those before it. -/
theorem more (f : Fin 4096 → Fin 1024 → ℝ) (t : Fin cfg0.N) (j : Fin 1024) :
    upto f (t.val + 1) j = upto f t.val j + ∑ r : Fin 512, f (row (bl t) r) j := upto_succ f (bl t) j

section

variable {D : Data 1024} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem after_all : ∀ (n : ℕ) (hn : n < cfg0.N), After D m c ⟨n, hn⟩
  | 0, hn => by
    have P := atPt H ⟨0, hn⟩
    refine ⟨A_dr (t := ⟨0, hn⟩) rfl (by show ¬1 ≤ 0; omega) P, A_bf (t := ⟨0, hn⟩) rfl (by show ¬1 ≤ 0; omega) P, fun i j => (A_dg (t := ⟨0, hn⟩) rfl (by show ¬1 ≤ 0; omega) P i j).trans ?_,
      fun i j => (A_db (t := ⟨0, hn⟩) rfl (by show ¬1 ≤ 0; omega) P i j).trans ?_⟩
    · refine congrArg _ ((more D.tg ⟨0, hn⟩ j).trans ?_).symm
      rw [show upto D.tg (⟨0, hn⟩ : Fin cfg0.N).val j = 0 from upto_zero _ _, zero_add]; rfl
    · refine congrArg _ ((more D.dh ⟨0, hn⟩ j).trans ?_).symm
      rw [show upto D.dh (⟨0, hn⟩ : Fin cfg0.N).val j = 0 from upto_zero _ _, zero_add]; rfl
  | n + 1, hn => by
    have P := atPt H ⟨n + 1, hn⟩
    have I := after_all n (Nat.lt_of_succ_lt hn)
    have hN : n + 1 < 8 := lt_of_lt_of_eq hn N_0
    have h0 : ¬(⟨n + 1, hn⟩ : Fin cfg0.N).val % 8 = 0 := by show ¬(n + 1) % 8 = 0; omega
    have h1 : 1 ≤ (⟨n + 1, hn⟩ : Fin cfg0.N).val := by show 1 ≤ n + 1; omega
    refine ⟨B_dr h0 h1 P, B_bf h0 h1 P, fun i j => (B_dg h0 h1 P I.dg i j).trans ?_, fun i j => (B_db h0 h1 P I.db i j).trans ?_⟩
    · exact congrArg _ (more D.tg ⟨n + 1, hn⟩ j).symm
    · exact congrArg _ (more D.dh ⟨n + 1, hn⟩ j).symm

end

/-- The arrays. -/
def arrD (D : Data 1024) : S4096x1024.Idx → EReal := fun i => ((D.dr (i 0) (i 1) : ℝ) : EReal)
def arrG (D : Data 1024) : S1x1024.Idx → EReal := fun i => ((D.dg (i 1) : ℝ) : EReal)
def arrB (D : Data 1024) : S1x1024.Idx → EReal := fun i => ((D.db (i 1) : ℝ) : EReal)

section

variable {D : Data 1024} {m : (ℓ : Loc nD τ sig) → Buf (Elt Ideal) ℓ} {c : Dev nD}
  (H : Holds D (m (c.tc.loc main_arg0)) (m (c.tc.loc main_arg1)) (m (c.tc.loc main_arg2)) (m (c.tc.loc main_arg3)) (m (c.tc.loc main_arg4)))
include H

theorem back5 (t : Fin cfg0.N) (_ : (cfg0.win 5).flush t = true) :
    (dats m 0 c).flushed 5 t = ((cfg0.win 5).blk t).view.read (Elt Ideal) (arrD D) := by
  obtain ⟨e0, e1⟩ := at5 t
  have A := (after_all H t.val t.isLt).dr
  show (cfg0.win 5).cut (grid0.coords t) ((dats m 0 c).after 5 t) = _
  rw [after0_5]
  funext y
  have hy0 : (y 0).val < 512 := (y 0).isLt
  have hy1 : (y 1).val < 1024 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have ex : (cfg0.win 5).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  show (outsAt0 m c t.val t.isLt).1 ((cfg0.win 5).xinj (grid0.coords t) y) = arrD D (((cfg0.win 5).blk t).view.emb y)
  rw [ex, A]
  refine congrArg₂ (fun (i : Fin 4096) (j : Fin 1024) => ((D.dr i j : ℝ) : EReal)) (Fin.ext ?_) (Fin.ext ?_)
  · show 512 * t.val + (y 0).val = (((cfg0.win 5).blk t).view.emb y 0).val; rw [hb0]; omega
  · show (y 1).val = (((cfg0.win 5).blk t).view.emb y 1).val; rw [hb1]; omega

theorem back6 (t : Fin cfg0.N) (_ : (cfg0.win 6).flush t = true) :
    (dats m 0 c).flushed 6 t = ((cfg0.win 6).blk t).view.read (Elt Ideal) (arrD D) := by
  obtain ⟨e0, e1⟩ := at6 t
  have A := (after_all H t.val t.isLt).bf
  show (cfg0.win 6).cut (grid0.coords t) ((dats m 0 c).after 6 t) = _
  rw [after0_6]
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have ex : (cfg0.win 6).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  show (outsAt0 m c t.val t.isLt).2.1 ((cfg0.win 6).xinj (grid0.coords t) y) = arrD D (((cfg0.win 6).blk t).view.emb y)
  rw [ex, A]
  refine congrArg₂ (fun (i : Fin 4096) (j : Fin 1024) => ((D.dr i j : ℝ) : EReal)) (Fin.ext ?_) (Fin.ext ?_)
  · show 512 * t.val + (y 0).val = (((cfg0.win 6).blk t).view.emb y 0).val; rw [hb0]; omega
  · show (y 1).val = (((cfg0.win 6).blk t).view.emb y 1).val; rw [hb1]; omega

theorem back7 (t : Fin cfg0.N) (hf : (cfg0.win 7).flush t = true) :
    (dats m 0 c).flushed 7 t = ((cfg0.win 7).blk t).view.read (Elt Ideal) (arrG D) := by
  have hm : t.val % 8 = 7 := (flush0_7 t).mp hf
  have hN : t.val < 8 := lt_of_lt_of_eq t.isLt N_0
  have h8 : t.val + 1 = 8 := by omega
  obtain ⟨e0, e1⟩ := at7 t
  have A := (after_all H t.val t.isLt).dg
  show (cfg0.win 7).cut (grid0.coords t) ((dats m 0 c).after 7 t) = _
  rw [after0_7]
  funext y
  have hy0 : (y 0).val < 1 := (y 0).isLt
  have hy1 : (y 1).val < 1024 := (y 1).isLt
  have hb1 : (((cfg0.win 7).blk t).view.emb y 1).val = win0_7.index t (1 : Fin 2) * 1024 + 1 * (y 1).val := rfl
  have ex : (cfg0.win 7).xinj (grid0.coords t) y = ix2 (⟨(y 0).val, hy0⟩ : Fin 1) (⟨(y 1).val, hy1⟩ : Fin 1024) := by
    funext a; apply Fin.ext
    match a with
    | ⟨0, _⟩ => rfl
    | ⟨1, _⟩ => rfl
  show (outsAt0 m c t.val t.isLt).2.2.1 ((cfg0.win 7).xinj (grid0.coords t) y) = arrG D (((cfg0.win 7).blk t).view.emb y)
  rw [ex, A]
  show ((upto D.tg (t.val + 1) ⟨(y 1).val, hy1⟩ : ℝ) : EReal) = _
  rw [h8, upto_all]
  refine congrArg (fun j : Fin 1024 => ((D.dg j : ℝ) : EReal)) (Fin.ext ?_)
  show (y 1).val = (((cfg0.win 7).blk t).view.emb y 1).val; rw [hb1]; omega

theorem back8 (t : Fin cfg0.N) (hf : (cfg0.win 8).flush t = true) :
    (dats m 0 c).flushed 8 t = ((cfg0.win 8).blk t).view.read (Elt Ideal) (arrB D) := by
  have hm : t.val % 8 = 7 := (flush0_8 t).mp hf
  have hN : t.val < 8 := lt_of_lt_of_eq t.isLt N_0
  have h8 : t.val + 1 = 8 := by omega
  obtain ⟨e0, e1⟩ := at8 t
  have A := (after_all H t.val t.isLt).db
  show (cfg0.win 8).cut (grid0.coords t) ((dats m 0 c).after 8 t) = _
  rw [after0_8]
  funext y
  have hy0 : (y 0).val < 1 := (y 0).isLt
  have hy1 : (y 1).val < 1024 := (y 1).isLt
  have hb1 : (((cfg0.win 8).blk t).view.emb y 1).val = win0_8.index t (1 : Fin 2) * 1024 + 1 * (y 1).val := rfl
  have ex : (cfg0.win 8).xinj (grid0.coords t) y = ix2 (⟨(y 0).val, hy0⟩ : Fin 1) (⟨(y 1).val, hy1⟩ : Fin 1024) := by
    funext a; apply Fin.ext
    match a with
    | ⟨0, _⟩ => rfl
    | ⟨1, _⟩ => rfl
  show (outsAt0 m c t.val t.isLt).2.2.2 ((cfg0.win 8).xinj (grid0.coords t) y) = arrB D (((cfg0.win 8).blk t).view.emb y)
  rw [ex, A]
  show ((upto D.dh (t.val + 1) ⟨(y 1).val, hy1⟩ : ℝ) : EReal) = _
  rw [h8, upto_all]
  refine congrArg (fun j : Fin 1024 => ((D.db j : ℝ) : EReal)) (Fin.ext ?_)
  show (y 1).val = (((cfg0.win 8).blk t).view.emb y 1).val; rw [hb1]; omega

end

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 512 < cfg0.N := lt_of_lt_of_eq (show _ < 8 by omega) N_0.symm
  refine ⟨⟨(i 0).val / 512, ht⟩, flush0_5 _, ?_⟩
  have e0 : win0_5.index ⟨(i 0).val / 512, ht⟩ (0 : Fin 2) = (i 0).val / 512 := (at5 _).1
  have e1 : win0_5.index ⟨(i 0).val / 512, ht⟩ (1 : Fin 2) = 0 := (at5 _).2
  show i ∈ ((View.whole main_v0_0).slice (win0_5.rect ⟨(i 0).val / 512, ht⟩)).set
  rw [View.set_slice_whole, Rect.mem_set_unit]
  intro a
  match a with
  | ⟨0, _⟩ => show win0_5.index _ (0 : Fin 2) * 512 ≤ (i 0).val ∧ (i 0).val < win0_5.index _ (0 : Fin 2) * 512 + 512; rw [e0]; omega
  | ⟨1, _⟩ => show win0_5.index _ (1 : Fin 2) * 1024 ≤ (i 1).val ∧ (i 1).val < win0_5.index _ (1 : Fin 2) * 1024 + 1024; rw [e1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have ht : (i 0).val / 512 < cfg0.N := lt_of_lt_of_eq (show _ < 8 by omega) N_0.symm
  refine ⟨⟨(i 0).val / 512, ht⟩, flush0_6 _, ?_⟩
  have e0 : win0_6.index ⟨(i 0).val / 512, ht⟩ (0 : Fin 2) = (i 0).val / 512 := (at6 _).1
  have e1 : win0_6.index ⟨(i 0).val / 512, ht⟩ (1 : Fin 2) = 0 := (at6 _).2
  show i ∈ ((View.whole main_v0_1).slice (win0_6.rect ⟨(i 0).val / 512, ht⟩)).set
  rw [View.set_slice_whole, Rect.mem_set_unit]
  intro a
  match a with
  | ⟨0, _⟩ => show win0_6.index _ (0 : Fin 2) * 512 ≤ (i 0).val ∧ (i 0).val < win0_6.index _ (0 : Fin 2) * 512 + 512; rw [e0]; omega
  | ⟨1, _⟩ => show win0_6.index _ (1 : Fin 2) * 1024 ≤ (i 1).val ∧ (i 1).val < win0_6.index _ (1 : Fin 2) * 1024 + 1024; rw [e1]; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have ht : 7 < cfg0.N := lt_of_lt_of_eq (show 7 < 8 by omega) N_0.symm
  refine ⟨⟨7, ht⟩, (flush0_7 _).mpr rfl, ?_⟩
  have e0 : win0_7.index ⟨7, ht⟩ (0 : Fin 2) = 0 := (at7 _).1
  have e1 : win0_7.index ⟨7, ht⟩ (1 : Fin 2) = 0 := (at7 _).2
  show i ∈ ((View.whole main_v0_2).slice (win0_7.rect ⟨7, ht⟩)).set
  rw [View.set_slice_whole, Rect.mem_set_unit]
  intro a
  match a with
  | ⟨0, _⟩ => show win0_7.index _ (0 : Fin 2) * 1 ≤ (i 0).val ∧ (i 0).val < win0_7.index _ (0 : Fin 2) * 1 + 1; rw [e0]; omega
  | ⟨1, _⟩ => show win0_7.index _ (1 : Fin 2) * 1024 ≤ (i 1).val ∧ (i 1).val < win0_7.index _ (1 : Fin 2) * 1024 + 1024; rw [e1]; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  have ht : 7 < cfg0.N := lt_of_lt_of_eq (show 7 < 8 by omega) N_0.symm
  refine ⟨⟨7, ht⟩, (flush0_8 _).mpr rfl, ?_⟩
  have e0 : win0_8.index ⟨7, ht⟩ (0 : Fin 2) = 0 := (at8 _).1
  have e1 : win0_8.index ⟨7, ht⟩ (1 : Fin 2) = 0 := (at8 _).2
  show i ∈ ((View.whole main_v0_3).slice (win0_8.rect ⟨7, ht⟩)).set
  rw [View.set_slice_whole, Rect.mem_set_unit]
  intro a
  match a with
  | ⟨0, _⟩ => show win0_8.index _ (0 : Fin 2) * 1 ≤ (i 0).val ∧ (i 0).val < win0_8.index _ (0 : Fin 2) * 1 + 1; rw [e0]; omega
  | ⟨1, _⟩ => show win0_8.index _ (1 : Fin 2) * 1024 ≤ (i 1).val ∧ (i 1).val < win0_8.index _ (1 : Fin 2) * 1024 + 1024; rw [e1]; omega

/-- The kernel's run: the arrays, and the arguments as launched. -/
theorem run {D : Dev nD → Data 1024} {m : (ℓ : Loc nD τ sig) → Buf (Elt Ideal) ℓ} (ρ : Dev nD → PrngReg)
    (H : ∀ c : Dev nD, Holds (D c) (m (c.tc.loc main_arg0)) (m (c.tc.loc main_arg1)) (m (c.tc.loc main_arg2)) (m (c.tc.loc main_arg3)) (m (c.tc.loc main_arg4))) :
    θ_run defs (onTc (τ := τ) (main (F := Ideal))) ⟨m, fun _ => 0, ρ⟩ fun r => ∀ c : Dev nD,
      r.2.mem ((c : Thread nD τ).loc main_v0_0) = arrD (D c)
      ∧ r.2.mem ((c : Thread nD τ).loc main_v0_1) = arrD (D c)
      ∧ r.2.mem ((c : Thread nD τ).loc main_v0_2) = arrG (D c)
      ∧ r.2.mem ((c : Thread nD τ).loc main_v0_3) = arrB (D c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 5).trans ((dats m 0 c).arrAt_eq_of_cover 5 _ (back5 (H c)) cover5),
     ((h c).1 6).trans ((dats m 0 c).arrAt_eq_of_cover 6 _ (back6 (H c)) cover6),
     ((h c).1 7).trans ((dats m 0 c).arrAt_eq_of_cover 7 _ (back7 (H c)) cover7),
     ((h c).1 8).trans ((dats m 0 c).arrAt_eq_of_cover 8 _ (back8 (H c)) cover8),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Norm.Mem

end
-- ==== Proof.Norm.Mem.Ref.lean ====
/- The reference of `mem_q_dx` is the gradient that the kernel computes. -/
module

public import proofs.«01_k».proof.Proof.Gen.Reference6Ideal.Read
public import proofs.«01_k».proof.Proof.Norm.Mem.Tiles

@[expose] public section

set_option maxRecDepth 16384

noncomputable section

namespace Norm.Mem

open Cert.Reference6Ideal Cert.Reference6Ideal.Read Idealize.ShloMosaic

section Ref

variable {D : Data 1024} {x0 : S4096x1024.Idx → EReal} {x1 : S1024x1024.Idx → EReal} {x2 x3 : S4096x1024.Idx → EReal} {x4 : S1x1024.Idx → EReal}

/-- An array of real numbers at an index that is not split yet. -/
theorem whole {n k : ℕ} {x : (⟨2, ![n, k]⟩ : Shape).Idx → EReal} {f : Fin n → Fin k → ℝ} (h : IsR x f) (i : (⟨2, ![n, k]⟩ : Shape).Idx) :
    x i = ((f (i 0) (i 1) : ℝ) : EReal) := by
  have e : i = ix2 (i 0) (i 1) := by
    funext a
    match a with
    | ⟨0, _⟩ => rfl
    | ⟨1, _⟩ => rfl
  exact (congrArg x e).trans (h _ _)

/-- A sum started at zero. -/
theorem total {n : ℕ} {y : Fin n → EReal} {f : Fin n → ℝ} (h : ∀ k, y k = ((f k : ℝ) : EReal)) :
    (FloatOps.ofBits (F := Ideal) .f32 0x00000000#32 : EReal) + ∑ k, y k = ((∑ k, f k : ℝ) : EReal) := by
  show Ideal.ofBits .f32 0x00000000#32 + _ = _
  rw [Ideal.ofBits_zero_f32, zero_add, Finset.sum_congr rfl fun k _ => h k, Attn.sum_real]

variable (H : Holds D x0 x1 x2 x3 x4)
include H

theorem e1 (i : S4096.Idx) : val_main_v1 (F := Ideal) x3 i = ((∑ k, D.r (i 0) k : ℝ) : EReal) := by
  rw [val_main_v1_apply, val_main_cst_0_apply]
  exact total fun k => whole H.r _

theorem e4 (i : S4096x1.Idx) : val_main_v4 (F := Ideal) x3 i = ((mean (D.r (i 0)) : ℝ) : EReal) := by
  rw [val_main_v4_apply, val_main_v2_apply, val_main_v3_apply, val_main_cst_1_apply, e1 H]
  show Ideal.div _ (Ideal.ofBits .f32 0x44800000#32) = _
  rw [lit_width, over]; rfl

theorem e6 (i : S4096x1024.Idx) : val_main_v6 (F := Ideal) x3 i = ((cen (D.r (i 0)) (i 1) : ℝ) : EReal) := by
  rw [val_main_v6_apply, val_main_v5_apply, e4 H, whole H.r]
  exact (EReal.coe_sub _ _).symm

theorem e15 (i : S4096x1024.Idx) : val_main_v15 (F := Ideal) x3 i = ((cen (D.r (i 0)) (i 1) : ℝ) : EReal) := by
  rw [val_main_v15_apply, val_main_v14_apply, e4 H, whole H.r]
  exact (EReal.coe_sub _ _).symm

theorem e9 (i : S4096x1024.Idx) : val_main_v9 (F := Ideal) x3 i = ((2 * cen (D.r (i 0)) (i 1) : ℝ) : EReal) := by
  rw [val_main_v9_apply, val_main_v8_apply, val_main_cst_2_apply, e6 H]
  show Ideal.ofBits .f32 0x40000000#32 * _ = _
  rw [Attn.ofBits_two]
  exact (EReal.coe_mul _ _).symm

theorem e7 (i : S4096x1024.Idx) : val_main_v7 (F := Ideal) x3 i = ((cen (D.r (i 0)) (i 1) * cen (D.r (i 0)) (i 1) : ℝ) : EReal) := by
  rw [val_main_v7_apply, e6 H]
  exact (EReal.coe_mul _ _).symm

theorem e17 (i : S4096x1.Idx) : val_main_v17 (F := Ideal) x3 i = ((spread (D.r (i 0)) : ℝ) : EReal) := by
  rw [val_main_v17_apply, val_main_v13_apply, val_main_v11_apply, val_main_v10_apply, val_main_v12_apply, val_main_v16_apply, val_main_cst_3_apply,
    val_main_cst_4_apply, val_main_cst_5_apply, total fun k => e7 H _]
  show Ideal.div _ (Ideal.ofBits .f32 0x44800000#32) + Ideal.ofBits .f32 0x3727C5AC#32 = _
  rw [lit_width, over, lit_eps]
  exact (EReal.coe_add _ _).symm

theorem e18 (i : S4096x1.Idx) : val_main_v18 (F := Ideal) x3 i = ((rs (D.r (i 0)) : ℝ) : EReal) := by
  rw [val_main_v18_apply, e17 H]
  exact root _

theorem e21 (i : S4096x1.Idx) : val_main_v21 (F := Ideal) x3 i = ((-(1 / 2) * (rs (D.r (i 0)) / spread (D.r (i 0))) : ℝ) : EReal) := by
  rw [val_main_v21_apply, val_main_v20_apply, val_main_cst_6_apply, val_main_v19_apply, e18 H, e17 H]
  show Ideal.ofBits .f32 0xBF000000#32 * Ideal.div _ _ = _
  rw [lit_half, Attn.div_real _ (spread_pos _).ne']
  exact (EReal.coe_mul _ _).symm

theorem e23 (i : S4096x1024.Idx) : val_main_v23 (F := Ideal) x3 i = ((xh (D.r (i 0)) (i 1) : ℝ) : EReal) := by
  rw [val_main_v23_apply, val_main_v22_apply, e18 H, e15 H]
  exact (EReal.coe_mul _ _).symm

theorem e33 (i : S4096x1024.Idx) : val_main_v33 (F := Ideal) x0 x1 i = ((∑ k, D.u (i 0) k * D.w (i 1) k : ℝ) : EReal) := by
  rw [val_main_v33_apply, ← Attn.sum_real]
  refine Finset.sum_congr rfl fun k _ => ?_
  rw [val_main_v32_apply, val_main_v30_apply]
  show x0 _ * x1 _ = _
  rw [whole H.u, whole H.w]
  exact (EReal.coe_mul _ _).symm

theorem e36 (i : S4096x1024.Idx) : val_main_v36 (F := Ideal) x0 x1 x2 i = ((D.dh (i 0) (i 1) : ℝ) : EReal) := by
  have e : D.dh (i 0) (i 1) = (∑ k, D.u (i 0) k * D.w (i 1) k) + alpha * D.d (i 0) (i 1) := add_comm _ _
  rw [val_main_v36_apply, val_main_v35_apply, val_main_v34_apply, val_main_cst_8_apply, e33 H, whole H.d, e]
  show _ + Ideal.ofBits .f32 0x3F9837F0#32 * _ = _
  rw [lit_alpha, EReal.coe_add, EReal.coe_mul]

theorem e38 : val_main_v38 (F := Ideal) x0 x1 x2 = arrB D := by
  funext i
  have h0 : (i 0).val < 1 := (i 0).isLt
  rw [val_main_v38_apply, val_main_v37_apply, val_main_cst_9_apply, total fun k => e36 H _]
  refine congrArg (fun j : Fin 1024 => ((D.db j : ℝ) : EReal)) (Fin.ext ?_)
  show (i 0).val * 1024 + (i 1).val = (i 1).val
  omega

theorem e39 (i : S4096x1024.Idx) : val_main_v39 (F := Ideal) x0 x1 x2 x3 i = ((D.tg (i 0) (i 1) : ℝ) : EReal) := by
  have e : D.tg (i 0) (i 1) = xh (D.r (i 0)) (i 1) * D.dh (i 0) (i 1) := mul_comm _ _
  rw [val_main_v39_apply, e36 H, e23 H, e]
  exact (EReal.coe_mul _ _).symm

theorem e41 : val_main_v41 (F := Ideal) x0 x1 x2 x3 = arrG D := by
  funext i
  have h0 : (i 0).val < 1 := (i 0).isLt
  rw [val_main_v41_apply, val_main_v40_apply, val_main_cst_10_apply, total fun k => e39 H _]
  refine congrArg (fun j : Fin 1024 => ((D.dg j : ℝ) : EReal)) (Fin.ext ?_)
  show (i 0).val * 1024 + (i 1).val = (i 1).val
  omega

theorem e43 (i : S4096x1024.Idx) : val_main_v43 (F := Ideal) x0 x1 x2 x4 i = ((D.dh (i 0) (i 1) * D.g (i 1) : ℝ) : EReal) := by
  rw [val_main_v43_apply, val_main_v42_apply, e36 H, whole H.g]
  exact (EReal.coe_mul _ _).symm

theorem e44 (i : S4096x1024.Idx) : val_main_v44 (F := Ideal) x0 x1 x2 x3 x4 i = ((cen (D.r (i 0)) (i 1) * (D.dh (i 0) (i 1) * D.g (i 1)) : ℝ) : EReal) := by
  rw [val_main_v44_apply, e15 H, e43 H]
  exact (EReal.coe_mul _ _).symm

/-- The first row index of a column of one. -/
theorem first (i : S4096x1.Idx) (h : (i 0).val * 1 + (i 1).val < 4096) : (⟨(i 0).val * 1 + (i 1).val, h⟩ : Fin 4096) = i 0 := by
  have h1 : (i 1).val < 1 := (i 1).isLt
  refine Fin.ext ?_
  show (i 0).val * 1 + (i 1).val = (i 0).val
  omega

theorem e46 (i : S4096x1.Idx) : val_main_v46 (F := Ideal) x0 x1 x2 x3 x4 i = ((∑ l, cen (D.r (i 0)) l * (D.dh (i 0) l * D.g l) : ℝ) : EReal) := by
  rw [val_main_v46_apply, val_main_v45_apply, val_main_cst_11_apply, total fun k => e44 H _]
  exact congrArg (fun p : Fin 4096 => ((∑ l, cen (D.r p) l * (D.dh p l * D.g l) : ℝ) : EReal)) (first H i _)

theorem e48 (i : S4096x1024.Idx) : val_main_v48 (F := Ideal) x0 x1 x2 x3 x4 i = ((D.dh (i 0) (i 1) * D.g (i 1) * rs (D.r (i 0)) : ℝ) : EReal) := by
  rw [val_main_v48_apply, val_main_v47_apply, e43 H, e18 H]
  exact (EReal.coe_mul _ _).symm

theorem e50 (i : S4096x1024.Idx) : val_main_v50 (F := Ideal) x0 x1 x2 x3 x4 i = ((-(D.dh (i 0) (i 1) * D.g (i 1) * rs (D.r (i 0))) : ℝ) : EReal) := by
  rw [val_main_v50_apply, e48 H]
  exact (EReal.coe_neg _).symm

theorem e52 (i : S4096x1.Idx) : val_main_v52 (F := Ideal) x0 x1 x2 x3 x4 i = ((∑ l, -(D.dh (i 0) l * D.g l * rs (D.r (i 0))) : ℝ) : EReal) := by
  rw [val_main_v52_apply, val_main_v51_apply, val_main_cst_12_apply, total fun k => e50 H _]
  exact congrArg (fun p : Fin 4096 => ((∑ l, -(D.dh p l * D.g l * rs (D.r p)) : ℝ) : EReal)) (first H i _)

omit H in
/-- What the gradient of the spread adds to the deviations. -/
def turn (D : Data 1024) (p : Fin 4096) : ℝ :=
  (∑ l, cen (D.r p) l * (D.dh p l * D.g l)) * (-(1 / 2) * (rs (D.r p) / spread (D.r p))) / 1024

theorem e54 (i : S4096x1.Idx) : val_main_v54 (F := Ideal) x0 x1 x2 x3 x4 i = ((turn D (i 0) : ℝ) : EReal) := by
  rw [val_main_v54_apply, val_main_v53_apply, val_main_cst_13_apply, val_main_v49_apply, e46 H, e21 H]
  show Ideal.div (_ * _) (Ideal.ofBits .f32 0x44800000#32) = _
  rw [lit_width, ← EReal.coe_mul, over]; rfl

theorem e57 (i : S4096x1024.Idx) : val_main_v57 (F := Ideal) x0 x1 x2 x3 x4 i = ((turn D (i 0) * (2 * cen (D.r (i 0)) (i 1)) : ℝ) : EReal) := by
  rw [val_main_v57_apply, val_main_v56_apply, val_main_v55_apply, val_main_cst_14_apply, total fun k => e54 H _, e9 H, Fin.sum_univ_one]
  exact (EReal.coe_mul _ _).symm

theorem e58 (i : S4096x1024.Idx) : val_main_v58 (F := Ideal) x0 x1 x2 x3 x4 i = ((-(turn D (i 0) * (2 * cen (D.r (i 0)) (i 1))) : ℝ) : EReal) := by
  rw [val_main_v58_apply, e57 H]
  exact (EReal.coe_neg _).symm

theorem e60 (i : S4096x1.Idx) : val_main_v60 (F := Ideal) x0 x1 x2 x3 x4 i = ((∑ l, -(turn D (i 0) * (2 * cen (D.r (i 0)) l)) : ℝ) : EReal) := by
  rw [val_main_v60_apply, val_main_v59_apply, val_main_cst_15_apply, total fun k => e58 H _]
  exact congrArg (fun p : Fin 4096 => ((∑ l, -(turn D p * (2 * cen (D.r p) l)) : ℝ) : EReal)) (first H i _)

theorem e64 (i : S4096x1.Idx) : val_main_v64 (F := Ideal) x0 x1 x2 x3 x4 i
    = ((((∑ l, -(D.dh (i 0) l * D.g l * rs (D.r (i 0)))) + ∑ l, -(turn D (i 0) * (2 * cen (D.r (i 0)) l))) / 1024 : ℝ) : EReal) := by
  rw [val_main_v64_apply, val_main_v63_apply, val_main_cst_16_apply, val_main_v62_apply, e52 H, e60 H]
  show Ideal.div (_ + _) (Ideal.ofBits .f32 0x44800000#32) = _
  rw [lit_width, ← EReal.coe_add, over]

theorem e67 : val_main_v67 (F := Ideal) x0 x1 x2 x3 x4 = arrD D := by
  funext i
  rw [val_main_v67_apply, val_main_v66_apply, val_main_v65_apply, val_main_cst_17_apply, total fun k => e64 H _, Fin.sum_univ_one, val_main_v61_apply,
    e48 H, e57 H]
  have e := chain (D.r (i 0)) (fun l => D.dh (i 0) l * D.g l) (i 1)
  refine Eq.trans ?_ (congrArg (fun a : ℝ => (a : EReal)) e)
  exact ((congrArg (· + _) (EReal.coe_add _ _)).symm.trans rfl |>.trans (EReal.coe_add _ _).symm)

theorem e68 : val_main_v68 (F := Ideal) x0 x1 x2 x3 x4 = arrD D := by
  funext i
  rw [val_main_v68_apply, e67 H]; rfl

end Ref

end Norm.Mem

end
-- ==== Proof.Norm.Mem.Finite.lean ====
/- What the precondition of `mem_q_dx` says: every argument is an array of real numbers. -/
module

public import proofs.«01_k».proof.Proof.Gen.Pre_finite6
public import proofs.«01_k».proof.Proof.Attn.Finite
public import proofs.«01_k».proof.Proof.Norm.Mem.Tiles

@[expose] public section

set_option maxRecDepth 16384

noncomputable section

namespace Norm.Mem

open Idealize.ShloMosaic

section Fin

open Cert.Pre_finite6

variable {x0 : FVec Ideal S4096x1024 .bf16} {x1 : FVec Ideal S1024x1024 .bf16} {x2 x3 : FVec Ideal S4096x1024 .f32} {x4 : FVec Ideal S1x1024 .f32}

/-- The real numbers that five arrays hold. -/
def dataOf (x0 : FVec Ideal S4096x1024 .bf16) (x1 : FVec Ideal S1024x1024 .bf16) (x2 x3 : FVec Ideal S4096x1024 .f32) (x4 : FVec Ideal S1x1024 .f32) : Data 1024 where
  u i k := (x0 (ix2 i k) : EReal).toReal
  w j k := (x1 (ix2 j k) : EReal).toReal
  d i j := (x2 (ix2 i j) : EReal).toReal
  r i j := (x3 (ix2 i j) : EReal).toReal
  g j := (x4 (ix2 0 j) : EReal).toReal

theorem holds (h : fn (F := Ideal) x0 x1 x2 x3 x4 = fun _ => 1#1) : Holds (dataOf x0 x1 x2 x3 x4) x0 x1 x2 x3 x4 := by
  have key : ∀ (i : Fin 4096) (l : Fin 5120), _ := fun i l => congrFun h (ix2 i l)
  revert key
  pointwise [Cert.Pre_finite6.fn]
  intro key
  refine ⟨fun i k => ?_, fun j k => ?_, fun i j => ?_, fun i j => ?_, fun i j => ?_⟩
  · have e := key i ⟨k.val, by omega⟩
    rw [dif_pos (show k.val < 1024 from k.isLt)] at e
    exact (Attn.real_of_abs_lt e).symm
  · have e := key ⟨j.val, by omega⟩ ⟨1024 + k.val, by omega⟩
    rw [dif_neg (show ¬ 1024 + k.val < 1024 by omega), dif_pos (show 1024 + k.val - 1024 < 1024 by omega), dif_pos (show j.val < 1024 from j.isLt)] at e
    have q := Attn.real_of_abs_lt e
    simp only [Nat.add_sub_cancel_left] at q
    exact q.symm
  · have e := key i ⟨1024 + 1024 + j.val, by omega⟩
    have n : 1024 + 1024 + j.val - 1024 - 1024 = j.val := by omega
    rw [dif_neg (show ¬ 1024 + 1024 + j.val < 1024 by omega), dif_neg (show ¬ 1024 + 1024 + j.val - 1024 < 1024 by omega),
      dif_pos (show 1024 + 1024 + j.val - 1024 - 1024 < 1024 by omega)] at e
    have q := Attn.real_of_abs_lt e
    simp only [n] at q
    exact q.symm
  · have e := key i ⟨1024 + 1024 + 1024 + j.val, by omega⟩
    have n : 1024 + 1024 + 1024 + j.val - 1024 - 1024 - 1024 = j.val := by omega
    rw [dif_neg (show ¬ 1024 + 1024 + 1024 + j.val < 1024 by omega), dif_neg (show ¬ 1024 + 1024 + 1024 + j.val - 1024 < 1024 by omega),
      dif_neg (show ¬ 1024 + 1024 + 1024 + j.val - 1024 - 1024 < 1024 by omega), dif_pos (show 1024 + 1024 + 1024 + j.val - 1024 - 1024 - 1024 < 1024 by omega)] at e
    have q := Attn.real_of_abs_lt e
    simp only [n] at q
    exact q.symm
  · have e := key 0 ⟨1024 + 1024 + 1024 + 1024 + j.val, by omega⟩
    have n : 1024 + 1024 + 1024 + 1024 + j.val - 1024 - 1024 - 1024 - 1024 = j.val := by omega
    rw [dif_neg (show ¬ 1024 + 1024 + 1024 + 1024 + j.val < 1024 by omega), dif_neg (show ¬ 1024 + 1024 + 1024 + 1024 + j.val - 1024 < 1024 by omega),
      dif_neg (show ¬ 1024 + 1024 + 1024 + 1024 + j.val - 1024 - 1024 < 1024 by omega),
      dif_neg (show ¬ 1024 + 1024 + 1024 + 1024 + j.val - 1024 - 1024 - 1024 < 1024 by omega)] at e
    have z : i = 0 := Subsingleton.elim _ _
    rw [z]
    have q := Attn.real_of_abs_lt e
    simp only [n] at q
    exact q.symm

end Fin

end Norm.Mem

end
-- ==== Proof.Norm.Mem.End.lean ====
/- The claims about `mem_q_dx`. -/
module

public import proofs.«01_k».proof.Proof.Gen.Kernel6.Frame
public import proofs.«01_k».proof.Proof.Gen.Reference6Ideal.Run
public import proofs.«01_k».proof.Proof.Norm.Mem.Ref
public import proofs.«01_k».proof.Proof.Norm.Mem.Finite

@[expose] public section

set_option maxRecDepth 16384

noncomputable section

namespace Norm.Mem

open Idealize.ShloMosaic Idealize.SL.Sem

/-- The frames, at the hardware's words and at exact numbers. -/
theorem frame_kernel : Cert.quiescent_Kernel6 := fun m ρ _ => Cert.Kernel6.Gen.frame m ρ
theorem frame_kernelIdeal : Cert.quiescent_Kernel6Ideal := fun m ρ _ => Cert.Kernel6Ideal.Gen.frame m ρ
theorem frame_kernelIdeal_any : Cert.quiescent_Kernel6Ideal_pre_none := fun m ρ _ => Cert.Kernel6Ideal.Gen.frame m ρ
theorem frame_referenceIdeal : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)
theorem frame_referenceIdeal_finite : Cert.quiescent_Reference6Ideal_pre_finite6 := fun m ρ _ => frame_referenceIdeal m ρ trivial

/-- No operation is rewritten. -/
theorem preserves : Cert.preserves_Kernel6_Kernel6Ideal := trivial

/-- The kernel's gradients are the reference's. -/
theorem algebraic : Cert.algebraic_Kernel6Ideal_Reference6Ideal := by
  intro m ρ m' ρ' hp ha
  let D : Dev Cert.Kernel6Ideal.nD → Data 1024 := fun c => dataOf
    (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4))
  have HK : ∀ c, Holds (D c)
      (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)) := fun c => holds (hp c)
  have HR : ∀ c, Holds (D c)
      (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) := fun c => by
    rw [(ha c).1, (ha c).2.1, (ha c).2.2.1, (ha c).2.2.2.1, (ha c).2.2.2.2]
    exact HK c
  refine ⟨fun c => arrD (D c), fun c => arrD (D c), fun c => arrG (D c), fun c => arrB (D c), run ρ HK, ?_⟩
  refine (θ_run Cert.Reference6Ideal.defs _ _).mono (fun r h c => ?_) (Cert.Reference6Ideal.Value.run (F := Ideal) m' ρ')
  obtain ⟨h0, h1, h2, h3, h4⟩ := h c
  exact ⟨h0.trans ((Cert.Reference6Ideal.Read.val_main_v67_eq m' c).trans (e67 (HR c))),
    h1.trans ((Cert.Reference6Ideal.Read.val_main_v68_eq m' c).trans (e68 (HR c))),
    h2.trans ((Cert.Reference6Ideal.Read.val_main_v41_eq _ _ _ _).trans (e41 (HR c))),
    h3.trans ((Cert.Reference6Ideal.Read.val_main_v38_eq _ _ _).trans (e38 (HR c))), h4⟩

end Norm.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Attn.Final
public import proofs.«01_k».proof.Proof.Attn.Ref
public import proofs.«01_k».proof.Proof.Attn.Finite
public import proofs.«01_k».proof.Proof.Mlp.Run
public import proofs.«01_k».proof.Proof.Mlp.Same
public import proofs.«01_k».proof.Proof.Mlp.Ref
public import proofs.«01_k».proof.Proof.Proj.Run
public import proofs.«01_k».proof.Proof.Proj.Same
public import proofs.«01_k».proof.Proof.Proj.Ref
public import proofs.«01_k».proof.Proof.Norm.Up.End
public import proofs.«01_k».proof.Proof.Norm.In.End
public import proofs.«01_k».proof.Proof.Norm.Mem.End
public import Idealize.ShloMosaic.Adequacy
public import Idealize.ShloMosaic.Init

@[expose] public section

set_option maxRecDepth 16384

noncomputable section

namespace Cert.Proof

open Idealize.ShloMosaic Idealize.SL.Sem

attribute [local instance] Attn.factsFinite

/-- The frame of the kernel at the hardware's words: it ends, its counters at zero and its arguments unchanged. -/
theorem frame_kernel : Cert.quiescent_Kernel := fun m ρ _ => Cert.Kernel.Gen.frame m ρ

/-- The frame of the idealized kernel, of finite arguments and of any. -/
theorem frame_kernelIdeal : Cert.quiescent_KernelIdeal := fun m ρ _ => Cert.KernelIdeal.Gen.frame m ρ
theorem frame_kernelIdeal_any : Cert.quiescent_KernelIdeal_pre_none := fun m ρ _ => Cert.KernelIdeal.Gen.frame m ρ

/-- The frame of the idealized reference: host operations only, and no semaphore. -/
theorem frame_referenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
theorem frame_referenceIdeal_finite : Cert.quiescent_ReferenceIdeal_pre_finite := fun m ρ _ => frame_referenceIdeal m ρ trivial

/-- The three named constants: each name's printed value is the one the table gives. -/
theorem preserves : Cert.preserves_Kernel_KernelIdeal :=
  ⟨IdealRules.named_const.statement Cert.KernelIdeal.κ "ln2" .f32 0x3F317218#32 ((Real.log 2 : ℝ) : EReal) rfl,
   IdealRules.named_const.statement Cert.KernelIdeal.κ "postscale" .f32 0x3E16C740#32
    (((3424635 / 33554432) * (Real.log 2)⁻¹ : ℝ) : EReal) rfl,
   IdealRules.named_const.statement Cert.KernelIdeal.κ "mask" .f32 0xF149F2CA#32 ⊥ rfl⟩

section

open Cert.ReferenceIdeal.Read

variable {D : Attn.Data} {x0 x1 : Attn.Ref.A96} {x2 x3 : Attn.Ref.A64}

/-- The reference's three arrays. -/
theorem ref_q (H : Attn.Ref.Holds D x0 x1 x2 x3) : val_main_v64 (F := Ideal) x0 x1 x2 x3 = Attn.arrQ D := by
  funext i
  have e : i = ix2 (i 0 : Fin 4096) (i 1 : Fin 1024) := by funext a; match a with | ⟨0, _⟩ => rfl | ⟨1, _⟩ => rfl
  refine (congrArg _ e).trans ((Attn.Ref.v64 H (i 0) (i 1)).trans ?_)
  show _ = ((D.pq (i 0) (i 1) : ℝ) : EReal)
  unfold Attn.Data.pq
  split <;> rfl

theorem ref_k (H : Attn.Ref.Holds D x0 x1 x2 x3) : val_main_v66 (F := Ideal) x0 x1 x2 x3 = Attn.arrK D := by
  funext i
  have e : i = ix2 (i 0 : Fin 4096) (i 1 : Fin 1024) := by funext a; match a with | ⟨0, _⟩ => rfl | ⟨1, _⟩ => rfl
  refine (congrArg _ e).trans ((Attn.Ref.v66 H (i 0) (i 1)).trans ?_)
  show _ = ((D.pk (i 0) (i 1) : ℝ) : EReal)
  unfold Attn.Data.pk
  split <;> rfl

theorem ref_v (H : Attn.Ref.Holds D x0 x1 x2 x3) : val_main_v67 (F := Ideal) x0 x1 x3 = Attn.arrV D := by
  funext i
  have e : i = ix2 (i 0 : Fin 4096) (i 1 : Fin 512) := by funext a; match a with | ⟨0, _⟩ => rfl | ⟨1, _⟩ => rfl
  refine (congrArg _ e).trans ((Attn.Ref.v67 H (i 0) (i 1)).trans ?_)
  show _ = ((D.pv (i 0) (i 1) : ℝ) : EReal)
  rfl

end

/-- The kernel's gradients are the reference's. -/
theorem algebraic : Cert.algebraic_KernelIdeal_ReferenceIdeal := by
  intro m ρ m' ρ' hp ha
  let D : Dev Cert.KernelIdeal.nD → Attn.Data := fun c => Attn.dataOf
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
  have HK : ∀ c, Attn.Host.Holds (D c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := fun c =>
    { q := fun i h d => ((Attn.fn_real (hp c) i h).1 d).symm
      k := fun i h d => ((Attn.fn_real (hp c) i h).2.1 d).symm
      v := fun i h d => ((Attn.fn_real (hp c) i h).2.2.1 d).symm
      g := fun i h d => ((Attn.fn_real (hp c) i h).2.2.2 d).symm }
  have HR : ∀ c, Attn.Ref.Holds (D c)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := fun c => by
    rw [(ha c).1, (ha c).2.1, (ha c).2.2.1, (ha c).2.2.2]
    exact ⟨(HK c).q, (HK c).k, (HK c).v, (HK c).g⟩
  refine ⟨fun c => Attn.arrQ (D c), fun c => Attn.arrK (D c), fun c => Attn.arrV (D c), Attn.run ρ HK, ?_⟩
  refine (θ_run Cert.ReferenceIdeal.defs _ _).mono (fun r h c => ?_) (Cert.ReferenceIdeal.Value.run (F := Ideal) m' ρ')
  obtain ⟨h0, h1, h2, h3⟩ := h c
  exact ⟨h0.trans ((Cert.ReferenceIdeal.Read.val_main_v64_eq m' c).trans (ref_q (HR c))),
    h1.trans ((Cert.ReferenceIdeal.Read.val_main_v66_eq m' c).trans (ref_k (HR c))),
    h2.trans ((Cert.ReferenceIdeal.Read.val_main_v67_eq m' c).trans (ref_v (HR c))), h3⟩

/-- The feed-forward's frames, at the hardware's words and at exact numbers. -/
theorem frame_kernel2 : Cert.quiescent_Kernel2 := Mlp.frame_words
theorem frame_kernel2Ideal : Cert.quiescent_Kernel2Ideal := fun m ρ _ => Mlp.frame m ρ
theorem frame_reference2Ideal : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- No operation of the feed-forward is rewritten. -/
theorem preserves2 : Cert.preserves_Kernel2_Kernel2Ideal := trivial

/-- The feed-forward's gradients are the reference's. -/
theorem algebraic2 : Cert.algebraic_Kernel2Ideal_Reference2Ideal := by
  intro m ρ m' ρ' _ ha
  refine ⟨fun c => Mlp.backA (Mlp.argX m c) (Mlp.argW m c) (Mlp.argD m c) (Mlp.argG m c),
    fun c => Mlp.downA (Mlp.argX m c) (Mlp.argW m c) (Mlp.argG m c),
    fun c => Mlp.upA (Mlp.argX m c) (Mlp.argW m c) (Mlp.argD m c) (Mlp.argG m c), Mlp.run m ρ, ?_⟩
  refine (θ_run Cert.Reference2Ideal.defs _ _).mono (fun r h c => ?_) (Cert.Reference2Ideal.Value.run (F := Ideal) m' ρ')
  obtain ⟨h0, h1, h2, h3⟩ := h c
  obtain ⟨a0, a1, a2, a3⟩ := ha c
  refine ⟨h0.trans ((Cert.Reference2Ideal.Read.val_main_v34_eq _ _ _ _).trans ?_),
    h1.trans ((Cert.Reference2Ideal.Read.val_main_v35_eq _ _ _).trans ?_),
    h2.trans ((Cert.Reference2Ideal.Read.val_main_v38_eq _ _ _ _).trans ?_), h3⟩
  · rw [a0, a1, a2, a3]; exact Mlp.refBack _ _ _ _
  · rw [a0, a1, a3]; exact Mlp.refDown _ _ _
  · rw [a0, a1, a2, a3]; exact Mlp.refUp _ _ _ _

/-- The projections' frames, at the hardware's words and at exact numbers. -/
theorem frame_kernel3 : Cert.quiescent_Kernel3 := Proj.frame_words
theorem frame_kernel3Ideal : Cert.quiescent_Kernel3Ideal := fun m ρ _ => Proj.frame m ρ
theorem frame_reference3Ideal : Cert.quiescent_Reference3Ideal := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

/-- No operation of the projections is rewritten. -/
theorem preserves3 : Cert.preserves_Kernel3_Kernel3Ideal := trivial

/-- The projections' products and gradients are the reference's. -/
theorem algebraic3 : Cert.algebraic_Kernel3Ideal_Reference3Ideal := by
  intro m ρ m' ρ' _ ha
  refine ⟨fun c => Proj.mulNN (Proj.arg0 m c) (Proj.arg1 m c),
    fun c => Proj.mulNN (Proj.arg3 m c) (Proj.arg4 m c),
    fun c => Proj.mulNT (Proj.arg8 m c) (Proj.arg7 m c),
    fun c => Proj.mulTN (Proj.arg6 m c) (Proj.arg8 m c),
    fun c => Proj.mulTN (Proj.arg3 m c) (Proj.arg5 m c),
    fun c => Proj.mulTN (Proj.arg9 m c) (Proj.arg10 m c),
    fun c => Proj.mulTN (Proj.arg11 m c) (Proj.arg13 m c),
    fun c => Proj.mulNT (Proj.arg13 m c) (Proj.arg12 m c),
    fun c => Proj.mulTN (Proj.arg0 m c) (Proj.arg2 m c), Proj.run m ρ, ?_⟩
  refine (θ_run Cert.Reference3Ideal.defs _ _).mono (fun r h c => ?_) (Cert.Reference3Ideal.Value.run (F := Ideal) m' ρ')
  obtain ⟨h0, h1, h2, h3, h4, h5, h6, h7, h8, h9⟩ := h c
  obtain ⟨a0, a1, a2, a3, a4, a5, a6, a7, a8, a9, a10, a11, a12, a13⟩ := ha c
  refine ⟨h0.trans ((Cert.Reference3Ideal.Read.val_main_v14_eq _ _).trans ?_),
    h1.trans ((Cert.Reference3Ideal.Read.val_main_v28_eq _ _).trans ?_),
    h2.trans ((Cert.Reference3Ideal.Read.val_main_v29_eq _ _).trans ?_),
    h3.trans ((Cert.Reference3Ideal.Read.val_main_v30_eq _ _).trans ?_),
    h4.trans ((Cert.Reference3Ideal.Read.val_main_v34_eq _ _).trans ?_),
    h5.trans ((Cert.Reference3Ideal.Read.val_main_v35_eq _ _).trans ?_),
    h6.trans ((Cert.Reference3Ideal.Read.val_main_v36_eq _ _).trans ?_),
    h7.trans ((Cert.Reference3Ideal.Read.val_main_v27_eq _ _).trans ?_),
    h8.trans ((Cert.Reference3Ideal.Read.val_main_v40_eq _ _).trans ?_), h9⟩
  · rw [a0, a1]; exact Proj.ref0 _ _
  · rw [a3, a4]; exact Proj.ref1 _ _
  · rw [a8, a7]; exact Proj.ref2 _ _
  · rw [a6, a8]; exact Proj.ref3 _ _
  · rw [a3, a5]; exact Proj.ref4 _ _
  · rw [a9, a10]; exact Proj.ref5 _ _
  · rw [a11, a13]; exact Proj.ref6 _ _
  · rw [a13, a12]; exact Proj.ref7 _ _
  · rw [a0, a2]; exact Proj.ref8 _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Attn.factsFinite, Cert.Pre_finite4.Gen.facts, Cert.Pre_finite5.Gen.facts, Cert.Pre_finite6.Gen.facts,
  frame_kernel, frame_kernelIdeal, frame_kernelIdeal_any, frame_referenceIdeal, frame_referenceIdeal_finite,
  frame_kernel2, frame_kernel2Ideal, frame_reference2Ideal,
  frame_kernel3, frame_kernel3Ideal, frame_reference3Ideal,
  Norm.Up.frame_kernel, Norm.Up.frame_kernelIdeal, Norm.Up.frame_kernelIdeal_any, Norm.Up.frame_referenceIdeal, Norm.Up.frame_referenceIdeal_finite,
  Norm.In.frame_kernel, Norm.In.frame_kernelIdeal, Norm.In.frame_kernelIdeal_any, Norm.In.frame_referenceIdeal, Norm.In.frame_referenceIdeal_finite,
  Norm.Mem.frame_kernel, Norm.Mem.frame_kernelIdeal, Norm.Mem.frame_kernelIdeal_any, Norm.Mem.frame_referenceIdeal, Norm.Mem.frame_referenceIdeal_finite,
  preserves, algebraic, preserves2, algebraic2, preserves3, algebraic3,
  Norm.Up.preserves, Norm.Up.algebraic, Norm.In.preserves, Norm.In.algebraic, Norm.Mem.preserves, Norm.Mem.algebraic⟩

end Cert.Proof

end
